-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16384x26 : Shape := ⟨2, ![16384, 26]⟩
abbrev S2600000x16 : Shape := ⟨2, ![2600000, 16]⟩
abbrev S2600000x1 : Shape := ⟨2, ![2600000, 1]⟩
abbrev S1 : Shape := ⟨1, ![1]⟩
abbrev S26 : Shape := ⟨1, ![26]⟩
abbrev S416x26 : Shape := ⟨2, ![416, 26]⟩
abbrev S416x64 : Shape := ⟨2, ![416, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S2600000x16 .f32) (main_arg2 : FVec F S2600000x1 .f32) (main_arg3 : FVec F S1 .f32) (main_arg4 : FVec F S26 .f32) (main_arg5 : FVec F S26 .f32) (main_arg6 : FVec F S416x26 .f32) (main_arg7 : FVec F S26 .f32) (main_arg8 : FVec F S26 .f32) (main_arg9 : FVec F S26 .f32) (main_arg10 : FVec F S416x64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32x1 .f32) (main_arg19 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Pre_in_range_finite.lean ====
abbrev S16384x26 : Shape := ⟨2, ![16384, 26]⟩
abbrev S2600000x16 : Shape := ⟨2, ![2600000, 16]⟩
abbrev S2600000x1 : Shape := ⟨2, ![2600000, 1]⟩
abbrev S1 : Shape := ⟨1, ![1]⟩
abbrev S26 : Shape := ⟨1, ![26]⟩
abbrev S416x26 : Shape := ⟨2, ![416, 26]⟩
abbrev S416x64 : Shape := ⟨2, ![416, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel
  bcast_S_S2600000x16 : S_.BroadcastsInDim S2600000x16 (![] : Fin 0 → Fin S2600000x16.rank)
  reducesTo_S2600000x16_S_d0_1 : S2600000x16.ReducesTo [0, 1] S_
  bcast_S_S26 : S_.BroadcastsInDim S26 (![] : Fin 0 → Fin S26.rank)
  reducesTo_S26_S_d0 : S26.ReducesTo [0] S_
  bcast_S_S416x26 : S_.BroadcastsInDim S416x26 (![] : Fin 0 → Fin S416x26.rank)
  reducesTo_S416x26_S_d0_1 : S416x26.ReducesTo [0, 1] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_

variable [Facts]

def fn_part3 {F : FTy → Type} [FloatOps F] (main_arg15 : FVec F S32 .f32) (main_arg16 : FVec F S32 .f32) (main_v50 : IVec S_ 1) : IVec S_ 1 :=
  let main_v51 : FVec F S32 .f32 := Host.absf main_arg15
  let main_cst_19 : FVec F S_ .f32 := constant S_ .f32 0x7F800000#32
  let main_v52 : FVec F S32 .f32 := broadcastInDim S32 ![] bcast_S_S32 main_cst_19
  let main_v53 : IVec S32 1 := cmpf .olt main_v51 main_v52
  let main_c_20 : IVec S_ 1 := constantI S_ 1 1#1
  let main_v54 : IVec S_ 1 := (fun x v => Host.reduce IntOp.andi x v reducesTo_S32_S_d0 h_S_) main_v53 main_c_20
  let main_v55 : IVec S_ 1 := andi main_v50 main_v54
  let main_v56 : FVec F S32 .f32 := Host.absf main_arg16
  let main_cst_21 : FVec F S_ .f32 := constant S_ .f32 0x7F800000#32
  let main_v57 : FVec F S32 .f32 := broadcastInDim S32 ![] bcast_S_S32 main_cst_21
  let main_v58 : IVec S32 1 := cmpf .olt main_v56 main_v57
  let main_c_22 : IVec S_ 1 := constantI S_ 1 1#1
  let main_v59 : IVec S_ 1 := (fun x v => Host.reduce IntOp.andi x v reducesTo_S32_S_d0 h_S_) main_v58 main_c_22
  let main_v60 : IVec S_ 1 := andi main_v55 main_v59
  main_v60

def fn_part2 {F : FTy → Type} [FloatOps F] (main_arg9 : FVec F S26 .f32) (main_arg11 : FVec F S64 .f32) (main_arg12 : FVec F S64 .f32) (main_arg15 : FVec F S32 .f32) (main_arg16 : FVec F S32 .f32) (main_v30 : IVec S_ 1) (main_v33 : IVec S26 1) : IVec S_ 1 :=
  let main_c_12 : IVec S_ 1 := constantI S_ 1 1#1
  let main_v34 : IVec S_ 1 := (fun x v => Host.reduce IntOp.andi x v reducesTo_S26_S_d0 h_S_) main_v33 main_c_12
  let main_v35 : IVec S_ 1 := andi main_v30 main_v34
  let main_v36 : FVec F S26 .f32 := Host.absf main_arg9
  let main_cst_13 : FVec F S_ .f32 := constant S_ .f32 0x7F800000#32
  let main_v37 : FVec F S26 .f32 := broadcastInDim S26 ![] bcast_S_S26 main_cst_13
  let main_v38 : IVec S26 1 := cmpf .olt main_v36 main_v37
  let main_c_14 : IVec S_ 1 := constantI S_ 1 1#1
  let main_v39 : IVec S_ 1 := (fun x v => Host.reduce IntOp.andi x v reducesTo_S26_S_d0 h_S_) main_v38 main_c_14
  let main_v40 : IVec S_ 1 := andi main_v35 main_v39
  let main_v41 : FVec F S64 .f32 := Host.absf main_arg11
  let main_cst_15 : FVec F S_ .f32 := constant S_ .f32 0x7F800000#32
  let main_v42 : FVec F S64 .f32 := broadcastInDim S64 ![] bcast_S_S64 main_cst_15
  let main_v43 : IVec S64 1 := cmpf .olt main_v41 main_v42
  let main_c_16 : IVec S_ 1 := constantI S_ 1 1#1
  let main_v44 : IVec S_ 1 := (fun x v => Host.reduce IntOp.andi x v reducesTo_S64_S_d0 h_S_) main_v43 main_c_16
  let main_v45 : IVec S_ 1 := andi main_v40 main_v44
  let main_v46 : FVec F S64 .f32 := Host.absf main_arg12
  let main_cst_17 : FVec F S_ .f32 := constant S_ .f32 0x7F800000#32
  let main_v47 : FVec F S64 .f32 := broadcastInDim S64 ![] bcast_S_S64 main_cst_17
  let main_v48 : IVec S64 1 := cmpf .olt main_v46 main_v47
  let main_c_18 : IVec S_ 1 := constantI S_ 1 1#1
  let main_v49 : IVec S_ 1 := (fun x v => Host.reduce IntOp.andi x v reducesTo_S64_S_d0 h_S_) main_v48 main_c_18
  let main_v50 : IVec S_ 1 := andi main_v45 main_v49
  fn_part3 (F := F) main_arg15 main_arg16 main_v50

def fn_part1 {F : FTy → Type} [FloatOps F] (main_arg6 : FVec F S416x26 .f32) (main_arg7 : FVec F S26 .f32) (main_arg8 : FVec F S26 .f32) (main_arg9 : FVec F S26 .f32) (main_arg11 : FVec F S64 .f32) (main_arg12 : FVec F S64 .f32) (main_arg15 : FVec F S32 .f32) (main_arg16 : FVec F S32 .f32) (main_v15 : IVec S_ 1) (main_v16 : FVec F S26 .f32) : IVec S_ 1 :=
  let main_cst_5 : FVec F S_ .f32 := constant S_ .f32 0x7F800000#32
  let main_v17 : FVec F S26 .f32 := broadcastInDim S26 ![] bcast_S_S26 main_cst_5
  let main_v18 : IVec S26 1 := cmpf .olt main_v16 main_v17
  let main_c_6 : IVec S_ 1 := constantI S_ 1 1#1
  let main_v19 : IVec S_ 1 := (fun x v => Host.reduce IntOp.andi x v reducesTo_S26_S_d0 h_S_) main_v18 main_c_6
  let main_v20 : IVec S_ 1 := andi main_v15 main_v19
  let main_v21 : FVec F S416x26 .f32 := Host.absf main_arg6
  let main_cst_7 : FVec F S_ .f32 := constant S_ .f32 0x7F800000#32
  let main_v22 : FVec F S416x26 .f32 := broadcastInDim S416x26 ![] bcast_S_S416x26 main_cst_7
  let main_v23 : IVec S416x26 1 := cmpf .olt main_v21 main_v22
  let main_c_8 : IVec S_ 1 := constantI S_ 1 1#1
  let main_v24 : IVec S_ 1 := (fun x v => Host.reduce IntOp.andi x v reducesTo_S416x26_S_d0_1 h_S_) main_v23 main_c_8
  let main_v25 : IVec S_ 1 := andi main_v20 main_v24
  let main_v26 : FVec F S26 .f32 := Host.absf main_arg7
  let main_cst_9 : FVec F S_ .f32 := constant S_ .f32 0x7F800000#32
  let main_v27 : FVec F S26 .f32 := broadcastInDim S26 ![] bcast_S_S26 main_cst_9
  let main_v28 : IVec S26 1 := cmpf .olt main_v26 main_v27
  let main_c_10 : IVec S_ 1 := constantI S_ 1 1#1
  let main_v29 : IVec S_ 1 := (fun x v => Host.reduce IntOp.andi x v reducesTo_S26_S_d0 h_S_) main_v28 main_c_10
  let main_v30 : IVec S_ 1 := andi main_v25 main_v29
  let main_v31 : FVec F S26 .f32 := Host.absf main_arg8
  let main_cst_11 : FVec F S_ .f32 := constant S_ .f32 0x7F800000#32
  let main_v32 : FVec F S26 .f32 := broadcastInDim S26 ![] bcast_S_S26 main_cst_11
  let main_v33 : IVec S26 1 := cmpf .olt main_v31 main_v32
  fn_part2 (F := F) main_arg9 main_arg11 main_arg12 main_arg15 main_arg16 main_v30 main_v33

def fn {F : FTy → Type} [FloatOps F] (main_arg0 : IVec S16384x26 32) (main_arg1 : FVec F S2600000x16 .f32) (main_arg2 : FVec F S2600000x1 .f32) (main_arg3 : FVec F S1 .f32) (main_arg4 : FVec F S26 .f32) (main_arg5 : FVec F S26 .f32) (main_arg6 : FVec F S416x26 .f32) (main_arg7 : FVec F S26 .f32) (main_arg8 : FVec F S26 .f32) (main_arg9 : FVec F S26 .f32) (main_arg10 : FVec F S416x64 .f32) (main_arg11 : FVec F S64 .f32) (main_arg12 : FVec F S64 .f32) (main_arg13 : FVec F S64 .f32) (main_arg14 : FVec F S64x32 .f32) (main_arg15 : FVec F S32 .f32) (main_arg16 : FVec F S32 .f32) (main_arg17 : FVec F S32 .f32) (main_arg18 : FVec F S32x1 .f32) (main_arg19 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  let main_v6 : FVec F S2600000x16 .f32 := Host.absf main_arg1
  let main_cst : FVec F S_ .f32 := constant S_ .f32 0x7F800000#32
  let main_v7 : FVec F S2600000x16 .f32 := broadcastInDim S2600000x16 ![] bcast_S_S2600000x16 main_cst
  let main_v8 : IVec S2600000x16 1 := cmpf .olt main_v6 main_v7
  let main_c_2 : IVec S_ 1 := constantI S_ 1 1#1
  let main_v9 : IVec S_ 1 := (fun x v => Host.reduce IntOp.andi x v reducesTo_S2600000x16_S_d0_1 h_S_) main_v8 main_c_2
  let main_v10 : IVec S_ 1 := andi main_v5 main_v9
  let main_v11 : FVec F S26 .f32 := Host.absf main_arg4
  let main_cst_3 : FVec F S_ .f32 := constant S_ .f32 0x7F800000#32
  let main_v12 : FVec F S26 .f32 := broadcastInDim S26 ![] bcast_S_S26 main_cst_3
  let main_v13 : IVec S26 1 := cmpf .olt main_v11 main_v12
  let main_c_4 : IVec S_ 1 := constantI S_ 1 1#1
  let main_v14 : IVec S_ 1 := (fun x v => Host.reduce IntOp.andi x v reducesTo_S26_S_d0 h_S_) main_v13 main_c_4
  let main_v15 : IVec S_ 1 := andi main_v10 main_v14
  let main_v16 : FVec F S26 .f32 := Host.absf main_arg5
  fn_part1 (F := F) main_arg6 main_arg7 main_arg8 main_arg9 main_arg11 main_arg12 main_arg15 main_arg16 main_v15 main_v16
-- ==== Kernel.lean ====
abbrev S16384x26 : Shape := ⟨2, ![16384, 26]⟩
abbrev S2600000x16 : Shape := ⟨2, ![2600000, 16]⟩
abbrev S2600000x1 : Shape := ⟨2, ![2600000, 1]⟩
abbrev S1 : Shape := ⟨1, ![1]⟩
abbrev S26 : Shape := ⟨1, ![26]⟩
abbrev S416x26 : Shape := ⟨2, ![416, 26]⟩
abbrev S416x64 : Shape := ⟨2, ![416, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩
abbrev S1x26 : Shape := ⟨2, ![1, 26]⟩
abbrev S425984 : Shape := ⟨1, ![425984]⟩
abbrev S2600000 : Shape := ⟨1, ![2600000]⟩
abbrev S162500x16 : Shape := ⟨2, ![162500, 16]⟩
abbrev S26x16 : Shape := ⟨2, ![26, 16]⟩
abbrev S416 : Shape := ⟨1, ![416]⟩
abbrev S1x416 : Shape := ⟨2, ![1, 416]⟩
abbrev S1x64 : Shape := ⟨2, ![1, 64]⟩
abbrev S1x32 : Shape := ⟨2, ![1, 32]⟩
abbrev S26x1 : Shape := ⟨2, ![26, 1]⟩
abbrev S26x416 : Shape := ⟨2, ![26, 416]⟩
abbrev S1x1 : Shape := ⟨2, ![1, 1]⟩
abbrev S212992 : Shape := ⟨1, ![212992]⟩
abbrev S212992x16 : Shape := ⟨2, ![212992, 16]⟩
abbrev S1664 : Shape := ⟨1, ![1664]⟩
abbrev S1664x16 : Shape := ⟨2, ![1664, 16]⟩
abbrev S16 : Shape := ⟨1, ![16]⟩
abbrev S8192x416 : Shape := ⟨2, ![8192, 416]⟩
abbrev S8192x26 : Shape := ⟨2, ![8192, 26]⟩
abbrev S1x8192 : Shape := ⟨2, ![1, 8192]⟩
abbrev S512x416 : Shape := ⟨2, ![512, 416]⟩
abbrev S512x26 : Shape := ⟨2, ![512, 26]⟩
abbrev S1x512 : Shape := ⟨2, ![1, 512]⟩
abbrev S26x512 : Shape := ⟨2, ![26, 512]⟩
abbrev S512 : Shape := ⟨1, ![512]⟩
abbrev S512x64 : Shape := ⟨2, ![512, 64]⟩
abbrev S512x32 : Shape := ⟨2, ![512, 32]⟩
abbrev S512x1 : Shape := ⟨2, ![512, 1]⟩
abbrev S1x16384 : Shape := ⟨2, ![1, 16384]⟩
abbrev S16384 : Shape := ⟨1, ![16384]⟩

abbrev nBuf : Table → Nat
  | .hbm => 114
  | .local .tc .vmem => 40
  | .local .scVector .vmem => 12
  | _ => 0

abbrev bufTy : (tb : Table) → Fin (nBuf tb) → BufTy
  | .hbm, ⟨0, _⟩ => ⟨S16384x26, .i32⟩
  | .hbm, ⟨1, _⟩ => ⟨S2600000x16, .f32⟩
  | .hbm, ⟨2, _⟩ => ⟨S2600000x1, .f32⟩
  | .hbm, ⟨3, _⟩ => ⟨S1, .f32⟩
  | .hbm, ⟨4, _⟩ => ⟨S26, .f32⟩
  | .hbm, ⟨5, _⟩ => ⟨S26, .f32⟩
  | .hbm, ⟨6, _⟩ => ⟨S416x26, .f32⟩
  | .hbm, ⟨7, _⟩ => ⟨S26, .f32⟩
  | .hbm, ⟨8, _⟩ => ⟨S26, .f32⟩
  | .hbm, ⟨9, _⟩ => ⟨S26, .f32⟩
  | .hbm, ⟨10, _⟩ => ⟨S416x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S1, .f32⟩
  | .hbm, ⟨20, _⟩ => ⟨S26, .i32⟩
  | .hbm, ⟨21, _⟩ => ⟨S_, .i32⟩
  | .hbm, ⟨22, _⟩ => ⟨S26, .i32⟩
  | .hbm, ⟨23, _⟩ => ⟨S26, .i32⟩
  | .hbm, ⟨24, _⟩ => ⟨S1x26, .i32⟩
  | .hbm, ⟨25, _⟩ => ⟨S16384x26, .i32⟩
  | .hbm, ⟨26, _⟩ => ⟨S16384x26, .i32⟩
  | .hbm, ⟨27, _⟩ => ⟨S425984, .i32⟩
  | .hbm, ⟨28, _⟩ => ⟨S2600000, .f32⟩
  | .hbm, ⟨29, _⟩ => ⟨S162500x16, .f32⟩
  | .hbm, ⟨30, _⟩ => ⟨S_, .f32⟩
  | .hbm, ⟨31, _⟩ => ⟨S26, .f32⟩
  | .hbm, ⟨32, _⟩ => ⟨S26, .f32⟩
  | .hbm, ⟨33, _⟩ => ⟨S26x16, .f32⟩
  | .hbm, ⟨34, _⟩ => ⟨S416, .f32⟩
  | .hbm, ⟨35, _⟩ => ⟨S1x416, .f32⟩
  | .hbm, ⟨36, _⟩ => ⟨S26x16, .f32⟩
  | .hbm, ⟨37, _⟩ => ⟨S416, .f32⟩
  | .hbm, ⟨38, _⟩ => ⟨S1x416, .f32⟩
  | .hbm, ⟨39, _⟩ => ⟨S_, .f32⟩
  | .hbm, ⟨40, _⟩ => ⟨S26, .f32⟩
  | .hbm, ⟨41, _⟩ => ⟨S26, .f32⟩
  | .hbm, ⟨42, _⟩ => ⟨S1x26, .f32⟩
  | .hbm, ⟨43, _⟩ => ⟨S26, .f32⟩
  | .hbm, ⟨44, _⟩ => ⟨S_, .f32⟩
  | .hbm, ⟨45, _⟩ => ⟨S26, .f32⟩
  | .hbm, ⟨46, _⟩ => ⟨S26, .f32⟩
  | .hbm, ⟨47, _⟩ => ⟨S26, .f32⟩
  | .hbm, ⟨48, _⟩ => ⟨S1x26, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S1x32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S1x32, .f32⟩
  | .hbm, ⟨69, _⟩ => ⟨S416, .i32⟩
  | .hbm, ⟨70, _⟩ => ⟨S1x416, .i32⟩
  | .hbm, ⟨71, _⟩ => ⟨S_, .i32⟩
  | .hbm, ⟨72, _⟩ => ⟨S_, .i32⟩
  | .hbm, ⟨73, _⟩ => ⟨S1x416, .i32⟩
  | .hbm, ⟨74, _⟩ => ⟨S1x416, .i32⟩
  | .hbm, ⟨75, _⟩ => ⟨S1x416, .i32⟩
  | .hbm, ⟨76, _⟩ => ⟨S_, .i32⟩
  | .hbm, ⟨77, _⟩ => ⟨S1x416, .i32⟩
  | .hbm, ⟨78, _⟩ => ⟨S1x416, .i1⟩
  | .hbm, ⟨79, _⟩ => ⟨S1x416, .i32⟩
  | .hbm, ⟨80, _⟩ => ⟨S1x416, .i32⟩
  | .hbm, ⟨81, _⟩ => ⟨S_, .i32⟩
  | .hbm, ⟨82, _⟩ => ⟨S1x416, .i32⟩
  | .hbm, ⟨83, _⟩ => ⟨S1x416, .i1⟩
  | .hbm, ⟨84, _⟩ => ⟨S1x416, .i1⟩
  | .hbm, ⟨85, _⟩ => ⟨S_, .i32⟩
  | .hbm, ⟨86, _⟩ => ⟨S1x416, .i32⟩
  | .hbm, ⟨87, _⟩ => ⟨S1x416, .i32⟩
  | .hbm, ⟨88, _⟩ => ⟨S1x416, .i32⟩
  | .hbm, ⟨89, _⟩ => ⟨S26, .i32⟩
  | .hbm, ⟨90, _⟩ => ⟨S26x1, .i32⟩
  | .hbm, ⟨91, _⟩ => ⟨S26x416, .i32⟩
  | .hbm, ⟨92, _⟩ => ⟨S26x416, .i32⟩
  | .hbm, ⟨93, _⟩ => ⟨S26x416, .i1⟩
  | .hbm, ⟨94, _⟩ => ⟨S26x416, .f32⟩
  | .hbm, ⟨95, _⟩ => ⟨S1x32, .f32⟩
  | .hbm, ⟨96, _⟩ => ⟨S1, .f32⟩
  | .hbm, ⟨97, _⟩ => ⟨S1x1, .f32⟩
  | .hbm, ⟨98, _⟩ => ⟨S_, .i32⟩
  | .hbm, ⟨99, _⟩ => ⟨S212992, .i32⟩
  | .hbm, ⟨100, _⟩ => ⟨S212992x16, .f32⟩
  | .hbm, ⟨101, _⟩ => ⟨S212992, .f32⟩
  | .hbm, ⟨102, _⟩ => ⟨S8192x416, .f32⟩
  | .hbm, ⟨103, _⟩ => ⟨S8192x26, .f32⟩
  | .hbm, ⟨104, _⟩ => ⟨S1x8192, .f32⟩
  | .hbm, ⟨105, _⟩ => ⟨S_, .i32⟩
  | .hbm, ⟨106, _⟩ => ⟨S212992, .i32⟩
  | .hbm, ⟨107, _⟩ => ⟨S212992x16, .f32⟩
  | .hbm, ⟨108, _⟩ => ⟨S212992, .f32⟩
  | .hbm, ⟨109, _⟩ => ⟨S8192x416, .f32⟩
  | .hbm, ⟨110, _⟩ => ⟨S8192x26, .f32⟩
  | .hbm, ⟨111, _⟩ => ⟨S1x8192, .f32⟩
  | .hbm, ⟨112, _⟩ => ⟨S1x16384, .f32⟩
  | .hbm, ⟨113, _⟩ => ⟨S16384, .f32⟩
  | .local .tc .vmem, ⟨0, _⟩ => ⟨S512x416, .f32⟩
  | .local .tc .vmem, ⟨1, _⟩ => ⟨S512x416, .f32⟩
  | .local .tc .vmem, ⟨2, _⟩ => ⟨S512x26, .f32⟩
  | .local .tc .vmem, ⟨3, _⟩ => ⟨S512x26, .f32⟩
  | .local .tc .vmem, ⟨4, _⟩ => ⟨S1x416, .f32⟩
  | .local .tc .vmem, ⟨5, _⟩ => ⟨S1x416, .f32⟩
  | .local .tc .vmem, ⟨6, _⟩ => ⟨S416x26, .f32⟩
  | .local .tc .vmem, ⟨7, _⟩ => ⟨S1x26, .f32⟩
  | .local .tc .vmem, ⟨8, _⟩ => ⟨S1x26, .f32⟩
  | .local .tc .vmem, ⟨9, _⟩ => ⟨S26x416, .f32⟩
  | .local .tc .vmem, ⟨10, _⟩ => ⟨S416x64, .f32⟩
  | .local .tc .vmem, ⟨11, _⟩ => ⟨S1x64, .f32⟩
  | .local .tc .vmem, ⟨12, _⟩ => ⟨S1x64, .f32⟩
  | .local .tc .vmem, ⟨13, _⟩ => ⟨S64x32, .f32⟩
  | .local .tc .vmem, ⟨14, _⟩ => ⟨S1x32, .f32⟩
  | .local .tc .vmem, ⟨15, _⟩ => ⟨S1x32, .f32⟩
  | .local .tc .vmem, ⟨16, _⟩ => ⟨S1x32, .f32⟩
  | .local .tc .vmem, ⟨17, _⟩ => ⟨S1x1, .f32⟩
  | .local .tc .vmem, ⟨18, _⟩ => ⟨S1x512, .f32⟩
  | .local .tc .vmem, ⟨19, _⟩ => ⟨S1x512, .f32⟩
  | .local .tc .vmem, ⟨20, _⟩ => ⟨S512x416, .f32⟩
  | .local .tc .vmem, ⟨21, _⟩ => ⟨S512x416, .f32⟩
  | .local .tc .vmem, ⟨22, _⟩ => ⟨S512x26, .f32⟩
  | .local .tc .vmem, ⟨23, _⟩ => ⟨S512x26, .f32⟩
  | .local .tc .vmem, ⟨24, _⟩ => ⟨S1x416, .f32⟩
  | .local .tc .vmem, ⟨25, _⟩ => ⟨S1x416, .f32⟩
  | .local .tc .vmem, ⟨26, _⟩ => ⟨S416x26, .f32⟩
  | .local .tc .vmem, ⟨27, _⟩ => ⟨S1x26, .f32⟩
  | .local .tc .vmem, ⟨28, _⟩ => ⟨S1x26, .f32⟩
  | .local .tc .vmem, ⟨29, _⟩ => ⟨S26x416, .f32⟩
  | .local .tc .vmem, ⟨30, _⟩ => ⟨S416x64, .f32⟩
  | .local .tc .vmem, ⟨31, _⟩ => ⟨S1x64, .f32⟩
  | .local .tc .vmem, ⟨32, _⟩ => ⟨S1x64, .f32⟩
  | .local .tc .vmem, ⟨33, _⟩ => ⟨S64x32, .f32⟩
  | .local .tc .vmem, ⟨34, _⟩ => ⟨S1x32, .f32⟩
  | .local .tc .vmem, ⟨35, _⟩ => ⟨S1x32, .f32⟩
  | .local .tc .vmem, ⟨36, _⟩ => ⟨S1x32, .f32⟩
  | .local .tc .vmem, ⟨37, _⟩ => ⟨S1x1, .f32⟩
  | .local .tc .vmem, ⟨38, _⟩ => ⟨S1x512, .f32⟩
  | .local .tc .vmem, ⟨39, _⟩ => ⟨S1x512, .f32⟩
  | .local .scVector .vmem, ⟨0, _⟩ => ⟨S1664, .i32⟩
  | .local .scVector .vmem, ⟨1, _⟩ => ⟨S1664, .i32⟩
  | .local .scVector .vmem, ⟨2, _⟩ => ⟨S1664, .i32⟩
  | .local .scVector .vmem, ⟨3, _⟩ => ⟨S1664x16, .f32⟩
  | .local .scVector .vmem, ⟨4, _⟩ => ⟨S1664x16, .f32⟩
  | .local .scVector .vmem, ⟨5, _⟩ => ⟨S1664, .f32⟩
  | .local .scVector .vmem, ⟨6, _⟩ => ⟨S1664, .i32⟩
  | .local .scVector .vmem, ⟨7, _⟩ => ⟨S1664, .i32⟩
  | .local .scVector .vmem, ⟨8, _⟩ => ⟨S1664, .i32⟩
  | .local .scVector .vmem, ⟨9, _⟩ => ⟨S1664x16, .f32⟩
  | .local .scVector .vmem, ⟨10, _⟩ => ⟨S1664x16, .f32⟩
  | .local .scVector .vmem, ⟨11, _⟩ => ⟨S1664, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 50 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTables nBuf rfl bufTy 4 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_6 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_c : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_0 : Ref sig .tc := ⟨.hbm, 85, rfl⟩
abbrev main_call0_v12 : Ref sig .tc := ⟨.hbm, 86, rfl⟩
abbrev main_call0_v13 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_7 : Ref sig .tc := ⟨.hbm, 98, rfl⟩
abbrev main_v53 : Ref sig .tc := ⟨.hbm, 99, rfl⟩
abbrev main_v54_0 : Ref sig .tc := ⟨.hbm, 100, rfl⟩
abbrev main_v54_1 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_8 : Ref sig .tc := ⟨.hbm, 105, rfl⟩
abbrev main_v58 : Ref sig .tc := ⟨.hbm, 106, rfl⟩
abbrev main_v59_0 : Ref sig .tc := ⟨.hbm, 107, rfl⟩
abbrev main_v59_1 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_arg1_scv : Ref sig .scVector := ⟨.hbm, 1, rfl⟩
abbrev main_v8_scv : Ref sig .scVector := ⟨.hbm, 29, rfl⟩
abbrev main_v53_scv : Ref sig .scVector := ⟨.hbm, 99, rfl⟩
abbrev main_v54_0_scv : Ref sig .scVector := ⟨.hbm, 100, rfl⟩
abbrev main_v54_1_scv : Ref sig .scVector := ⟨.hbm, 101, rfl⟩
abbrev main_v58_scv : Ref sig .scVector := ⟨.hbm, 106, rfl⟩
abbrev main_v59_0_scv : Ref sig .scVector := ⟨.hbm, 107, rfl⟩
abbrev main_v59_1_scv : Ref sig .scVector := ⟨.hbm, 108, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_stg16_0 : Ref sig .tc := ⟨.vmem, 18, rfl⟩
abbrev cc1_stg16_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg13_0 : Ref sig .tc := ⟨.vmem, 35, rfl⟩
abbrev cc3_stg14_0 : Ref sig .tc := ⟨.vmem, 36, rfl⟩
abbrev cc3_stg15_0 : Ref sig .tc := ⟨.vmem, 37, rfl⟩
abbrev cc3_stg16_0 : Ref sig .tc := ⟨.vmem, 38, rfl⟩
abbrev cc3_stg16_1 : Ref sig .tc := ⟨.vmem, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc2_scratch3 : Ref sig .scVector := ⟨.vmem, 9, rfl⟩
abbrev cc2_scratch4 : Ref sig .scVector := ⟨.vmem, 10, rfl⟩
abbrev cc2_scratch5 : Ref sig .scVector := ⟨.vmem, 11, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem16_1 : DmaSem sig := 24
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem12_0 : DmaSem sig := 44
abbrev cc3_sem13_0 : DmaSem sig := 45
abbrev cc3_sem14_0 : DmaSem sig := 46
abbrev cc3_sem15_0 : DmaSem sig := 47
abbrev cc3_sem16_0 : DmaSem sig := 48
abbrev cc3_sem16_1 : DmaSem sig := 49
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v4 : BitVec 32 := Scalar.muli arg15 c1_i32_1
  let v5 : BitVec 32 := Scalar.addi c0_i32_2 v4
  let c1664_i32 : BitVec 32 := 1664#32
  let v6 : BitVec 32 := Scalar.muli v5 c1664_i32
  let v7 : BitVec 32 := Scalar.addi v2 v6
  ![v7.toNat]
@[reducible] def k0_t2_loop : Scf.Loop 32 :=
  let c0_i32_3 : BitVec 32 := 0#32
  let c104_i32 : BitVec 32 := 104#32
  let v8 : BitVec 32 := Scalar.addi c0_i32_3 c104_i32
  let c1_i32_4 : BitVec 32 := 1#32
  ⟨c0_i32_3, v8, c1_i32_4⟩
def k0_off2 (k0_t2 : Fin k0_t2_loop.trips) : Fin 1 → Nat :=
  let c0_i32_18 : BitVec 32 := 0#32
  let c0_i32_3 : BitVec 32 := 0#32
  let c1_i32_4 : BitVec 32 := 1#32
  let arg16 : BitVec 32 := Scf.iv c0_i32_3 c1_i32_4 k0_t2
  let c16_i32 : BitVec 32 := 16#32
  let v14 : BitVec 32 := Scalar.muli arg16 c16_i32
  let v15 : BitVec 32 := Scalar.addi c0_i32_18 v14
  let v16 : Index := Scalar.indexCast v15
  ![v16.toNat]
@[reducible] def k0_t3_loop : Scf.Loop 32 :=
  let c0_i32_14 : BitVec 32 := 0#32
  let c104_i32_15 : BitVec 32 := 104#32
  let v13 : BitVec 32 := Scalar.addi c0_i32_14 c104_i32_15
  let c1_i32_16 : BitVec 32 := 1#32
  ⟨c0_i32_14, v13, c1_i32_16⟩
def k0_off3 (k0_t3 : Fin k0_t3_loop.trips) : Fin 1 → Nat :=
  let c0_i32_18 : BitVec 32 := 0#32
  let c0_i32_14 : BitVec 32 := 0#32
  let c1_i32_16 : BitVec 32 := 1#32
  let arg16 : BitVec 32 := Scf.iv c0_i32_14 c1_i32_16 k0_t3
  let c16_i32 : BitVec 32 := 16#32
  let v14 : BitVec 32 := Scalar.muli arg16 c16_i32
  let v15 : BitVec 32 := Scalar.addi c0_i32_18 v14
  let v19 : Index := Scalar.indexCast v15
  ![v19.toNat]

def k0_chk1 (v18 : IVec S16 32) (v20 : IVec S16 32) : Prop :=
  (∀ a x, ((![v18, v20] : Fin 2 → IVec S16 32) a x).toNat < S1664x16.size a)
theorem k0_idx1_inb : ∀ (v18 : IVec S16 32) (v20 : IVec S16 32) (k0_hw1 : k0_chk1 v18 v20), ∀ a x, ((![v18, v20] : Fin 2 → IVec S16 32) a x).toNat < S1664x16.size a := fun v18 v20 k0_hw1 => k0_hw1
def k0_off4 (k0_t3 : Fin k0_t3_loop.trips) : Fin 1 → Nat :=
  let c0_i32_18 : BitVec 32 := 0#32
  let c0_i32_14 : BitVec 32 := 0#32
  let c1_i32_16 : BitVec 32 := 1#32
  let arg16 : BitVec 32 := Scf.iv c0_i32_14 c1_i32_16 k0_t3
  let c16_i32 : BitVec 32 := 16#32
  let v14 : BitVec 32 := Scalar.muli arg16 c16_i32
  let v15 : BitVec 32 := Scalar.addi c0_i32_18 v14
  let v22 : Index := Scalar.indexCast v15
  ![v22.toNat]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v4 : BitVec 32 := Scalar.muli arg15 c1_i32_1
  let v5 : BitVec 32 := Scalar.addi c0_i32_2 v4
  let c1664_i32 : BitVec 32 := 1664#32
  let v6 : BitVec 32 := Scalar.muli v5 c1664_i32
  let v7 : BitVec 32 := Scalar.addi v2 v6
  let c0_i32_18_r1 : BitVec 32 := 0#32
  ![v7.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x26 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x416 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x416 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S416x26 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x26 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x26 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S26x416 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S416x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x32 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x32 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x32 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x32 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S1x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨2, ![2, 16], ![false, false]⟩

@[reducible] def k2_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k2_off1 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_2 : BitVec 32 := 0#32
  let c0_i32 : BitVec 32 := 0#32
  let c1_i32 : BitVec 32 := 1#32
  let arg15 : BitVec 32 := Scf.iv c0_i32 c1_i32 k2_t1
  let c1_i32_1 : BitVec 32 := 1#32
  let v4 : BitVec 32 := Scalar.muli arg15 c1_i32_1
  let v5 : BitVec 32 := Scalar.addi c0_i32_2 v4
  let c1664_i32 : BitVec 32 := 1664#32
  let v6 : BitVec 32 := Scalar.muli v5 c1664_i32
  let v7 : BitVec 32 := Scalar.addi v2 v6
  ![v7.toNat]
@[reducible] def k2_t2_loop : Scf.Loop 32 :=
  let c0_i32_3 : BitVec 32 := 0#32
  let c104_i32 : BitVec 32 := 104#32
  let v8 : BitVec 32 := Scalar.addi c0_i32_3 c104_i32
  let c1_i32_4 : BitVec 32 := 1#32
  ⟨c0_i32_3, v8, c1_i32_4⟩
def k2_off2 (k2_t2 : Fin k2_t2_loop.trips) : Fin 1 → Nat :=
  let c0_i32_18 : BitVec 32 := 0#32
  let c0_i32_3 : BitVec 32 := 0#32
  let c1_i32_4 : BitVec 32 := 1#32
  let arg16 : BitVec 32 := Scf.iv c0_i32_3 c1_i32_4 k2_t2
  let c16_i32 : BitVec 32 := 16#32
  let v14 : BitVec 32 := Scalar.muli arg16 c16_i32
  let v15 : BitVec 32 := Scalar.addi c0_i32_18 v14
  let v16 : Index := Scalar.indexCast v15
  ![v16.toNat]
@[reducible] def k2_t3_loop : Scf.Loop 32 :=
  let c0_i32_14 : BitVec 32 := 0#32
  let c104_i32_15 : BitVec 32 := 104#32
  let v13 : BitVec 32 := Scalar.addi c0_i32_14 c104_i32_15
  let c1_i32_16 : BitVec 32 := 1#32
  ⟨c0_i32_14, v13, c1_i32_16⟩
def k2_off3 (k2_t3 : Fin k2_t3_loop.trips) : Fin 1 → Nat :=
  let c0_i32_18 : BitVec 32 := 0#32
  let c0_i32_14 : BitVec 32 := 0#32
  let c1_i32_16 : BitVec 32 := 1#32
  let arg16 : BitVec 32 := Scf.iv c0_i32_14 c1_i32_16 k2_t3
  let c16_i32 : BitVec 32 := 16#32
  let v14 : BitVec 32 := Scalar.muli arg16 c16_i32
  let v15 : BitVec 32 := Scalar.addi c0_i32_18 v14
  let v19 : Index := Scalar.indexCast v15
  ![v19.toNat]

def k2_chk1 (v18 : IVec S16 32) (v20 : IVec S16 32) : Prop :=
  (∀ a x, ((![v18, v20] : Fin 2 → IVec S16 32) a x).toNat < S1664x16.size a)
theorem k2_idx1_inb : ∀ (v18 : IVec S16 32) (v20 : IVec S16 32) (k2_hw1 : k2_chk1 v18 v20), ∀ a x, ((![v18, v20] : Fin 2 → IVec S16 32) a x).toNat < S1664x16.size a := fun v18 v20 k2_hw1 => k2_hw1
def k2_off4 (k2_t3 : Fin k2_t3_loop.trips) : Fin 1 → Nat :=
  let c0_i32_18 : BitVec 32 := 0#32
  let c0_i32_14 : BitVec 32 := 0#32
  let c1_i32_16 : BitVec 32 := 1#32
  let arg16 : BitVec 32 := Scf.iv c0_i32_14 c1_i32_16 k2_t3
  let c16_i32 : BitVec 32 := 16#32
  let v14 : BitVec 32 := Scalar.muli arg16 c16_i32
  let v15 : BitVec 32 := Scalar.addi c0_i32_18 v14
  let v22 : Index := Scalar.indexCast v15
  ![v22.toNat]
def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6656_i32 : BitVec 32 := 6656#32
  let v2 : BitVec 32 := Scalar.muli v1 c6656_i32
  let c0_i32_2 : BitVec 32 := 0#32
  let c0_i32 : BitVec 32 := 0#32
  let c1_i32 : BitVec 32 := 1#32
  let arg15 : BitVec 32 := Scf.iv c0_i32 c1_i32 k2_t1
  let c1_i32_1 : BitVec 32 := 1#32
  let v4 : BitVec 32 := Scalar.muli arg15 c1_i32_1
  let v5 : BitVec 32 := Scalar.addi c0_i32_2 v4
  let c1664_i32 : BitVec 32 := 1664#32
  let v6 : BitVec 32 := Scalar.muli v5 c1664_i32
  let v7 : BitVec 32 := Scalar.addi v2 v6
  let c0_i32_18_r1 : BitVec 32 := 0#32
  ![v7.toNat, 0]
abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S512x416 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x26 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x416 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x416 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S416x26 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x26 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x26 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S26x416 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S416x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x32 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x32 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x32 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x32 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x1 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 2 → Memref sig .tc .vmem S1x512 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x26 : Shape := ⟨2, ![16384, 26]⟩
abbrev S2600000x16 : Shape := ⟨2, ![2600000, 16]⟩
abbrev S2600000x1 : Shape := ⟨2, ![2600000, 1]⟩
abbrev S1 : Shape := ⟨1, ![1]⟩
abbrev S26 : Shape := ⟨1, ![26]⟩
abbrev S416x26 : Shape := ⟨2, ![416, 26]⟩
abbrev S416x64 : Shape := ⟨2, ![416, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1x26 : Shape := ⟨2, ![1, 26]⟩
abbrev S_ : Shape := ⟨0, ![]⟩
abbrev S16384x26x1 : Shape := ⟨3, ![16384, 26, 1]⟩
abbrev S1x1x1 : Shape := ⟨3, ![1, 1, 1]⟩
abbrev S16384x1 : Shape := ⟨2, ![16384, 1]⟩
abbrev S1x1 : Shape := ⟨2, ![1, 1]⟩
abbrev S16384x26x16 : Shape := ⟨3, ![16384, 26, 16]⟩
abbrev S1x26x1 : Shape := ⟨3, ![1, 26, 1]⟩
abbrev S16384x416 : Shape := ⟨2, ![16384, 416]⟩
abbrev S16384 : Shape := ⟨1, ![16384]⟩
abbrev S16384x8 : Shape := ⟨2, ![16384, 8]⟩
abbrev S16384x8x1 : Shape := ⟨3, ![16384, 8, 1]⟩
abbrev S16384x8x2 : Shape := ⟨3, ![16384, 8, 2]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩

abbrev nBuf : Space → Nat
  | .hbm => 218
  | .vmem => 0
  | .smem => 0
  | _ => 0

abbrev hbmTy0_0 (i : Nat) : BufTy := match i % 128 with
  | 0 => ⟨S16384x26, .i32⟩
  | 1 => ⟨S2600000x16, .f32⟩
  | 2 => ⟨S2600000x1, .f32⟩
  | 3 => ⟨S1, .f32⟩
  | 4 => ⟨S26, .f32⟩
  | 5 => ⟨S26, .f32⟩
  | 6 => ⟨S416x26, .f32⟩
  | 7 => ⟨S26, .f32⟩
  | 8 => ⟨S26, .f32⟩
  | 9 => ⟨S26, .f32⟩
  | 10 => ⟨S416x64, .f32⟩
  | 11 => ⟨S64, .f32⟩
  | 12 => ⟨S64, .f32⟩
  | 13 => ⟨S64, .f32⟩
  | 14 => ⟨S64x32, .f32⟩
  | 15 => ⟨S32, .f32⟩
  | 16 => ⟨S32, .f32⟩
  | 17 => ⟨S32, .f32⟩
  | 18 => ⟨S32x1, .f32⟩
  | 19 => ⟨S1, .f32⟩
  | 20 => ⟨S26, .i32⟩
  | 21 => ⟨S1x26, .i32⟩
  | 22 => ⟨S16384x26, .i32⟩
  | 23 => ⟨S16384x26, .i32⟩
  | 24 => ⟨S_, .i32⟩
  | 25 => ⟨S16384x26, .i32⟩
  | 26 => ⟨S16384x26, .i1⟩
  | 27 => ⟨S_, .i32⟩
  | 28 => ⟨S16384x26, .i32⟩
  | 29 => ⟨S16384x26, .i32⟩
  | 30 => ⟨S16384x26, .i32⟩
  | 31 => ⟨S16384x26x1, .i32⟩
  | 32 => ⟨S1, .i32⟩
  | 33 => ⟨S_, .i32⟩
  | 34 => ⟨S16384x26x1, .i32⟩
  | 35 => ⟨S16384x26x1, .i1⟩
  | 36 => ⟨S1x1x1, .i32⟩
  | 37 => ⟨S16384x26x1, .i32⟩
  | 38 => ⟨S16384x26x1, .i1⟩
  | 39 => ⟨S16384x26x1, .i1⟩
  | 40 => ⟨S_, .i1⟩
  | 41 => ⟨S16384x26, .i1⟩
  | 42 => ⟨S16384x26x1, .f32⟩
  | 43 => ⟨S16384x26x1, .i1⟩
  | 44 => ⟨S_, .f32⟩
  | 45 => ⟨S16384x26x1, .f32⟩
  | 46 => ⟨S16384x26x1, .f32⟩
  | 47 => ⟨S_, .f32⟩
  | 48 => ⟨S16384x1, .f32⟩
  | 49 => ⟨S1x1, .f32⟩
  | 50 => ⟨S16384x1, .f32⟩
  | 51 => ⟨S16384x1, .f32⟩
  | 52 => ⟨S_, .i32⟩
  | 53 => ⟨S16384x26, .i32⟩
  | 54 => ⟨S16384x26, .i1⟩
  | 55 => ⟨S_, .i32⟩
  | 56 => ⟨S16384x26, .i32⟩
  | 57 => ⟨S16384x26, .i32⟩
  | 58 => ⟨S16384x26, .i32⟩
  | 59 => ⟨S16384x26x1, .i32⟩
  | 60 => ⟨S1, .i32⟩
  | 61 => ⟨S_, .i32⟩
  | 62 => ⟨S16384x26x1, .i32⟩
  | 63 => ⟨S16384x26x1, .i1⟩
  | 64 => ⟨S1x1x1, .i32⟩
  | 65 => ⟨S16384x26x1, .i32⟩
  | 66 => ⟨S16384x26x1, .i1⟩
  | 67 => ⟨S16384x26x1, .i1⟩
  | 68 => ⟨S_, .i1⟩
  | 69 => ⟨S16384x26, .i1⟩
  | 70 => ⟨S16384x26x16, .f32⟩
  | 71 => ⟨S16384x26x16, .i1⟩
  | 72 => ⟨S_, .f32⟩
  | 73 => ⟨S16384x26x16, .f32⟩
  | 74 => ⟨S16384x26x16, .f32⟩
  | 75 => ⟨S_, .f32⟩
  | 76 => ⟨S16384x26x16, .f32⟩
  | 77 => ⟨S16384x26x16, .f32⟩
  | 78 => ⟨S1x26x1, .f32⟩
  | 79 => ⟨S16384x26x16, .f32⟩
  | 80 => ⟨S16384x26x16, .f32⟩
  | 81 => ⟨S1x26x1, .f32⟩
  | 82 => ⟨S16384x26x16, .f32⟩
  | 83 => ⟨S16384x26x16, .f32⟩
  | 84 => ⟨S16384x416, .f32⟩
  | 85 => ⟨S16384x26, .f32⟩
  | 86 => ⟨S1x26, .f32⟩
  | 87 => ⟨S16384x26, .f32⟩
  | 88 => ⟨S16384x26, .f32⟩
  | 89 => ⟨S_, .f32⟩
  | 90 => ⟨S16384x26, .f32⟩
  | 91 => ⟨S16384x26, .f32⟩
  | 92 => ⟨S1x26, .f32⟩
  | 93 => ⟨S16384x26, .f32⟩
  | 94 => ⟨S16384x26, .f32⟩
  | 95 => ⟨S1x26, .f32⟩
  | 96 => ⟨S16384x26, .f32⟩
  | 97 => ⟨S16384x26, .f32⟩
  | 98 => ⟨S_, .f32⟩
  | 99 => ⟨S16384x26, .f32⟩
  | 100 => ⟨S16384x26, .f32⟩
  | 101 => ⟨S_, .f32⟩
  | 102 => ⟨S16384, .f32⟩
  | 103 => ⟨S_, .f32⟩
  | 104 => ⟨S16384, .f32⟩
  | 105 => ⟨S16384, .f32⟩
  | 106 => ⟨S16384x1, .f32⟩
  | 107 => ⟨S16384x26, .f32⟩
  | 108 => ⟨S16384x26, .f32⟩
  | 109 => ⟨S16384x26, .f32⟩
  | 110 => ⟨S_, .f32⟩
  | 111 => ⟨S16384, .f32⟩
  | 112 => ⟨S16384x1, .f32⟩
  | 113 => ⟨S16384x26, .f32⟩
  | 114 => ⟨S16384x26, .f32⟩
  | 115 => ⟨S16384x8, .f32⟩
  | 116 => ⟨S16384x8, .i32⟩
  | 117 => ⟨S16384x8, .i32⟩
  | 118 => ⟨S_, .i32⟩
  | 119 => ⟨S16384x8, .i32⟩
  | 120 => ⟨S16384x8, .i1⟩
  | 121 => ⟨S_, .i32⟩
  | 122 => ⟨S16384x8, .i32⟩
  | 123 => ⟨S16384x8, .i32⟩
  | 124 => ⟨S16384x8, .i32⟩
  | 125 => ⟨S16384x8x1, .i32⟩
  | 126 => ⟨S1, .i32⟩
  | 127 => ⟨S_, .i32⟩
  | _ => ⟨S16384x26, .i32⟩

abbrev hbmTy0_1 (i : Nat) : BufTy := match i % 128 with
  | 0 => ⟨S16384x8x1, .i32⟩
  | 1 => ⟨S16384x8x1, .i1⟩
  | 2 => ⟨S1x1x1, .i32⟩
  | 3 => ⟨S16384x8x1, .i32⟩
  | 4 => ⟨S16384x8x1, .i1⟩
  | 5 => ⟨S16384x8x1, .i1⟩
  | 6 => ⟨S_, .i1⟩
  | 7 => ⟨S16384x8, .i1⟩
  | 8 => ⟨S16384x8, .f32⟩
  | 9 => ⟨S_, .f32⟩
  | 10 => ⟨S16384x8, .f32⟩
  | 11 => ⟨S16384x8, .f32⟩
  | 12 => ⟨S_, .f32⟩
  | 13 => ⟨S16384, .f32⟩
  | 14 => ⟨S16384x1, .f32⟩
  | 15 => ⟨S16384x8, .f32⟩
  | 16 => ⟨S16384x8, .f32⟩
  | 17 => ⟨S16384, .i32⟩
  | 18 => ⟨S16384x1, .i32⟩
  | 19 => ⟨S_, .f32⟩
  | 20 => ⟨S16384x26, .f32⟩
  | 21 => ⟨S_, .i32⟩
  | 22 => ⟨S16384x1, .i32⟩
  | 23 => ⟨S16384x1, .i1⟩
  | 24 => ⟨S_, .i32⟩
  | 25 => ⟨S16384x1, .i32⟩
  | 26 => ⟨S16384x1, .i32⟩
  | 27 => ⟨S16384x1, .i32⟩
  | 28 => ⟨S_, .i32⟩
  | 29 => ⟨S16384x8, .i32⟩
  | 30 => ⟨S16384x8, .i1⟩
  | 31 => ⟨S_, .i32⟩
  | 32 => ⟨S16384x8, .i32⟩
  | 33 => ⟨S16384x8, .i32⟩
  | 34 => ⟨S16384x8, .i32⟩
  | 35 => ⟨S16384x8, .i32⟩
  | 36 => ⟨S16384x8x1, .i32⟩
  | 37 => ⟨S16384x8x1, .i32⟩
  | 38 => ⟨S16384x8x2, .i32⟩
  | 39 => ⟨S16384x26, .f32⟩
  | 40 => ⟨S16384x26x1, .f32⟩
  | 41 => ⟨S16384x26x16, .f32⟩
  | 42 => ⟨S16384x26x16, .f32⟩
  | 43 => ⟨S16384x416, .f32⟩
  | 44 => ⟨S16384x64, .f32⟩
  | 45 => ⟨S1x64, .f32⟩
  | 46 => ⟨S16384x64, .f32⟩
  | 47 => ⟨S16384x64, .f32⟩
  | 48 => ⟨S_, .f32⟩
  | 49 => ⟨S16384x64, .f32⟩
  | 50 => ⟨S16384x64, .f32⟩
  | 51 => ⟨S1x64, .f32⟩
  | 52 => ⟨S16384x64, .f32⟩
  | 53 => ⟨S16384x64, .f32⟩
  | 54 => ⟨S1x64, .f32⟩
  | 55 => ⟨S16384x64, .f32⟩
  | 56 => ⟨S16384x64, .f32⟩
  | 57 => ⟨S_, .f32⟩
  | 58 => ⟨S16384x64, .f32⟩
  | 59 => ⟨S16384x64, .f32⟩
  | 60 => ⟨S16384x32, .f32⟩
  | 61 => ⟨S1x32, .f32⟩
  | 62 => ⟨S16384x32, .f32⟩
  | 63 => ⟨S16384x32, .f32⟩
  | 64 => ⟨S_, .f32⟩
  | 65 => ⟨S16384x32, .f32⟩
  | 66 => ⟨S16384x32, .f32⟩
  | 67 => ⟨S1x32, .f32⟩
  | 68 => ⟨S16384x32, .f32⟩
  | 69 => ⟨S16384x32, .f32⟩
  | 70 => ⟨S1x32, .f32⟩
  | 71 => ⟨S16384x32, .f32⟩
  | 72 => ⟨S16384x32, .f32⟩
  | 73 => ⟨S_, .f32⟩
  | 74 => ⟨S16384x32, .f32⟩
  | 75 => ⟨S16384x32, .f32⟩
  | 76 => ⟨S16384x1, .f32⟩
  | 77 => ⟨S1x1, .f32⟩
  | 78 => ⟨S16384x1, .f32⟩
  | 79 => ⟨S16384x1, .f32⟩
  | 80 => ⟨S16384x1, .f32⟩
  | 81 => ⟨S16384, .f32⟩
  | 82 => ⟨S16384, .f32⟩
  | 83 => ⟨S16384, .f32⟩
  | 84 => ⟨S_, .f32⟩
  | 85 => ⟨S16384, .f32⟩
  | 86 => ⟨S16384, .f32⟩
  | 87 => ⟨S_, .f32⟩
  | 88 => ⟨S16384, .f32⟩
  | 89 => ⟨S16384, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v3 : Ref sig .tc := ⟨.hbm, 46, rfl⟩
abbrev main_cst : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v8 : Ref sig .tc := ⟨.hbm, 74, rfl⟩
abbrev main_cst_0 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_cst_1 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_call2_cst : Ref sig .tc := ⟨.hbm, 98, rfl⟩
abbrev main_call2_v0 : Ref sig .tc := ⟨.hbm, 99, rfl⟩
abbrev main_v30 : Ref sig .tc := ⟨.hbm, 100, rfl⟩
abbrev main_cst_2 : Ref sig .tc := ⟨.hbm, 101, rfl⟩
abbrev main_v31 : Ref sig .tc := ⟨.hbm, 102, rfl⟩
abbrev main_cst_3 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_cst_4 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_values : Ref sig .tc := ⟨.hbm, 115, rfl⟩
abbrev main_indices : Ref sig .tc := ⟨.hbm, 116, rfl⟩
abbrev main_v42 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_cst : Ref sig .tc := ⟨.hbm, 137, rfl⟩
abbrev main_call4_v14 : Ref sig .tc := ⟨.hbm, 138, rfl⟩
abbrev main_v43 : Ref sig .tc := ⟨.hbm, 139, rfl⟩
abbrev main_cst_5 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_cst_6 : Ref sig .tc := ⟨.hbm, 147, rfl⟩
abbrev main_v50 : Ref sig .tc := ⟨.hbm, 148, rfl⟩
abbrev main_c_7 : Ref sig .tc := ⟨.hbm, 149, rfl⟩
abbrev main_v51 : Ref sig .tc := ⟨.hbm, 150, rfl⟩
abbrev main_v52 : Ref sig .tc := ⟨.hbm, 151, rfl⟩
abbrev main_c_8 : Ref sig .tc := ⟨.hbm, 152, rfl⟩
abbrev main_v53 : Ref sig .tc := ⟨.hbm, 153, rfl⟩
abbrev main_v54 : Ref sig .tc := ⟨.hbm, 154, rfl⟩
abbrev main_v55 : Ref sig .tc := ⟨.hbm, 155, rfl⟩
abbrev main_c_9 : Ref sig .tc := ⟨.hbm, 156, rfl⟩
abbrev main_v56 : Ref sig .tc := ⟨.hbm, 157, rfl⟩
abbrev main_v57 : Ref sig .tc := ⟨.hbm, 158, rfl⟩
abbrev main_c_10 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_cst_11 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_call5_cst : Ref sig .tc := ⟨.hbm, 185, rfl⟩
abbrev main_call5_v0 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_cst_12 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_call6_cst : Ref sig .tc := ⟨.hbm, 201, rfl⟩
abbrev main_call6_v0 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_cst_13 : Ref sig .tc := ⟨.hbm, 212, rfl⟩
abbrev main_v104 : Ref sig .tc := ⟨.hbm, 213, rfl⟩
abbrev main_v105 : Ref sig .tc := ⟨.hbm, 214, rfl⟩
abbrev main_cst_14 : Ref sig .tc := ⟨.hbm, 215, rfl⟩
abbrev main_v106 : Ref sig .tc := ⟨.hbm, 216, rfl⟩
abbrev main_v107 : Ref sig .tc := ⟨.hbm, 217, rfl⟩

abbrev nD : Nat := 1
abbrev τ : Topo := Topo.v7x

variable {F : FTy → Type} [FloatOps F]
-- ==== Proof.Pre.lean ====
/-
  What the two preconditions say: categories below 100000, and, for the second, every float an ordinary number.
-/
module

public import proofs.«01_k».proof.Defs
public import proofs.«01_k».proof.Proof.Gen.Pre_in_range
public import proofs.«01_k».proof.Proof.Gen.Pre_in_range_finite
public import Idealize.ShloMosaic.Lib.ReduceAll

@[expose] public section

noncomputable section

namespace Cert.Proof.Pre

open Idealize.ShloMosaic

theorem word_range (v : BitVec 32) (e : IntOp.andi (IntOp.cmpi .sge v 0#32) (IntOp.cmpi .slt v 100000#32) = 1#1) : v.toNat < 100000 := by
  obtain ⟨h1, h2⟩ := IntOp.andi_eq_one.1 e
  have h1 := IntOp.cmpi_sge.1 h1
  have h2 := IntOp.cmpi_slt.1 h2
  rw [show (100000#32).toInt = 100000 from rfl, BitVec.toInt_eq_toNat_cond] at h2
  rw [show (0#32).toInt = 0 from rfl, BitVec.toInt_eq_toNat_cond] at h1
  split at h1 <;> split at h2 <;> omega

theorem split {s : Shape} (p q : IVec s 1) (j : s.Idx) (e : andi p q j = 1#1) : p j = 1#1 ∧ q j = 1#1 := IntOp.andi_eq_one.1 e

section
variable {s u : Shape} {axes : List (Fin s.rank)} {t : Shape} [Subsingleton t.Idx]

theorem cat_of_reduce (hb : (⟨0, ![]⟩ : Shape).BroadcastsInDim s (![] : Fin 0 → Fin s.rank)) (a : IVec s 32) (init : IVec u 1) (hr : s.ReducesTo axes t) (hu : 0 < u.numel) (j : t.Idx)
    (e : Host.reduce IntOp.andi (andi (cmpi .sge a (broadcastInDim s ![] hb (constantI ⟨0, ![]⟩ 32 0#32)))
      (cmpi .slt a (broadcastInDim s ![] hb (constantI ⟨0, ![]⟩ 32 100000#32)))) init hr hu j = 1#1) (i : s.Idx) : (a i).toNat < 100000 :=
  word_range _ (Host.reduce_andi_all _ _ _ _ j e i)

theorem inf_bits : Ideal.ofBits .f32 0x7F800000#32 = ⊤ := by
  simp [Ideal.ofBits, Ideal.ieee]

theorem fin_of_abs (x : EReal) (h : Ideal.cmp .olt (max x (-x)) ⊤ = 1#1) : ∃ r : ℝ, x = (r : EReal) := by
  induction x with
  | bot => simp [Ideal.cmp] at h
  | coe r => exact ⟨r, rfl⟩
  | top => simp [Ideal.cmp] at h

theorem fin_of_reduce (hb : (⟨0, ![]⟩ : Shape).BroadcastsInDim s (![] : Fin 0 → Fin s.rank)) (a : FVec Ideal s .f32) (init : IVec u 1) (hr : s.ReducesTo axes t) (hu : 0 < u.numel) (j : t.Idx)
    (e : Host.reduce IntOp.andi (cmpf .olt (Host.absf a) (broadcastInDim s ![] hb (constant ⟨0, ![]⟩ .f32 0x7F800000#32))) init hr hu j = 1#1) :
    ∃ r : s.Idx → ℝ, a = fun i => (r i : EReal) := by
  have h : ∀ i, ∃ r : ℝ, a i = (r : EReal) := fun i => by
    refine fin_of_abs _ ?_
    have := Host.reduce_andi_all _ _ _ _ j e i
    rw [← inf_bits]
    exact this
  choose r hr using h
  exact ⟨r, funext hr⟩
end

theorem in_range_cat {F : FTy → Type} [FloatOps F] (a0 : IVec Pre_in_range.S16384x26 32) (a1 a2 a3 a4 a5 a6 a7 a8 a9 a10 a11 a12 a13 a14 a15 a16 a17 a18 a19)
    (h : Pre_in_range.fn (F := F) a0 a1 a2 a3 a4 a5 a6 a7 a8 a9 a10 a11 a12 a13 a14 a15 a16 a17 a18 a19 = fun _ => 1#1) (i) : (a0 i).toNat < 100000 :=
  cat_of_reduce _ _ _ _ _ (fun k => k.elim0) (congrFun h (fun k => k.elim0)) i

/-- What the second precondition gives. -/
theorem in_range_finite_all (a0 : IVec Pre_in_range_finite.S16384x26 32) (a1 a2 a3 a4 a5 a6 a7 a8 a9 a10 a11 a12 a13 a14 a15 a16 a17 a18 a19)
    (h : Pre_in_range_finite.fn (F := Ideal) a0 a1 a2 a3 a4 a5 a6 a7 a8 a9 a10 a11 a12 a13 a14 a15 a16 a17 a18 a19 = fun _ => 1#1) :
    (∀ i, (a0 i).toNat < 100000)
      ∧ (∃ r : _ → ℝ, a1 = fun i => (r i : EReal)) ∧ (∃ r : _ → ℝ, a4 = fun i => (r i : EReal)) ∧ (∃ r : _ → ℝ, a5 = fun i => (r i : EReal)) ∧ (∃ r : _ → ℝ, a6 = fun i => (r i : EReal))
      ∧ (∃ r : _ → ℝ, a7 = fun i => (r i : EReal)) ∧ (∃ r : _ → ℝ, a8 = fun i => (r i : EReal)) ∧ (∃ r : _ → ℝ, a9 = fun i => (r i : EReal)) ∧ (∃ r : _ → ℝ, a11 = fun i => (r i : EReal))
      ∧ (∃ r : _ → ℝ, a12 = fun i => (r i : EReal)) ∧ (∃ r : _ → ℝ, a15 = fun i => (r i : EReal)) ∧ (∃ r : _ → ℝ, a16 = fun i => (r i : EReal)) := by
  have e := congrFun h (fun k => k.elim0)
  simp only [Pre_in_range_finite.fn, Pre_in_range_finite.fn_part1, Pre_in_range_finite.fn_part2, Pre_in_range_finite.fn_part3] at e
  obtain ⟨e, h16⟩ := split _ _ _ e
  obtain ⟨e, h15⟩ := split _ _ _ e
  obtain ⟨e, h12⟩ := split _ _ _ e
  obtain ⟨e, h11⟩ := split _ _ _ e
  obtain ⟨e, h9⟩ := split _ _ _ e
  obtain ⟨e, h8⟩ := split _ _ _ e
  obtain ⟨e, h7⟩ := split _ _ _ e
  obtain ⟨e, h6⟩ := split _ _ _ e
  obtain ⟨e, h5⟩ := split _ _ _ e
  obtain ⟨e, h4⟩ := split _ _ _ e
  obtain ⟨e, h1⟩ := split _ _ _ e
  exact ⟨cat_of_reduce _ _ _ _ _ _ e,
    fin_of_reduce _ _ _ _ _ _ h1, fin_of_reduce _ _ _ _ _ _ h4, fin_of_reduce _ _ _ _ _ _ h5, fin_of_reduce _ _ _ _ _ _ h6, fin_of_reduce _ _ _ _ _ _ h7,
    fin_of_reduce _ _ _ _ _ _ h8, fin_of_reduce _ _ _ _ _ _ h9, fin_of_reduce _ _ _ _ _ _ h11, fin_of_reduce _ _ _ _ _ _ h12, fin_of_reduce _ _ _ _ _ _ h15,
    fin_of_reduce _ _ _ _ _ _ h16⟩

end Cert.Proof.Pre

end
-- ==== Proof.Ideal.Setup.lean ====
/-
  What every module of the run shares: the program as the launch theorem sees it, the algebra of its ghost state, and
  what the two SparseCore gathers leave in their results, as functions of the tables and the index list.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Tactic
public import Idealize.ShloMosaic.Lib.WritesUnit
public import Idealize.ShloMosaic.Lib.ValueIdxCore
public import Idealize.ShloMosaic.Lib.ShareLeaves
public import Idealize.ShloMosaic.Lib.Pipeline.RegionArraysS

@[expose] public section

noncomputable section

namespace Cert.Proof.Ideal

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; -/
abbrev UH : Type := URounds (GSem nD τ sig) ℕ
/-- the pipelines' rounds; -/
abbrev UPI : Type := URounds (GSem nD τ sig) Unit
/-- both, and the transfers' counters. -/
abbrev UU : Type := UH × (UPI × Counters)

abbrev EH : Emb UH (MT nD τ sig (HIx 2) (Elt F) ℕ UU ℕ) := embL

/-! ## What the gathers leave -/

/-- The row of the wide table an index word names; -/
def rowE (w : BitVec 32) : Fin 2600000 := ⟨w.toNat % 2600000, Nat.mod_lt _ (by decide)⟩
/-- the row and the lane of the narrow table's sixteen-word granules. -/
def rowL (w : BitVec 32) : Fin 162500 := ⟨w.toNat / 16 % 162500, Nat.mod_lt _ (by decide)⟩
def laneL (w : BitVec 32) : Fin 16 := ⟨w.toNat % 16, Nat.mod_lt _ (by decide)⟩

/-- The gathered rows: row `i` is the table's row at the list's `i`-th word. -/
def EG (idx : S212992.Idx → BitVec 32) (emb : S2600000x16.Idx → F .f32) : S212992x16.Idx → F .f32 :=
  fun x => emb (ix2 (rowE (idx (ix1 (n := 212992) (x 0)))) (x 1))
/-- The gathered scalars. -/
def LV (idx : S212992.Idx → BitVec 32) (lin : S162500x16.Idx → F .f32) : S212992.Idx → F .f32 :=
  fun x => lin (ix2 (rowL (idx x)) (laneL (idx x)))

/-- Every word of an index list names a row. -/
def IdxOK (idx : S212992.Idx → BitVec 32) : Prop := ∀ x, (idx x).toNat < 2600000

end Cert.Proof.Ideal

end
-- ==== Proof.Ideal.Host.lean ====
/-
  The host program's operations between the calls, as lists, and the program as those lists and the calls in turn.
-/
module

public import proofs.«01_k».proof.Proof.Ideal.Setup
public import Idealize.ShloMosaic.Lib.StableHlo.Run
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-- The indices, the tables and the folded normalisations. -/
def opsP : List (HloOp τ sig (Elt F)) := [
  StableHlo.nullary main_v0 (iotaInDim S26 32 0),
  StableHlo.nullary main_c (constantI S_ 32 100000#32),
  StableHlo.unary main_c main_v1 (broadcastInDim S26 ![] bcast_S_S26 : (⟨S_, .i32⟩ : BufTy).Contents (Elt F) → (⟨S26, .i32⟩ : BufTy).Contents (Elt F)),
  StableHlo.binary main_v0 main_v1 main_v2 (muli : (⟨S26, .i32⟩ : BufTy).Contents (Elt F) → (⟨S26, .i32⟩ : BufTy).Contents (Elt F) → (⟨S26, .i32⟩ : BufTy).Contents (Elt F)),
  StableHlo.unary main_v2 main_v3 (broadcastInDim S1x26 ![1] bcast_S26_S1x26_1 : (⟨S26, .i32⟩ : BufTy).Contents (Elt F) → (⟨S1x26, .i32⟩ : BufTy).Contents (Elt F)),
  StableHlo.unary main_v3 main_v4 (broadcastInDim S16384x26 ![0, 1] bcast_S1x26_S16384x26_0_1 : (⟨S1x26, .i32⟩ : BufTy).Contents (Elt F) → (⟨S16384x26, .i32⟩ : BufTy).Contents (Elt F)),
  StableHlo.binary main_arg0 main_v4 main_v5 (addi : (⟨S16384x26, .i32⟩ : BufTy).Contents (Elt F) → (⟨S16384x26, .i32⟩ : BufTy).Contents (Elt F) → (⟨S16384x26, .i32⟩ : BufTy).Contents (Elt F)),
  StableHlo.reshape main_v5 main_v6 (rfl : (.i32 : EltTy) = .i32) shapeCasts_S16384x26_S425984,
  StableHlo.reshape main_arg2 main_v7 (rfl : (.f32 : EltTy) = .f32) shapeCasts_S2600000x1_S2600000,
  StableHlo.reshape main_v7 main_v8 (rfl : (.f32 : EltTy) = .f32) shapeCasts_S2600000_S162500x16,
  StableHlo.nullary main_cst (constant S_ .f32 0x3F7FFFAC#32),
  StableHlo.unary main_cst main_v9 (broadcastInDim S26 ![] bcast_S_S26 : (⟨S_, .f32⟩ : BufTy).Contents (Elt F) → (⟨S26, .f32⟩ : BufTy).Contents (Elt F)),
  StableHlo.binary main_arg4 main_v9 main_v10 (mulf : (⟨S26, .f32⟩ : BufTy).Contents (Elt F) → (⟨S26, .f32⟩ : BufTy).Contents (Elt F) → (⟨S26, .f32⟩ : BufTy).Contents (Elt F)),
  StableHlo.unary main_v10 main_v11 (broadcastInDim S26x16 ![0] bcast_S26_S26x16_0 : (⟨S26, .f32⟩ : BufTy).Contents (Elt F) → (⟨S26x16, .f32⟩ : BufTy).Contents (Elt F)),
  StableHlo.reshape main_v11 main_v12 (rfl : (.f32 : EltTy) = .f32) shapeCasts_S26x16_S416,
  StableHlo.unary main_v12 main_v13 (broadcastInDim S1x416 ![1] bcast_S416_S1x416_1 : (⟨S416, .f32⟩ : BufTy).Contents (Elt F) → (⟨S1x416, .f32⟩ : BufTy).Contents (Elt F)),
  StableHlo.unary main_arg5 main_v14 (broadcastInDim S26x16 ![0] bcast_S26_S26x16_0 : (⟨S26, .f32⟩ : BufTy).Contents (Elt F) → (⟨S26x16, .f32⟩ : BufTy).Contents (Elt F)),
  StableHlo.reshape main_v14 main_v15 (rfl : (.f32 : EltTy) = .f32) shapeCasts_S26x16_S416,
  StableHlo.unary main_v15 main_v16 (broadcastInDim S1x416 ![1] bcast_S416_S1x416_1 : (⟨S416, .f32⟩ : BufTy).Contents (Elt F) → (⟨S1x416, .f32⟩ : BufTy).Contents (Elt F)),
  StableHlo.nullary main_cst_0 (constant S_ .f32 0x3F7FFFAC#32),
  StableHlo.unary main_cst_0 main_v17 (broadcastInDim S26 ![] bcast_S_S26 : (⟨S_, .f32⟩ : BufTy).Contents (Elt F) → (⟨S26, .f32⟩ : BufTy).Contents (Elt F)),
  StableHlo.binary main_arg8 main_v17 main_v18 (mulf : (⟨S26, .f32⟩ : BufTy).Contents (Elt F) → (⟨S26, .f32⟩ : BufTy).Contents (Elt F) → (⟨S26, .f32⟩ : BufTy).Contents (Elt F)),
  StableHlo.unary main_v18 main_v19 (broadcastInDim S1x26 ![1] bcast_S26_S1x26_1 : (⟨S26, .f32⟩ : BufTy).Contents (Elt F) → (⟨S1x26, .f32⟩ : BufTy).Contents (Elt F)),
  StableHlo.binary main_arg7 main_arg8 main_v20 (mulf : (⟨S26, .f32⟩ : BufTy).Contents (Elt F) → (⟨S26, .f32⟩ : BufTy).Contents (Elt F) → (⟨S26, .f32⟩ : BufTy).Contents (Elt F)),
  StableHlo.nullary main_cst_1 (constant S_ .f32 0x3F7FFFAC#32),
  StableHlo.unary main_cst_1 main_v21 (broadcastInDim S26 ![] bcast_S_S26 : (⟨S_, .f32⟩ : BufTy).Contents (Elt F) → (⟨S26, .f32⟩ : BufTy).Contents (Elt F)),
  StableHlo.binary main_v20 main_v21 main_v22 (mulf : (⟨S26, .f32⟩ : BufTy).Contents (Elt F) → (⟨S26, .f32⟩ : BufTy).Contents (Elt F) → (⟨S26, .f32⟩ : BufTy).Contents (Elt F)),
  StableHlo.binary main_v22 main_arg9 main_v23 (addf : (⟨S26, .f32⟩ : BufTy).Contents (Elt F) → (⟨S26, .f32⟩ : BufTy).Contents (Elt F) → (⟨S26, .f32⟩ : BufTy).Contents (Elt F)),
  StableHlo.unary main_v23 main_v24 (broadcastInDim S1x26 ![1] bcast_S26_S1x26_1 : (⟨S26, .f32⟩ : BufTy).Contents (Elt F) → (⟨S1x26, .f32⟩ : BufTy).Contents (Elt F)),
  StableHlo.nullary main_cst_2 (constant S_ .f32 0x3F7FFFAC#32),
  StableHlo.unary main_cst_2 main_v25 (broadcastInDim S64 ![] bcast_S_S64 : (⟨S_, .f32⟩ : BufTy).Contents (Elt F) → (⟨S64, .f32⟩ : BufTy).Contents (Elt F)),
  StableHlo.binary main_arg12 main_v25 main_v26 (mulf : (⟨S64, .f32⟩ : BufTy).Contents (Elt F) → (⟨S64, .f32⟩ : BufTy).Contents (Elt F) → (⟨S64, .f32⟩ : BufTy).Contents (Elt F)),
  StableHlo.unary main_v26 main_v27 (broadcastInDim S1x64 ![1] bcast_S64_S1x64_1 : (⟨S64, .f32⟩ : BufTy).Contents (Elt F) → (⟨S1x64, .f32⟩ : BufTy).Contents (Elt F)),
  StableHlo.binary main_arg11 main_arg12 main_v28 (mulf : (⟨S64, .f32⟩ : BufTy).Contents (Elt F) → (⟨S64, .f32⟩ : BufTy).Contents (Elt F) → (⟨S64, .f32⟩ : BufTy).Contents (Elt F)),
  StableHlo.nullary main_cst_3 (constant S_ .f32 0x3F7FFFAC#32),
  StableHlo.unary main_cst_3 main_v29 (broadcastInDim S64 ![] bcast_S_S64 : (⟨S_, .f32⟩ : BufTy).Contents (Elt F) → (⟨S64, .f32⟩ : BufTy).Contents (Elt F)),
  StableHlo.binary main_v28 main_v29 main_v30 (mulf : (⟨S64, .f32⟩ : BufTy).Contents (Elt F) → (⟨S64, .f32⟩ : BufTy).Contents (Elt F) → (⟨S64, .f32⟩ : BufTy).Contents (Elt F)),
  StableHlo.binary main_v30 main_arg13 main_v31 (addf : (⟨S64, .f32⟩ : BufTy).Contents (Elt F) → (⟨S64, .f32⟩ : BufTy).Contents (Elt F) → (⟨S64, .f32⟩ : BufTy).Contents (Elt F)),
  StableHlo.unary main_v31 main_v32 (broadcastInDim S1x64 ![1] bcast_S64_S1x64_1 : (⟨S64, .f32⟩ : BufTy).Contents (Elt F) → (⟨S1x64, .f32⟩ : BufTy).Contents (Elt F)),
  StableHlo.nullary main_cst_4 (constant S_ .f32 0x3F7FFFAC#32),
  StableHlo.unary main_cst_4 main_v33 (broadcastInDim S32 ![] bcast_S_S32 : (⟨S_, .f32⟩ : BufTy).Contents (Elt F) → (⟨S32, .f32⟩ : BufTy).Contents (Elt F)),
  StableHlo.binary main_arg16 main_v33 main_v34 (mulf : (⟨S32, .f32⟩ : BufTy).Contents (Elt F) → (⟨S32, .f32⟩ : BufTy).Contents (Elt F) → (⟨S32, .f32⟩ : BufTy).Contents (Elt F)),
  StableHlo.unary main_v34 main_v35 (broadcastInDim S1x32 ![1] bcast_S32_S1x32_1 : (⟨S32, .f32⟩ : BufTy).Contents (Elt F) → (⟨S1x32, .f32⟩ : BufTy).Contents (Elt F)),
  StableHlo.binary main_arg15 main_arg16 main_v36 (mulf : (⟨S32, .f32⟩ : BufTy).Contents (Elt F) → (⟨S32, .f32⟩ : BufTy).Contents (Elt F) → (⟨S32, .f32⟩ : BufTy).Contents (Elt F)),
  StableHlo.nullary main_cst_5 (constant S_ .f32 0x3F7FFFAC#32),
  StableHlo.unary main_cst_5 main_v37 (broadcastInDim S32 ![] bcast_S_S32 : (⟨S_, .f32⟩ : BufTy).Contents (Elt F) → (⟨S32, .f32⟩ : BufTy).Contents (Elt F)),
  StableHlo.binary main_v36 main_v37 main_v38 (mulf : (⟨S32, .f32⟩ : BufTy).Contents (Elt F) → (⟨S32, .f32⟩ : BufTy).Contents (Elt F) → (⟨S32, .f32⟩ : BufTy).Contents (Elt F)),
  StableHlo.binary main_v38 main_arg17 main_v39 (addf : (⟨S32, .f32⟩ : BufTy).Contents (Elt F) → (⟨S32, .f32⟩ : BufTy).Contents (Elt F) → (⟨S32, .f32⟩ : BufTy).Contents (Elt F)),
  StableHlo.unary main_v39 main_v40 (broadcastInDim S1x32 ![1] bcast_S32_S1x32_1 : (⟨S32, .f32⟩ : BufTy).Contents (Elt F) → (⟨S1x32, .f32⟩ : BufTy).Contents (Elt F)),
  StableHlo.nullary main_v41 (iotaInDim S416 32 0),
  StableHlo.unary main_v41 main_v42 (broadcastInDim S1x416 ![1] bcast_S416_S1x416_1 : (⟨S416, .i32⟩ : BufTy).Contents (Elt F) → (⟨S1x416, .i32⟩ : BufTy).Contents (Elt F)),
  StableHlo.nullary main_c_6 (constantI S_ 32 16#32)]

/-- The field of each of the 416 lanes: a floor division. -/
def opsF : List (HloOp τ sig (Elt F)) := [
  StableHlo.TRef.unary (.of main_c_6) main_call0.v0 id,
  StableHlo.TRef.unary main_call0.v0 main_call0.v1 (broadcastInDim S1x416 ![] bcast_S_S1x416),
  StableHlo.TRef.binary (.of main_v42) main_call0.v1 main_call0.v2 Host.divsi,
  StableHlo.TRef.unary (.of main_v42) main_call0.v3 signi,
  StableHlo.TRef.unary main_call0.v0 main_call0.v4 signi,
  StableHlo.TRef.unary main_call0.v4 main_call0.v5 (broadcastInDim S1x416 ![] bcast_S_S1x416),
  StableHlo.TRef.binary main_call0.v3 main_call0.v5 main_call0.v6 (cmpi .ne),
  StableHlo.TRef.unary main_call0.v0 main_call0.v7 (broadcastInDim S1x416 ![] bcast_S_S1x416),
  StableHlo.TRef.binary (.of main_v42) main_call0.v7 main_call0.v8 Host.remsi,
  StableHlo.TRef.nullary main_call0.c (constantI S_ 32 0#32),
  StableHlo.TRef.unary main_call0.c main_call0.v9 (broadcastInDim S1x416 ![] bcast_S_S1x416),
  StableHlo.TRef.binary main_call0.v8 main_call0.v9 main_call0.v10 (cmpi .ne),
  StableHlo.TRef.binary main_call0.v6 main_call0.v10 main_call0.v11 andi,
  StableHlo.TRef.nullary main_call0.c_0 (constantI S_ 32 1#32),
  StableHlo.TRef.unary main_call0.c_0 main_call0.v12 (broadcastInDim S1x416 ![] bcast_S_S1x416),
  StableHlo.TRef.binary main_call0.v2 main_call0.v12 main_call0.v13 subi,
  StableHlo.TRef.ternary main_call0.v11 main_call0.v13 main_call0.v2 main_call0.call0.v0 select]

/-- The expansion of 26 fields to 416 lanes, and the last layer's weights as a row. -/
def opsE : List (HloOp τ sig (Elt F)) := [
  StableHlo.nullary main_v44 (iotaInDim S26 32 0),
  StableHlo.unary main_v44 main_v45 (broadcastInDim S26x1 ![0] bcast_S26_S26x1_0 : (⟨S26, .i32⟩ : BufTy).Contents (Elt F) → (⟨S26x1, .i32⟩ : BufTy).Contents (Elt F)),
  StableHlo.unary main_v43 main_v46 (broadcastInDim S26x416 ![0, 1] bcast_S1x416_S26x416_0_1 : (⟨S1x416, .i32⟩ : BufTy).Contents (Elt F) → (⟨S26x416, .i32⟩ : BufTy).Contents (Elt F)),
  StableHlo.unary main_v45 main_v47 (broadcastInDim S26x416 ![0, 1] bcast_S26x1_S26x416_0_1 : (⟨S26x1, .i32⟩ : BufTy).Contents (Elt F) → (⟨S26x416, .i32⟩ : BufTy).Contents (Elt F)),
  StableHlo.binary main_v46 main_v47 main_v48 (cmpi .eq : (⟨S26x416, .i32⟩ : BufTy).Contents (Elt F) → (⟨S26x416, .i32⟩ : BufTy).Contents (Elt F) → (⟨S26x416, .i1⟩ : BufTy).Contents (Elt F)),
  StableHlo.unary main_v48 main_v49 (uitofp .f32 : (⟨S26x416, .i1⟩ : BufTy).Contents (Elt F) → (⟨S26x416, .f32⟩ : BufTy).Contents (Elt F)),
  StableHlo.reshape main_arg18 main_v50 (rfl : (.f32 : EltTy) = .f32) shapeCasts_S32x1_S1x32]

/-- The biases' sum and the first half's indices. -/
def opsG1 : List (HloOp τ sig (Elt F)) := [
  StableHlo.binary main_arg3 main_arg19 main_v51 (addf : (⟨S1, .f32⟩ : BufTy).Contents (Elt F) → (⟨S1, .f32⟩ : BufTy).Contents (Elt F) → (⟨S1, .f32⟩ : BufTy).Contents (Elt F)),
  StableHlo.reshape main_v51 main_v52 (rfl : (.f32 : EltTy) = .f32) shapeCasts_S1_S1x1,
  StableHlo.nullary main_c_7 (constantI S_ 32 0#32),
  StableHlo.unaryIndexed main_v6 ![main_c_7] ⟨S_, .i32⟩ main_v53 ((fun x i => Host.dynamicSlice S212992 x (fun k => (i k (Shape.Idx.first h_S_)).toInt) sliceFits_S425984_S212992) : (⟨S425984, .i32⟩ : BufTy).Contents (Elt F) → (Fin 1 → (⟨S_, .i32⟩ : BufTy).Contents (Elt F)) → (⟨S212992, .i32⟩ : BufTy).Contents (Elt F))]

/-- The first half's rows as the dense call takes them. -/
def opsR1 : List (HloOp τ sig (Elt F)) := [
  StableHlo.reshape main_v54_0 main_v55 (rfl : (.f32 : EltTy) = .f32) shapeCasts_S212992x16_S8192x416,
  StableHlo.reshape main_v54_1 main_v56 (rfl : (.f32 : EltTy) = .f32) shapeCasts_S212992_S8192x26]

/-- The second half's indices. -/
def opsG2 : List (HloOp τ sig (Elt F)) := [
  StableHlo.nullary main_c_8 (constantI S_ 32 212992#32),
  StableHlo.unaryIndexed main_v6 ![main_c_8] ⟨S_, .i32⟩ main_v58 ((fun x i => Host.dynamicSlice S212992 x (fun k => (i k (Shape.Idx.first h_S_)).toInt) sliceFits_S425984_S212992) : (⟨S425984, .i32⟩ : BufTy).Contents (Elt F) → (Fin 1 → (⟨S_, .i32⟩ : BufTy).Contents (Elt F)) → (⟨S212992, .i32⟩ : BufTy).Contents (Elt F))]

/-- The second half's rows as the dense call takes them. -/
def opsR2 : List (HloOp τ sig (Elt F)) := [
  StableHlo.reshape main_v59_0 main_v60 (rfl : (.f32 : EltTy) = .f32) shapeCasts_S212992x16_S8192x416,
  StableHlo.reshape main_v59_1 main_v61 (rfl : (.f32 : EltTy) = .f32) shapeCasts_S212992_S8192x26]

/-- The two halves, joined. -/
def opsO : List (HloOp τ sig (Elt F)) := [
  StableHlo.binary main_v57 main_v62 main_v63 ((fun a b => concatenate S1x16384 1 [⟨S1x8192, a⟩, ⟨S1x8192, b⟩] concatenates_S1x8192_S1x8192_S1x16384_d1) : (⟨S1x8192, .f32⟩ : BufTy).Contents (Elt F) → (⟨S1x8192, .f32⟩ : BufTy).Contents (Elt F) → (⟨S1x16384, .f32⟩ : BufTy).Contents (Elt F)),
  StableHlo.reshape main_v63 main_v64 (rfl : (.f32 : EltTy) = .f32) shapeCasts_S1x16384_S16384]

abbrev ProgH (F : FTy → Type) [FloatOps F] : Type 1 := Prog (TpuEff nD τ sig (Elt F) (SparseCore.Sig (ΛP (F := F)) 2) .tc) PUnit

theorem floor_eq : (fn_floor_divide.body (.of main_v42) (.of main_c_6) main_call0 : ProgH F) = StableHlo.seq opsF := rfl

theorem part0_eq (d : Dev nD) : (main_part0 d : ProgH F) = (do StableHlo.seq opsP; StableHlo.seq opsF; StableHlo.seq opsE) := by
  rw [← floor_eq]
  rfl

theorem part1_eq (d : Dev nD) : (main_part1 d : ProgH F) = (do
    StableHlo.seq opsG1; sc.run d 0; StableHlo.seq opsR1
    Prog.lift (.customCall (SparseCore.inner (Pipeline.entry 0)) ())
    StableHlo.seq opsG2; sc.run d 1; StableHlo.seq opsR2
    Prog.lift (.customCall (SparseCore.inner (Pipeline.entry 1)) ())
    StableHlo.seq opsO) := rfl

theorem opsP_sub : ∀ op ∈ (opsP (F := F)), op.bufs ⊆ Pipeline.ucRefs τ sig := by
  intro op h
  refine Pipeline.sub_ucRefs op ?_
  unfold opsP at h
  simp only [List.mem_cons, List.mem_nil_iff, or_false] at h
  rcases h with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> simp [StableHlo.TRef.unary, StableHlo.TRef.binary, StableHlo.TRef.ternary, StableHlo.TRef.nullary]

theorem opsP_fresh : ∀ op ∈ (opsP (F := F)), op.fresh = ∅ := by
  intro op h
  unfold opsP at h
  repeat (cases h with | head => rfl | tail _ h => ?_)
  exact nomatch h

theorem opsF_sub : ∀ op ∈ (opsF (F := F)), op.bufs ⊆ Pipeline.ucRefs τ sig := by
  intro op h
  refine Pipeline.sub_ucRefs op ?_
  unfold opsF at h
  simp only [List.mem_cons, List.mem_nil_iff, or_false] at h
  rcases h with rfl | rfl | rfl | rfl | rfl | rfl | rfl | rfl | rfl | rfl | rfl | rfl | rfl | rfl | rfl | rfl | rfl <;> simp [StableHlo.TRef.unary, StableHlo.TRef.binary, StableHlo.TRef.ternary, StableHlo.TRef.nullary]

theorem opsF_fresh : ∀ op ∈ (opsF (F := F)), op.fresh = ∅ := by
  intro op h
  unfold opsF at h
  repeat (cases h with | head => rfl | tail _ h => ?_)
  exact nomatch h

theorem opsE_sub : ∀ op ∈ (opsE (F := F)), op.bufs ⊆ Pipeline.ucRefs τ sig := by
  intro op h
  refine Pipeline.sub_ucRefs op ?_
  unfold opsE at h
  simp only [List.mem_cons, List.mem_nil_iff, or_false] at h
  rcases h with rfl | rfl | rfl | rfl | rfl | rfl | rfl <;> simp [StableHlo.TRef.unary, StableHlo.TRef.binary, StableHlo.TRef.ternary, StableHlo.TRef.nullary]

theorem opsE_fresh : ∀ op ∈ (opsE (F := F)), op.fresh = ∅ := by
  intro op h
  unfold opsE at h
  repeat (cases h with | head => rfl | tail _ h => ?_)
  exact nomatch h

theorem opsG1_sub : ∀ op ∈ (opsG1 (F := F)), op.bufs ⊆ Pipeline.ucRefs τ sig := by
  intro op h
  refine Pipeline.sub_ucRefs op ?_
  unfold opsG1 at h
  simp only [List.mem_cons, List.mem_nil_iff, or_false] at h
  rcases h with rfl | rfl | rfl | rfl <;> simp [StableHlo.TRef.unary, StableHlo.TRef.binary, StableHlo.TRef.ternary, StableHlo.TRef.nullary]

theorem opsG1_fresh : ∀ op ∈ (opsG1 (F := F)), op.fresh = ∅ := by
  intro op h
  unfold opsG1 at h
  repeat (cases h with | head => rfl | tail _ h => ?_)
  exact nomatch h

theorem opsR1_sub : ∀ op ∈ (opsR1 (F := F)), op.bufs ⊆ Pipeline.ucRefs τ sig := by
  intro op h
  refine Pipeline.sub_ucRefs op ?_
  unfold opsR1 at h
  simp only [List.mem_cons, List.mem_nil_iff, or_false] at h
  rcases h with rfl | rfl <;> simp [StableHlo.TRef.unary, StableHlo.TRef.binary, StableHlo.TRef.ternary, StableHlo.TRef.nullary]

theorem opsR1_fresh : ∀ op ∈ (opsR1 (F := F)), op.fresh = ∅ := by
  intro op h
  unfold opsR1 at h
  repeat (cases h with | head => rfl | tail _ h => ?_)
  exact nomatch h

theorem opsG2_sub : ∀ op ∈ (opsG2 (F := F)), op.bufs ⊆ Pipeline.ucRefs τ sig := by
  intro op h
  refine Pipeline.sub_ucRefs op ?_
  unfold opsG2 at h
  simp only [List.mem_cons, List.mem_nil_iff, or_false] at h
  rcases h with rfl | rfl <;> simp [StableHlo.TRef.unary, StableHlo.TRef.binary, StableHlo.TRef.ternary, StableHlo.TRef.nullary]

theorem opsG2_fresh : ∀ op ∈ (opsG2 (F := F)), op.fresh = ∅ := by
  intro op h
  unfold opsG2 at h
  repeat (cases h with | head => rfl | tail _ h => ?_)
  exact nomatch h

theorem opsR2_sub : ∀ op ∈ (opsR2 (F := F)), op.bufs ⊆ Pipeline.ucRefs τ sig := by
  intro op h
  refine Pipeline.sub_ucRefs op ?_
  unfold opsR2 at h
  simp only [List.mem_cons, List.mem_nil_iff, or_false] at h
  rcases h with rfl | rfl <;> simp [StableHlo.TRef.unary, StableHlo.TRef.binary, StableHlo.TRef.ternary, StableHlo.TRef.nullary]

theorem opsR2_fresh : ∀ op ∈ (opsR2 (F := F)), op.fresh = ∅ := by
  intro op h
  unfold opsR2 at h
  repeat (cases h with | head => rfl | tail _ h => ?_)
  exact nomatch h

theorem opsO_sub : ∀ op ∈ (opsO (F := F)), op.bufs ⊆ Pipeline.ucRefs τ sig := by
  intro op h
  refine Pipeline.sub_ucRefs op ?_
  unfold opsO at h
  simp only [List.mem_cons, List.mem_nil_iff, or_false] at h
  rcases h with rfl | rfl <;> simp [StableHlo.TRef.unary, StableHlo.TRef.binary, StableHlo.TRef.ternary, StableHlo.TRef.nullary]

theorem opsO_fresh : ∀ op ∈ (opsO (F := F)), op.fresh = ∅ := by
  intro op h
  unfold opsO at h
  repeat (cases h with | head => rfl | tail _ h => ?_)
  exact nomatch h

/-- A run of host operations: every buffer of the core, through the operations. -/
theorem seq_wp (d : Dev nD) (ops : List (HloOp τ sig (Elt F))) (hs : ∀ op ∈ ops, op.bufs ⊆ Pipeline.ucRefs τ sig)
    (hf : ∀ op ∈ ops, op.fresh = ∅) (V : Valuation τ sig (Elt F)) (Q : PUnit → sProp 𝕄) :
    iprop(boundary (T d) ∗ StableHlo.held (T d) (Pipeline.ucRefs τ sig) V
        ∗ (iprop(boundary (T d) ∗ StableHlo.held (T d) (Pipeline.ucRefs τ sig) (StableHlo.after ops V)) -∗ Q ⟨⟩))
      ⊢ wp frame (wpE ((K (F := F)).defs (D (F := F))) 𝒱 (T d) none) Set.univ (StableHlo.seq ops) Q := by
  have h := StableHlo.wp_seq (defs := (K (F := F)).defs (D (F := F))) 𝒱 none Set.univ d (Pipeline.ucRefs τ sig)
    (k := fun _ => (Prog.ret ⟨⟩ : ProgH F)) (K := Q) ops hs hf V
  rw [show (StableHlo.seq ops >>= fun _ => (Prog.ret ⟨⟩ : ProgH F)) = StableHlo.seq ops from bind_pure _] at h
  iintro ⟨Hb, Hh, Hk⟩
  iapply h $$ [Hb Hh]
  · isplitl [Hb] <;> iassumption
  iintro H
  rw [wp_ret]
  imodintro
  iapply Hk $$ H

end Cert.Proof.Ideal

end
-- ==== Proof.Ideal.Gather0.lean ====
/-
  One tile of the first SparseCore gather: four chunks of 1664 rows. Each chunk fetches its index words, splits them
  into granule and lane, gathers the wide rows and the granules, picks the lanes, and writes both results out. The tile
  leaves its 6656 rows of both results at the gathered values.
-/
module

public import proofs.«01_k».proof.Proof.Ideal.Setup

@[expose] public section

noncomputable section

namespace Cert.Proof.Ideal.Gather0

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "eV" => (Memref.whole main_arg1_scv : Memref sig Kind.scVector Space.hbm S2600000x16 EltTy.f32)
local notation "lV" => (Memref.whole main_v8_scv : Memref sig Kind.scVector Space.hbm S162500x16 EltTy.f32)
local notation "iV" => (Memref.whole main_v53_scv : Memref sig Kind.scVector Space.hbm S212992 EltTy.i32)
local notation "oV" => (Memref.whole main_v54_0_scv : Memref sig Kind.scVector Space.hbm S212992x16 EltTy.f32)
local notation "pV" => (Memref.whole main_v54_1_scv : Memref sig Kind.scVector Space.hbm S212992 EltTy.f32)
local notation "s0" => (Memref.whole cc0_scratch0 : Memref sig Kind.scVector Space.vmem S1664 EltTy.i32)
local notation "s1" => (Memref.whole cc0_scratch1 : Memref sig Kind.scVector Space.vmem S1664 EltTy.i32)
local notation "s2" => (Memref.whole cc0_scratch2 : Memref sig Kind.scVector Space.vmem S1664 EltTy.i32)
local notation "s3" => (Memref.whole cc0_scratch3 : Memref sig Kind.scVector Space.vmem S1664x16 EltTy.f32)
local notation "s4" => (Memref.whole cc0_scratch4 : Memref sig Kind.scVector Space.vmem S1664x16 EltTy.f32)
local notation "s5" => (Memref.whole cc0_scratch5 : Memref sig Kind.scVector Space.vmem S1664 EltTy.f32)

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

/-! ## One store of sixteen words -/

/-- A buffer of 1664 elements right below `16 k`, sixteen right ones stored at `16 k`: right below `16 (k + 1)`. -/
theorem grow {e : EltTy} {v : View sig Kind.scVector Space.vmem S1664 e} (f : v.ty.Contents (Elt F)) {off : Fin 1 → ℕ} (k : ℕ)
    (heq : off = ![16 * k]) (inb : ∀ a : Fin 1, off a + S16.size a ≤ S1664.size a) (w : (Rect.unit (s := S1664) off S16.size inb).shape.Idx → Elt F e)
    (g : S1664.Idx → Elt F e)
    (hf : ∀ x : S1664.Idx, (x 0).val < 16 * k → v.read (Elt F) f x = g x)
    (hw : ∀ (j : S16.Idx) (x : S1664.Idx), (x 0).val = 16 * k + (j 0).val → w j = g x) :
    ∀ x : S1664.Idx, (x 0).val < 16 * (k + 1) →
      v.read (Elt F) (v.writes (Elt F) f [⟨Rect.unit (s := S1664) off S16.size inb, w⟩]) x = g x := by
  intro x hx
  rw [View.read_writes_cons_unit v f inb w [] x heq]
  split
  · rename_i h
    refine hw _ x ?_
    have h0 := h 0
    simp only [Matrix.cons_val_fin_one] at h0
    rw [Rect.unitLocal_val]
    simp only [Matrix.cons_val_fin_one]
    omega
  · rename_i h
    refine hf x ?_
    by_contra hc
    refine h fun a => ?_
    obtain rfl : a = 0 := Subsingleton.elim _ _
    simp only [Matrix.cons_val_fin_one]
    have : S16.size 0 = 16 := rfl
    omega

/-! ## Splitting the words -/

/-- Before trip `n` of the splitting loop: the first `16 n` words of the list have their granule and lane stored. -/
def inv2 (f7 : S1664.Idx → BitVec 32) (n : Nat) (_ : PUnit) : sProp 𝕄 :=
  iprop(((s0).view.loc (thr d L) ↦{fullShare} f7)
    ∗ (∃ f : S1664.Idx → BitVec 32, ⌜∀ x, (x 0).val < 16 * n → f x = f7 x >>> 4⌝ ∗ ((s1).view.loc (thr d L) ↦{fullShare} f))
    ∗ (∃ f : S1664.Idx → BitVec 32, ⌜∀ x, (x 0).val < 16 * n → f x = f7 x &&& 15#32⌝ ∗ ((s2).view.loc (thr d L) ↦{fullShare} f)))

/-- Sixteen elements loaded at `off` are the buffer's there. -/
theorem load16 {e : EltTy} {v : View sig Kind.scVector Space.vmem S1664 e} (f : v.ty.Contents (Elt F)) {off : Fin 1 → ℕ} (k : ℕ)
    (heq : off = ![16 * k]) (inb : ∀ a : Fin 1, off a + S16.size a ≤ S1664.size a) (j : S16.Idx) (x : S1664.Idx)
    (h : (x 0).val = 16 * k + (j 0).val) :
    v.readAt (Elt F) (Rect.unit (s := S1664) off S16.size inb).toLoadRect f j = v.read (Elt F) f x := by
  rw [View.readAt_apply]
  congr 1
  funext a
  obtain rfl : a = 0 := Subsingleton.elim _ _
  subst heq
  apply Fin.ext
  show 16 * k + 1 * (j 0).val = (x 0).val
  omega

set_option maxHeartbeats 2000000 in
theorem trip2 (f7 : S1664.Idx → BitVec 32) (k : Fin k0_t2_loop.trips) :
    inv2 (F := F) d L f7 k.val ⟨⟩ ⊢ wp frame (wpE (defs₀ (F := F)) 𝒱₀ (thr d L) none) Set.univ
      (k0_t2_body L eV (Memref.isWhole_whole _) lV (Memref.isWhole_whole _) iV (Memref.isWhole_whole _) oV (Memref.isWhole_whole _) pV (Memref.isWhole_whole _)
        s0 (Memref.isWhole_whole _) s1 (Memref.isWhole_whole _) s2 (Memref.isWhole_whole _) s3 (Memref.isWhole_whole _) s4 (Memref.isWhole_whole _) s5 (Memref.isWhole_whole _)
        cc0_scratch6 cc0_scratch7 cc0_scoped0 cc0_scoped1 cc0_scoped2 k ⟨⟩)
      fun _ => inv2 (F := F) d L f7 (k.val + 1) ⟨⟩ := by
  unfold inv2 k0_t2_body
  iintro ⟨H0, ⟨%f1, %h1, H1⟩, ⟨%f2, %h2, H2⟩⟩
  sl_exec
  sl_step
  isplitl [H0]; · iexact H0
  isplitl [H1]
  · iexists _; isplitr
    swap; · iexact H1
    ipureintro
    refine grow (F := F) (e := .i32) (v := (s1).view) f1 k.val (k0_off2_eq k) (k0_off2_inb k) _ (fun x => f7 x >>> 4) h1 ?_
    intro j x hx
    exact (congrArg (fun w : BitVec 32 => w >>> (4 : Nat)) (load16 (F := F) (e := .i32) (v := (s0).view) f7 k.val (k0_off2_eq k) (k0_off2_inb k) j x hx))
  · iexists _; isplitr
    swap; · iexact H2
    ipureintro
    refine grow (F := F) (e := .i32) (v := (s2).view) f2 k.val (k0_off2_eq k) (k0_off2_inb k) _ (fun x => f7 x &&& 15#32) h2 ?_
    intro j x hx
    exact (congrArg (fun w : BitVec 32 => w &&& 15#32) (load16 (F := F) (e := .i32) (v := (s0).view) f7 k.val (k0_off2_eq k) (k0_off2_inb k) j x hx))

/-! ## Picking the lanes -/

/-- Before trip `n` of the picking loop: the first `16 n` scalars are the granules' at their lanes. -/
def inv3 (f9 : S1664.Idx → BitVec 32) (f11 : S1664x16.Idx → F .f32) (n : Nat) (_ : PUnit) : sProp 𝕄 :=
  iprop(((s2).view.loc (thr d L) ↦{fullShare} f9) ∗ ((s4).view.loc (thr d L) ↦{fullShare} f11)
    ∗ (∃ f : S1664.Idx → F .f32, ⌜∀ x, (x 0).val < 16 * n → f x = f11 (ix2 (n0 := 1664) (n1 := 16) (x 0) (laneL (f9 x)))⌝ ∗ ((s5).view.loc (thr d L) ↦{fullShare} f)))

theorem pay3_apply (k : Fin k0_t3_loop.trips) (j : S16.Idx) : (k0_pay3 k j).toNat = 16 * k.val + (j 0).val := by
  have hk : k.val < 104 := lt_of_lt_of_le k.isLt k0_t3_abs.2.1
  have hj : (j 0).val < 16 := (j 0).isLt
  show (BitVec.ofNat 32 (0 * 16 + (j 0).val) + (0#32 + (0#32 + BitVec.ofNat 32 k.val * 1#32) * 16#32)).toNat = _
  simp only [BitVec.toNat_add, BitVec.toNat_mul, BitVec.toNat_ofNat]
  omega

/-- The lanes' loads are in bounds: the rows by the trip, the lanes below sixteen. -/
theorem chk3 (f9 : S1664.Idx → BitVec 32) (h9 : ∀ x, (f9 x).toNat < 16) (k : Fin k0_t3_loop.trips) :
    k0_chk1 (k0_pay3 k) ((s2).view.readAt (Elt F) (Rect.unit (s := S1664) (k0_off3 k) S16.size (k0_off3_inb k)).toLoadRect f9) := by
  intro a x
  have hk : k.val < 104 := lt_of_lt_of_le k.isLt k0_t3_abs.2.1
  have hj : (x 0).val < 16 := (x 0).isLt
  match a with
  | ⟨0, _⟩ => show (k0_pay3 k x).toNat < 1664; rw [pay3_apply]; omega
  | ⟨1, _⟩ => exact h9 _

/-- One picked lane. -/
theorem val3 (f9 : S1664.Idx → BitVec 32) (h9 : ∀ x, (f9 x).toNat < 16) (f11 : S1664x16.Idx → F .f32) (k : Fin k0_t3_loop.trips)
    (v : IVec S16 32) (hv : ∀ (j : S16.Idx) (x : S1664.Idx), (x 0).val = 16 * k.val + (j 0).val → v j = f9 x)
    (h : ∀ (a : Fin 2) (x : S16.Idx), ((![k0_pay3 k, v] : Fin 2 → IVec S16 32) a x).toNat < S1664x16.size a) (j : S16.Idx) (x : S1664.Idx)
    (hx : (x 0).val = 16 * k.val + (j 0).val) :
    loadIdx (F := F) (e := .f32) f11 ![k0_pay3 k, v] h j = f11 (ix2 (n0 := 1664) (n1 := 16) (x 0) (laneL (f9 x))) := by
  unfold loadIdx
  refine congrArg f11 ?_
  rw [eq_ix2 (idxAt ![k0_pay3 k, v] h j)]
  refine congrArg₂ ix2 (Fin.ext ?_) (Fin.ext ?_)
  · exact (pay3_apply k j).trans hx.symm
  · refine Eq.trans ?_ (Nat.mod_eq_of_lt (h9 x)).symm
    show (v j).toNat = (f9 x).toNat
    rw [hv j x hx]

set_option maxHeartbeats 2000000 in
theorem trip3 (f9 : S1664.Idx → BitVec 32) (h9 : ∀ x, (f9 x).toNat < 16) (f11 : S1664x16.Idx → F .f32) (k : Fin k0_t3_loop.trips) :
    inv3 (F := F) d L f9 f11 k.val ⟨⟩ ⊢ wp frame (wpE (defs₀ (F := F)) 𝒱₀ (thr d L) none) Set.univ
      (k0_t3_body L eV (Memref.isWhole_whole _) lV (Memref.isWhole_whole _) iV (Memref.isWhole_whole _) oV (Memref.isWhole_whole _) pV (Memref.isWhole_whole _)
        s0 (Memref.isWhole_whole _) s1 (Memref.isWhole_whole _) s2 (Memref.isWhole_whole _) s3 (Memref.isWhole_whole _) s4 (Memref.isWhole_whole _) s5 (Memref.isWhole_whole _)
        cc0_scratch6 cc0_scratch7 cc0_scoped0 cc0_scoped1 cc0_scoped2 k ⟨⟩)
      fun _ => inv3 (F := F) d L f9 f11 (k.val + 1) ⟨⟩ := by
  have hchk := chk3 (F := F) f9 h9 k
  unfold inv3 k0_t3_body
  iintro ⟨H2, H4, ⟨%f5, %h5, H5⟩⟩
  sl_exec
  iapply (SparseCore.wp_vectorLoadIdx 𝒱₀ (thr d L) none Set.univ (base := s4) (S := Finset.univ) (q := fullShare) (Finset.subset_univ _)) $$ H4; iintro H4
  sl_exec
  sl_step
  isplitl [H2]; · iexact H2
  isplitl [H4]; · iexact H4
  iexists _; isplitr
  swap; · iexact H5
  ipureintro
  refine grow (F := F) (e := .f32) (v := (s5).view) f5 k.val (k0_off4_eq k) (k0_off4_inb k) _ (fun x => f11 (ix2 (n0 := 1664) (n1 := 16) (x 0) (laneL (f9 x)))) h5 ?_
  intro j x hx
  rw [Memref.read_access_whole (Elt F) cc0_scratch4 f11]
  exact val3 f9 h9 f11 k _ (fun j x hx => load16 (F := F) (e := .i32) (v := (s2).view) f9 k.val (k0_off3_eq k) (k0_off3_inb k) j x hx) _ j x hx

/-! ## The chunks -/

/-- The first row of the tile's chunk `k`. -/
def bs (L : grid0.Coords) (k : ℕ) : ℕ := 13312 * (L 1).val + 6656 * (L 0).val + 1664 * k

theorem bs_le (L : grid0.Coords) {k : ℕ} (hk : k ≤ 4) : bs L k ≤ 212992 := by
  have h0 : (L 0).val < 2 := (L 0).isLt
  have h1 : (L 1).val < 16 := (L 1).isLt
  unfold bs; omega

/-- Rows `a` to `b` of the wide result; -/
def rowsO (a b : ℕ) : Finset S212992x16.Idx := Finset.univ.filter fun x => a ≤ (x 0).val ∧ (x 0).val < b
/-- of the narrow one. -/
def rowsP (a b : ℕ) : Finset S212992.Idx := Finset.univ.filter fun x => a ≤ (x 0).val ∧ (x 0).val < b

theorem mem_rowsO {a b : ℕ} {x : S212992x16.Idx} : x ∈ rowsO a b ↔ a ≤ (x 0).val ∧ (x 0).val < b := by simp [rowsO]
theorem mem_rowsP {a b : ℕ} {x : S212992.Idx} : x ∈ rowsP a b ↔ a ≤ (x 0).val ∧ (x 0).val < b := by simp [rowsP]

theorem rowsO_sub {a b c : ℕ} (h : b ≤ c) : rowsO a b ⊆ rowsO a c := fun x hx => by
  rw [mem_rowsO] at hx ⊢; omega
theorem rowsP_sub {a b c : ℕ} (h : b ≤ c) : rowsP a b ⊆ rowsP a c := fun x hx => by
  rw [mem_rowsP] at hx ⊢; omega
theorem rowsO_sdiff {a b c : ℕ} (h : a ≤ b) : rowsO a c \ rowsO a b = rowsO b c := by
  ext x; rw [Finset.mem_sdiff, mem_rowsO, mem_rowsO, mem_rowsO]; omega
theorem rowsP_sdiff {a b c : ℕ} (h : a ≤ b) : rowsP a c \ rowsP a b = rowsP b c := by
  ext x; rw [Finset.mem_sdiff, mem_rowsP, mem_rowsP, mem_rowsP]; omega

abbrev iLoc (d : Dev nD) : Loc nD τ sig := (SparseCore.T d).loc (main_v53 : Ref sig .tc)
abbrev eLoc (d : Dev nD) : Loc nD τ sig := (SparseCore.T d).loc (main_arg1 : Ref sig .tc)
abbrev lLoc (d : Dev nD) : Loc nD τ sig := (SparseCore.T d).loc (main_v8 : Ref sig .tc)
abbrev oLoc (d : Dev nD) : Loc nD τ sig := (SparseCore.T d).loc (main_v54_0 : Ref sig .tc)
abbrev pLoc (d : Dev nD) : Loc nD τ sig := (SparseCore.T d).loc (main_v54_1 : Ref sig .tc)

theorem split_rowsO {a b c : ℕ} (hab : a ≤ b) (hbc : b ≤ c) (f : S212992x16.Idx → F .f32) :
    (oLoc d ↦[rowsO a c]{fullShare} f : sProp 𝕄) ⊣⊢ iprop((oLoc d ↦[rowsO a b]{fullShare} f) ∗ oLoc d ↦[rowsO b c]{fullShare} f) := by
  have h := pointsTo_split_subset (Val := Elt F) (Ix := HIx 2) (Name := ℕ) (U := UU) (Lvl := ℕ) (ℓ := oLoc d) (q := fullShare) (f := f) (rowsO_sub (a := a) hbc)
  rw [show (rowsO a c \ rowsO a b : Finset (Idx (oLoc d))) = rowsO b c from rowsO_sdiff hab] at h
  exact h
theorem split_rowsP {a b c : ℕ} (hab : a ≤ b) (hbc : b ≤ c) (f : S212992.Idx → F .f32) :
    (pLoc d ↦[rowsP a c]{fullShare} f : sProp 𝕄) ⊣⊢ iprop((pLoc d ↦[rowsP a b]{fullShare} f) ∗ pLoc d ↦[rowsP b c]{fullShare} f) := by
  have h := pointsTo_split_subset (Val := Elt F) (Ix := HIx 2) (Name := ℕ) (U := UU) (Lvl := ℕ) (ℓ := pLoc d) (q := fullShare) (f := f) (rowsP_sub (a := a) hbc)
  rw [show (rowsP a c \ rowsP a b : Finset (Idx (pLoc d))) = rowsP b c from rowsP_sdiff hab] at h
  exact h

/-- Chunk `k` of the index list, of the wide result, of the narrow one, as the tile slices them. -/
abbrev iC (L : grid0.Coords) (k : Fin k0_t1_loop.trips) : Memref sig .scVector .hbm S1664 .i32 :=
  (iV).slice (Rect.unit (s := S212992) (k0_off1 L k) S1664.size (k0_off1_inb L k)) (fun _ => rfl)
abbrev oC (L : grid0.Coords) (k : Fin k0_t1_loop.trips) : Memref sig .scVector .hbm S1664x16 .f32 :=
  (oV).slice (Rect.unit (s := S212992x16) (k0_off5 L k) S1664x16.size (k0_off5_inb L k)) (fun _ => rfl)
abbrev pC (L : grid0.Coords) (k : Fin k0_t1_loop.trips) : Memref sig .scVector .hbm S1664 .f32 :=
  (pV).slice (Rect.unit (s := S212992) (k0_off1 L k) S1664.size (k0_off1_inb L k)) (fun _ => rfl)

theorem set_oC (k : Fin k0_t1_loop.trips) : (oC L k).view.set = rowsO (bs L k.val) (bs L (k.val + 1)) := by
  show ((View.whole main_v54_0_scv).slice (Rect.unit (s := S212992x16) (k0_off5 L k) S1664x16.size (k0_off5_inb L k))).set = _
  rw [View.set_slice_whole]
  ext x
  rw [Rect.mem_set_unit, mem_rowsO, k0_off5_eq]
  unfold bs
  constructor
  · intro h
    have h0 := h 0
    change 13312 * (L 1).val + 6656 * (L 0).val + 1664 * k.val ≤ (x 0).val ∧ (x 0).val < 13312 * (L 1).val + 6656 * (L 0).val + 1664 * k.val + 1664 at h0
    omega
  · intro h a
    match a with
    | 0 => change 13312 * (L 1).val + 6656 * (L 0).val + 1664 * k.val ≤ (x 0).val ∧ (x 0).val < 13312 * (L 1).val + 6656 * (L 0).val + 1664 * k.val + 1664; omega
    | 1 => exact ⟨Nat.zero_le _, (x 1).isLt⟩

theorem set_pC (k : Fin k0_t1_loop.trips) : (pC L k).view.set = rowsP (bs L k.val) (bs L (k.val + 1)) := by
  show ((View.whole main_v54_1_scv).slice (Rect.unit (s := S212992) (k0_off1 L k) S1664.size (k0_off1_inb L k))).set = _
  rw [View.set_slice_whole]
  ext x
  rw [Rect.mem_set_unit, mem_rowsP, k0_off1_eq]
  unfold bs
  constructor
  · intro h
    have h0 := h 0
    change 13312 * (L 1).val + 6656 * (L 0).val + 1664 * k.val ≤ (x 0).val ∧ (x 0).val < 13312 * (L 1).val + 6656 * (L 0).val + 1664 * k.val + 1664 at h0
    omega
  · intro h a
    match a with
    | 0 => change 13312 * (L 1).val + 6656 * (L 0).val + 1664 * k.val ≤ (x 0).val ∧ (x 0).val < 13312 * (L 1).val + 6656 * (L 0).val + 1664 * k.val + 1664; omega

/-- The list's place of word `x` of chunk `k`. -/
def at1 (L : grid0.Coords) (k : Fin k0_t1_loop.trips) (x : Fin 1664) : Fin 212992 :=
  ⟨bs L k.val + x.val, by
    have hk : k.val < 4 := lt_of_lt_of_le k.isLt k0_t1_abs.2.1
    have h0 : (L 0).val < 2 := (L 0).isLt
    have h1 : (L 1).val < 16 := (L 1).isLt
    unfold bs; omega⟩

/-- The chunk's index words. -/
def words (fi : S212992.Idx → BitVec 32) (L : grid0.Coords) (k : Fin k0_t1_loop.trips) : S1664.Idx → BitVec 32 :=
  fun x => fi (ix1 (at1 L k (x 0)))

theorem read_iC (fi : S212992.Idx → BitVec 32) (k : Fin k0_t1_loop.trips) : (iC L k).view.read (Elt F) fi = words fi L k := by
  funext x
  unfold words
  refine congrArg fi (funext fun a => Fin.ext ?_)
  match a with
  | 0 =>
    show (k0_off1 L k) 0 + 1 * (x 0).val = bs L k.val + (x 0).val
    rw [k0_off1_eq]; unfold bs
    show 13312 * (L 1).val + 6656 * (L 0).val + 1664 * k.val + 1 * (x 0).val = _
    omega

theorem emb_oC (k : Fin k0_t1_loop.trips) (y : S1664x16.Idx) : (oC L k).view.emb y = ix2 (at1 L k (y 0)) (y 1) := by
  funext a
  apply Fin.ext
  match a with
  | 0 =>
    show (k0_off5 L k) 0 + 1 * (y 0).val = bs L k.val + (y 0).val
    rw [k0_off5_eq]; unfold bs
    show 13312 * (L 1).val + 6656 * (L 0).val + 1664 * k.val + 1 * (y 0).val = _
    omega
  | 1 =>
    show (k0_off5 L k) 1 + 1 * (y 1).val = (y 1).val
    rw [k0_off5_eq]
    show 0 + 1 * (y 1).val = _
    omega
theorem emb_pC (k : Fin k0_t1_loop.trips) (y : S1664.Idx) : (pC L k).view.emb y = ix1 (at1 L k (y 0)) := by
  funext a
  apply Fin.ext
  match a with
  | 0 =>
    show (k0_off1 L k) 0 + 1 * (y 0).val = bs L k.val + (y 0).val
    rw [k0_off1_eq]; unfold bs
    show 13312 * (L 1).val + 6656 * (L 0).val + 1664 * k.val + 1 * (y 0).val = _
    omega

/-- What a chunk written out leaves in the wide result; -/
theorem write_oC (k : Fin k0_t1_loop.trips) (f g : S212992x16.Idx → F .f32) (w : S1664x16.Idx → F .f32)
    (hw : ∀ y, w y = g (ix2 (at1 L k (y 0)) (y 1))) :
    ∀ x ∈ (oC L k).view.set, (oC L k).view.writes (Elt F) f [⟨Rect.whole S1664x16, w⟩] x = g x := by
  intro x hx
  obtain ⟨y, -, rfl⟩ := Finset.mem_map.mp hx
  have h := congrFun (View.read_writes_whole (Val := Elt F) (oC L k).view f w) y
  rw [View.read_apply] at h
  have h2 : (oC L k).view.writes (Elt F) f [⟨Rect.whole _, w⟩] ((oC L k).view.emb y) = w y := (cast_eq _ _).symm.trans h
  rw [h2, hw y]
  exact congrArg g (emb_oC L k y).symm
/-- in the narrow one. -/
theorem write_pC (k : Fin k0_t1_loop.trips) (f g : S212992.Idx → F .f32) (w : S1664.Idx → F .f32)
    (hw : ∀ y, w y = g (ix1 (at1 L k (y 0)))) :
    ∀ x ∈ (pC L k).view.set, (pC L k).view.writes (Elt F) f [⟨Rect.whole S1664, w⟩] x = g x := by
  intro x hx
  obtain ⟨y, -, rfl⟩ := Finset.mem_map.mp hx
  have h := congrFun (View.read_writes_whole (Val := Elt F) (pC L k).view f w) y
  rw [View.read_apply] at h
  have h2 : (pC L k).view.writes (Elt F) f [⟨Rect.whole _, w⟩] ((pC L k).view.emb y) = w y := (cast_eq _ _).symm.trans h
  rw [h2, hw y]
  exact congrArg g (emb_pC L k y).symm

/-! ## What the streams deliver -/

theorem list_at {o : ℕ} (hn : S1664.numel = o) (k : Fin o) (h : o = 1664) : S1664.rowMajor.symm (k.cast hn.symm) = ix1 (k.cast h) := by
  rw [Equiv.symm_apply_eq]
  apply Fin.ext
  exact (Shape.rowMajor_val_one (ix1 (k.cast h))).symm

/-- The wide rows of a chunk. -/
theorem payE (fe : S2600000x16.Idx → F .f32) (f7 : S1664.Idx → BitVec 32)
    (hn : S1664.numel = S1664x16.size gathers_S2600000x16_S1664x16.axis')
    (hin : ∀ x, (f7 x).toNat < S2600000x16.size gathers_S2600000x16_S1664x16.axis) (y : S1664x16.Idx) :
    SparseCore.gatherPayload (F := F) (e := .f32) gathers_S2600000x16_S1664x16 fe (SparseCore.rows (F := F) f7 hn hin) y
      = fe (ix2 (rowE (f7 (ix1 (n := 1664) (y 0)))) (y 1)) := by
  unfold SparseCore.gatherPayload
  refine congrArg fe ?_
  rw [eq_ix2 (gathers_S2600000x16_S1664x16.idx (SparseCore.rows (F := F) f7 hn hin) y)]
  refine congrArg₂ ix2 (Fin.ext ?_) (Fin.ext ?_)
  · refine Eq.trans ?_ (Nat.mod_eq_of_lt (hin (ix1 (n := 1664) (y 0)))).symm
    show (f7 (S1664.rowMajor.symm ((y 0).cast hn.symm))).toNat = _
    rw [list_at hn (y 0) rfl]; rfl
  · rfl
/-- The granules of a chunk. -/
theorem payL (fl : S162500x16.Idx → F .f32) (f8 : S1664.Idx → BitVec 32)
    (hn : S1664.numel = S1664x16.size gathers_S162500x16_S1664x16.axis')
    (hin : ∀ x, (f8 x).toNat < S162500x16.size gathers_S162500x16_S1664x16.axis) (y : S1664x16.Idx) :
    SparseCore.gatherPayload (F := F) (e := .f32) gathers_S162500x16_S1664x16 fl (SparseCore.rows (F := F) f8 hn hin) y
      = fl (ix2 ⟨(f8 (ix1 (n := 1664) (y 0))).toNat % 162500, Nat.mod_lt _ (by decide)⟩ (y 1)) := by
  unfold SparseCore.gatherPayload
  refine congrArg fl ?_
  rw [eq_ix2 (gathers_S162500x16_S1664x16.idx (SparseCore.rows (F := F) f8 hn hin) y)]
  refine congrArg₂ ix2 (Fin.ext ?_) (Fin.ext ?_)
  · refine Eq.trans ?_ (Nat.mod_eq_of_lt (hin (ix1 (n := 1664) (y 0)))).symm
    show (f8 (S1664.rowMajor.symm ((y 0).cast hn.symm))).toNat = _
    rw [list_at hn (y 0) rfl]; rfl
  · rfl

theorem shr4 (w : BitVec 32) : (w >>> 4).toNat = w.toNat / 16 := by
  rw [BitVec.toNat_ushiftRight, Nat.shiftRight_eq_div_pow]
theorem and15 (w : BitVec 32) : (w &&& 15#32).toNat = w.toNat % 16 := by
  rw [BitVec.toNat_and]
  exact Nat.and_two_pow_sub_one_eq_mod w.toNat 4

/-- The picked scalar of a chunk, from its granule and lane. -/
theorem pick (fi : S212992.Idx → BitVec 32) (fl : S162500x16.Idx → F .f32) (k : Fin k0_t1_loop.trips) (x : S1664.Idx) :
    fl (ix2 ⟨(words fi L k (ix1 (n := 1664) (x 0)) >>> 4).toNat % 162500, Nat.mod_lt _ (by decide)⟩ (laneL (words fi L k x &&& 15#32)))
      = LV fi fl (ix1 (at1 L k (x 0))) := by
  unfold LV
  refine congrArg fl (congrArg₂ ix2 (Fin.ext ?_) (Fin.ext ?_))
  · show (words fi L k (ix1 (n := 1664) (x 0)) >>> 4).toNat % 162500 = _
    rw [shr4]; rfl
  · show (words fi L k x &&& 15#32).toNat % 16 = _
    rw [and15, Nat.mod_mod]; rfl

end Cert.Proof.Ideal.Gather0

end
-- ==== Proof.Ideal.Tile0.lean ====
/-
  One chunk of the tile's loop, and the tile: the six scratch buffers, the five semaphores and the tile's share of the
  tables go in, and the tile's rows of both results come out gathered.
-/
module

public import proofs.«01_k».proof.Proof.Ideal.Gather0

@[expose] public section

noncomputable section

namespace Cert.Proof.Ideal.Gather0

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "eV" => (Memref.whole main_arg1_scv : Memref sig Kind.scVector Space.hbm S2600000x16 EltTy.f32)
local notation "lV" => (Memref.whole main_v8_scv : Memref sig Kind.scVector Space.hbm S162500x16 EltTy.f32)
local notation "iV" => (Memref.whole main_v53_scv : Memref sig Kind.scVector Space.hbm S212992 EltTy.i32)
local notation "oV" => (Memref.whole main_v54_0_scv : Memref sig Kind.scVector Space.hbm S212992x16 EltTy.f32)
local notation "pV" => (Memref.whole main_v54_1_scv : Memref sig Kind.scVector Space.hbm S212992 EltTy.f32)
local notation "s0" => (Memref.whole cc0_scratch0 : Memref sig Kind.scVector Space.vmem S1664 EltTy.i32)
local notation "s1" => (Memref.whole cc0_scratch1 : Memref sig Kind.scVector Space.vmem S1664 EltTy.i32)
local notation "s2" => (Memref.whole cc0_scratch2 : Memref sig Kind.scVector Space.vmem S1664 EltTy.i32)
local notation "s3" => (Memref.whole cc0_scratch3 : Memref sig Kind.scVector Space.vmem S1664x16 EltTy.f32)
local notation "s4" => (Memref.whole cc0_scratch4 : Memref sig Kind.scVector Space.vmem S1664x16 EltTy.f32)
local notation "s5" => (Memref.whole cc0_scratch5 : Memref sig Kind.scVector Space.vmem S1664 EltTy.f32)

variable (d : Dev nD) (L : grid0.Coords)

/-- Before chunk `n`: the first `n` chunks' rows are gathered, the rest at whatever they hold. -/
def inv1 (q : PosShare TreeShare) (fi : S212992.Idx → BitVec 32) (fe : S2600000x16.Idx → F .f32) (fl : S162500x16.Idx → F .f32)
    (O : CellTallies nD τ sig (HIx 2)) (W : Waits sig (HIx 2)) (n : Nat) (_ : PUnit) : sProp 𝕄 :=
  iprop(Transfers.MayWaits (thr d L) (default : HIx 2) O
    ∗ (iLoc d ↦{q} fi) ∗ (eLoc d ↦{q} fe) ∗ (lLoc d ↦{q} fl)
    ∗ (oLoc d ↦[rowsO (bs L 0) (bs L n)]{fullShare} EG fi fe) ∗ (∃ f : S212992x16.Idx → F .f32, oLoc d ↦[rowsO (bs L n) (bs L 4)]{fullShare} f)
    ∗ (pLoc d ↦[rowsP (bs L 0) (bs L n)]{fullShare} LV fi fl) ∗ (∃ f : S212992.Idx → F .f32, pLoc d ↦[rowsP (bs L n) (bs L 4)]{fullShare} f)
    ∗ (∃ f, (s0).view.loc (thr d L) ↦{fullShare} f) ∗ (∃ f, (s1).view.loc (thr d L) ↦{fullShare} f) ∗ (∃ f, (s2).view.loc (thr d L) ↦{fullShare} f)
    ∗ (∃ f, (s3).view.loc (thr d L) ↦{fullShare} f) ∗ (∃ f, (s4).view.loc (thr d L) ↦{fullShare} f) ∗ (∃ f, (s5).view.loc (thr d L) ↦{fullShare} f)
    ∗ semVal (thr d L, SemLoc.dma cc0_scratch6.sem) 0 ∗ semVal (thr d L, SemLoc.dma cc0_scratch7.sem) 0
    ∗ semVal (thr d L, SemLoc.dma cc0_scoped0.sem) 0 ∗ semVal (thr d L, SemLoc.dma cc0_scoped1.sem) 0 ∗ semVal (thr d L, SemLoc.dma cc0_scoped2.sem) 0
    ∗ ∃ W', ⌜∀ p ∈ W', p ∈ W ∨ p.2 = none⌝ ∗ owes (thr d L) O W')

theorem hN3 : ∀ h : S2600000x16.Gathers 0 S1664x16, ∑ j, ((s3).slice (S1664x16.rowRect h.axis' j) (S1664x16.stride_rowRect h.axis' j)).view.dmaCredit
    = (s3).view.dmaCredit := by decide +kernel
theorem hN4 : ∀ h : S162500x16.Gathers 0 S1664x16, ∑ j, ((s4).slice (S1664x16.rowRect h.axis' j) (S1664x16.stride_rowRect h.axis' j)).view.dmaCredit
    = (s4).view.dmaCredit := by decide +kernel

theorem read_eC (fe : S2600000x16.Idx → F .f32) :
    ((eV).slice (Rect.unit (s := S2600000x16) ![0, 0] S2600000x16.size inb_S2600000x16_S2600000x16_0_0) (fun _ => rfl)).view.read (Elt F) fe = fe := by
  funext x
  refine congrArg fe (funext fun a => Fin.ext ?_)
  match a with
  | 0 => show 0 + 1 * (x 0).val = (x 0).val; omega
  | 1 => show 0 + 1 * (x 1).val = (x 1).val; omega
theorem read_lC (fl : S162500x16.Idx → F .f32) :
    ((lV).slice (Rect.unit (s := S162500x16) ![0, 0] S162500x16.size inb_S162500x16_S162500x16_0_0) (fun _ => rfl)).view.read (Elt F) fl = fl := by
  funext x
  refine congrArg fl (funext fun a => Fin.ext ?_)
  match a with
  | 0 => show 0 + 1 * (x 0).val = (x 0).val; omega
  | 1 => show 0 + 1 * (x 1).val = (x 1).val; omega

/-- The chunk's wide rows, and its granules. -/
def G3 (fe : S2600000x16.Idx → F .f32) (f7 : S1664.Idx → BitVec 32) : S1664x16.Idx → F .f32 :=
  fun y => fe (ix2 (rowE (f7 (ix1 (n := 1664) (y 0)))) (y 1))
def G4 (fl : S162500x16.Idx → F .f32) (f7 : S1664.Idx → BitVec 32) : S1664x16.Idx → F .f32 :=
  fun y => fl (ix2 ⟨(f7 (ix1 (n := 1664) (y 0)) >>> 4).toNat % 162500, Nat.mod_lt _ (by decide)⟩ (y 1))

set_option maxHeartbeats 4000000 in
theorem trip1 (q : PosShare TreeShare) (fi : S212992.Idx → BitVec 32) (hfi : IdxOK fi) (fe : S2600000x16.Idx → F .f32) (fl : S162500x16.Idx → F .f32)
    (O : CellTallies nD τ sig (HIx 2)) (W : Waits sig (HIx 2)) (k : Fin k0_t1_loop.trips) :
    inv1 (F := F) d L q fi fe fl O W k.val ⟨⟩ ⊢ wp frame (wpE (defs₀ (F := F)) 𝒱₀ (thr d L) none) Set.univ
      (k0_t1_body L eV (Memref.isWhole_whole _) lV (Memref.isWhole_whole _) iV (Memref.isWhole_whole _) oV (Memref.isWhole_whole _) pV (Memref.isWhole_whole _)
        s0 (Memref.isWhole_whole _) s1 (Memref.isWhole_whole _) s2 (Memref.isWhole_whole _) s3 (Memref.isWhole_whole _) s4 (Memref.isWhole_whole _) s5 (Memref.isWhole_whole _)
        cc0_scratch6 cc0_scratch7 cc0_scoped0 cc0_scoped1 cc0_scoped2 k ⟨⟩)
      fun _ => inv1 (F := F) d L q fi fe fl O W (k.val + 1) ⟨⟩ := by
  have hk : k.val < 4 := lt_of_lt_of_le k.isLt k0_t1_abs.2.1
  have hb1 : bs L k.val ≤ bs L (k.val + 1) := by unfold bs; omega
  have hb2 : bs L (k.val + 1) ≤ bs L 4 := by unfold bs; omega
  have hb0 : bs L 0 ≤ bs L k.val := by unfold bs; omega
  unfold inv1 k0_t1_body
  iintro ⟨#Hmw, Hi, He, Hl, Hod, ⟨%fo, Ho⟩, Hpd, ⟨%fp, Hp⟩, ⟨%f0, H0⟩, ⟨%f1, H1⟩, ⟨%f2, H2⟩, ⟨%f3, H3⟩, ⟨%f4, H4⟩, ⟨%f5, H5⟩, Hc6, Hc7, Hd0, Hd1, Hd2, %W', %hW', HO⟩
  -- the chunk's pieces of the arrays
  ihave Hi' := (pointsTo_split_subset (q := q) (f := fi) (S := Finset.univ) (Finset.subset_univ (iC L k).view.set)).1 $$ Hi
  icases Hi' with ⟨Hic, Hir⟩
  ihave Ho' := (split_rowsO (F := F) d hb1 hb2 fo).1 $$ Ho
  icases Ho' with ⟨Hoc, Hor⟩
  ihave Hoc := (Entails.of_eq (show (oLoc d ↦[rowsO (bs L k.val) (bs L (k.val + 1))]{fullShare} fo : sProp 𝕄) = (oC L k).view.loc (thr d L) ↦[(oC L k).view.set]{fullShare} fo by rw [set_oC])) $$ Hoc
  ihave Hp' := (split_rowsP (F := F) d hb1 hb2 fp).1 $$ Hp
  icases Hp' with ⟨Hpc, Hpr⟩
  ihave Hpc := (Entails.of_eq (show (pLoc d ↦[rowsP (bs L k.val) (bs L (k.val + 1))]{fullShare} fp : sProp 𝕄) = (pC L k).view.loc (thr d L) ↦[(pC L k).view.set]{fullShare} fp by rw [set_pC])) $$ Hpc
  ihave Hic := (Entails.of_eq (show (_ : sProp 𝕄) = (iC L k).view.loc (thr d L) ↦[(iC L k).view.set]{q} fi from rfl)) $$ Hic
  sl_exec (disch := exact View.amount_pos _ _ (show 0 < S1664.numel by decide))
  have e0 : View.write (Elt F) (s0).view f0 ((iC L k).view.read (Elt F) fi) Finset.univ = words fi L k := by
    rw [read_iC]; exact View.write_whole_univ (Val := Elt F) cc0_scratch0 f0 (words fi L k)
  ihave H0 := (Entails.of_eq (show ((s0).view.loc (thr d L) ↦{fullShare} View.write (Elt F) (s0).view f0 (trip1.sl.dma0 L fi k) Finset.univ : sProp 𝕄)
    = (s0).view.loc (thr d L) ↦{fullShare} words fi L k from congrArg (fun f => ((s0).view.loc (thr d L) ↦{fullShare} f : sProp 𝕄)) e0)) $$ H0
  -- the words split
  sl_for (inv2 (F := F) d L (words fi L k)) $$ [H0 H1 H2]
  case region => intro n _; exact trip2 d L (words fi L k) n
  · unfold inv2
    isplitl [H0]; · iexact H0
    isplitl [H1]
    · iexists f1; isplitr
      · ipureintro; intro x hx; omega
      · iexact H1
    · iexists f2; isplitr
      · ipureintro; intro x hx; omega
      · iexact H2
  iintro %_ HI
  unfold inv2
  icases HI with ⟨H0, ⟨%g1, %hg1, H1⟩, ⟨%g2, %hg2, H2⟩⟩
  obtain rfl : g1 = fun x => words fi L k x >>> 4 := funext fun x => hg1 x (lt_of_lt_of_eq (x 0).isLt (show 1664 = 16 * k0_t2_loop.trips by decide))
  obtain rfl : g2 = fun x => words fi L k x &&& 15#32 := funext fun x => hg2 x (lt_of_lt_of_eq (x 0).isLt (show 1664 = 16 * k0_t2_loop.trips by decide))
  sl_exec
  -- the two streams
  have hw : ∀ x, (words fi L k x).toNat < 2600000 := fun x => hfi _
  have hrs3 : (s3).view.set = Finset.univ := View.set_whole _
  have hrs4 : (s4).view.set = Finset.univ := View.set_whole _
  have hss0 : (s0).view.set = Finset.univ := View.set_whole _
  have hss1 : (s1).view.set = Finset.univ := View.set_whole _
  ihave He' := (pointsTo_split_subset (ℓ := eLoc d) (q := q) (f := fe) (S := Finset.univ) (Finset.subset_univ ((eV).slice (Rect.unit (s := S2600000x16) ![0, 0] S2600000x16.size inb_S2600000x16_S2600000x16_0_0) (fun _ => rfl)).view.set)).1 $$ He
  icases He' with ⟨Hec, Her⟩
  ihave Hl' := (pointsTo_split_subset (ℓ := lLoc d) (q := q) (f := fl) (S := Finset.univ) (Finset.subset_univ ((lV).slice (Rect.unit (s := S162500x16) ![0, 0] S162500x16.size inb_S162500x16_S162500x16_0_0) (fun _ => rfl)).view.set)).1 $$ Hl
  icases Hl' with ⟨Hlc, Hlr⟩
  ihave H3 := (Entails.of_eq (show ((s3).view.loc (thr d L) ↦{fullShare} f3 : sProp 𝕄) = (s3).view.loc (thr d L) ↦[(s3).view.set]{fullShare} f3 by rw [hrs3])) $$ H3
  ihave H4 := (Entails.of_eq (show ((s4).view.loc (thr d L) ↦{fullShare} f4 : sProp 𝕄) = (s4).view.loc (thr d L) ↦[(s4).view.set]{fullShare} f4 by rw [hrs4])) $$ H4
  ihave H0 := (Entails.of_eq (show ((s0).view.loc (thr d L) ↦{fullShare} words fi L k : sProp 𝕄) = (s0).view.loc (thr d L) ↦[(s0).view.set]{fullShare} words fi L k by rw [hss0])) $$ H0
  ihave H1 := (Entails.of_eq (show ((s1).view.loc (thr d L) ↦{fullShare} (fun x => words fi L k x >>> 4 : S1664.Idx → BitVec 32) : sProp 𝕄) = (s1).view.loc (thr d L) ↦[(s1).view.set]{fullShare} (fun x => words fi L k x >>> 4 : S1664.Idx → BitVec 32) by rw [hss1])) $$ H1
  have hin0 : ∀ x, ((s0).view.read (Elt F) (words fi L k) x).toNat < S2600000x16.size gathers_S2600000x16_S1664x16.axis := hw
  have hin1 : ∀ x, ((s1).view.read (Elt F) (fun x => words fi L k x >>> 4 : S1664.Idx → BitVec 32) x).toNat < S162500x16.size gathers_S162500x16_S1664x16.axis := fun x => by
    show (words fi L k x >>> 4).toNat < 162500
    have := hw x
    rw [shr4]; omega
  iapply (SparseCore.wp_indirectGatherLocal countersEmb 𝒱₀ (thr d L) none (hg := gathers_S2600000x16_S1664x16) (default : HIx 2)
      (s3).view.dmaCredit (hN3 _) (by decide) hin0) $$ [Hec H3 H0 Hc6]
  · isplitl [Hec]; · iexact Hec
    isplitl [H3]; · iexact H3
    isplitl [H0]; · iexact H0
    iexact Hc6
  iintro Hfl3
  sl_exec
  iapply (SparseCore.wp_indirectGatherLocal countersEmb 𝒱₀ (thr d L) none (hg := gathers_S162500x16_S1664x16) (default : HIx 2)
      (s4).view.dmaCredit (hN4 _) (by decide) hin1) $$ [Hlc H4 H1 Hc7]
  · isplitl [Hlc]; · iexact Hlc
    isplitl [H4]; · iexact H4
    isplitl [H1]; · iexact H1
    iexact Hc7
  iintro Hfl4
  sl_exec
  iapply (Transfers.wp_waitLocalO countersEmb 𝒱₀ (thr d L) none (default : HIx 2) (rfl : (s3).view.dmaCredit = _)) $$ [Hfl3 HO]
  · isplitl [Hfl3]; · iexact Hfl3
    isplitl [HO]; · iexact HO
    iapply (Transfers.MayWaits.elim (SemLoc.dma cc0_scratch6.sem)) $$ Hmw
  iintro ⟨⟨H3, Hec, H0⟩, Hc6, HO⟩
  sl_exec
  iapply (Transfers.wp_waitLocalO countersEmb 𝒱₀ (thr d L) none (default : HIx 2) (rfl : (s4).view.dmaCredit = _)) $$ [Hfl4 HO]
  · isplitl [Hfl4]; · iexact Hfl4
    isplitl [HO]; · iexact HO
    iapply (Transfers.MayWaits.elim (SemLoc.dma cc0_scratch7.sem)) $$ Hmw
  iintro ⟨⟨H4, Hlc, H1⟩, Hc7, HO⟩
  ihave He := (pointsTo_split_subset (ℓ := eLoc d) (q := q) (f := fe) (S := Finset.univ) (Finset.subset_univ ((eV).slice (Rect.unit (s := S2600000x16) ![0, 0] S2600000x16.size inb_S2600000x16_S2600000x16_0_0) (fun _ => rfl)).view.set)).2 $$ [Hec Her]; · isplitl [Hec] <;> iassumption
  ihave Hl := (pointsTo_split_subset (ℓ := lLoc d) (q := q) (f := fl) (S := Finset.univ) (Finset.subset_univ ((lV).slice (Rect.unit (s := S162500x16) ![0, 0] S162500x16.size inb_S162500x16_S162500x16_0_0) (fun _ => rfl)).view.set)).2 $$ [Hlc Hlr]; · isplitl [Hlc] <;> iassumption
  have e3 : View.write (Elt F) (s3).view f3 (SparseCore.gatherPayload (F := F) (e := .f32) gathers_S2600000x16_S1664x16
      (((eV).slice (Rect.unit (s := S2600000x16) ![0, 0] S2600000x16.size inb_S2600000x16_S2600000x16_0_0) (fun _ => rfl)).view.read (Elt F) fe)
      (SparseCore.rows (F := F) ((s0).view.read (Elt F) (words fi L k)) rfl hin0)) Finset.univ = G3 fe (words fi L k) := by
    rw [read_eC]
    refine (View.write_whole_univ (Val := Elt F) cc0_scratch3 f3 _).trans (funext fun y => ?_)
    exact payE fe (words fi L k) rfl hin0 y
  have e4 : View.write (Elt F) (s4).view f4 (SparseCore.gatherPayload (F := F) (e := .f32) gathers_S162500x16_S1664x16
      (((lV).slice (Rect.unit (s := S162500x16) ![0, 0] S162500x16.size inb_S162500x16_S162500x16_0_0) (fun _ => rfl)).view.read (Elt F) fl)
      (SparseCore.rows (F := F) ((s1).view.read (Elt F) (fun x => words fi L k x >>> 4 : S1664.Idx → BitVec 32)) rfl hin1)) Finset.univ = G4 fl (words fi L k) := by
    rw [read_lC]
    refine (View.write_whole_univ (Val := Elt F) cc0_scratch4 f4 _).trans (funext fun y => ?_)
    exact payL fl (fun x => words fi L k x >>> 4) rfl hin1 y
  ihave H3 := (Entails.of_eq (show ((s3).view.loc (thr d L) ↦[(s3).view.set]{fullShare} _ : sProp 𝕄) = (s3).view.loc (thr d L) ↦{fullShare} G3 fe (words fi L k) by
    rw [hrs3]; exact congrArg (fun f => ((s3).view.loc (thr d L) ↦{fullShare} f : sProp 𝕄)) e3)) $$ H3
  ihave H4 := (Entails.of_eq (show ((s4).view.loc (thr d L) ↦[(s4).view.set]{fullShare} _ : sProp 𝕄) = (s4).view.loc (thr d L) ↦{fullShare} G4 fl (words fi L k) by
    rw [hrs4]; exact congrArg (fun f => ((s4).view.loc (thr d L) ↦{fullShare} f : sProp 𝕄)) e4)) $$ H4
  ihave H0 := (Entails.of_eq (show ((s0).view.loc (thr d L) ↦[(s0).view.set]{fullShare} words fi L k : sProp 𝕄) = (s0).view.loc (thr d L) ↦{fullShare} words fi L k by rw [hss0])) $$ H0
  ihave H1 := (Entails.of_eq (show ((s1).view.loc (thr d L) ↦[(s1).view.set]{fullShare} (fun x => words fi L k x >>> 4 : S1664.Idx → BitVec 32) : sProp 𝕄) = (s1).view.loc (thr d L) ↦{fullShare} (fun x => words fi L k x >>> 4 : S1664.Idx → BitVec 32) by rw [hss1])) $$ H1
  sl_exec
  -- the lanes picked
  have h9 : ∀ x, ((fun x => words fi L k x &&& 15#32 : S1664.Idx → BitVec 32) x).toNat < 16 := fun x => by
    show (words fi L k x &&& 15#32).toNat < 16
    rw [and15]; omega
  sl_for (inv3 (F := F) d L (fun x => words fi L k x &&& 15#32) (G4 fl (words fi L k))) $$ [H2 H4 H5]
  case region => intro n _; exact trip3 d L _ h9 _ n
  · unfold inv3
    isplitl [H2]; · iexact H2
    isplitl [H4]; · iexact H4
    iexists f5; isplitr
    · ipureintro; intro x hx; omega
    · iexact H5
  iintro %_ HI
  unfold inv3
  icases HI with ⟨H2, H4, ⟨%g5, %hg5, H5⟩⟩
  obtain rfl : g5 = fun x => LV fi fl (ix1 (at1 L k (x 0))) := funext fun x =>
    (hg5 x (lt_of_lt_of_eq (x 0).isLt (show 1664 = 16 * k0_t3_loop.trips by decide))).trans (pick L fi fl k x)
  sl_exec (disch := exact View.amount_pos _ _ (show 0 < S1664x16.numel by decide))
  sl_step
  isplitr; · iexact Hmw
  isplitl [Hir]; · iexact Hir
  isplitl [He]; · iexact He
  isplitl [Hl]; · iexact Hl
  isplitl [Hod Hoc]
  · iapply (split_rowsO (F := F) d hb0 hb1 (EG fi fe)).2
    isplitl [Hod]; · iexact Hod
    ihave Hoc := (Entails.of_eq (pointsTo_congr (write_oC L k fo (EG fi fe) (G3 fe (words fi L k)) (fun y => rfl)))) $$ Hoc
    iapply (Entails.of_eq (show ((oC L k).view.loc (thr d L) ↦[(oC L k).view.set]{fullShare} EG fi fe : sProp 𝕄) = oLoc d ↦[rowsO (bs L k.val) (bs L (k.val + 1))]{fullShare} EG fi fe by rw [set_oC]))
    iexact Hoc
  isplitl [Hor]; · iexists _; iexact Hor
  isplitl [Hpd Hpc]
  · iapply (split_rowsP (F := F) d hb0 hb1 (LV fi fl)).2
    isplitl [Hpd]; · iexact Hpd
    ihave Hpc := (Entails.of_eq (pointsTo_congr (write_pC L k fp (LV fi fl) (fun x => LV fi fl (ix1 (at1 L k (x 0)))) (fun y => rfl)))) $$ Hpc
    iapply (Entails.of_eq (show ((pC L k).view.loc (thr d L) ↦[(pC L k).view.set]{fullShare} LV fi fl : sProp 𝕄) = pLoc d ↦[rowsP (bs L k.val) (bs L (k.val + 1))]{fullShare} LV fi fl by rw [set_pC]))
    iexact Hpc
  isplitl [Hpr]; · iexists _; iexact Hpr
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Hc6]; · iexact Hc6
  isplitl [Hc7]; · iexact Hc7
  isplitl [Hd0]; · iexact Hd0
  isplitl [Hd1]; · iexact Hd1
  isplitl [Hd2]; · iexact Hd2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The tile -/

theorem ownSems0_V :
    (ownSems0 (thr d L) : sProp 𝕄)
      = iprop(semVal ((thr d L, SemLoc.dma cc0_scratch6.sem) : GSem nD τ sig) 0 ∗ semVal ((thr d L, SemLoc.dma cc0_scratch7.sem) : GSem nD τ sig) 0 ∗ semVal ((thr d L, SemLoc.dma cc0_scoped0.sem) : GSem nD τ sig) 0 ∗ semVal ((thr d L, SemLoc.dma cc0_scoped1.sem) : GSem nD τ sig) 0 ∗ semVal ((thr d L, SemLoc.dma cc0_scoped2.sem) : GSem nD τ sig) 0
          ∗ bigSep ((((((ownCells (thr d L)).erase ((thr d L, SemLoc.dma cc0_scratch6.sem) : GSem nD τ sig)).erase ((thr d L, SemLoc.dma cc0_scratch7.sem) : GSem nD τ sig)).erase ((thr d L, SemLoc.dma cc0_scoped0.sem) : GSem nD τ sig)).erase ((thr d L, SemLoc.dma cc0_scoped1.sem) : GSem nD τ sig)).erase ((thr d L, SemLoc.dma cc0_scoped2.sem) : GSem nD τ sig)) fun g => semVal g 0) := by
  unfold SparseCore.Cfg.ownSems0
  rw [SparseCore.bigSep_erase' ((mem_ownCells (g := ((thr d L, SemLoc.dma cc0_scratch6.sem) : GSem nD τ sig))).mpr ⟨rfl, show (SemLoc.dma cc0_scratch6.sem : SemLoc sig).isScoped .scVector = true by decide⟩),
    SparseCore.bigSep_erase' (Finset.mem_erase.mpr ⟨fun e => absurd (Prod.ext_iff.mp e).2 (show (SemLoc.dma cc0_scratch7.sem : SemLoc sig) ≠ SemLoc.dma cc0_scratch6.sem by decide), (mem_ownCells (g := ((thr d L, SemLoc.dma cc0_scratch7.sem) : GSem nD τ sig))).mpr ⟨rfl, show (SemLoc.dma cc0_scratch7.sem : SemLoc sig).isScoped .scVector = true by decide⟩⟩),
    SparseCore.bigSep_erase' (Finset.mem_erase.mpr ⟨fun e => absurd (Prod.ext_iff.mp e).2 (show (SemLoc.dma cc0_scoped0.sem : SemLoc sig) ≠ SemLoc.dma cc0_scratch7.sem by decide), Finset.mem_erase.mpr ⟨fun e => absurd (Prod.ext_iff.mp e).2 (show (SemLoc.dma cc0_scoped0.sem : SemLoc sig) ≠ SemLoc.dma cc0_scratch6.sem by decide), (mem_ownCells (g := ((thr d L, SemLoc.dma cc0_scoped0.sem) : GSem nD τ sig))).mpr ⟨rfl, show (SemLoc.dma cc0_scoped0.sem : SemLoc sig).isScoped .scVector = true by decide⟩⟩⟩),
    SparseCore.bigSep_erase' (Finset.mem_erase.mpr ⟨fun e => absurd (Prod.ext_iff.mp e).2 (show (SemLoc.dma cc0_scoped1.sem : SemLoc sig) ≠ SemLoc.dma cc0_scoped0.sem by decide), Finset.mem_erase.mpr ⟨fun e => absurd (Prod.ext_iff.mp e).2 (show (SemLoc.dma cc0_scoped1.sem : SemLoc sig) ≠ SemLoc.dma cc0_scratch7.sem by decide), Finset.mem_erase.mpr ⟨fun e => absurd (Prod.ext_iff.mp e).2 (show (SemLoc.dma cc0_scoped1.sem : SemLoc sig) ≠ SemLoc.dma cc0_scratch6.sem by decide), (mem_ownCells (g := ((thr d L, SemLoc.dma cc0_scoped1.sem) : GSem nD τ sig))).mpr ⟨rfl, show (SemLoc.dma cc0_scoped1.sem : SemLoc sig).isScoped .scVector = true by decide⟩⟩⟩⟩),
    SparseCore.bigSep_erase' (Finset.mem_erase.mpr ⟨fun e => absurd (Prod.ext_iff.mp e).2 (show (SemLoc.dma cc0_scoped2.sem : SemLoc sig) ≠ SemLoc.dma cc0_scoped1.sem by decide), Finset.mem_erase.mpr ⟨fun e => absurd (Prod.ext_iff.mp e).2 (show (SemLoc.dma cc0_scoped2.sem : SemLoc sig) ≠ SemLoc.dma cc0_scoped0.sem by decide), Finset.mem_erase.mpr ⟨fun e => absurd (Prod.ext_iff.mp e).2 (show (SemLoc.dma cc0_scoped2.sem : SemLoc sig) ≠ SemLoc.dma cc0_scratch7.sem by decide), Finset.mem_erase.mpr ⟨fun e => absurd (Prod.ext_iff.mp e).2 (show (SemLoc.dma cc0_scoped2.sem : SemLoc sig) ≠ SemLoc.dma cc0_scratch6.sem by decide), (mem_ownCells (g := ((thr d L, SemLoc.dma cc0_scoped2.sem) : GSem nD τ sig))).mpr ⟨rfl, show (SemLoc.dma cc0_scoped2.sem : SemLoc sig).isScoped .scVector = true by decide⟩⟩⟩⟩⟩)]

/-- The six scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

/-- What the tile is handed, beyond its own buffers and semaphores: its share of the list and of the tables, its rows of the results. -/
def goRes (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (∃ f : S212992x16.Idx → F .f32, oLoc d ↦[rowsO (bs L 0) (bs L 4)]{fullShare} f) ∗ (∃ f : S212992.Idx → F .f32, pLoc d ↦[rowsP (bs L 0) (bs L 4)]{fullShare} f))
/-- What it hands back. -/
def tdRes (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (oLoc d ↦[rowsO (bs L 0) (bs L 4)]{fullShare} EG fi fe) ∗ (pLoc d ↦[rowsP (bs L 0) (bs L 4)]{fullShare} LV fi fl))

set_option maxHeartbeats 4000000 in
theorem tile_body (hF : (K (F := F)).Facts) (q : PosShare TreeShare) (fi : S212992.Idx → BitVec 32) (hfi : IdxOK fi) (fe : S2600000x16.Idx → F .f32)
    (fl : S162500x16.Idx → F .f32) (O : CellTallies nD τ sig (HIx 2)) (W : Waits sig (HIx 2)) (hO : ∀ g, O g none = 0) :
    iprop(levAts (K (F := F)).L (K (F := F)).lev ∗ emp ∗ goRes d L q fi fe fl
        ∗ scopedBufs (thr d L) ∗ scopedSems0 (thr d L) ∗ owes (thr d L) O W)
      ⊢ wp frame (wpE (defs₀ (F := F)) 𝒱₀ (thr d L) none) Set.univ
          (cc0_gather_kernel L eV (Memref.isWhole_whole _) lV (Memref.isWhole_whole _) iV (Memref.isWhole_whole _) oV (Memref.isWhole_whole _) pV (Memref.isWhole_whole _)
            s0 (Memref.isWhole_whole _) s1 (Memref.isWhole_whole _) s2 (Memref.isWhole_whole _) s3 (Memref.isWhole_whole _) s4 (Memref.isWhole_whole _) s5 (Memref.isWhole_whole _)
            cc0_scratch6 cc0_scratch7 cc0_scoped0 cc0_scoped1 cc0_scoped2)
          fun _ => iprop(tdRes d L q fi fe fl
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel goRes tdRes
  rw [(K (F := F)).scopedBufs_V hF d (cV L) (jV L), SparseCore.Cfg.scopedSems0_V (Val := Elt F) d (cV L) (jV L), ownSems0_V, ownBufs_V]
  iintro ⟨#Hlv, -, ⟨Hi, He, Hl, ⟨%fo, Ho⟩, ⟨%fp, Hp⟩⟩, ⟨⟨%f0, H0⟩, ⟨%f1, H1⟩, ⟨%f2, H2⟩, ⟨%f3, H3⟩, ⟨%f4, H4⟩, ⟨%f5, H5⟩, Hbufs⟩, ⟨Hc6, Hc7, Hd0, Hd1, Hd2, Hsems⟩, HO⟩
  ihave #Hmw := (show levAts (K (F := F)).L (K (F := F)).lev ⊢ Transfers.MayWaits (thr d L) (default : HIx 2) O from
    (K (F := F)).mayWaits_none (thr := thr d L) hO) $$ Hlv
  have hb4 : bs L 0 ≤ bs L 4 := by unfold bs; omega
  ihave Ho' := (split_rowsO (F := F) d (le_refl (bs L 0)) hb4 fo).1 $$ Ho
  icases Ho' with ⟨Ho0, Ho⟩
  ihave Hp' := (split_rowsP (F := F) d (le_refl (bs L 0)) hb4 fp).1 $$ Hp
  icases Hp' with ⟨Hp0, Hp⟩
  ihave Ho0 := (Entails.of_eq (pointsTo_congr (ℓ := oLoc d) (g := EG fi fe) (fun i hi => by
    have := (mem_rowsO (x := i)).mp hi; omega))) $$ Ho0
  ihave Hp0 := (Entails.of_eq (pointsTo_congr (ℓ := pLoc d) (g := LV fi fl) (fun i hi => by
    have := (mem_rowsP (x := i)).mp hi; omega))) $$ Hp0
  sl_for (inv1 (F := F) d L q fi fe fl O W) $$ [Hi He Hl Ho0 Ho Hp0 Hp H0 H1 H2 H3 H4 H5 Hc6 Hc7 Hd0 Hd1 Hd2 HO]
  case region => intro n _; exact trip1 d L q fi hfi fe fl O W n
  · unfold inv1
    isplitr; · iexact Hmw
    isplitl [Hi]; · iexact Hi
    isplitl [He]; · iexact He
    isplitl [Hl]; · iexact Hl
    isplitl [Ho0]; · iexact Ho0
    isplitl [Ho]; · iexists _; iexact Ho
    isplitl [Hp0]; · iexact Hp0
    isplitl [Hp]; · iexists _; iexact Hp
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [Hc6]; · iexact Hc6
    isplitl [Hc7]; · iexact Hc7
    isplitl [Hd0]; · iexact Hd0
    isplitl [Hd1]; · iexact Hd1
    isplitl [Hd2]; · iexact Hd2
    iexists W; isplitr
    · ipureintro; exact fun p hp => .inl hp
    · iexact HO
  iintro %_ HI
  ihave HI := (Entails.of_eq (congrArg (fun n => inv1 (F := F) d L q fi fe fl O W n ⟨⟩) (show k0_t1_loop.trips = 4 by decide))) $$ HI
  unfold inv1
  icases HI with ⟨-, Hi, He, Hl, Ho, -, Hp, -, ⟨%f0, H0⟩, ⟨%f1, H1⟩, ⟨%f2, H2⟩, ⟨%f3, H3⟩, ⟨%f4, H4⟩, ⟨%f5, H5⟩, Hc6, Hc7, Hd0, Hd1, Hd2, %W', %hW', HO⟩
  sl_step
  isplitl [Hi He Hl Ho Hp]
  · isplitl [Hi]; · iexact Hi
    isplitl [He]; · iexact He
    isplitl [Hl]; · iexact Hl
    isplitl [Ho]; · iexact Ho
    iexact Hp
  isplitl [H0 H1 H2 H3 H4 H5 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexact Hbufs
  isplitl [Hc6 Hc7 Hd0 Hd1 Hd2 Hsems]
  · isplitl [Hc6]; · iexact Hc6
    isplitl [Hc7]; · iexact Hc7
    isplitl [Hd0]; · iexact Hd0
    isplitl [Hd1]; · iexact Hd1
    isplitl [Hd2]; · iexact Hd2
    iexact Hsems
  iexists W'; isplitr
  · ipureintro; exact hW'
  · iexact HO

end Cert.Proof.Ideal.Gather0

end
-- ==== Proof.Ideal.Split0.lean ====
/-
  The first gather's operands shared out: each core a half of the list's and the tables' shares and its rows of the
  results, each tile a sixteenth of that and its own rows; and the results put together again, gathered.
-/
module

public import proofs.«01_k».proof.Proof.Ideal.Tile0

@[expose] public section

noncomputable section

namespace Cert.Proof.Ideal.Gather0

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "eV" => (Memref.whole main_arg1_scv : Memref sig Kind.scVector Space.hbm S2600000x16 EltTy.f32)
local notation "lV" => (Memref.whole main_v8_scv : Memref sig Kind.scVector Space.hbm S162500x16 EltTy.f32)
local notation "iV" => (Memref.whole main_v53_scv : Memref sig Kind.scVector Space.hbm S212992 EltTy.i32)
local notation "oV" => (Memref.whole main_v54_0_scv : Memref sig Kind.scVector Space.hbm S212992x16 EltTy.f32)
local notation "pV" => (Memref.whole main_v54_1_scv : Memref sig Kind.scVector Space.hbm S212992 EltTy.f32)
local notation "s0" => (Memref.whole cc0_scratch0 : Memref sig Kind.scVector Space.vmem S1664 EltTy.i32)
local notation "s1" => (Memref.whole cc0_scratch1 : Memref sig Kind.scVector Space.vmem S1664 EltTy.i32)
local notation "s2" => (Memref.whole cc0_scratch2 : Memref sig Kind.scVector Space.vmem S1664 EltTy.i32)
local notation "s3" => (Memref.whole cc0_scratch3 : Memref sig Kind.scVector Space.vmem S1664x16 EltTy.f32)
local notation "s4" => (Memref.whole cc0_scratch4 : Memref sig Kind.scVector Space.vmem S1664x16 EltTy.f32)
local notation "s5" => (Memref.whole cc0_scratch5 : Memref sig Kind.scVector Space.vmem S1664 EltTy.f32)

open Idealize.ShloMosaic.ShareLeaves

set_option maxRecDepth 16384

variable (d : Dev nD)

/-- The tile at core `c`, subcore `i`. -/
def crd (c : Fin 2) (i : Fin 16) : grid0.Coords :=
  fun | 0 => c | 1 => i | ⟨_ + 2, h⟩ => absurd h (Nat.not_lt.2 (Nat.le_add_left _ _))

theorem bs_crd (c : Fin 2) (i : Fin 16) (k : ℕ) : bs (crd c i) k = 13312 * i.val + 6656 * c.val + 1664 * k := rfl

abbrev tsO (c : Fin 2) (i : Fin 16) : Finset S212992x16.Idx := rowsO (bs (crd c i) 0) (bs (crd c i) 4)
abbrev tsP (c : Fin 2) (i : Fin 16) : Finset S212992.Idx := rowsP (bs (crd c i) 0) (bs (crd c i) 4)
/-- A core's rows. -/
def coreO (c : Fin 2) : Finset S212992x16.Idx := Finset.univ.biUnion (tsO c)
def coreP (c : Fin 2) : Finset S212992.Idx := Finset.univ.biUnion (tsP c)

theorem mem_tsO {c : Fin 2} {i : Fin 16} {x : S212992x16.Idx} :
    x ∈ tsO c i ↔ 13312 * i.val + 6656 * c.val ≤ (x 0).val ∧ (x 0).val < 13312 * i.val + 6656 * c.val + 6656 := by
  rw [mem_rowsO, bs_crd, bs_crd]; omega
theorem mem_tsP {c : Fin 2} {i : Fin 16} {x : S212992.Idx} :
    x ∈ tsP c i ↔ 13312 * i.val + 6656 * c.val ≤ (x 0).val ∧ (x 0).val < 13312 * i.val + 6656 * c.val + 6656 := by
  rw [mem_rowsP, bs_crd, bs_crd]; omega

theorem disj_tsO (c : Fin 2) : ∀ i ∈ (Finset.univ : Finset (Fin 16)), ∀ j ∈ (Finset.univ : Finset (Fin 16)), i ≠ j → Disjoint (tsO c i) (tsO c j) := by
  intro i _ j _ hij
  rw [Finset.disjoint_left]
  intro x hx hy
  rw [mem_tsO] at hx hy
  exact hij (Fin.ext (by omega))
theorem disj_tsP (c : Fin 2) : ∀ i ∈ (Finset.univ : Finset (Fin 16)), ∀ j ∈ (Finset.univ : Finset (Fin 16)), i ≠ j → Disjoint (tsP c i) (tsP c j) := by
  intro i _ j _ hij
  rw [Finset.disjoint_left]
  intro x hx hy
  rw [mem_tsP] at hx hy
  exact hij (Fin.ext (by omega))

theorem mem_coreO {c : Fin 2} {x : S212992x16.Idx} : x ∈ coreO c ↔ (x 0).val / 6656 % 2 = c.val := by
  unfold coreO
  rw [Finset.mem_biUnion]
  have hx : (x 0).val < 212992 := (x 0).isLt
  constructor
  · rintro ⟨i, -, hi⟩; rw [mem_tsO] at hi; have := c.isLt; omega
  · intro h
    refine ⟨⟨(x 0).val / 13312, by omega⟩, Finset.mem_univ _, mem_tsO.mpr ?_⟩
    show 13312 * ((x 0).val / 13312) + 6656 * c.val ≤ (x 0).val ∧ (x 0).val < 13312 * ((x 0).val / 13312) + 6656 * c.val + 6656
    omega
theorem mem_coreP {c : Fin 2} {x : S212992.Idx} : x ∈ coreP c ↔ (x 0).val / 6656 % 2 = c.val := by
  unfold coreP
  rw [Finset.mem_biUnion]
  have hx : (x 0).val < 212992 := (x 0).isLt
  constructor
  · rintro ⟨i, -, hi⟩; rw [mem_tsP] at hi; have := c.isLt; omega
  · intro h
    refine ⟨⟨(x 0).val / 13312, by omega⟩, Finset.mem_univ _, mem_tsP.mpr ?_⟩
    show 13312 * ((x 0).val / 13312) + 6656 * c.val ≤ (x 0).val ∧ (x 0).val < 13312 * ((x 0).val / 13312) + 6656 * c.val + 6656
    omega

theorem disj_coreO : ∀ i ∈ (Finset.univ : Finset (Fin 2)), ∀ j ∈ (Finset.univ : Finset (Fin 2)), i ≠ j → Disjoint (coreO i) (coreO j) := by
  intro i _ j _ hij
  rw [Finset.disjoint_left]
  intro x hx hy
  rw [mem_coreO] at hx hy
  exact hij (Fin.ext (by omega))
theorem disj_coreP : ∀ i ∈ (Finset.univ : Finset (Fin 2)), ∀ j ∈ (Finset.univ : Finset (Fin 2)), i ≠ j → Disjoint (coreP i) (coreP j) := by
  intro i _ j _ hij
  rw [Finset.disjoint_left]
  intro x hx hy
  rw [mem_coreP] at hx hy
  exact hij (Fin.ext (by omega))
theorem cover_coreO : (Finset.univ : Finset (Fin 2)).biUnion coreO = Finset.univ := by
  ext x
  simp only [Finset.mem_biUnion, Finset.mem_univ, true_and, iff_true]
  exact ⟨⟨(x 0).val / 6656 % 2, Nat.mod_lt _ (by decide)⟩, mem_coreO.mpr rfl⟩
theorem cover_coreP : (Finset.univ : Finset (Fin 2)).biUnion coreP = Finset.univ := by
  ext x
  simp only [Finset.mem_biUnion, Finset.mem_univ, true_and, iff_true]
  exact ⟨⟨(x 0).val / 6656 % 2, Nat.mod_lt _ (by decide)⟩, mem_coreP.mpr rfl⟩

/-! ## A core's share -/

/-- What core `c` is handed, -/
def coreGo (c : Fin 2) (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (∃ f : S212992x16.Idx → F .f32, oLoc d ↦[coreO c]{fullShare} f) ∗ (∃ f : S212992.Idx → F .f32, pLoc d ↦[coreP c]{fullShare} f))
/-- and what it hands back. -/
def coreDn (c : Fin 2) (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (oLoc d ↦[coreO c]{fullShare} EG fi fe) ∗ (pLoc d ↦[coreP c]{fullShare} LV fi fl))

theorem i_leaves4 (q : PosShare TreeShare) (f : S212992.Idx → BitVec 32) :
    (iLoc d ↦{q} f : sProp 𝕄) = bigSep Finset.univ fun i : Fin 16 => iLoc d ↦{leaf 4 q i} f := pointsTo_leaves (Val := Elt F) (ℓ := iLoc d) Finset.univ f 4 q
theorem e_leaves4 (q : PosShare TreeShare) (f : S2600000x16.Idx → F .f32) :
    (eLoc d ↦{q} f : sProp 𝕄) = bigSep Finset.univ fun i : Fin 16 => eLoc d ↦{leaf 4 q i} f := pointsTo_leaves (Val := Elt F) (ℓ := eLoc d) Finset.univ f 4 q
theorem l_leaves4 (q : PosShare TreeShare) (f : S162500x16.Idx → F .f32) :
    (lLoc d ↦{q} f : sProp 𝕄) = bigSep Finset.univ fun i : Fin 16 => lLoc d ↦{leaf 4 q i} f := pointsTo_leaves (Val := Elt F) (ℓ := lLoc d) Finset.univ f 4 q
theorem i_leaves1 (q : PosShare TreeShare) (f : S212992.Idx → BitVec 32) :
    (iLoc d ↦{q} f : sProp 𝕄) = bigSep Finset.univ fun i : Fin 2 => iLoc d ↦{leaf 1 q i} f := pointsTo_leaves (Val := Elt F) (ℓ := iLoc d) Finset.univ f 1 q
theorem e_leaves1 (q : PosShare TreeShare) (f : S2600000x16.Idx → F .f32) :
    (eLoc d ↦{q} f : sProp 𝕄) = bigSep Finset.univ fun i : Fin 2 => eLoc d ↦{leaf 1 q i} f := pointsTo_leaves (Val := Elt F) (ℓ := eLoc d) Finset.univ f 1 q
theorem l_leaves1 (q : PosShare TreeShare) (f : S162500x16.Idx → F .f32) :
    (lLoc d ↦{q} f : sProp 𝕄) = bigSep Finset.univ fun i : Fin 2 => lLoc d ↦{leaf 1 q i} f := pointsTo_leaves (Val := Elt F) (ℓ := lLoc d) Finset.univ f 1 q
theorem o_tiles (c : Fin 2) (f : S212992x16.Idx → F .f32) :
    (oLoc d ↦[coreO c]{fullShare} f : sProp 𝕄) = bigSep Finset.univ fun i : Fin 16 => oLoc d ↦[tsO c i]{fullShare} f :=
  pointsTo_biUnion (Val := Elt F) (ℓ := oLoc d) (q := fullShare) (f := f) Finset.univ (tsO c) (disj_tsO c)
theorem o_cores (f : S212992x16.Idx → F .f32) :
    (oLoc d ↦{fullShare} f : sProp 𝕄) = bigSep Finset.univ fun c : Fin 2 => oLoc d ↦[coreO c]{fullShare} f :=
  (congrArg (fun S => (oLoc d ↦[S]{fullShare} f : sProp 𝕄)) cover_coreO.symm).trans
    (pointsTo_biUnion (Val := Elt F) (ℓ := oLoc d) (q := fullShare) (f := f) Finset.univ coreO disj_coreO)
theorem p_tiles (c : Fin 2) (f : S212992.Idx → F .f32) :
    (pLoc d ↦[coreP c]{fullShare} f : sProp 𝕄) = bigSep Finset.univ fun i : Fin 16 => pLoc d ↦[tsP c i]{fullShare} f :=
  pointsTo_biUnion (Val := Elt F) (ℓ := pLoc d) (q := fullShare) (f := f) Finset.univ (tsP c) (disj_tsP c)
theorem p_cores (f : S212992.Idx → F .f32) :
    (pLoc d ↦{fullShare} f : sProp 𝕄) = bigSep Finset.univ fun c : Fin 2 => pLoc d ↦[coreP c]{fullShare} f :=
  (congrArg (fun S => (pLoc d ↦[S]{fullShare} f : sProp 𝕄)) cover_coreP.symm).trans
    (pointsTo_biUnion (Val := Elt F) (ℓ := pLoc d) (q := fullShare) (f := f) Finset.univ coreP disj_coreP)

/-- Some contents for each. -/
theorem ex_of {I A : Type} (s : Finset I) (Φ : I → A → sProp 𝕄) (a : A) :
    (bigSep s fun i => Φ i a) ⊢ (bigSep s fun i => iprop(∃ a, Φ i a) : sProp 𝕄) :=
  bigSep_mono fun i _ => exists_intro (Φ := Φ i) a

theorem exO_split (c : Fin 2) : iprop(∃ f : S212992x16.Idx → F .f32, oLoc d ↦[coreO c]{fullShare} f)
    ⊢ (bigSep Finset.univ fun i : Fin 16 => iprop(∃ f : S212992x16.Idx → F .f32, oLoc d ↦[tsO c i]{fullShare} f) : sProp 𝕄) := by
  iintro ⟨%f, H⟩
  ihave H := (Entails.of_eq (o_tiles d c f)) $$ H
  iapply (ex_of (F := F) Finset.univ (fun (i : Fin 16) => fun f : S212992x16.Idx → F .f32 => (oLoc d ↦[tsO c i]{fullShare} f : sProp 𝕄)) f)
  iexact H
theorem exP_split (c : Fin 2) : iprop(∃ f : S212992.Idx → F .f32, pLoc d ↦[coreP c]{fullShare} f)
    ⊢ (bigSep Finset.univ fun i : Fin 16 => iprop(∃ f : S212992.Idx → F .f32, pLoc d ↦[tsP c i]{fullShare} f) : sProp 𝕄) := by
  iintro ⟨%f, H⟩
  ihave H := (Entails.of_eq (p_tiles d c f)) $$ H
  iapply (ex_of (F := F) Finset.univ (fun (i : Fin 16) => fun f : S212992.Idx → F .f32 => (pLoc d ↦[tsP c i]{fullShare} f : sProp 𝕄)) f)
  iexact H

/-- A core's share is its tiles', and the tiles' results are the core's. -/
theorem core_split (c : Fin 2) (q : PosShare TreeShare) (fi : S212992.Idx → BitVec 32) (fe : S2600000x16.Idx → F .f32) (fl : S162500x16.Idx → F .f32) :
    coreGo d c q fi fe fl ⊢ iprop((bigSep Finset.univ fun i : Fin 16 => goRes d (crd c i) (leaf 4 q i) fi fe fl)
      ∗ ((bigSep Finset.univ fun i : Fin 16 => tdRes d (crd c i) (leaf 4 q i) fi fe fl) -∗ coreDn d c q fi fe fl)) := by
  unfold coreGo coreDn goRes tdRes
  rw [bigSep_sep', bigSep_sep', bigSep_sep', bigSep_sep', bigSep_sep', bigSep_sep', bigSep_sep', bigSep_sep']
  rw [i_leaves4 d q fi, e_leaves4 d q fe, l_leaves4 d q fl]
  iintro ⟨Hi, He, Hl, Ho, Hp⟩
  ihave Ho := (exO_split (F := F) d c) $$ Ho
  ihave Hp := (exP_split (F := F) d c) $$ Hp
  isplitl [Hi He Hl Ho Hp]
  · isplitl [Hi]; · iexact Hi
    isplitl [He]; · iexact He
    isplitl [Hl]; · iexact Hl
    isplitl [Ho]; · iexact Ho
    iexact Hp
  iintro ⟨Hi, He, Hl, Ho, Hp⟩
  isplitl [Hi]; · iexact Hi
  isplitl [He]; · iexact He
  isplitl [Hl]; · iexact Hl
  isplitl [Ho]
  · iapply (Entails.of_eq (o_tiles d c (EG fi fe)).symm); iexact Ho
  · iapply (Entails.of_eq (p_tiles d c (LV fi fl)).symm); iexact Hp

/-- The arrays whole are the cores' shares, and the cores' results are the arrays'. -/
theorem tc_split (fi : S212992.Idx → BitVec 32) (fe : S2600000x16.Idx → F .f32) (fl : S162500x16.Idx → F .f32) (fo : S212992x16.Idx → F .f32) (fp : S212992.Idx → F .f32) :
    iprop((iLoc d ↦{fullShare} fi) ∗ (eLoc d ↦{fullShare} fe) ∗ (lLoc d ↦{fullShare} fl) ∗ (oLoc d ↦{fullShare} fo) ∗ (pLoc d ↦{fullShare} fp))
      ⊢ (bigSep Finset.univ fun c : Fin 2 => coreGo d c (leaf 1 fullShare c) fi fe fl : sProp 𝕄) := by
  unfold coreGo
  rw [bigSep_sep', bigSep_sep', bigSep_sep', bigSep_sep']
  rw [i_leaves1 d fullShare fi, e_leaves1 d fullShare fe, l_leaves1 d fullShare fl]
  iintro ⟨Hi, He, Hl, Ho, Hp⟩
  isplitl [Hi]; · iexact Hi
  isplitl [He]; · iexact He
  isplitl [Hl]; · iexact Hl
  isplitl [Ho]
  · ihave Ho := (Entails.of_eq (o_cores d (fo))) $$ Ho
    iapply (ex_of (F := F) Finset.univ (fun (i : Fin 2) => fun f : S212992x16.Idx → F .f32 => (oLoc d ↦[coreO i]{fullShare} f : sProp 𝕄)) fo)
    iexact Ho
  · ihave Hp := (Entails.of_eq (p_cores d (fp))) $$ Hp
    iapply (ex_of (F := F) Finset.univ (fun (i : Fin 2) => fun f : S212992.Idx → F .f32 => (pLoc d ↦[coreP i]{fullShare} f : sProp 𝕄)) fp)
    iexact Hp
theorem tc_join (fi : S212992.Idx → BitVec 32) (fe : S2600000x16.Idx → F .f32) (fl : S162500x16.Idx → F .f32) :
    (bigSep Finset.univ fun c : Fin 2 => coreDn d c (leaf 1 fullShare c) fi fe fl : sProp 𝕄)
      ⊢ iprop((iLoc d ↦{fullShare} fi) ∗ (eLoc d ↦{fullShare} fe) ∗ (lLoc d ↦{fullShare} fl) ∗ (oLoc d ↦{fullShare} EG fi fe) ∗ (pLoc d ↦{fullShare} LV fi fl)) := by
  unfold coreDn
  rw [bigSep_sep', bigSep_sep', bigSep_sep', bigSep_sep']
  rw [i_leaves1 d fullShare fi, e_leaves1 d fullShare fe, l_leaves1 d fullShare fl]
  iintro ⟨Hi, He, Hl, Ho, Hp⟩
  isplitl [Hi]; · iexact Hi
  isplitl [He]; · iexact He
  isplitl [Hl]; · iexact Hl
  isplitl [Ho]
  · iapply (Entails.of_eq (o_cores d (EG fi fe)).symm); iexact Ho
  · iapply (Entails.of_eq (p_cores d (LV fi fl)).symm); iexact Hp

end Cert.Proof.Ideal.Gather0

end
-- ==== Proof.Ideal.Gather2.lean ====
/-
  One tile of the second SparseCore gather: four chunks of 1664 rows. Each chunk fetches its index words, splits them
  into granule and lane, gathers the wide rows and the granules, picks the lanes, and writes both results out. The tile
  leaves its 6656 rows of both results at the gathered values.
-/
module

public import proofs.«01_k».proof.Proof.Ideal.Setup

@[expose] public section

noncomputable section

namespace Cert.Proof.Ideal.Gather2

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "eV" => (Memref.whole main_arg1_scv : Memref sig Kind.scVector Space.hbm S2600000x16 EltTy.f32)
local notation "lV" => (Memref.whole main_v8_scv : Memref sig Kind.scVector Space.hbm S162500x16 EltTy.f32)
local notation "iV" => (Memref.whole main_v58_scv : Memref sig Kind.scVector Space.hbm S212992 EltTy.i32)
local notation "oV" => (Memref.whole main_v59_0_scv : Memref sig Kind.scVector Space.hbm S212992x16 EltTy.f32)
local notation "pV" => (Memref.whole main_v59_1_scv : Memref sig Kind.scVector Space.hbm S212992 EltTy.f32)
local notation "s0" => (Memref.whole cc2_scratch0 : Memref sig Kind.scVector Space.vmem S1664 EltTy.i32)
local notation "s1" => (Memref.whole cc2_scratch1 : Memref sig Kind.scVector Space.vmem S1664 EltTy.i32)
local notation "s2" => (Memref.whole cc2_scratch2 : Memref sig Kind.scVector Space.vmem S1664 EltTy.i32)
local notation "s3" => (Memref.whole cc2_scratch3 : Memref sig Kind.scVector Space.vmem S1664x16 EltTy.f32)
local notation "s4" => (Memref.whole cc2_scratch4 : Memref sig Kind.scVector Space.vmem S1664x16 EltTy.f32)
local notation "s5" => (Memref.whole cc2_scratch5 : Memref sig Kind.scVector Space.vmem S1664 EltTy.f32)

variable (d : Dev nD) (L : grid2.Coords)

abbrev cV (L : grid2.Coords) : Fin τ.nSC := (L 0).castLE hcore2
abbrev jV (L : grid2.Coords) : Fin τ.nSub := (L 1).castLE hsub2
/-- The tile's thread. -/
abbrev thr : Thread nD τ := V d (cV L) (jV L)

/-! ## One store of sixteen words -/

/-- A buffer of 1664 elements right below `16 k`, sixteen right ones stored at `16 k`: right below `16 (k + 1)`. -/
theorem grow {e : EltTy} {v : View sig Kind.scVector Space.vmem S1664 e} (f : v.ty.Contents (Elt F)) {off : Fin 1 → ℕ} (k : ℕ)
    (heq : off = ![16 * k]) (inb : ∀ a : Fin 1, off a + S16.size a ≤ S1664.size a) (w : (Rect.unit (s := S1664) off S16.size inb).shape.Idx → Elt F e)
    (g : S1664.Idx → Elt F e)
    (hf : ∀ x : S1664.Idx, (x 0).val < 16 * k → v.read (Elt F) f x = g x)
    (hw : ∀ (j : S16.Idx) (x : S1664.Idx), (x 0).val = 16 * k + (j 0).val → w j = g x) :
    ∀ x : S1664.Idx, (x 0).val < 16 * (k + 1) →
      v.read (Elt F) (v.writes (Elt F) f [⟨Rect.unit (s := S1664) off S16.size inb, w⟩]) x = g x := by
  intro x hx
  rw [View.read_writes_cons_unit v f inb w [] x heq]
  split
  · rename_i h
    refine hw _ x ?_
    have h0 := h 0
    simp only [Matrix.cons_val_fin_one] at h0
    rw [Rect.unitLocal_val]
    simp only [Matrix.cons_val_fin_one]
    omega
  · rename_i h
    refine hf x ?_
    by_contra hc
    refine h fun a => ?_
    obtain rfl : a = 0 := Subsingleton.elim _ _
    simp only [Matrix.cons_val_fin_one]
    have : S16.size 0 = 16 := rfl
    omega

/-! ## Splitting the words -/

/-- Before trip `n` of the splitting loop: the first `16 n` words of the list have their granule and lane stored. -/
def inv2 (f7 : S1664.Idx → BitVec 32) (n : Nat) (_ : PUnit) : sProp 𝕄 :=
  iprop(((s0).view.loc (thr d L) ↦{fullShare} f7)
    ∗ (∃ f : S1664.Idx → BitVec 32, ⌜∀ x, (x 0).val < 16 * n → f x = f7 x >>> 4⌝ ∗ ((s1).view.loc (thr d L) ↦{fullShare} f))
    ∗ (∃ f : S1664.Idx → BitVec 32, ⌜∀ x, (x 0).val < 16 * n → f x = f7 x &&& 15#32⌝ ∗ ((s2).view.loc (thr d L) ↦{fullShare} f)))

/-- Sixteen elements loaded at `off` are the buffer's there. -/
theorem load16 {e : EltTy} {v : View sig Kind.scVector Space.vmem S1664 e} (f : v.ty.Contents (Elt F)) {off : Fin 1 → ℕ} (k : ℕ)
    (heq : off = ![16 * k]) (inb : ∀ a : Fin 1, off a + S16.size a ≤ S1664.size a) (j : S16.Idx) (x : S1664.Idx)
    (h : (x 0).val = 16 * k + (j 0).val) :
    v.readAt (Elt F) (Rect.unit (s := S1664) off S16.size inb).toLoadRect f j = v.read (Elt F) f x := by
  rw [View.readAt_apply]
  congr 1
  funext a
  obtain rfl : a = 0 := Subsingleton.elim _ _
  subst heq
  apply Fin.ext
  show 16 * k + 1 * (j 0).val = (x 0).val
  omega

set_option maxHeartbeats 2000000 in
theorem trip2 (f7 : S1664.Idx → BitVec 32) (k : Fin k2_t2_loop.trips) :
    inv2 (F := F) d L f7 k.val ⟨⟩ ⊢ wp frame (wpE (defs₀ (F := F)) 𝒱₀ (thr d L) none) Set.univ
      (k2_t2_body L eV (Memref.isWhole_whole _) lV (Memref.isWhole_whole _) iV (Memref.isWhole_whole _) oV (Memref.isWhole_whole _) pV (Memref.isWhole_whole _)
        s0 (Memref.isWhole_whole _) s1 (Memref.isWhole_whole _) s2 (Memref.isWhole_whole _) s3 (Memref.isWhole_whole _) s4 (Memref.isWhole_whole _) s5 (Memref.isWhole_whole _)
        cc2_scratch6 cc2_scratch7 cc2_scoped0 cc2_scoped1 cc2_scoped2 k ⟨⟩)
      fun _ => inv2 (F := F) d L f7 (k.val + 1) ⟨⟩ := by
  unfold inv2 k2_t2_body
  iintro ⟨H0, ⟨%f1, %h1, H1⟩, ⟨%f2, %h2, H2⟩⟩
  sl_exec
  sl_step
  isplitl [H0]; · iexact H0
  isplitl [H1]
  · iexists _; isplitr
    swap; · iexact H1
    ipureintro
    refine grow (F := F) (e := .i32) (v := (s1).view) f1 k.val (k2_off2_eq k) (k2_off2_inb k) _ (fun x => f7 x >>> 4) h1 ?_
    intro j x hx
    exact (congrArg (fun w : BitVec 32 => w >>> (4 : Nat)) (load16 (F := F) (e := .i32) (v := (s0).view) f7 k.val (k2_off2_eq k) (k2_off2_inb k) j x hx))
  · iexists _; isplitr
    swap; · iexact H2
    ipureintro
    refine grow (F := F) (e := .i32) (v := (s2).view) f2 k.val (k2_off2_eq k) (k2_off2_inb k) _ (fun x => f7 x &&& 15#32) h2 ?_
    intro j x hx
    exact (congrArg (fun w : BitVec 32 => w &&& 15#32) (load16 (F := F) (e := .i32) (v := (s0).view) f7 k.val (k2_off2_eq k) (k2_off2_inb k) j x hx))

/-! ## Picking the lanes -/

/-- Before trip `n` of the picking loop: the first `16 n` scalars are the granules' at their lanes. -/
def inv3 (f9 : S1664.Idx → BitVec 32) (f11 : S1664x16.Idx → F .f32) (n : Nat) (_ : PUnit) : sProp 𝕄 :=
  iprop(((s2).view.loc (thr d L) ↦{fullShare} f9) ∗ ((s4).view.loc (thr d L) ↦{fullShare} f11)
    ∗ (∃ f : S1664.Idx → F .f32, ⌜∀ x, (x 0).val < 16 * n → f x = f11 (ix2 (n0 := 1664) (n1 := 16) (x 0) (laneL (f9 x)))⌝ ∗ ((s5).view.loc (thr d L) ↦{fullShare} f)))

theorem pay3_apply (k : Fin k2_t3_loop.trips) (j : S16.Idx) : (k2_pay3 k j).toNat = 16 * k.val + (j 0).val := by
  have hk : k.val < 104 := lt_of_lt_of_le k.isLt k2_t3_abs.2.1
  have hj : (j 0).val < 16 := (j 0).isLt
  show (BitVec.ofNat 32 (0 * 16 + (j 0).val) + (0#32 + (0#32 + BitVec.ofNat 32 k.val * 1#32) * 16#32)).toNat = _
  simp only [BitVec.toNat_add, BitVec.toNat_mul, BitVec.toNat_ofNat]
  omega

/-- The lanes' loads are in bounds: the rows by the trip, the lanes below sixteen. -/
theorem chk3 (f9 : S1664.Idx → BitVec 32) (h9 : ∀ x, (f9 x).toNat < 16) (k : Fin k2_t3_loop.trips) :
    k2_chk1 (k2_pay3 k) ((s2).view.readAt (Elt F) (Rect.unit (s := S1664) (k2_off3 k) S16.size (k2_off3_inb k)).toLoadRect f9) := by
  intro a x
  have hk : k.val < 104 := lt_of_lt_of_le k.isLt k2_t3_abs.2.1
  have hj : (x 0).val < 16 := (x 0).isLt
  match a with
  | ⟨0, _⟩ => show (k2_pay3 k x).toNat < 1664; rw [pay3_apply]; omega
  | ⟨1, _⟩ => exact h9 _

/-- One picked lane. -/
theorem val3 (f9 : S1664.Idx → BitVec 32) (h9 : ∀ x, (f9 x).toNat < 16) (f11 : S1664x16.Idx → F .f32) (k : Fin k2_t3_loop.trips)
    (v : IVec S16 32) (hv : ∀ (j : S16.Idx) (x : S1664.Idx), (x 0).val = 16 * k.val + (j 0).val → v j = f9 x)
    (h : ∀ (a : Fin 2) (x : S16.Idx), ((![k2_pay3 k, v] : Fin 2 → IVec S16 32) a x).toNat < S1664x16.size a) (j : S16.Idx) (x : S1664.Idx)
    (hx : (x 0).val = 16 * k.val + (j 0).val) :
    loadIdx (F := F) (e := .f32) f11 ![k2_pay3 k, v] h j = f11 (ix2 (n0 := 1664) (n1 := 16) (x 0) (laneL (f9 x))) := by
  unfold loadIdx
  refine congrArg f11 ?_
  rw [eq_ix2 (idxAt ![k2_pay3 k, v] h j)]
  refine congrArg₂ ix2 (Fin.ext ?_) (Fin.ext ?_)
  · exact (pay3_apply k j).trans hx.symm
  · refine Eq.trans ?_ (Nat.mod_eq_of_lt (h9 x)).symm
    show (v j).toNat = (f9 x).toNat
    rw [hv j x hx]

set_option maxHeartbeats 2000000 in
theorem trip3 (f9 : S1664.Idx → BitVec 32) (h9 : ∀ x, (f9 x).toNat < 16) (f11 : S1664x16.Idx → F .f32) (k : Fin k2_t3_loop.trips) :
    inv3 (F := F) d L f9 f11 k.val ⟨⟩ ⊢ wp frame (wpE (defs₀ (F := F)) 𝒱₀ (thr d L) none) Set.univ
      (k2_t3_body L eV (Memref.isWhole_whole _) lV (Memref.isWhole_whole _) iV (Memref.isWhole_whole _) oV (Memref.isWhole_whole _) pV (Memref.isWhole_whole _)
        s0 (Memref.isWhole_whole _) s1 (Memref.isWhole_whole _) s2 (Memref.isWhole_whole _) s3 (Memref.isWhole_whole _) s4 (Memref.isWhole_whole _) s5 (Memref.isWhole_whole _)
        cc2_scratch6 cc2_scratch7 cc2_scoped0 cc2_scoped1 cc2_scoped2 k ⟨⟩)
      fun _ => inv3 (F := F) d L f9 f11 (k.val + 1) ⟨⟩ := by
  have hchk := chk3 (F := F) f9 h9 k
  unfold inv3 k2_t3_body
  iintro ⟨H2, H4, ⟨%f5, %h5, H5⟩⟩
  sl_exec
  iapply (SparseCore.wp_vectorLoadIdx 𝒱₀ (thr d L) none Set.univ (base := s4) (S := Finset.univ) (q := fullShare) (Finset.subset_univ _)) $$ H4; iintro H4
  sl_exec
  sl_step
  isplitl [H2]; · iexact H2
  isplitl [H4]; · iexact H4
  iexists _; isplitr
  swap; · iexact H5
  ipureintro
  refine grow (F := F) (e := .f32) (v := (s5).view) f5 k.val (k2_off4_eq k) (k2_off4_inb k) _ (fun x => f11 (ix2 (n0 := 1664) (n1 := 16) (x 0) (laneL (f9 x)))) h5 ?_
  intro j x hx
  rw [Memref.read_access_whole (Elt F) cc2_scratch4 f11]
  exact val3 f9 h9 f11 k _ (fun j x hx => load16 (F := F) (e := .i32) (v := (s2).view) f9 k.val (k2_off3_eq k) (k2_off3_inb k) j x hx) _ j x hx

/-! ## The chunks -/

/-- The first row of the tile's chunk `k`. -/
def bs (L : grid2.Coords) (k : ℕ) : ℕ := 13312 * (L 1).val + 6656 * (L 0).val + 1664 * k

theorem bs_le (L : grid2.Coords) {k : ℕ} (hk : k ≤ 4) : bs L k ≤ 212992 := by
  have h0 : (L 0).val < 2 := (L 0).isLt
  have h1 : (L 1).val < 16 := (L 1).isLt
  unfold bs; omega

/-- Rows `a` to `b` of the wide result; -/
def rowsO (a b : ℕ) : Finset S212992x16.Idx := Finset.univ.filter fun x => a ≤ (x 0).val ∧ (x 0).val < b
/-- of the narrow one. -/
def rowsP (a b : ℕ) : Finset S212992.Idx := Finset.univ.filter fun x => a ≤ (x 0).val ∧ (x 0).val < b

theorem mem_rowsO {a b : ℕ} {x : S212992x16.Idx} : x ∈ rowsO a b ↔ a ≤ (x 0).val ∧ (x 0).val < b := by simp [rowsO]
theorem mem_rowsP {a b : ℕ} {x : S212992.Idx} : x ∈ rowsP a b ↔ a ≤ (x 0).val ∧ (x 0).val < b := by simp [rowsP]

theorem rowsO_sub {a b c : ℕ} (h : b ≤ c) : rowsO a b ⊆ rowsO a c := fun x hx => by
  rw [mem_rowsO] at hx ⊢; omega
theorem rowsP_sub {a b c : ℕ} (h : b ≤ c) : rowsP a b ⊆ rowsP a c := fun x hx => by
  rw [mem_rowsP] at hx ⊢; omega
theorem rowsO_sdiff {a b c : ℕ} (h : a ≤ b) : rowsO a c \ rowsO a b = rowsO b c := by
  ext x; rw [Finset.mem_sdiff, mem_rowsO, mem_rowsO, mem_rowsO]; omega
theorem rowsP_sdiff {a b c : ℕ} (h : a ≤ b) : rowsP a c \ rowsP a b = rowsP b c := by
  ext x; rw [Finset.mem_sdiff, mem_rowsP, mem_rowsP, mem_rowsP]; omega

abbrev iLoc (d : Dev nD) : Loc nD τ sig := (SparseCore.T d).loc (main_v58 : Ref sig .tc)
abbrev eLoc (d : Dev nD) : Loc nD τ sig := (SparseCore.T d).loc (main_arg1 : Ref sig .tc)
abbrev lLoc (d : Dev nD) : Loc nD τ sig := (SparseCore.T d).loc (main_v8 : Ref sig .tc)
abbrev oLoc (d : Dev nD) : Loc nD τ sig := (SparseCore.T d).loc (main_v59_0 : Ref sig .tc)
abbrev pLoc (d : Dev nD) : Loc nD τ sig := (SparseCore.T d).loc (main_v59_1 : Ref sig .tc)

theorem split_rowsO {a b c : ℕ} (hab : a ≤ b) (hbc : b ≤ c) (f : S212992x16.Idx → F .f32) :
    (oLoc d ↦[rowsO a c]{fullShare} f : sProp 𝕄) ⊣⊢ iprop((oLoc d ↦[rowsO a b]{fullShare} f) ∗ oLoc d ↦[rowsO b c]{fullShare} f) := by
  have h := pointsTo_split_subset (Val := Elt F) (Ix := HIx 2) (Name := ℕ) (U := UU) (Lvl := ℕ) (ℓ := oLoc d) (q := fullShare) (f := f) (rowsO_sub (a := a) hbc)
  rw [show (rowsO a c \ rowsO a b : Finset (Idx (oLoc d))) = rowsO b c from rowsO_sdiff hab] at h
  exact h
theorem split_rowsP {a b c : ℕ} (hab : a ≤ b) (hbc : b ≤ c) (f : S212992.Idx → F .f32) :
    (pLoc d ↦[rowsP a c]{fullShare} f : sProp 𝕄) ⊣⊢ iprop((pLoc d ↦[rowsP a b]{fullShare} f) ∗ pLoc d ↦[rowsP b c]{fullShare} f) := by
  have h := pointsTo_split_subset (Val := Elt F) (Ix := HIx 2) (Name := ℕ) (U := UU) (Lvl := ℕ) (ℓ := pLoc d) (q := fullShare) (f := f) (rowsP_sub (a := a) hbc)
  rw [show (rowsP a c \ rowsP a b : Finset (Idx (pLoc d))) = rowsP b c from rowsP_sdiff hab] at h
  exact h

/-- Chunk `k` of the index list, of the wide result, of the narrow one, as the tile slices them. -/
abbrev iC (L : grid2.Coords) (k : Fin k2_t1_loop.trips) : Memref sig .scVector .hbm S1664 .i32 :=
  (iV).slice (Rect.unit (s := S212992) (k2_off1 L k) S1664.size (k2_off1_inb L k)) (fun _ => rfl)
abbrev oC (L : grid2.Coords) (k : Fin k2_t1_loop.trips) : Memref sig .scVector .hbm S1664x16 .f32 :=
  (oV).slice (Rect.unit (s := S212992x16) (k2_off5 L k) S1664x16.size (k2_off5_inb L k)) (fun _ => rfl)
abbrev pC (L : grid2.Coords) (k : Fin k2_t1_loop.trips) : Memref sig .scVector .hbm S1664 .f32 :=
  (pV).slice (Rect.unit (s := S212992) (k2_off1 L k) S1664.size (k2_off1_inb L k)) (fun _ => rfl)

theorem set_oC (k : Fin k2_t1_loop.trips) : (oC L k).view.set = rowsO (bs L k.val) (bs L (k.val + 1)) := by
  show ((View.whole main_v59_0_scv).slice (Rect.unit (s := S212992x16) (k2_off5 L k) S1664x16.size (k2_off5_inb L k))).set = _
  rw [View.set_slice_whole]
  ext x
  rw [Rect.mem_set_unit, mem_rowsO, k2_off5_eq]
  unfold bs
  constructor
  · intro h
    have h0 := h 0
    change 13312 * (L 1).val + 6656 * (L 0).val + 1664 * k.val ≤ (x 0).val ∧ (x 0).val < 13312 * (L 1).val + 6656 * (L 0).val + 1664 * k.val + 1664 at h0
    omega
  · intro h a
    match a with
    | 0 => change 13312 * (L 1).val + 6656 * (L 0).val + 1664 * k.val ≤ (x 0).val ∧ (x 0).val < 13312 * (L 1).val + 6656 * (L 0).val + 1664 * k.val + 1664; omega
    | 1 => exact ⟨Nat.zero_le _, (x 1).isLt⟩

theorem set_pC (k : Fin k2_t1_loop.trips) : (pC L k).view.set = rowsP (bs L k.val) (bs L (k.val + 1)) := by
  show ((View.whole main_v59_1_scv).slice (Rect.unit (s := S212992) (k2_off1 L k) S1664.size (k2_off1_inb L k))).set = _
  rw [View.set_slice_whole]
  ext x
  rw [Rect.mem_set_unit, mem_rowsP, k2_off1_eq]
  unfold bs
  constructor
  · intro h
    have h0 := h 0
    change 13312 * (L 1).val + 6656 * (L 0).val + 1664 * k.val ≤ (x 0).val ∧ (x 0).val < 13312 * (L 1).val + 6656 * (L 0).val + 1664 * k.val + 1664 at h0
    omega
  · intro h a
    match a with
    | 0 => change 13312 * (L 1).val + 6656 * (L 0).val + 1664 * k.val ≤ (x 0).val ∧ (x 0).val < 13312 * (L 1).val + 6656 * (L 0).val + 1664 * k.val + 1664; omega

/-- The list's place of word `x` of chunk `k`. -/
def at1 (L : grid2.Coords) (k : Fin k2_t1_loop.trips) (x : Fin 1664) : Fin 212992 :=
  ⟨bs L k.val + x.val, by
    have hk : k.val < 4 := lt_of_lt_of_le k.isLt k2_t1_abs.2.1
    have h0 : (L 0).val < 2 := (L 0).isLt
    have h1 : (L 1).val < 16 := (L 1).isLt
    unfold bs; omega⟩

/-- The chunk's index words. -/
def words (fi : S212992.Idx → BitVec 32) (L : grid2.Coords) (k : Fin k2_t1_loop.trips) : S1664.Idx → BitVec 32 :=
  fun x => fi (ix1 (at1 L k (x 0)))

theorem read_iC (fi : S212992.Idx → BitVec 32) (k : Fin k2_t1_loop.trips) : (iC L k).view.read (Elt F) fi = words fi L k := by
  funext x
  unfold words
  refine congrArg fi (funext fun a => Fin.ext ?_)
  match a with
  | 0 =>
    show (k2_off1 L k) 0 + 1 * (x 0).val = bs L k.val + (x 0).val
    rw [k2_off1_eq]; unfold bs
    show 13312 * (L 1).val + 6656 * (L 0).val + 1664 * k.val + 1 * (x 0).val = _
    omega

theorem emb_oC (k : Fin k2_t1_loop.trips) (y : S1664x16.Idx) : (oC L k).view.emb y = ix2 (at1 L k (y 0)) (y 1) := by
  funext a
  apply Fin.ext
  match a with
  | 0 =>
    show (k2_off5 L k) 0 + 1 * (y 0).val = bs L k.val + (y 0).val
    rw [k2_off5_eq]; unfold bs
    show 13312 * (L 1).val + 6656 * (L 0).val + 1664 * k.val + 1 * (y 0).val = _
    omega
  | 1 =>
    show (k2_off5 L k) 1 + 1 * (y 1).val = (y 1).val
    rw [k2_off5_eq]
    show 0 + 1 * (y 1).val = _
    omega
theorem emb_pC (k : Fin k2_t1_loop.trips) (y : S1664.Idx) : (pC L k).view.emb y = ix1 (at1 L k (y 0)) := by
  funext a
  apply Fin.ext
  match a with
  | 0 =>
    show (k2_off1 L k) 0 + 1 * (y 0).val = bs L k.val + (y 0).val
    rw [k2_off1_eq]; unfold bs
    show 13312 * (L 1).val + 6656 * (L 0).val + 1664 * k.val + 1 * (y 0).val = _
    omega

/-- What a chunk written out leaves in the wide result; -/
theorem write_oC (k : Fin k2_t1_loop.trips) (f g : S212992x16.Idx → F .f32) (w : S1664x16.Idx → F .f32)
    (hw : ∀ y, w y = g (ix2 (at1 L k (y 0)) (y 1))) :
    ∀ x ∈ (oC L k).view.set, (oC L k).view.writes (Elt F) f [⟨Rect.whole S1664x16, w⟩] x = g x := by
  intro x hx
  obtain ⟨y, -, rfl⟩ := Finset.mem_map.mp hx
  have h := congrFun (View.read_writes_whole (Val := Elt F) (oC L k).view f w) y
  rw [View.read_apply] at h
  have h2 : (oC L k).view.writes (Elt F) f [⟨Rect.whole _, w⟩] ((oC L k).view.emb y) = w y := (cast_eq _ _).symm.trans h
  rw [h2, hw y]
  exact congrArg g (emb_oC L k y).symm
/-- in the narrow one. -/
theorem write_pC (k : Fin k2_t1_loop.trips) (f g : S212992.Idx → F .f32) (w : S1664.Idx → F .f32)
    (hw : ∀ y, w y = g (ix1 (at1 L k (y 0)))) :
    ∀ x ∈ (pC L k).view.set, (pC L k).view.writes (Elt F) f [⟨Rect.whole S1664, w⟩] x = g x := by
  intro x hx
  obtain ⟨y, -, rfl⟩ := Finset.mem_map.mp hx
  have h := congrFun (View.read_writes_whole (Val := Elt F) (pC L k).view f w) y
  rw [View.read_apply] at h
  have h2 : (pC L k).view.writes (Elt F) f [⟨Rect.whole _, w⟩] ((pC L k).view.emb y) = w y := (cast_eq _ _).symm.trans h
  rw [h2, hw y]
  exact congrArg g (emb_pC L k y).symm

/-! ## What the streams deliver -/

theorem list_at {o : ℕ} (hn : S1664.numel = o) (k : Fin o) (h : o = 1664) : S1664.rowMajor.symm (k.cast hn.symm) = ix1 (k.cast h) := by
  rw [Equiv.symm_apply_eq]
  apply Fin.ext
  exact (Shape.rowMajor_val_one (ix1 (k.cast h))).symm

/-- The wide rows of a chunk. -/
theorem payE (fe : S2600000x16.Idx → F .f32) (f7 : S1664.Idx → BitVec 32)
    (hn : S1664.numel = S1664x16.size gathers_S2600000x16_S1664x16.axis')
    (hin : ∀ x, (f7 x).toNat < S2600000x16.size gathers_S2600000x16_S1664x16.axis) (y : S1664x16.Idx) :
    SparseCore.gatherPayload (F := F) (e := .f32) gathers_S2600000x16_S1664x16 fe (SparseCore.rows (F := F) f7 hn hin) y
      = fe (ix2 (rowE (f7 (ix1 (n := 1664) (y 0)))) (y 1)) := by
  unfold SparseCore.gatherPayload
  refine congrArg fe ?_
  rw [eq_ix2 (gathers_S2600000x16_S1664x16.idx (SparseCore.rows (F := F) f7 hn hin) y)]
  refine congrArg₂ ix2 (Fin.ext ?_) (Fin.ext ?_)
  · refine Eq.trans ?_ (Nat.mod_eq_of_lt (hin (ix1 (n := 1664) (y 0)))).symm
    show (f7 (S1664.rowMajor.symm ((y 0).cast hn.symm))).toNat = _
    rw [list_at hn (y 0) rfl]; rfl
  · rfl
/-- The granules of a chunk. -/
theorem payL (fl : S162500x16.Idx → F .f32) (f8 : S1664.Idx → BitVec 32)
    (hn : S1664.numel = S1664x16.size gathers_S162500x16_S1664x16.axis')
    (hin : ∀ x, (f8 x).toNat < S162500x16.size gathers_S162500x16_S1664x16.axis) (y : S1664x16.Idx) :
    SparseCore.gatherPayload (F := F) (e := .f32) gathers_S162500x16_S1664x16 fl (SparseCore.rows (F := F) f8 hn hin) y
      = fl (ix2 ⟨(f8 (ix1 (n := 1664) (y 0))).toNat % 162500, Nat.mod_lt _ (by decide)⟩ (y 1)) := by
  unfold SparseCore.gatherPayload
  refine congrArg fl ?_
  rw [eq_ix2 (gathers_S162500x16_S1664x16.idx (SparseCore.rows (F := F) f8 hn hin) y)]
  refine congrArg₂ ix2 (Fin.ext ?_) (Fin.ext ?_)
  · refine Eq.trans ?_ (Nat.mod_eq_of_lt (hin (ix1 (n := 1664) (y 0)))).symm
    show (f8 (S1664.rowMajor.symm ((y 0).cast hn.symm))).toNat = _
    rw [list_at hn (y 0) rfl]; rfl
  · rfl

theorem shr4 (w : BitVec 32) : (w >>> 4).toNat = w.toNat / 16 := by
  rw [BitVec.toNat_ushiftRight, Nat.shiftRight_eq_div_pow]
theorem and15 (w : BitVec 32) : (w &&& 15#32).toNat = w.toNat % 16 := by
  rw [BitVec.toNat_and]
  exact Nat.and_two_pow_sub_one_eq_mod w.toNat 4

/-- The picked scalar of a chunk, from its granule and lane. -/
theorem pick (fi : S212992.Idx → BitVec 32) (fl : S162500x16.Idx → F .f32) (k : Fin k2_t1_loop.trips) (x : S1664.Idx) :
    fl (ix2 ⟨(words fi L k (ix1 (n := 1664) (x 0)) >>> 4).toNat % 162500, Nat.mod_lt _ (by decide)⟩ (laneL (words fi L k x &&& 15#32)))
      = LV fi fl (ix1 (at1 L k (x 0))) := by
  unfold LV
  refine congrArg fl (congrArg₂ ix2 (Fin.ext ?_) (Fin.ext ?_))
  · show (words fi L k (ix1 (n := 1664) (x 0)) >>> 4).toNat % 162500 = _
    rw [shr4]; rfl
  · show (words fi L k x &&& 15#32).toNat % 16 = _
    rw [and15, Nat.mod_mod]; rfl

end Cert.Proof.Ideal.Gather2

end
-- ==== Proof.Ideal.Tile2.lean ====
/-
  One chunk of the tile's loop, and the tile: the six scratch buffers, the five semaphores and the tile's share of the
  tables go in, and the tile's rows of both results come out gathered.
-/
module

public import proofs.«01_k».proof.Proof.Ideal.Gather2

@[expose] public section

noncomputable section

namespace Cert.Proof.Ideal.Gather2

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "eV" => (Memref.whole main_arg1_scv : Memref sig Kind.scVector Space.hbm S2600000x16 EltTy.f32)
local notation "lV" => (Memref.whole main_v8_scv : Memref sig Kind.scVector Space.hbm S162500x16 EltTy.f32)
local notation "iV" => (Memref.whole main_v58_scv : Memref sig Kind.scVector Space.hbm S212992 EltTy.i32)
local notation "oV" => (Memref.whole main_v59_0_scv : Memref sig Kind.scVector Space.hbm S212992x16 EltTy.f32)
local notation "pV" => (Memref.whole main_v59_1_scv : Memref sig Kind.scVector Space.hbm S212992 EltTy.f32)
local notation "s0" => (Memref.whole cc2_scratch0 : Memref sig Kind.scVector Space.vmem S1664 EltTy.i32)
local notation "s1" => (Memref.whole cc2_scratch1 : Memref sig Kind.scVector Space.vmem S1664 EltTy.i32)
local notation "s2" => (Memref.whole cc2_scratch2 : Memref sig Kind.scVector Space.vmem S1664 EltTy.i32)
local notation "s3" => (Memref.whole cc2_scratch3 : Memref sig Kind.scVector Space.vmem S1664x16 EltTy.f32)
local notation "s4" => (Memref.whole cc2_scratch4 : Memref sig Kind.scVector Space.vmem S1664x16 EltTy.f32)
local notation "s5" => (Memref.whole cc2_scratch5 : Memref sig Kind.scVector Space.vmem S1664 EltTy.f32)

variable (d : Dev nD) (L : grid2.Coords)

/-- Before chunk `n`: the first `n` chunks' rows are gathered, the rest at whatever they hold. -/
def inv1 (q : PosShare TreeShare) (fi : S212992.Idx → BitVec 32) (fe : S2600000x16.Idx → F .f32) (fl : S162500x16.Idx → F .f32)
    (O : CellTallies nD τ sig (HIx 2)) (W : Waits sig (HIx 2)) (n : Nat) (_ : PUnit) : sProp 𝕄 :=
  iprop(Transfers.MayWaits (thr d L) (default : HIx 2) O
    ∗ (iLoc d ↦{q} fi) ∗ (eLoc d ↦{q} fe) ∗ (lLoc d ↦{q} fl)
    ∗ (oLoc d ↦[rowsO (bs L 0) (bs L n)]{fullShare} EG fi fe) ∗ (∃ f : S212992x16.Idx → F .f32, oLoc d ↦[rowsO (bs L n) (bs L 4)]{fullShare} f)
    ∗ (pLoc d ↦[rowsP (bs L 0) (bs L n)]{fullShare} LV fi fl) ∗ (∃ f : S212992.Idx → F .f32, pLoc d ↦[rowsP (bs L n) (bs L 4)]{fullShare} f)
    ∗ (∃ f, (s0).view.loc (thr d L) ↦{fullShare} f) ∗ (∃ f, (s1).view.loc (thr d L) ↦{fullShare} f) ∗ (∃ f, (s2).view.loc (thr d L) ↦{fullShare} f)
    ∗ (∃ f, (s3).view.loc (thr d L) ↦{fullShare} f) ∗ (∃ f, (s4).view.loc (thr d L) ↦{fullShare} f) ∗ (∃ f, (s5).view.loc (thr d L) ↦{fullShare} f)
    ∗ semVal (thr d L, SemLoc.dma cc2_scratch6.sem) 0 ∗ semVal (thr d L, SemLoc.dma cc2_scratch7.sem) 0
    ∗ semVal (thr d L, SemLoc.dma cc2_scoped0.sem) 0 ∗ semVal (thr d L, SemLoc.dma cc2_scoped1.sem) 0 ∗ semVal (thr d L, SemLoc.dma cc2_scoped2.sem) 0
    ∗ ∃ W', ⌜∀ p ∈ W', p ∈ W ∨ p.2 = none⌝ ∗ owes (thr d L) O W')

theorem hN3 : ∀ h : S2600000x16.Gathers 0 S1664x16, ∑ j, ((s3).slice (S1664x16.rowRect h.axis' j) (S1664x16.stride_rowRect h.axis' j)).view.dmaCredit
    = (s3).view.dmaCredit := by decide +kernel
theorem hN4 : ∀ h : S162500x16.Gathers 0 S1664x16, ∑ j, ((s4).slice (S1664x16.rowRect h.axis' j) (S1664x16.stride_rowRect h.axis' j)).view.dmaCredit
    = (s4).view.dmaCredit := by decide +kernel

theorem read_eC (fe : S2600000x16.Idx → F .f32) :
    ((eV).slice (Rect.unit (s := S2600000x16) ![0, 0] S2600000x16.size inb_S2600000x16_S2600000x16_0_0) (fun _ => rfl)).view.read (Elt F) fe = fe := by
  funext x
  refine congrArg fe (funext fun a => Fin.ext ?_)
  match a with
  | 0 => show 0 + 1 * (x 0).val = (x 0).val; omega
  | 1 => show 0 + 1 * (x 1).val = (x 1).val; omega
theorem read_lC (fl : S162500x16.Idx → F .f32) :
    ((lV).slice (Rect.unit (s := S162500x16) ![0, 0] S162500x16.size inb_S162500x16_S162500x16_0_0) (fun _ => rfl)).view.read (Elt F) fl = fl := by
  funext x
  refine congrArg fl (funext fun a => Fin.ext ?_)
  match a with
  | 0 => show 0 + 1 * (x 0).val = (x 0).val; omega
  | 1 => show 0 + 1 * (x 1).val = (x 1).val; omega

/-- The chunk's wide rows, and its granules. -/
def G3 (fe : S2600000x16.Idx → F .f32) (f7 : S1664.Idx → BitVec 32) : S1664x16.Idx → F .f32 :=
  fun y => fe (ix2 (rowE (f7 (ix1 (n := 1664) (y 0)))) (y 1))
def G4 (fl : S162500x16.Idx → F .f32) (f7 : S1664.Idx → BitVec 32) : S1664x16.Idx → F .f32 :=
  fun y => fl (ix2 ⟨(f7 (ix1 (n := 1664) (y 0)) >>> 4).toNat % 162500, Nat.mod_lt _ (by decide)⟩ (y 1))

set_option maxHeartbeats 4000000 in
theorem trip1 (q : PosShare TreeShare) (fi : S212992.Idx → BitVec 32) (hfi : IdxOK fi) (fe : S2600000x16.Idx → F .f32) (fl : S162500x16.Idx → F .f32)
    (O : CellTallies nD τ sig (HIx 2)) (W : Waits sig (HIx 2)) (k : Fin k2_t1_loop.trips) :
    inv1 (F := F) d L q fi fe fl O W k.val ⟨⟩ ⊢ wp frame (wpE (defs₀ (F := F)) 𝒱₀ (thr d L) none) Set.univ
      (k2_t1_body L eV (Memref.isWhole_whole _) lV (Memref.isWhole_whole _) iV (Memref.isWhole_whole _) oV (Memref.isWhole_whole _) pV (Memref.isWhole_whole _)
        s0 (Memref.isWhole_whole _) s1 (Memref.isWhole_whole _) s2 (Memref.isWhole_whole _) s3 (Memref.isWhole_whole _) s4 (Memref.isWhole_whole _) s5 (Memref.isWhole_whole _)
        cc2_scratch6 cc2_scratch7 cc2_scoped0 cc2_scoped1 cc2_scoped2 k ⟨⟩)
      fun _ => inv1 (F := F) d L q fi fe fl O W (k.val + 1) ⟨⟩ := by
  have hk : k.val < 4 := lt_of_lt_of_le k.isLt k2_t1_abs.2.1
  have hb1 : bs L k.val ≤ bs L (k.val + 1) := by unfold bs; omega
  have hb2 : bs L (k.val + 1) ≤ bs L 4 := by unfold bs; omega
  have hb0 : bs L 0 ≤ bs L k.val := by unfold bs; omega
  unfold inv1 k2_t1_body
  iintro ⟨#Hmw, Hi, He, Hl, Hod, ⟨%fo, Ho⟩, Hpd, ⟨%fp, Hp⟩, ⟨%f0, H0⟩, ⟨%f1, H1⟩, ⟨%f2, H2⟩, ⟨%f3, H3⟩, ⟨%f4, H4⟩, ⟨%f5, H5⟩, Hc6, Hc7, Hd0, Hd1, Hd2, %W', %hW', HO⟩
  -- the chunk's pieces of the arrays
  ihave Hi' := (pointsTo_split_subset (q := q) (f := fi) (S := Finset.univ) (Finset.subset_univ (iC L k).view.set)).1 $$ Hi
  icases Hi' with ⟨Hic, Hir⟩
  ihave Ho' := (split_rowsO (F := F) d hb1 hb2 fo).1 $$ Ho
  icases Ho' with ⟨Hoc, Hor⟩
  ihave Hoc := (Entails.of_eq (show (oLoc d ↦[rowsO (bs L k.val) (bs L (k.val + 1))]{fullShare} fo : sProp 𝕄) = (oC L k).view.loc (thr d L) ↦[(oC L k).view.set]{fullShare} fo by rw [set_oC])) $$ Hoc
  ihave Hp' := (split_rowsP (F := F) d hb1 hb2 fp).1 $$ Hp
  icases Hp' with ⟨Hpc, Hpr⟩
  ihave Hpc := (Entails.of_eq (show (pLoc d ↦[rowsP (bs L k.val) (bs L (k.val + 1))]{fullShare} fp : sProp 𝕄) = (pC L k).view.loc (thr d L) ↦[(pC L k).view.set]{fullShare} fp by rw [set_pC])) $$ Hpc
  ihave Hic := (Entails.of_eq (show (_ : sProp 𝕄) = (iC L k).view.loc (thr d L) ↦[(iC L k).view.set]{q} fi from rfl)) $$ Hic
  sl_exec (disch := exact View.amount_pos _ _ (show 0 < S1664.numel by decide))
  have e0 : View.write (Elt F) (s0).view f0 ((iC L k).view.read (Elt F) fi) Finset.univ = words fi L k := by
    rw [read_iC]; exact View.write_whole_univ (Val := Elt F) cc2_scratch0 f0 (words fi L k)
  ihave H0 := (Entails.of_eq (show ((s0).view.loc (thr d L) ↦{fullShare} View.write (Elt F) (s0).view f0 (trip1.sl.dma0 L fi k) Finset.univ : sProp 𝕄)
    = (s0).view.loc (thr d L) ↦{fullShare} words fi L k from congrArg (fun f => ((s0).view.loc (thr d L) ↦{fullShare} f : sProp 𝕄)) e0)) $$ H0
  -- the words split
  sl_for (inv2 (F := F) d L (words fi L k)) $$ [H0 H1 H2]
  case region => intro n _; exact trip2 d L (words fi L k) n
  · unfold inv2
    isplitl [H0]; · iexact H0
    isplitl [H1]
    · iexists f1; isplitr
      · ipureintro; intro x hx; omega
      · iexact H1
    · iexists f2; isplitr
      · ipureintro; intro x hx; omega
      · iexact H2
  iintro %_ HI
  unfold inv2
  icases HI with ⟨H0, ⟨%g1, %hg1, H1⟩, ⟨%g2, %hg2, H2⟩⟩
  obtain rfl : g1 = fun x => words fi L k x >>> 4 := funext fun x => hg1 x (lt_of_lt_of_eq (x 0).isLt (show 1664 = 16 * k2_t2_loop.trips by decide))
  obtain rfl : g2 = fun x => words fi L k x &&& 15#32 := funext fun x => hg2 x (lt_of_lt_of_eq (x 0).isLt (show 1664 = 16 * k2_t2_loop.trips by decide))
  sl_exec
  -- the two streams
  have hw : ∀ x, (words fi L k x).toNat < 2600000 := fun x => hfi _
  have hrs3 : (s3).view.set = Finset.univ := View.set_whole _
  have hrs4 : (s4).view.set = Finset.univ := View.set_whole _
  have hss0 : (s0).view.set = Finset.univ := View.set_whole _
  have hss1 : (s1).view.set = Finset.univ := View.set_whole _
  ihave He' := (pointsTo_split_subset (ℓ := eLoc d) (q := q) (f := fe) (S := Finset.univ) (Finset.subset_univ ((eV).slice (Rect.unit (s := S2600000x16) ![0, 0] S2600000x16.size inb_S2600000x16_S2600000x16_0_0) (fun _ => rfl)).view.set)).1 $$ He
  icases He' with ⟨Hec, Her⟩
  ihave Hl' := (pointsTo_split_subset (ℓ := lLoc d) (q := q) (f := fl) (S := Finset.univ) (Finset.subset_univ ((lV).slice (Rect.unit (s := S162500x16) ![0, 0] S162500x16.size inb_S162500x16_S162500x16_0_0) (fun _ => rfl)).view.set)).1 $$ Hl
  icases Hl' with ⟨Hlc, Hlr⟩
  ihave H3 := (Entails.of_eq (show ((s3).view.loc (thr d L) ↦{fullShare} f3 : sProp 𝕄) = (s3).view.loc (thr d L) ↦[(s3).view.set]{fullShare} f3 by rw [hrs3])) $$ H3
  ihave H4 := (Entails.of_eq (show ((s4).view.loc (thr d L) ↦{fullShare} f4 : sProp 𝕄) = (s4).view.loc (thr d L) ↦[(s4).view.set]{fullShare} f4 by rw [hrs4])) $$ H4
  ihave H0 := (Entails.of_eq (show ((s0).view.loc (thr d L) ↦{fullShare} words fi L k : sProp 𝕄) = (s0).view.loc (thr d L) ↦[(s0).view.set]{fullShare} words fi L k by rw [hss0])) $$ H0
  ihave H1 := (Entails.of_eq (show ((s1).view.loc (thr d L) ↦{fullShare} (fun x => words fi L k x >>> 4 : S1664.Idx → BitVec 32) : sProp 𝕄) = (s1).view.loc (thr d L) ↦[(s1).view.set]{fullShare} (fun x => words fi L k x >>> 4 : S1664.Idx → BitVec 32) by rw [hss1])) $$ H1
  have hin0 : ∀ x, ((s0).view.read (Elt F) (words fi L k) x).toNat < S2600000x16.size gathers_S2600000x16_S1664x16.axis := hw
  have hin1 : ∀ x, ((s1).view.read (Elt F) (fun x => words fi L k x >>> 4 : S1664.Idx → BitVec 32) x).toNat < S162500x16.size gathers_S162500x16_S1664x16.axis := fun x => by
    show (words fi L k x >>> 4).toNat < 162500
    have := hw x
    rw [shr4]; omega
  iapply (SparseCore.wp_indirectGatherLocal countersEmb 𝒱₀ (thr d L) none (hg := gathers_S2600000x16_S1664x16) (default : HIx 2)
      (s3).view.dmaCredit (hN3 _) (by decide) hin0) $$ [Hec H3 H0 Hc6]
  · isplitl [Hec]; · iexact Hec
    isplitl [H3]; · iexact H3
    isplitl [H0]; · iexact H0
    iexact Hc6
  iintro Hfl3
  sl_exec
  iapply (SparseCore.wp_indirectGatherLocal countersEmb 𝒱₀ (thr d L) none (hg := gathers_S162500x16_S1664x16) (default : HIx 2)
      (s4).view.dmaCredit (hN4 _) (by decide) hin1) $$ [Hlc H4 H1 Hc7]
  · isplitl [Hlc]; · iexact Hlc
    isplitl [H4]; · iexact H4
    isplitl [H1]; · iexact H1
    iexact Hc7
  iintro Hfl4
  sl_exec
  iapply (Transfers.wp_waitLocalO countersEmb 𝒱₀ (thr d L) none (default : HIx 2) (rfl : (s3).view.dmaCredit = _)) $$ [Hfl3 HO]
  · isplitl [Hfl3]; · iexact Hfl3
    isplitl [HO]; · iexact HO
    iapply (Transfers.MayWaits.elim (SemLoc.dma cc2_scratch6.sem)) $$ Hmw
  iintro ⟨⟨H3, Hec, H0⟩, Hc6, HO⟩
  sl_exec
  iapply (Transfers.wp_waitLocalO countersEmb 𝒱₀ (thr d L) none (default : HIx 2) (rfl : (s4).view.dmaCredit = _)) $$ [Hfl4 HO]
  · isplitl [Hfl4]; · iexact Hfl4
    isplitl [HO]; · iexact HO
    iapply (Transfers.MayWaits.elim (SemLoc.dma cc2_scratch7.sem)) $$ Hmw
  iintro ⟨⟨H4, Hlc, H1⟩, Hc7, HO⟩
  ihave He := (pointsTo_split_subset (ℓ := eLoc d) (q := q) (f := fe) (S := Finset.univ) (Finset.subset_univ ((eV).slice (Rect.unit (s := S2600000x16) ![0, 0] S2600000x16.size inb_S2600000x16_S2600000x16_0_0) (fun _ => rfl)).view.set)).2 $$ [Hec Her]; · isplitl [Hec] <;> iassumption
  ihave Hl := (pointsTo_split_subset (ℓ := lLoc d) (q := q) (f := fl) (S := Finset.univ) (Finset.subset_univ ((lV).slice (Rect.unit (s := S162500x16) ![0, 0] S162500x16.size inb_S162500x16_S162500x16_0_0) (fun _ => rfl)).view.set)).2 $$ [Hlc Hlr]; · isplitl [Hlc] <;> iassumption
  have e3 : View.write (Elt F) (s3).view f3 (SparseCore.gatherPayload (F := F) (e := .f32) gathers_S2600000x16_S1664x16
      (((eV).slice (Rect.unit (s := S2600000x16) ![0, 0] S2600000x16.size inb_S2600000x16_S2600000x16_0_0) (fun _ => rfl)).view.read (Elt F) fe)
      (SparseCore.rows (F := F) ((s0).view.read (Elt F) (words fi L k)) rfl hin0)) Finset.univ = G3 fe (words fi L k) := by
    rw [read_eC]
    refine (View.write_whole_univ (Val := Elt F) cc2_scratch3 f3 _).trans (funext fun y => ?_)
    exact payE fe (words fi L k) rfl hin0 y
  have e4 : View.write (Elt F) (s4).view f4 (SparseCore.gatherPayload (F := F) (e := .f32) gathers_S162500x16_S1664x16
      (((lV).slice (Rect.unit (s := S162500x16) ![0, 0] S162500x16.size inb_S162500x16_S162500x16_0_0) (fun _ => rfl)).view.read (Elt F) fl)
      (SparseCore.rows (F := F) ((s1).view.read (Elt F) (fun x => words fi L k x >>> 4 : S1664.Idx → BitVec 32)) rfl hin1)) Finset.univ = G4 fl (words fi L k) := by
    rw [read_lC]
    refine (View.write_whole_univ (Val := Elt F) cc2_scratch4 f4 _).trans (funext fun y => ?_)
    exact payL fl (fun x => words fi L k x >>> 4) rfl hin1 y
  ihave H3 := (Entails.of_eq (show ((s3).view.loc (thr d L) ↦[(s3).view.set]{fullShare} _ : sProp 𝕄) = (s3).view.loc (thr d L) ↦{fullShare} G3 fe (words fi L k) by
    rw [hrs3]; exact congrArg (fun f => ((s3).view.loc (thr d L) ↦{fullShare} f : sProp 𝕄)) e3)) $$ H3
  ihave H4 := (Entails.of_eq (show ((s4).view.loc (thr d L) ↦[(s4).view.set]{fullShare} _ : sProp 𝕄) = (s4).view.loc (thr d L) ↦{fullShare} G4 fl (words fi L k) by
    rw [hrs4]; exact congrArg (fun f => ((s4).view.loc (thr d L) ↦{fullShare} f : sProp 𝕄)) e4)) $$ H4
  ihave H0 := (Entails.of_eq (show ((s0).view.loc (thr d L) ↦[(s0).view.set]{fullShare} words fi L k : sProp 𝕄) = (s0).view.loc (thr d L) ↦{fullShare} words fi L k by rw [hss0])) $$ H0
  ihave H1 := (Entails.of_eq (show ((s1).view.loc (thr d L) ↦[(s1).view.set]{fullShare} (fun x => words fi L k x >>> 4 : S1664.Idx → BitVec 32) : sProp 𝕄) = (s1).view.loc (thr d L) ↦{fullShare} (fun x => words fi L k x >>> 4 : S1664.Idx → BitVec 32) by rw [hss1])) $$ H1
  sl_exec
  -- the lanes picked
  have h9 : ∀ x, ((fun x => words fi L k x &&& 15#32 : S1664.Idx → BitVec 32) x).toNat < 16 := fun x => by
    show (words fi L k x &&& 15#32).toNat < 16
    rw [and15]; omega
  sl_for (inv3 (F := F) d L (fun x => words fi L k x &&& 15#32) (G4 fl (words fi L k))) $$ [H2 H4 H5]
  case region => intro n _; exact trip3 d L _ h9 _ n
  · unfold inv3
    isplitl [H2]; · iexact H2
    isplitl [H4]; · iexact H4
    iexists f5; isplitr
    · ipureintro; intro x hx; omega
    · iexact H5
  iintro %_ HI
  unfold inv3
  icases HI with ⟨H2, H4, ⟨%g5, %hg5, H5⟩⟩
  obtain rfl : g5 = fun x => LV fi fl (ix1 (at1 L k (x 0))) := funext fun x =>
    (hg5 x (lt_of_lt_of_eq (x 0).isLt (show 1664 = 16 * k2_t3_loop.trips by decide))).trans (pick L fi fl k x)
  sl_exec (disch := exact View.amount_pos _ _ (show 0 < S1664x16.numel by decide))
  sl_step
  isplitr; · iexact Hmw
  isplitl [Hir]; · iexact Hir
  isplitl [He]; · iexact He
  isplitl [Hl]; · iexact Hl
  isplitl [Hod Hoc]
  · iapply (split_rowsO (F := F) d hb0 hb1 (EG fi fe)).2
    isplitl [Hod]; · iexact Hod
    ihave Hoc := (Entails.of_eq (pointsTo_congr (write_oC L k fo (EG fi fe) (G3 fe (words fi L k)) (fun y => rfl)))) $$ Hoc
    iapply (Entails.of_eq (show ((oC L k).view.loc (thr d L) ↦[(oC L k).view.set]{fullShare} EG fi fe : sProp 𝕄) = oLoc d ↦[rowsO (bs L k.val) (bs L (k.val + 1))]{fullShare} EG fi fe by rw [set_oC]))
    iexact Hoc
  isplitl [Hor]; · iexists _; iexact Hor
  isplitl [Hpd Hpc]
  · iapply (split_rowsP (F := F) d hb0 hb1 (LV fi fl)).2
    isplitl [Hpd]; · iexact Hpd
    ihave Hpc := (Entails.of_eq (pointsTo_congr (write_pC L k fp (LV fi fl) (fun x => LV fi fl (ix1 (at1 L k (x 0)))) (fun y => rfl)))) $$ Hpc
    iapply (Entails.of_eq (show ((pC L k).view.loc (thr d L) ↦[(pC L k).view.set]{fullShare} LV fi fl : sProp 𝕄) = pLoc d ↦[rowsP (bs L k.val) (bs L (k.val + 1))]{fullShare} LV fi fl by rw [set_pC]))
    iexact Hpc
  isplitl [Hpr]; · iexists _; iexact Hpr
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Hc6]; · iexact Hc6
  isplitl [Hc7]; · iexact Hc7
  isplitl [Hd0]; · iexact Hd0
  isplitl [Hd1]; · iexact Hd1
  isplitl [Hd2]; · iexact Hd2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The tile -/

theorem ownSems0_V :
    (ownSems0 (thr d L) : sProp 𝕄)
      = iprop(semVal ((thr d L, SemLoc.dma cc2_scratch6.sem) : GSem nD τ sig) 0 ∗ semVal ((thr d L, SemLoc.dma cc2_scratch7.sem) : GSem nD τ sig) 0 ∗ semVal ((thr d L, SemLoc.dma cc2_scoped0.sem) : GSem nD τ sig) 0 ∗ semVal ((thr d L, SemLoc.dma cc2_scoped1.sem) : GSem nD τ sig) 0 ∗ semVal ((thr d L, SemLoc.dma cc2_scoped2.sem) : GSem nD τ sig) 0
          ∗ bigSep ((((((ownCells (thr d L)).erase ((thr d L, SemLoc.dma cc2_scratch6.sem) : GSem nD τ sig)).erase ((thr d L, SemLoc.dma cc2_scratch7.sem) : GSem nD τ sig)).erase ((thr d L, SemLoc.dma cc2_scoped0.sem) : GSem nD τ sig)).erase ((thr d L, SemLoc.dma cc2_scoped1.sem) : GSem nD τ sig)).erase ((thr d L, SemLoc.dma cc2_scoped2.sem) : GSem nD τ sig)) fun g => semVal g 0) := by
  unfold SparseCore.Cfg.ownSems0
  rw [SparseCore.bigSep_erase' ((mem_ownCells (g := ((thr d L, SemLoc.dma cc2_scratch6.sem) : GSem nD τ sig))).mpr ⟨rfl, show (SemLoc.dma cc2_scratch6.sem : SemLoc sig).isScoped .scVector = true by decide⟩),
    SparseCore.bigSep_erase' (Finset.mem_erase.mpr ⟨fun e => absurd (Prod.ext_iff.mp e).2 (show (SemLoc.dma cc2_scratch7.sem : SemLoc sig) ≠ SemLoc.dma cc2_scratch6.sem by decide), (mem_ownCells (g := ((thr d L, SemLoc.dma cc2_scratch7.sem) : GSem nD τ sig))).mpr ⟨rfl, show (SemLoc.dma cc2_scratch7.sem : SemLoc sig).isScoped .scVector = true by decide⟩⟩),
    SparseCore.bigSep_erase' (Finset.mem_erase.mpr ⟨fun e => absurd (Prod.ext_iff.mp e).2 (show (SemLoc.dma cc2_scoped0.sem : SemLoc sig) ≠ SemLoc.dma cc2_scratch7.sem by decide), Finset.mem_erase.mpr ⟨fun e => absurd (Prod.ext_iff.mp e).2 (show (SemLoc.dma cc2_scoped0.sem : SemLoc sig) ≠ SemLoc.dma cc2_scratch6.sem by decide), (mem_ownCells (g := ((thr d L, SemLoc.dma cc2_scoped0.sem) : GSem nD τ sig))).mpr ⟨rfl, show (SemLoc.dma cc2_scoped0.sem : SemLoc sig).isScoped .scVector = true by decide⟩⟩⟩),
    SparseCore.bigSep_erase' (Finset.mem_erase.mpr ⟨fun e => absurd (Prod.ext_iff.mp e).2 (show (SemLoc.dma cc2_scoped1.sem : SemLoc sig) ≠ SemLoc.dma cc2_scoped0.sem by decide), Finset.mem_erase.mpr ⟨fun e => absurd (Prod.ext_iff.mp e).2 (show (SemLoc.dma cc2_scoped1.sem : SemLoc sig) ≠ SemLoc.dma cc2_scratch7.sem by decide), Finset.mem_erase.mpr ⟨fun e => absurd (Prod.ext_iff.mp e).2 (show (SemLoc.dma cc2_scoped1.sem : SemLoc sig) ≠ SemLoc.dma cc2_scratch6.sem by decide), (mem_ownCells (g := ((thr d L, SemLoc.dma cc2_scoped1.sem) : GSem nD τ sig))).mpr ⟨rfl, show (SemLoc.dma cc2_scoped1.sem : SemLoc sig).isScoped .scVector = true by decide⟩⟩⟩⟩),
    SparseCore.bigSep_erase' (Finset.mem_erase.mpr ⟨fun e => absurd (Prod.ext_iff.mp e).2 (show (SemLoc.dma cc2_scoped2.sem : SemLoc sig) ≠ SemLoc.dma cc2_scoped1.sem by decide), Finset.mem_erase.mpr ⟨fun e => absurd (Prod.ext_iff.mp e).2 (show (SemLoc.dma cc2_scoped2.sem : SemLoc sig) ≠ SemLoc.dma cc2_scoped0.sem by decide), Finset.mem_erase.mpr ⟨fun e => absurd (Prod.ext_iff.mp e).2 (show (SemLoc.dma cc2_scoped2.sem : SemLoc sig) ≠ SemLoc.dma cc2_scratch7.sem by decide), Finset.mem_erase.mpr ⟨fun e => absurd (Prod.ext_iff.mp e).2 (show (SemLoc.dma cc2_scoped2.sem : SemLoc sig) ≠ SemLoc.dma cc2_scratch6.sem by decide), (mem_ownCells (g := ((thr d L, SemLoc.dma cc2_scoped2.sem) : GSem nD τ sig))).mpr ⟨rfl, show (SemLoc.dma cc2_scoped2.sem : SemLoc sig).isScoped .scVector = true by decide⟩⟩⟩⟩⟩)]

/-- The six scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f) ∗ (∃ f, (thr d L).loc cc2_scratch3 ↦{fullShare} f) ∗ (∃ f, (thr d L).loc cc2_scratch4 ↦{fullShare} f) ∗ (∃ f, (thr d L).loc cc2_scratch5 ↦{fullShare} f)
          ∗ bigSep (((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := (Proc.scVector (cV L) (jV L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := (Proc.scVector (cV L) (jV L)).devRef cc2_scratch3) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (jV L)) (b := (Proc.scVector (cV L) (jV L)).devRef cc2_scratch4) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV L) (jV L)) (b := (Proc.scVector (cV L) (jV L)).devRef cc2_scratch5) rfl⟩⟩⟩⟩⟩)]

/-- What the tile is handed, beyond its own buffers and semaphores: its share of the list and of the tables, its rows of the results. -/
def goRes (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (∃ f : S212992x16.Idx → F .f32, oLoc d ↦[rowsO (bs L 0) (bs L 4)]{fullShare} f) ∗ (∃ f : S212992.Idx → F .f32, pLoc d ↦[rowsP (bs L 0) (bs L 4)]{fullShare} f))
/-- What it hands back. -/
def tdRes (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (oLoc d ↦[rowsO (bs L 0) (bs L 4)]{fullShare} EG fi fe) ∗ (pLoc d ↦[rowsP (bs L 0) (bs L 4)]{fullShare} LV fi fl))

set_option maxHeartbeats 4000000 in
theorem tile_body (hF : (K (F := F)).Facts) (q : PosShare TreeShare) (fi : S212992.Idx → BitVec 32) (hfi : IdxOK fi) (fe : S2600000x16.Idx → F .f32)
    (fl : S162500x16.Idx → F .f32) (O : CellTallies nD τ sig (HIx 2)) (W : Waits sig (HIx 2)) (hO : ∀ g, O g none = 0) :
    iprop(levAts (K (F := F)).L (K (F := F)).lev ∗ emp ∗ goRes d L q fi fe fl
        ∗ scopedBufs (thr d L) ∗ scopedSems0 (thr d L) ∗ owes (thr d L) O W)
      ⊢ wp frame (wpE (defs₀ (F := F)) 𝒱₀ (thr d L) none) Set.univ
          (cc2_gather_kernel L eV (Memref.isWhole_whole _) lV (Memref.isWhole_whole _) iV (Memref.isWhole_whole _) oV (Memref.isWhole_whole _) pV (Memref.isWhole_whole _)
            s0 (Memref.isWhole_whole _) s1 (Memref.isWhole_whole _) s2 (Memref.isWhole_whole _) s3 (Memref.isWhole_whole _) s4 (Memref.isWhole_whole _) s5 (Memref.isWhole_whole _)
            cc2_scratch6 cc2_scratch7 cc2_scoped0 cc2_scoped1 cc2_scoped2)
          fun _ => iprop(tdRes d L q fi fe fl
            ∗ scopedBufs (thr d L) ∗ scopedSems0 (thr d L)
            ∗ ∃ W', ⌜∀ p ∈ W', p ∈ W ∨ p.2 = none⌝ ∗ owes (thr d L) O W') := by
  simp only [cc2_gather_kernel_eq_skeleton]; unfold cc2_gather_kernel_skel goRes tdRes
  rw [(K (F := F)).scopedBufs_V hF d (cV L) (jV L), SparseCore.Cfg.scopedSems0_V (Val := Elt F) d (cV L) (jV L), ownSems0_V, ownBufs_V]
  iintro ⟨#Hlv, -, ⟨Hi, He, Hl, ⟨%fo, Ho⟩, ⟨%fp, Hp⟩⟩, ⟨⟨%f0, H0⟩, ⟨%f1, H1⟩, ⟨%f2, H2⟩, ⟨%f3, H3⟩, ⟨%f4, H4⟩, ⟨%f5, H5⟩, Hbufs⟩, ⟨Hc6, Hc7, Hd0, Hd1, Hd2, Hsems⟩, HO⟩
  ihave #Hmw := (show levAts (K (F := F)).L (K (F := F)).lev ⊢ Transfers.MayWaits (thr d L) (default : HIx 2) O from
    (K (F := F)).mayWaits_none (thr := thr d L) hO) $$ Hlv
  have hb4 : bs L 0 ≤ bs L 4 := by unfold bs; omega
  ihave Ho' := (split_rowsO (F := F) d (le_refl (bs L 0)) hb4 fo).1 $$ Ho
  icases Ho' with ⟨Ho0, Ho⟩
  ihave Hp' := (split_rowsP (F := F) d (le_refl (bs L 0)) hb4 fp).1 $$ Hp
  icases Hp' with ⟨Hp0, Hp⟩
  ihave Ho0 := (Entails.of_eq (pointsTo_congr (ℓ := oLoc d) (g := EG fi fe) (fun i hi => by
    have := (mem_rowsO (x := i)).mp hi; omega))) $$ Ho0
  ihave Hp0 := (Entails.of_eq (pointsTo_congr (ℓ := pLoc d) (g := LV fi fl) (fun i hi => by
    have := (mem_rowsP (x := i)).mp hi; omega))) $$ Hp0
  sl_for (inv1 (F := F) d L q fi fe fl O W) $$ [Hi He Hl Ho0 Ho Hp0 Hp H0 H1 H2 H3 H4 H5 Hc6 Hc7 Hd0 Hd1 Hd2 HO]
  case region => intro n _; exact trip1 d L q fi hfi fe fl O W n
  · unfold inv1
    isplitr; · iexact Hmw
    isplitl [Hi]; · iexact Hi
    isplitl [He]; · iexact He
    isplitl [Hl]; · iexact Hl
    isplitl [Ho0]; · iexact Ho0
    isplitl [Ho]; · iexists _; iexact Ho
    isplitl [Hp0]; · iexact Hp0
    isplitl [Hp]; · iexists _; iexact Hp
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [Hc6]; · iexact Hc6
    isplitl [Hc7]; · iexact Hc7
    isplitl [Hd0]; · iexact Hd0
    isplitl [Hd1]; · iexact Hd1
    isplitl [Hd2]; · iexact Hd2
    iexists W; isplitr
    · ipureintro; exact fun p hp => .inl hp
    · iexact HO
  iintro %_ HI
  ihave HI := (Entails.of_eq (congrArg (fun n => inv1 (F := F) d L q fi fe fl O W n ⟨⟩) (show k2_t1_loop.trips = 4 by decide))) $$ HI
  unfold inv1
  icases HI with ⟨-, Hi, He, Hl, Ho, -, Hp, -, ⟨%f0, H0⟩, ⟨%f1, H1⟩, ⟨%f2, H2⟩, ⟨%f3, H3⟩, ⟨%f4, H4⟩, ⟨%f5, H5⟩, Hc6, Hc7, Hd0, Hd1, Hd2, %W', %hW', HO⟩
  sl_step
  isplitl [Hi He Hl Ho Hp]
  · isplitl [Hi]; · iexact Hi
    isplitl [He]; · iexact He
    isplitl [Hl]; · iexact Hl
    isplitl [Ho]; · iexact Ho
    iexact Hp
  isplitl [H0 H1 H2 H3 H4 H5 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexact Hbufs
  isplitl [Hc6 Hc7 Hd0 Hd1 Hd2 Hsems]
  · isplitl [Hc6]; · iexact Hc6
    isplitl [Hc7]; · iexact Hc7
    isplitl [Hd0]; · iexact Hd0
    isplitl [Hd1]; · iexact Hd1
    isplitl [Hd2]; · iexact Hd2
    iexact Hsems
  iexists W'; isplitr
  · ipureintro; exact hW'
  · iexact HO

end Cert.Proof.Ideal.Gather2

end
-- ==== Proof.Ideal.Split2.lean ====
/-
  The second gather's operands shared out: each core a half of the list's and the tables' shares and its rows of the
  results, each tile a sixteenth of that and its own rows; and the results put together again, gathered.
-/
module

public import proofs.«01_k».proof.Proof.Ideal.Tile2

@[expose] public section

noncomputable section

namespace Cert.Proof.Ideal.Gather2

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "eV" => (Memref.whole main_arg1_scv : Memref sig Kind.scVector Space.hbm S2600000x16 EltTy.f32)
local notation "lV" => (Memref.whole main_v8_scv : Memref sig Kind.scVector Space.hbm S162500x16 EltTy.f32)
local notation "iV" => (Memref.whole main_v58_scv : Memref sig Kind.scVector Space.hbm S212992 EltTy.i32)
local notation "oV" => (Memref.whole main_v59_0_scv : Memref sig Kind.scVector Space.hbm S212992x16 EltTy.f32)
local notation "pV" => (Memref.whole main_v59_1_scv : Memref sig Kind.scVector Space.hbm S212992 EltTy.f32)
local notation "s0" => (Memref.whole cc2_scratch0 : Memref sig Kind.scVector Space.vmem S1664 EltTy.i32)
local notation "s1" => (Memref.whole cc2_scratch1 : Memref sig Kind.scVector Space.vmem S1664 EltTy.i32)
local notation "s2" => (Memref.whole cc2_scratch2 : Memref sig Kind.scVector Space.vmem S1664 EltTy.i32)
local notation "s3" => (Memref.whole cc2_scratch3 : Memref sig Kind.scVector Space.vmem S1664x16 EltTy.f32)
local notation "s4" => (Memref.whole cc2_scratch4 : Memref sig Kind.scVector Space.vmem S1664x16 EltTy.f32)
local notation "s5" => (Memref.whole cc2_scratch5 : Memref sig Kind.scVector Space.vmem S1664 EltTy.f32)

open Idealize.ShloMosaic.ShareLeaves

set_option maxRecDepth 16384

variable (d : Dev nD)

/-- The tile at core `c`, subcore `i`. -/
def crd (c : Fin 2) (i : Fin 16) : grid2.Coords :=
  fun | 0 => c | 1 => i | ⟨_ + 2, h⟩ => absurd h (Nat.not_lt.2 (Nat.le_add_left _ _))

theorem bs_crd (c : Fin 2) (i : Fin 16) (k : ℕ) : bs (crd c i) k = 13312 * i.val + 6656 * c.val + 1664 * k := rfl

abbrev tsO (c : Fin 2) (i : Fin 16) : Finset S212992x16.Idx := rowsO (bs (crd c i) 0) (bs (crd c i) 4)
abbrev tsP (c : Fin 2) (i : Fin 16) : Finset S212992.Idx := rowsP (bs (crd c i) 0) (bs (crd c i) 4)
/-- A core's rows. -/
def coreO (c : Fin 2) : Finset S212992x16.Idx := Finset.univ.biUnion (tsO c)
def coreP (c : Fin 2) : Finset S212992.Idx := Finset.univ.biUnion (tsP c)

theorem mem_tsO {c : Fin 2} {i : Fin 16} {x : S212992x16.Idx} :
    x ∈ tsO c i ↔ 13312 * i.val + 6656 * c.val ≤ (x 0).val ∧ (x 0).val < 13312 * i.val + 6656 * c.val + 6656 := by
  rw [mem_rowsO, bs_crd, bs_crd]; omega
theorem mem_tsP {c : Fin 2} {i : Fin 16} {x : S212992.Idx} :
    x ∈ tsP c i ↔ 13312 * i.val + 6656 * c.val ≤ (x 0).val ∧ (x 0).val < 13312 * i.val + 6656 * c.val + 6656 := by
  rw [mem_rowsP, bs_crd, bs_crd]; omega

theorem disj_tsO (c : Fin 2) : ∀ i ∈ (Finset.univ : Finset (Fin 16)), ∀ j ∈ (Finset.univ : Finset (Fin 16)), i ≠ j → Disjoint (tsO c i) (tsO c j) := by
  intro i _ j _ hij
  rw [Finset.disjoint_left]
  intro x hx hy
  rw [mem_tsO] at hx hy
  exact hij (Fin.ext (by omega))
theorem disj_tsP (c : Fin 2) : ∀ i ∈ (Finset.univ : Finset (Fin 16)), ∀ j ∈ (Finset.univ : Finset (Fin 16)), i ≠ j → Disjoint (tsP c i) (tsP c j) := by
  intro i _ j _ hij
  rw [Finset.disjoint_left]
  intro x hx hy
  rw [mem_tsP] at hx hy
  exact hij (Fin.ext (by omega))

theorem mem_coreO {c : Fin 2} {x : S212992x16.Idx} : x ∈ coreO c ↔ (x 0).val / 6656 % 2 = c.val := by
  unfold coreO
  rw [Finset.mem_biUnion]
  have hx : (x 0).val < 212992 := (x 0).isLt
  constructor
  · rintro ⟨i, -, hi⟩; rw [mem_tsO] at hi; have := c.isLt; omega
  · intro h
    refine ⟨⟨(x 0).val / 13312, by omega⟩, Finset.mem_univ _, mem_tsO.mpr ?_⟩
    show 13312 * ((x 0).val / 13312) + 6656 * c.val ≤ (x 0).val ∧ (x 0).val < 13312 * ((x 0).val / 13312) + 6656 * c.val + 6656
    omega
theorem mem_coreP {c : Fin 2} {x : S212992.Idx} : x ∈ coreP c ↔ (x 0).val / 6656 % 2 = c.val := by
  unfold coreP
  rw [Finset.mem_biUnion]
  have hx : (x 0).val < 212992 := (x 0).isLt
  constructor
  · rintro ⟨i, -, hi⟩; rw [mem_tsP] at hi; have := c.isLt; omega
  · intro h
    refine ⟨⟨(x 0).val / 13312, by omega⟩, Finset.mem_univ _, mem_tsP.mpr ?_⟩
    show 13312 * ((x 0).val / 13312) + 6656 * c.val ≤ (x 0).val ∧ (x 0).val < 13312 * ((x 0).val / 13312) + 6656 * c.val + 6656
    omega

theorem disj_coreO : ∀ i ∈ (Finset.univ : Finset (Fin 2)), ∀ j ∈ (Finset.univ : Finset (Fin 2)), i ≠ j → Disjoint (coreO i) (coreO j) := by
  intro i _ j _ hij
  rw [Finset.disjoint_left]
  intro x hx hy
  rw [mem_coreO] at hx hy
  exact hij (Fin.ext (by omega))
theorem disj_coreP : ∀ i ∈ (Finset.univ : Finset (Fin 2)), ∀ j ∈ (Finset.univ : Finset (Fin 2)), i ≠ j → Disjoint (coreP i) (coreP j) := by
  intro i _ j _ hij
  rw [Finset.disjoint_left]
  intro x hx hy
  rw [mem_coreP] at hx hy
  exact hij (Fin.ext (by omega))
theorem cover_coreO : (Finset.univ : Finset (Fin 2)).biUnion coreO = Finset.univ := by
  ext x
  simp only [Finset.mem_biUnion, Finset.mem_univ, true_and, iff_true]
  exact ⟨⟨(x 0).val / 6656 % 2, Nat.mod_lt _ (by decide)⟩, mem_coreO.mpr rfl⟩
theorem cover_coreP : (Finset.univ : Finset (Fin 2)).biUnion coreP = Finset.univ := by
  ext x
  simp only [Finset.mem_biUnion, Finset.mem_univ, true_and, iff_true]
  exact ⟨⟨(x 0).val / 6656 % 2, Nat.mod_lt _ (by decide)⟩, mem_coreP.mpr rfl⟩

/-! ## A core's share -/

/-- What core `c` is handed, -/
def coreGo (c : Fin 2) (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (∃ f : S212992x16.Idx → F .f32, oLoc d ↦[coreO c]{fullShare} f) ∗ (∃ f : S212992.Idx → F .f32, pLoc d ↦[coreP c]{fullShare} f))
/-- and what it hands back. -/
def coreDn (c : Fin 2) (q : PosShare TreeShare) (fi : S212992.Idx → BitVec 32) (fe : S2600000x16.Idx → F .f32) (fl : S162500x16.Idx → F .f32) : sProp 𝕄 :=
  iprop((iLoc d ↦{q} fi) ∗ (eLoc d ↦{q} fe) ∗ (lLoc d ↦{q} fl)
    ∗ (oLoc d ↦[coreO c]{fullShare} EG fi fe) ∗ (pLoc d ↦[coreP c]{fullShare} LV fi fl))

theorem i_leaves4 (q : PosShare TreeShare) (f : S212992.Idx → BitVec 32) :
    (iLoc d ↦{q} f : sProp 𝕄) = bigSep Finset.univ fun i : Fin 16 => iLoc d ↦{leaf 4 q i} f := pointsTo_leaves (Val := Elt F) (ℓ := iLoc d) Finset.univ f 4 q
theorem e_leaves4 (q : PosShare TreeShare) (f : S2600000x16.Idx → F .f32) :
    (eLoc d ↦{q} f : sProp 𝕄) = bigSep Finset.univ fun i : Fin 16 => eLoc d ↦{leaf 4 q i} f := pointsTo_leaves (Val := Elt F) (ℓ := eLoc d) Finset.univ f 4 q
theorem l_leaves4 (q : PosShare TreeShare) (f : S162500x16.Idx → F .f32) :
    (lLoc d ↦{q} f : sProp 𝕄) = bigSep Finset.univ fun i : Fin 16 => lLoc d ↦{leaf 4 q i} f := pointsTo_leaves (Val := Elt F) (ℓ := lLoc d) Finset.univ f 4 q
theorem i_leaves1 (q : PosShare TreeShare) (f : S212992.Idx → BitVec 32) :
    (iLoc d ↦{q} f : sProp 𝕄) = bigSep Finset.univ fun i : Fin 2 => iLoc d ↦{leaf 1 q i} f := pointsTo_leaves (Val := Elt F) (ℓ := iLoc d) Finset.univ f 1 q
theorem e_leaves1 (q : PosShare TreeShare) (f : S2600000x16.Idx → F .f32) :
    (eLoc d ↦{q} f : sProp 𝕄) = bigSep Finset.univ fun i : Fin 2 => eLoc d ↦{leaf 1 q i} f := pointsTo_leaves (Val := Elt F) (ℓ := eLoc d) Finset.univ f 1 q
theorem l_leaves1 (q : PosShare TreeShare) (f : S162500x16.Idx → F .f32) :
    (lLoc d ↦{q} f : sProp 𝕄) = bigSep Finset.univ fun i : Fin 2 => lLoc d ↦{leaf 1 q i} f := pointsTo_leaves (Val := Elt F) (ℓ := lLoc d) Finset.univ f 1 q
theorem o_tiles (c : Fin 2) (f : S212992x16.Idx → F .f32) :
    (oLoc d ↦[coreO c]{fullShare} f : sProp 𝕄) = bigSep Finset.univ fun i : Fin 16 => oLoc d ↦[tsO c i]{fullShare} f :=
  pointsTo_biUnion (Val := Elt F) (ℓ := oLoc d) (q := fullShare) (f := f) Finset.univ (tsO c) (disj_tsO c)
theorem o_cores (f : S212992x16.Idx → F .f32) :
    (oLoc d ↦{fullShare} f : sProp 𝕄) = bigSep Finset.univ fun c : Fin 2 => oLoc d ↦[coreO c]{fullShare} f :=
  (congrArg (fun S => (oLoc d ↦[S]{fullShare} f : sProp 𝕄)) cover_coreO.symm).trans
    (pointsTo_biUnion (Val := Elt F) (ℓ := oLoc d) (q := fullShare) (f := f) Finset.univ coreO disj_coreO)
theorem p_tiles (c : Fin 2) (f : S212992.Idx → F .f32) :
    (pLoc d ↦[coreP c]{fullShare} f : sProp 𝕄) = bigSep Finset.univ fun i : Fin 16 => pLoc d ↦[tsP c i]{fullShare} f :=
  pointsTo_biUnion (Val := Elt F) (ℓ := pLoc d) (q := fullShare) (f := f) Finset.univ (tsP c) (disj_tsP c)
theorem p_cores (f : S212992.Idx → F .f32) :
    (pLoc d ↦{fullShare} f : sProp 𝕄) = bigSep Finset.univ fun c : Fin 2 => pLoc d ↦[coreP c]{fullShare} f :=
  (congrArg (fun S => (pLoc d ↦[S]{fullShare} f : sProp 𝕄)) cover_coreP.symm).trans
    (pointsTo_biUnion (Val := Elt F) (ℓ := pLoc d) (q := fullShare) (f := f) Finset.univ coreP disj_coreP)

/-- Some contents for each. -/
theorem ex_of {I A : Type} (s : Finset I) (Φ : I → A → sProp 𝕄) (a : A) :
    (bigSep s fun i => Φ i a) ⊢ (bigSep s fun i => iprop(∃ a, Φ i a) : sProp 𝕄) :=
  bigSep_mono fun i _ => exists_intro (Φ := Φ i) a

theorem exO_split (c : Fin 2) : iprop(∃ f : S212992x16.Idx → F .f32, oLoc d ↦[coreO c]{fullShare} f)
    ⊢ (bigSep Finset.univ fun i : Fin 16 => iprop(∃ f : S212992x16.Idx → F .f32, oLoc d ↦[tsO c i]{fullShare} f) : sProp 𝕄) := by
  iintro ⟨%f, H⟩
  ihave H := (Entails.of_eq (o_tiles d c f)) $$ H
  iapply (ex_of (F := F) Finset.univ (fun (i : Fin 16) => fun f : S212992x16.Idx → F .f32 => (oLoc d ↦[tsO c i]{fullShare} f : sProp 𝕄)) f)
  iexact H
theorem exP_split (c : Fin 2) : iprop(∃ f : S212992.Idx → F .f32, pLoc d ↦[coreP c]{fullShare} f)
    ⊢ (bigSep Finset.univ fun i : Fin 16 => iprop(∃ f : S212992.Idx → F .f32, pLoc d ↦[tsP c i]{fullShare} f) : sProp 𝕄) := by
  iintro ⟨%f, H⟩
  ihave H := (Entails.of_eq (p_tiles d c f)) $$ H
  iapply (ex_of (F := F) Finset.univ (fun (i : Fin 16) => fun f : S212992.Idx → F .f32 => (pLoc d ↦[tsP c i]{fullShare} f : sProp 𝕄)) f)
  iexact H

/-- A core's share is its tiles', and the tiles' results are the core's. -/
theorem core_split (c : Fin 2) (q : PosShare TreeShare) (fi : S212992.Idx → BitVec 32) (fe : S2600000x16.Idx → F .f32) (fl : S162500x16.Idx → F .f32) :
    coreGo d c q fi fe fl ⊢ iprop((bigSep Finset.univ fun i : Fin 16 => goRes d (crd c i) (leaf 4 q i) fi fe fl)
      ∗ ((bigSep Finset.univ fun i : Fin 16 => tdRes d (crd c i) (leaf 4 q i) fi fe fl) -∗ coreDn d c q fi fe fl)) := by
  unfold coreGo coreDn goRes tdRes
  rw [bigSep_sep', bigSep_sep', bigSep_sep', bigSep_sep', bigSep_sep', bigSep_sep', bigSep_sep', bigSep_sep']
  rw [i_leaves4 d q fi, e_leaves4 d q fe, l_leaves4 d q fl]
  iintro ⟨Hi, He, Hl, Ho, Hp⟩
  ihave Ho := (exO_split (F := F) d c) $$ Ho
  ihave Hp := (exP_split (F := F) d c) $$ Hp
  isplitl [Hi He Hl Ho Hp]
  · isplitl [Hi]; · iexact Hi
    isplitl [He]; · iexact He
    isplitl [Hl]; · iexact Hl
    isplitl [Ho]; · iexact Ho
    iexact Hp
  iintro ⟨Hi, He, Hl, Ho, Hp⟩
  isplitl [Hi]; · iexact Hi
  isplitl [He]; · iexact He
  isplitl [Hl]; · iexact Hl
  isplitl [Ho]
  · iapply (Entails.of_eq (o_tiles d c (EG fi fe)).symm); iexact Ho
  · iapply (Entails.of_eq (p_tiles d c (LV fi fl)).symm); iexact Hp

/-- The arrays whole are the cores' shares, and the cores' results are the arrays'. -/
theorem tc_split (fi : S212992.Idx → BitVec 32) (fe : S2600000x16.Idx → F .f32) (fl : S162500x16.Idx → F .f32) (fo : S212992x16.Idx → F .f32) (fp : S212992.Idx → F .f32) :
    iprop((iLoc d ↦{fullShare} fi) ∗ (eLoc d ↦{fullShare} fe) ∗ (lLoc d ↦{fullShare} fl) ∗ (oLoc d ↦{fullShare} fo) ∗ (pLoc d ↦{fullShare} fp))
      ⊢ (bigSep Finset.univ fun c : Fin 2 => coreGo d c (leaf 1 fullShare c) fi fe fl : sProp 𝕄) := by
  unfold coreGo
  rw [bigSep_sep', bigSep_sep', bigSep_sep', bigSep_sep']
  rw [i_leaves1 d fullShare fi, e_leaves1 d fullShare fe, l_leaves1 d fullShare fl]
  iintro ⟨Hi, He, Hl, Ho, Hp⟩
  isplitl [Hi]; · iexact Hi
  isplitl [He]; · iexact He
  isplitl [Hl]; · iexact Hl
  isplitl [Ho]
  · ihave Ho := (Entails.of_eq (o_cores d (fo))) $$ Ho
    iapply (ex_of (F := F) Finset.univ (fun (i : Fin 2) => fun f : S212992x16.Idx → F .f32 => (oLoc d ↦[coreO i]{fullShare} f : sProp 𝕄)) fo)
    iexact Ho
  · ihave Hp := (Entails.of_eq (p_cores d (fp))) $$ Hp
    iapply (ex_of (F := F) Finset.univ (fun (i : Fin 2) => fun f : S212992.Idx → F .f32 => (pLoc d ↦[coreP i]{fullShare} f : sProp 𝕄)) fp)
    iexact Hp
theorem tc_join (fi : S212992.Idx → BitVec 32) (fe : S2600000x16.Idx → F .f32) (fl : S162500x16.Idx → F .f32) :
    (bigSep Finset.univ fun c : Fin 2 => coreDn d c (leaf 1 fullShare c) fi fe fl : sProp 𝕄)
      ⊢ iprop((iLoc d ↦{fullShare} fi) ∗ (eLoc d ↦{fullShare} fe) ∗ (lLoc d ↦{fullShare} fl) ∗ (oLoc d ↦{fullShare} EG fi fe) ∗ (pLoc d ↦{fullShare} LV fi fl)) := by
  unfold coreDn
  rw [bigSep_sep', bigSep_sep', bigSep_sep', bigSep_sep']
  rw [i_leaves1 d fullShare fi, e_leaves1 d fullShare fe, l_leaves1 d fullShare fl]
  iintro ⟨Hi, He, Hl, Ho, Hp⟩
  isplitl [Hi]; · iexact Hi
  isplitl [He]; · iexact He
  isplitl [Hl]; · iexact Hl
  isplitl [Ho]
  · iapply (Entails.of_eq (o_cores d (EG fi fe)).symm); iexact Ho
  · iapply (Entails.of_eq (p_cores d (LV fi fl)).symm); iexact Hp

end Cert.Proof.Ideal.Gather2

end
-- ==== Proof.Ideal.Launch.lean ====
/-
  The two SparseCore calls as the launch theorem takes them: what each handshake carries, how a core's share is cut into
  its tiles', and each tile's obligation.
-/
module

public import proofs.«01_k».proof.Proof.Ideal.Split0
public import proofs.«01_k».proof.Proof.Ideal.Split2

@[expose] public section

noncomputable section

namespace Cert.Proof.Ideal

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "eV" => (Memref.whole main_arg1_scv : Memref sig Kind.scVector Space.hbm S2600000x16 EltTy.f32)
local notation "lV" => (Memref.whole main_v8_scv : Memref sig Kind.scVector Space.hbm S162500x16 EltTy.f32)
local notation "iV" => (Memref.whole main_v53_scv : Memref sig Kind.scVector Space.hbm S212992 EltTy.i32)
local notation "oV" => (Memref.whole main_v54_0_scv : Memref sig Kind.scVector Space.hbm S212992x16 EltTy.f32)
local notation "pV" => (Memref.whole main_v54_1_scv : Memref sig Kind.scVector Space.hbm S212992 EltTy.f32)
local notation "s0" => (Memref.whole cc0_scratch0 : Memref sig Kind.scVector Space.vmem S1664 EltTy.i32)
local notation "s1" => (Memref.whole cc0_scratch1 : Memref sig Kind.scVector Space.vmem S1664 EltTy.i32)
local notation "s2" => (Memref.whole cc0_scratch2 : Memref sig Kind.scVector Space.vmem S1664 EltTy.i32)
local notation "s3" => (Memref.whole cc0_scratch3 : Memref sig Kind.scVector Space.vmem S1664x16 EltTy.f32)
local notation "s4" => (Memref.whole cc0_scratch4 : Memref sig Kind.scVector Space.vmem S1664x16 EltTy.f32)
local notation "s5" => (Memref.whole cc0_scratch5 : Memref sig Kind.scVector Space.vmem S1664 EltTy.f32)

open Idealize.ShloMosaic.ShareLeaves

/-- The contents of the calls' operands, on each device: the two index lists and the two tables. -/
structure Contents (F : FTy → Type) where
  fi0 : Dev nD → S212992.Idx → BitVec 32
  fi2 : Dev nD → S212992.Idx → BitVec 32
  fe : Dev nD → S2600000x16.Idx → F .f32
  fl : Dev nD → S162500x16.Idx → F .f32

variable (W : Contents F)

theorem nCore_0 : (K (F := F)).nCore 0 = 2 := rfl
theorem nSub_0 : (K (F := F)).nSub 0 = 16 := rfl
theorem nCore_2 : (K (F := F)).nCore 1 = 2 := rfl
theorem nSub_2 : (K (F := F)).nSub 1 = 16 := rfl

/-- What the handshakes carry: to a core and to a tile its share of the operands, back from them the rows gathered. -/
def P : (K (F := F)).Pay (nD := nD) (Val := Elt F) (Name := ℕ) (U := UU) where
  st := fun q d c => match q with
    | 0 => Gather0.coreGo d (Fin.cast nCore_0 c) (leaf 1 fullShare (Fin.cast nCore_0 c)) (W.fi0 d) (W.fe d) (W.fl d)
    | 1 => Gather2.coreGo d (Fin.cast nCore_2 c) (leaf 1 fullShare (Fin.cast nCore_2 c)) (W.fi2 d) (W.fe d) (W.fl d)
  dn := fun q d c => match q with
    | 0 => Gather0.coreDn d (Fin.cast nCore_0 c) (leaf 1 fullShare (Fin.cast nCore_0 c)) (W.fi0 d) (W.fe d) (W.fl d)
    | 1 => Gather2.coreDn d (Fin.cast nCore_2 c) (leaf 1 fullShare (Fin.cast nCore_2 c)) (W.fi2 d) (W.fe d) (W.fl d)
  go := fun q d c i => match q with
    | 0 => Gather0.goRes d (Gather0.crd (Fin.cast nCore_0 c) (Fin.cast nSub_0 i)) (leaf 4 (leaf 1 fullShare (Fin.cast nCore_0 c)) (Fin.cast nSub_0 i)) (W.fi0 d) (W.fe d) (W.fl d)
    | 1 => Gather2.goRes d (Gather2.crd (Fin.cast nCore_2 c) (Fin.cast nSub_2 i)) (leaf 4 (leaf 1 fullShare (Fin.cast nCore_2 c)) (Fin.cast nSub_2 i)) (W.fi2 d) (W.fe d) (W.fl d)
  td := fun q d c i => match q with
    | 0 => Gather0.tdRes d (Gather0.crd (Fin.cast nCore_0 c) (Fin.cast nSub_0 i)) (leaf 4 (leaf 1 fullShare (Fin.cast nCore_0 c)) (Fin.cast nSub_0 i)) (W.fi0 d) (W.fe d) (W.fl d)
    | 1 => Gather2.tdRes d (Gather2.crd (Fin.cast nCore_2 c) (Fin.cast nSub_2 i)) (leaf 4 (leaf 1 fullShare (Fin.cast nCore_2 c)) (Fin.cast nSub_2 i)) (W.fi2 d) (W.fe d) (W.fl d)
  x := fun _ _ => iprop(emp)

instance Gather0.coreGo_storable (d : Dev nD) (c : Fin 2) (q : PosShare TreeShare) (fi : S212992.Idx → BitVec 32) (fe : S2600000x16.Idx → F .f32) (fl : S162500x16.Idx → F .f32) :
    BI.Storable (upEmb : UEmb _ 𝕄) (Gather0.coreGo d c q fi fe fl) := by unfold Gather0.coreGo; infer_instance
instance Gather0.coreDn_storable (d : Dev nD) (c : Fin 2) (q : PosShare TreeShare) (fi : S212992.Idx → BitVec 32) (fe : S2600000x16.Idx → F .f32) (fl : S162500x16.Idx → F .f32) :
    BI.Storable (upEmb : UEmb _ 𝕄) (Gather0.coreDn d c q fi fe fl) := by unfold Gather0.coreDn; infer_instance
instance Gather0.goRes_storable (d : Dev nD) (c : grid0.Coords) (q : PosShare TreeShare) (fi : S212992.Idx → BitVec 32) (fe : S2600000x16.Idx → F .f32) (fl : S162500x16.Idx → F .f32) :
    BI.Storable (upEmb : UEmb _ 𝕄) (Gather0.goRes d c q fi fe fl) := by unfold Gather0.goRes; infer_instance
instance Gather0.tdRes_storable (d : Dev nD) (c : grid0.Coords) (q : PosShare TreeShare) (fi : S212992.Idx → BitVec 32) (fe : S2600000x16.Idx → F .f32) (fl : S162500x16.Idx → F .f32) :
    BI.Storable (upEmb : UEmb _ 𝕄) (Gather0.tdRes d c q fi fe fl) := by unfold Gather0.tdRes; infer_instance
instance Gather2.coreGo_storable (d : Dev nD) (c : Fin 2) (q : PosShare TreeShare) (fi : S212992.Idx → BitVec 32) (fe : S2600000x16.Idx → F .f32) (fl : S162500x16.Idx → F .f32) :
    BI.Storable (upEmb : UEmb _ 𝕄) (Gather2.coreGo d c q fi fe fl) := by unfold Gather2.coreGo; infer_instance
instance Gather2.coreDn_storable (d : Dev nD) (c : Fin 2) (q : PosShare TreeShare) (fi : S212992.Idx → BitVec 32) (fe : S2600000x16.Idx → F .f32) (fl : S162500x16.Idx → F .f32) :
    BI.Storable (upEmb : UEmb _ 𝕄) (Gather2.coreDn d c q fi fe fl) := by unfold Gather2.coreDn; infer_instance
instance Gather2.goRes_storable (d : Dev nD) (c : grid2.Coords) (q : PosShare TreeShare) (fi : S212992.Idx → BitVec 32) (fe : S2600000x16.Idx → F .f32) (fl : S162500x16.Idx → F .f32) :
    BI.Storable (upEmb : UEmb _ 𝕄) (Gather2.goRes d c q fi fe fl) := by unfold Gather2.goRes; infer_instance
instance Gather2.tdRes_storable (d : Dev nD) (c : grid2.Coords) (q : PosShare TreeShare) (fi : S212992.Idx → BitVec 32) (fe : S2600000x16.Idx → F .f32) (fl : S162500x16.Idx → F .f32) :
    BI.Storable (upEmb : UEmb _ 𝕄) (Gather2.tdRes d c q fi fe fl) := by unfold Gather2.tdRes; infer_instance

instance P_storable : (P (F := F) W).IsStorable where
  st q d c := match q with
    | 0 => Gather0.coreGo_storable d _ _ _ _ _
    | 1 => Gather2.coreGo_storable d _ _ _ _ _
  dn q d c := match q with
    | 0 => Gather0.coreDn_storable d _ _ _ _ _
    | 1 => Gather2.coreDn_storable d _ _ _ _ _
  go q d c i := match q with
    | 0 => Gather0.goRes_storable d _ _ _ _ _
    | 1 => Gather2.goRes_storable d _ _ _ _ _
  td q d c i := match q with
    | 0 => Gather0.tdRes_storable d _ _ _ _ _
    | 1 => Gather2.tdRes_storable d _ _ _ _ _

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0 -/

theorem tasks0 (Φ : Fin 16 → sProp 𝕄) :
    (bigSep Finset.univ fun i : Fin ((K (F := F)).nSub 0) => Φ (Fin.cast nSub_0 i)) = bigSep Finset.univ Φ :=
  bigSep_congr fun _ _ => congrArg Φ (Fin.ext rfl)
theorem cores0 (Φ : Fin 2 → sProp 𝕄) :
    (bigSep Finset.univ fun c : Fin ((K (F := F)).nCore 0) => Φ (Fin.cast nCore_0 c)) = bigSep Finset.univ Φ :=
  bigSep_congr fun _ _ => congrArg Φ (Fin.ext rfl)

theorem vecSplit0 : (K (F := F)).VecSplit' (P W) 0 := by
  intro d c
  show Gather0.coreGo d (Fin.cast nCore_0 c) (leaf 1 fullShare (Fin.cast nCore_0 c)) (W.fi0 d) (W.fe d) (W.fl d) ⊢ |={Set.univ}=> iprop(
      (bigSep Finset.univ fun i : Fin ((K (F := F)).nSub 0) => Gather0.goRes d (Gather0.crd (Fin.cast nCore_0 c) (Fin.cast nSub_0 i))
          (leaf 4 (leaf 1 fullShare (Fin.cast nCore_0 c)) (Fin.cast nSub_0 i)) (W.fi0 d) (W.fe d) (W.fl d))
      ∗ ((bigSep Finset.univ fun i : Fin ((K (F := F)).nSub 0) => Gather0.tdRes d (Gather0.crd (Fin.cast nCore_0 c) (Fin.cast nSub_0 i))
          (leaf 4 (leaf 1 fullShare (Fin.cast nCore_0 c)) (Fin.cast nSub_0 i)) (W.fi0 d) (W.fe d) (W.fl d))
          -∗ Gather0.coreDn d (Fin.cast nCore_0 c) (leaf 1 fullShare (Fin.cast nCore_0 c)) (W.fi0 d) (W.fe d) (W.fl d)))
  rw [tasks0 (F := F) (fun i => Gather0.goRes d (Gather0.crd (Fin.cast nCore_0 c) i) (leaf 4 (leaf 1 fullShare (Fin.cast nCore_0 c)) i) (W.fi0 d) (W.fe d) (W.fl d)),
    tasks0 (F := F) (fun i => Gather0.tdRes d (Gather0.crd (Fin.cast nCore_0 c) i) (leaf 4 (leaf 1 fullShare (Fin.cast nCore_0 c)) i) (W.fi0 d) (W.fe d) (W.fl d))]
  iintro H; imodintro
  iapply (Gather0.core_split (F := F) d (Fin.cast nCore_0 c) (leaf 1 fullShare (Fin.cast nCore_0 c)) (W.fi0 d) (W.fe d) (W.fl d)) $$ H

theorem body0 (c : Fin τ.nSC) (s : Fin τ.nSub) (h0 : c.val < grid0.bound 0) (h1 : s.val < grid0.bound 1) :
    defs₀ (F := F) (.scVector c s) 0 () = cc0_gather_kernel (Gather0.crd ⟨c.val, h0⟩ ⟨s.val, h1⟩)
      (Memref.whole main_arg1_scv) (Memref.isWhole_whole _) (Memref.whole main_v8_scv) (Memref.isWhole_whole _) (Memref.whole main_v53_scv) (Memref.isWhole_whole _) (Memref.whole main_v54_0_scv) (Memref.isWhole_whole _) (Memref.whole main_v54_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2 := by
  have hci : c.val < grid0.bound 0 ∧ s.val < grid0.bound 1 := ⟨h0, h1⟩
  rw [show defs₀ (F := F) (.scVector c s) 0 () = SparseCore.onTile hcore0 hsub0 (fun c s => cc0_gather_kernel (Gather0.crd c s)
      (Memref.whole main_arg1_scv) (Memref.isWhole_whole _) (Memref.whole main_v8_scv) (Memref.isWhole_whole _) (Memref.whole main_v53_scv) (Memref.isWhole_whole _) (Memref.whole main_v54_0_scv) (Memref.isWhole_whole _) (Memref.whole main_v54_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scoped0 cc0_scoped1 cc0_scoped2) ⟨⟩ c s from rfl]
  simp only [SparseCore.onTile, hci, and_self, ↓reduceDIte]
  rfl

set_option maxRecDepth 16384 in
theorem tileObl0 (hF : (K (F := F)).Facts) (hpre : ∀ d, IdxOK (W.fi0 d)) : (K (F := F)).TileObl (D (F := F)) 𝒱 (P W) v₀ 0 := by
  intro d c i O Wt hO _ _
  simp only [show (P W).ox = fun _ _ => 0 from rfl, add_zero]
  change _ ⊢ wp _ _ _ (Pipeline.liftProg (defs₀ (F := F) (.scVector ((K).core 0 c) ((K).sub 0 i)) 0 ())) _
  refine BI.Entails.trans ?_ (Pipeline.wp_liftProg D (Pipeline.defs_kernel pcfgs defs₀) 𝒱₀ _ Set.univ none _ _)
  rw [body0 ((K).core 0 c) ((K).sub 0 i) c.isLt i.isLt]
  exact (Gather0.tile_body d (Gather0.crd ⟨c.val, c.isLt⟩ ⟨i.val, i.isLt⟩) hF (leaf 4 (leaf 1 fullShare (Fin.cast nCore_0 c)) (Fin.cast nSub_0 i))
    (W.fi0 d) (hpre d) (W.fe d) (W.fl d) O Wt hO).trans (wp_mono frame _ _ fun _ => obl_post)

/-! ## Call 1 -/

theorem tasks2 (Φ : Fin 16 → sProp 𝕄) :
    (bigSep Finset.univ fun i : Fin ((K (F := F)).nSub 1) => Φ (Fin.cast nSub_2 i)) = bigSep Finset.univ Φ :=
  bigSep_congr fun _ _ => congrArg Φ (Fin.ext rfl)
theorem cores2 (Φ : Fin 2 → sProp 𝕄) :
    (bigSep Finset.univ fun c : Fin ((K (F := F)).nCore 1) => Φ (Fin.cast nCore_2 c)) = bigSep Finset.univ Φ :=
  bigSep_congr fun _ _ => congrArg Φ (Fin.ext rfl)

theorem vecSplit2 : (K (F := F)).VecSplit' (P W) 1 := by
  intro d c
  show Gather2.coreGo d (Fin.cast nCore_2 c) (leaf 1 fullShare (Fin.cast nCore_2 c)) (W.fi2 d) (W.fe d) (W.fl d) ⊢ |={Set.univ}=> iprop(
      (bigSep Finset.univ fun i : Fin ((K (F := F)).nSub 1) => Gather2.goRes d (Gather2.crd (Fin.cast nCore_2 c) (Fin.cast nSub_2 i))
          (leaf 4 (leaf 1 fullShare (Fin.cast nCore_2 c)) (Fin.cast nSub_2 i)) (W.fi2 d) (W.fe d) (W.fl d))
      ∗ ((bigSep Finset.univ fun i : Fin ((K (F := F)).nSub 1) => Gather2.tdRes d (Gather2.crd (Fin.cast nCore_2 c) (Fin.cast nSub_2 i))
          (leaf 4 (leaf 1 fullShare (Fin.cast nCore_2 c)) (Fin.cast nSub_2 i)) (W.fi2 d) (W.fe d) (W.fl d))
          -∗ Gather2.coreDn d (Fin.cast nCore_2 c) (leaf 1 fullShare (Fin.cast nCore_2 c)) (W.fi2 d) (W.fe d) (W.fl d)))
  rw [tasks2 (F := F) (fun i => Gather2.goRes d (Gather2.crd (Fin.cast nCore_2 c) i) (leaf 4 (leaf 1 fullShare (Fin.cast nCore_2 c)) i) (W.fi2 d) (W.fe d) (W.fl d)),
    tasks2 (F := F) (fun i => Gather2.tdRes d (Gather2.crd (Fin.cast nCore_2 c) i) (leaf 4 (leaf 1 fullShare (Fin.cast nCore_2 c)) i) (W.fi2 d) (W.fe d) (W.fl d))]
  iintro H; imodintro
  iapply (Gather2.core_split (F := F) d (Fin.cast nCore_2 c) (leaf 1 fullShare (Fin.cast nCore_2 c)) (W.fi2 d) (W.fe d) (W.fl d)) $$ H

theorem body2 (c : Fin τ.nSC) (s : Fin τ.nSub) (h0 : c.val < grid2.bound 0) (h1 : s.val < grid2.bound 1) :
    defs₀ (F := F) (.scVector c s) 2 () = cc2_gather_kernel (Gather2.crd ⟨c.val, h0⟩ ⟨s.val, h1⟩)
      (Memref.whole main_arg1_scv) (Memref.isWhole_whole _) (Memref.whole main_v8_scv) (Memref.isWhole_whole _) (Memref.whole main_v58_scv) (Memref.isWhole_whole _) (Memref.whole main_v59_0_scv) (Memref.isWhole_whole _) (Memref.whole main_v59_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scoped0 cc2_scoped1 cc2_scoped2 := by
  have hci : c.val < grid2.bound 0 ∧ s.val < grid2.bound 1 := ⟨h0, h1⟩
  rw [show defs₀ (F := F) (.scVector c s) 2 () = SparseCore.onTile hcore2 hsub2 (fun c s => cc2_gather_kernel (Gather2.crd c s)
      (Memref.whole main_arg1_scv) (Memref.isWhole_whole _) (Memref.whole main_v8_scv) (Memref.isWhole_whole _) (Memref.whole main_v58_scv) (Memref.isWhole_whole _) (Memref.whole main_v59_0_scv) (Memref.isWhole_whole _) (Memref.whole main_v59_1_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) cc2_scratch6 cc2_scratch7 cc2_scoped0 cc2_scoped1 cc2_scoped2) ⟨⟩ c s from rfl]
  simp only [SparseCore.onTile, hci, and_self, ↓reduceDIte]
  rfl

set_option maxRecDepth 16384 in
theorem tileObl2 (hF : (K (F := F)).Facts) (hpre : ∀ d, IdxOK (W.fi2 d)) : (K (F := F)).TileObl (D (F := F)) 𝒱 (P W) v₀ 1 := by
  intro d c i O Wt hO _ _
  simp only [show (P W).ox = fun _ _ => 0 from rfl, add_zero]
  change _ ⊢ wp _ _ _ (Pipeline.liftProg (defs₀ (F := F) (.scVector ((K).core 1 c) ((K).sub 1 i)) 2 ())) _
  refine BI.Entails.trans ?_ (Pipeline.wp_liftProg D (Pipeline.defs_kernel pcfgs defs₀) 𝒱₀ _ Set.univ none _ _)
  rw [body2 ((K).core 1 c) ((K).sub 1 i) c.isLt i.isLt]
  exact (Gather2.tile_body d (Gather2.crd ⟨c.val, c.isLt⟩ ⟨i.val, i.isLt⟩) hF (leaf 4 (leaf 1 fullShare (Fin.cast nCore_2 c)) (Fin.cast nSub_2 i))
    (W.fi2 d) (hpre d) (W.fe d) (W.fl d) O Wt hO).trans (wp_mono frame _ _ fun _ => obl_post)

end Cert.Proof.Ideal

end
-- ==== Proof.Ideal.Scs.lean ====
/-
  Each gather call on the TensorCore: the five buffers out of the held ones, the call, and back.
-/
module

public import proofs.«01_k».proof.Proof.Ideal.Launch
public import Idealize.ShloMosaic.Lib.StableHlo.Run
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Pipeline (Dat Cfg Window BodyObligation BodyObligationLoose cellOf)

variable {F : FTy → Type} [FloatOps F]

local notation "𝕄" => MT nD τ sig (HIx 2) (Elt F) ℕ UU ℕ

theorem mem_uc (b : Ref sig .tc) (h : ¬ b.isScoped) : Proc.devRef .tc b ∈ Pipeline.ucRefs τ sig :=
  Finset.mem_filter.2 ⟨Finset.mem_map.2 ⟨b, Finset.mem_univ _, rfl⟩, h⟩

/-- The buffers call 0 works on. -/
def scRefs0 : Finset (DevRef τ sig) :=
  {Proc.devRef .tc main_v53, Proc.devRef .tc main_arg1, Proc.devRef .tc main_v8, Proc.devRef .tc main_v54_0, Proc.devRef .tc main_v54_1}

theorem scRefs0_sub : scRefs0 ⊆ Pipeline.ucRefs τ sig := by
  intro b hb
  simp only [scRefs0, Finset.mem_insert, Finset.mem_singleton] at hb
  rcases hb with rfl | rfl | rfl | rfl | rfl <;>
    exact mem_uc _ (by decide)

/-- The valuation after call 0: the gathered rows and the selected lanes. -/
def scVal0 (V : Valuation τ sig (Elt F)) : Valuation τ sig (Elt F) :=
  Function.update (Function.update V (Proc.devRef .tc main_v54_0) (EG (V (Proc.devRef .tc main_v53)) (V (Proc.devRef .tc main_arg1)) : S212992x16.Idx → F .f32))
    (Proc.devRef .tc main_v54_1) (LV (V (Proc.devRef .tc main_v53)) (V (Proc.devRef .tc main_v8)) : S212992.Idx → F .f32)

theorem scVal0_off (V : Valuation τ sig (Elt F)) (b : Ref sig .tc) (h1 : b ≠ main_v54_0) (h2 : b ≠ main_v54_1) : scVal0 V (Proc.devRef .tc b) = V (Proc.devRef .tc b) := by
  unfold scVal0
  rw [Function.update_of_ne (StableHlo.devRef_ne_of_ne h2), Function.update_of_ne (StableHlo.devRef_ne_of_ne h1)]
theorem scVal0_o (V : Valuation τ sig (Elt F)) : scVal0 V (Proc.devRef .tc main_v54_0) = (EG (V (Proc.devRef .tc main_v53)) (V (Proc.devRef .tc main_arg1)) : S212992x16.Idx → F .f32) := by
  unfold scVal0
  rw [Function.update_of_ne (StableHlo.devRef_ne_of_ne (by decide)), Function.update_self]
theorem scVal0_p (V : Valuation τ sig (Elt F)) : scVal0 V (Proc.devRef .tc main_v54_1) = (LV (V (Proc.devRef .tc main_v53)) (V (Proc.devRef .tc main_v8)) : S212992.Idx → F .f32) := by
  unfold scVal0
  rw [Function.update_self]

theorem scVal0_rest (V : Valuation τ sig (Elt F)) : ∀ b ∈ Pipeline.ucRefs τ sig \ scRefs0, scVal0 V b = V b := by
  intro b hb
  have h := (Finset.mem_sdiff.1 hb).2
  simp only [scRefs0, Finset.mem_insert, Finset.mem_singleton, not_or] at h
  unfold scVal0
  rw [Function.update_of_ne h.2.2.2.2, Function.update_of_ne h.2.2.2.1]

theorem held_sc0 (d : Dev nD) (V : Valuation τ sig (Elt F)) :
    (StableHlo.held (T d) scRefs0 V : sProp 𝕄) = iprop((Gather0.iLoc d ↦{fullShare} V (Proc.devRef .tc main_v53)) ∗ (Gather0.eLoc d ↦{fullShare} V (Proc.devRef .tc main_arg1))
      ∗ (Gather0.lLoc d ↦{fullShare} V (Proc.devRef .tc main_v8)) ∗ (Gather0.oLoc d ↦{fullShare} V (Proc.devRef .tc main_v54_0)) ∗ (Gather0.pLoc d ↦{fullShare} V (Proc.devRef .tc main_v54_1))) := by
  unfold StableHlo.held scRefs0
  rw [SparseCore.bigSep_insert' (by decide), SparseCore.bigSep_insert' (by decide), SparseCore.bigSep_insert' (by decide), SparseCore.bigSep_insert' (by decide), bigSep_singleton]

theorem st0_eq (W : Contents F) (d : Dev nD) : (bigSep Finset.univ fun c : Fin ((K (F := F)).nCore 0) => (P W).st 0 d c)
    = (bigSep Finset.univ fun c : Fin 2 => Gather0.coreGo d c (leaf 1 fullShare c) (W.fi0 d) (W.fe d) (W.fl d) : sProp 𝕄) :=
  cores0 (fun c => Gather0.coreGo d c (leaf 1 fullShare c) (W.fi0 d) (W.fe d) (W.fl d))
theorem dn0_eq (W : Contents F) (d : Dev nD) : (bigSep Finset.univ fun c : Fin ((K (F := F)).nCore 0) => (P W).dn 0 d c)
    = (bigSep Finset.univ fun c : Fin 2 => Gather0.coreDn d c (leaf 1 fullShare c) (W.fi0 d) (W.fe d) (W.fl d) : sProp 𝕄) :=
  cores0 (fun c => Gather0.coreDn d c (leaf 1 fullShare c) (W.fi0 d) (W.fe d) (W.fl d))

/-- Call 0, from the held buffers. -/
theorem sc0_wp (W : Contents F) (κ : GSem nD τ sig → ℕ) (d : Dev nD) (V : Valuation τ sig (Elt F))
    (hi : V (Proc.devRef .tc main_v53) = W.fi0 d) (he : V (Proc.devRef .tc main_arg1) = W.fe d) (hl : V (Proc.devRef .tc main_v8) = W.fl d) (Q : PUnit → sProp 𝕄) :
    iprop((K (F := F)).ctx EH (P W) κ ∗ (K (F := F)).tcSt EH d 0 ∗ StableHlo.held (T d) (Pipeline.ucRefs τ sig) V
        ∗ (iprop((K (F := F)).tcSt EH d 1 ∗ StableHlo.held (T d) (Pipeline.ucRefs τ sig) (scVal0 V)) -∗ Q ⟨⟩))
      ⊢ wp frame (wpE ((K (F := F)).defs (D (F := F))) 𝒱 (T d) none) Set.univ (sc.run d 0) Q := by
  rw [StableHlo.held_sub_split (c := T d) scRefs0_sub V, StableHlo.held_sub_split (c := T d) scRefs0_sub (scVal0 V),
    StableHlo.held_congr (c := T d) (scVal0_rest V), held_sc0 d V, held_sc0 d (scVal0 V),
    scVal0_off V main_v53 (by decide) (by decide), scVal0_off V main_arg1 (by decide) (by decide), scVal0_off V main_v8 (by decide) (by decide),
    scVal0_o, scVal0_p, hi, he, hl]
  iintro ⟨#Hctx, Hst, ⟨⟨Hi, He, Hl, Ho, Hp⟩, Hr⟩, Hk⟩
  iapply ((K (F := F)).wp_run (D (F := F)) 𝒱 (EH := EH) (P := P W) κ d 0) $$ [Hst Hi He Hl Ho Hp Hr Hk]
  isplitr; · iexact Hctx
  isplitl [Hst]; · iexact Hst
  isplitl [Hi He Hl Ho Hp]
  · rw [st0_eq]
    iapply (Gather0.tc_split d (W.fi0 d) (W.fe d) (W.fl d) _ _) $$ [Hi He Hl Ho Hp]
    isplitl [Hi]; · iexact Hi
    isplitl [He]; · iexact He
    isplitl [Hl]; · iexact Hl
    isplitl [Ho]; · iexact Ho
    iexact Hp
  iintro ⟨Hst, Hdn⟩
  ihave Hdn1 := (Entails.of_eq (dn0_eq W d)) $$ Hdn
  ihave Hdn2 := (Gather0.tc_join d (W.fi0 d) (W.fe d) (W.fl d)) $$ Hdn1
  iapply Hk
  isplitl [Hst]; · iexact Hst
  isplitr [Hr]; · iexact Hdn2
  iexact Hr

/-- The buffers call 1 works on. -/
def scRefs2 : Finset (DevRef τ sig) :=
  {Proc.devRef .tc main_v58, Proc.devRef .tc main_arg1, Proc.devRef .tc main_v8, Proc.devRef .tc main_v59_0, Proc.devRef .tc main_v59_1}

theorem scRefs2_sub : scRefs2 ⊆ Pipeline.ucRefs τ sig := by
  intro b hb
  simp only [scRefs2, Finset.mem_insert, Finset.mem_singleton] at hb
  rcases hb with rfl | rfl | rfl | rfl | rfl <;>
    exact mem_uc _ (by decide)

/-- The valuation after call 1: the gathered rows and the selected lanes. -/
def scVal2 (V : Valuation τ sig (Elt F)) : Valuation τ sig (Elt F) :=
  Function.update (Function.update V (Proc.devRef .tc main_v59_0) (EG (V (Proc.devRef .tc main_v58)) (V (Proc.devRef .tc main_arg1)) : S212992x16.Idx → F .f32))
    (Proc.devRef .tc main_v59_1) (LV (V (Proc.devRef .tc main_v58)) (V (Proc.devRef .tc main_v8)) : S212992.Idx → F .f32)

theorem scVal2_off (V : Valuation τ sig (Elt F)) (b : Ref sig .tc) (h1 : b ≠ main_v59_0) (h2 : b ≠ main_v59_1) : scVal2 V (Proc.devRef .tc b) = V (Proc.devRef .tc b) := by
  unfold scVal2
  rw [Function.update_of_ne (StableHlo.devRef_ne_of_ne h2), Function.update_of_ne (StableHlo.devRef_ne_of_ne h1)]
theorem scVal2_o (V : Valuation τ sig (Elt F)) : scVal2 V (Proc.devRef .tc main_v59_0) = (EG (V (Proc.devRef .tc main_v58)) (V (Proc.devRef .tc main_arg1)) : S212992x16.Idx → F .f32) := by
  unfold scVal2
  rw [Function.update_of_ne (StableHlo.devRef_ne_of_ne (by decide)), Function.update_self]
theorem scVal2_p (V : Valuation τ sig (Elt F)) : scVal2 V (Proc.devRef .tc main_v59_1) = (LV (V (Proc.devRef .tc main_v58)) (V (Proc.devRef .tc main_v8)) : S212992.Idx → F .f32) := by
  unfold scVal2
  rw [Function.update_self]

theorem scVal2_rest (V : Valuation τ sig (Elt F)) : ∀ b ∈ Pipeline.ucRefs τ sig \ scRefs2, scVal2 V b = V b := by
  intro b hb
  have h := (Finset.mem_sdiff.1 hb).2
  simp only [scRefs2, Finset.mem_insert, Finset.mem_singleton, not_or] at h
  unfold scVal2
  rw [Function.update_of_ne h.2.2.2.2, Function.update_of_ne h.2.2.2.1]

theorem held_sc2 (d : Dev nD) (V : Valuation τ sig (Elt F)) :
    (StableHlo.held (T d) scRefs2 V : sProp 𝕄) = iprop((Gather2.iLoc d ↦{fullShare} V (Proc.devRef .tc main_v58)) ∗ (Gather2.eLoc d ↦{fullShare} V (Proc.devRef .tc main_arg1))
      ∗ (Gather2.lLoc d ↦{fullShare} V (Proc.devRef .tc main_v8)) ∗ (Gather2.oLoc d ↦{fullShare} V (Proc.devRef .tc main_v59_0)) ∗ (Gather2.pLoc d ↦{fullShare} V (Proc.devRef .tc main_v59_1))) := by
  unfold StableHlo.held scRefs2
  rw [SparseCore.bigSep_insert' (by decide), SparseCore.bigSep_insert' (by decide), SparseCore.bigSep_insert' (by decide), SparseCore.bigSep_insert' (by decide), bigSep_singleton]

theorem st2_eq (W : Contents F) (d : Dev nD) : (bigSep Finset.univ fun c : Fin ((K (F := F)).nCore 1) => (P W).st 1 d c)
    = (bigSep Finset.univ fun c : Fin 2 => Gather2.coreGo d c (leaf 1 fullShare c) (W.fi2 d) (W.fe d) (W.fl d) : sProp 𝕄) :=
  cores2 (fun c => Gather2.coreGo d c (leaf 1 fullShare c) (W.fi2 d) (W.fe d) (W.fl d))
theorem dn2_eq (W : Contents F) (d : Dev nD) : (bigSep Finset.univ fun c : Fin ((K (F := F)).nCore 1) => (P W).dn 1 d c)
    = (bigSep Finset.univ fun c : Fin 2 => Gather2.coreDn d c (leaf 1 fullShare c) (W.fi2 d) (W.fe d) (W.fl d) : sProp 𝕄) :=
  cores2 (fun c => Gather2.coreDn d c (leaf 1 fullShare c) (W.fi2 d) (W.fe d) (W.fl d))

/-- Call 1, from the held buffers. -/
theorem sc2_wp (W : Contents F) (κ : GSem nD τ sig → ℕ) (d : Dev nD) (V : Valuation τ sig (Elt F))
    (hi : V (Proc.devRef .tc main_v58) = W.fi2 d) (he : V (Proc.devRef .tc main_arg1) = W.fe d) (hl : V (Proc.devRef .tc main_v8) = W.fl d) (Q : PUnit → sProp 𝕄) :
    iprop((K (F := F)).ctx EH (P W) κ ∗ (K (F := F)).tcSt EH d 1 ∗ StableHlo.held (T d) (Pipeline.ucRefs τ sig) V
        ∗ (iprop((K (F := F)).tcSt EH d 2 ∗ StableHlo.held (T d) (Pipeline.ucRefs τ sig) (scVal2 V)) -∗ Q ⟨⟩))
      ⊢ wp frame (wpE ((K (F := F)).defs (D (F := F))) 𝒱 (T d) none) Set.univ (sc.run d 1) Q := by
  rw [StableHlo.held_sub_split (c := T d) scRefs2_sub V, StableHlo.held_sub_split (c := T d) scRefs2_sub (scVal2 V),
    StableHlo.held_congr (c := T d) (scVal2_rest V), held_sc2 d V, held_sc2 d (scVal2 V),
    scVal2_off V main_v58 (by decide) (by decide), scVal2_off V main_arg1 (by decide) (by decide), scVal2_off V main_v8 (by decide) (by decide),
    scVal2_o, scVal2_p, hi, he, hl]
  iintro ⟨#Hctx, Hst, ⟨⟨Hi, He, Hl, Ho, Hp⟩, Hr⟩, Hk⟩
  iapply ((K (F := F)).wp_run (D (F := F)) 𝒱 (EH := EH) (P := P W) κ d 1) $$ [Hst Hi He Hl Ho Hp Hr Hk]
  isplitr; · iexact Hctx
  isplitl [Hst]; · iexact Hst
  isplitl [Hi He Hl Ho Hp]
  · rw [st2_eq]
    iapply (Gather2.tc_split d (W.fi2 d) (W.fe d) (W.fl d) _ _) $$ [Hi He Hl Ho Hp]
    isplitl [Hi]; · iexact Hi
    isplitl [He]; · iexact He
    isplitl [Hl]; · iexact Hl
    isplitl [Ho]; · iexact Ho
    iexact Hp
  iintro ⟨Hst, Hdn⟩
  ihave Hdn1 := (Entails.of_eq (dn2_eq W d)) $$ Hdn
  ihave Hdn2 := (Gather2.tc_join d (W.fi2 d) (W.fe d) (W.fl d)) $$ Hdn1
  iapply Hk
  isplitl [Hst]; · iexact Hst
  isplitr [Hr]; · iexact Hdn2
  iexact Hr

end Cert.Proof.Ideal

end
-- ==== Proof.Ideal.Dense1.lean ====
/-
  One block of the first dense call: what its body computes from the sixteen blocks it reads, and that the body, run on
  its staging buffers, leaves just that in the result's.
-/
module

public import proofs.«01_k».proof.Proof.Ideal.Setup
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal.Dense1

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-- The transposed, rectified scores of a block; -/
def scoresT (x0 : Vec F S512x416 .f32) (x2 x3 : Vec F S1x416 .f32) (x4 : Vec F S416x26 .f32) (x5 x6 : Vec F S1x26 .f32) : FVec F S26x512 .f32 :=
  k1_pay3 x0 x2 x3 x4 x5 x6

/-- the mask of the eight kept features of each row, from the scores: the rank, counted feature by feature, below 8; -/
def keptT (x0 : Vec F S512x416 .f32) (x2 x3 : Vec F S1x416 .f32) (x4 : Vec F S416x26 .f32) (x5 x6 : Vec F S1x26 .f32) : IVec S26x512 1 :=
  let u := scoresT x0 x2 x3 x4 x5 x6
  let r : IVec S26x512 32 := iota .tc S26x512 32 [0] iota_S26x512_d0_w32
  k1_pay29 u r (k1_pay24 u r (k1_pay19 u r (k1_pay14 u r (k1_pay9 u r (k1_pay4 x0 x2 x3 x4 x5 x6) (k1_pay6 x0 x2 x3 x4 x5 x6) (k1_pay7 x0 x2 x3 x4 x5 x6) k1_pay8)
    (k1_pay11 u) (k1_pay12 u) k1_pay13) (k1_pay16 u) (k1_pay17 u) k1_pay18) (k1_pay21 u) (k1_pay22 u) k1_pay23) (k1_pay26 u) (k1_pay27 u) k1_pay28

/-- and the block's result: 512 probabilities. -/
def denseOut (x0 : Vec F S512x416 .f32) (x1 : Vec F S512x26 .f32) (x2 : Vec F S1x416 .f32) (x3 : Vec F S1x416 .f32) (x4 : Vec F S416x26 .f32) (x5 : Vec F S1x26 .f32) (x6 : Vec F S1x26 .f32) (x7 : Vec F S26x416 .f32) (x8 : Vec F S416x64 .f32) (x9 : Vec F S1x64 .f32) (x10 : Vec F S1x64 .f32) (x11 : Vec F S64x32 .f32) (x12 : Vec F S1x32 .f32) (x13 : Vec F S1x32 .f32) (x14 : Vec F S1x32 .f32) (x15 : Vec F S1x1 .f32) : Vec F S1x512 .f32 :=
  k1_pay1 (k1_pay31 (k1_pay2 x0 x2 x3) (scoresT x0 x2 x3 x4 x5 x6) (keptT x0 x2 x3 x4 x5 x6) (k1_pay30 (scoresT x0 x2 x3 x4 x5 x6)) x7 x8 x9 x10 x11 x12 x13)
    x14 x1 x15

set_option maxHeartbeats 1000000 in
/-- The body on whole staging buffers, the inputs' at their blocks: it leaves the inputs as they were and the result's
    buffer at `denseOut` of them. -/
theorem body_run (c : Dev nD) (i : grid1.Coords) (arg1 : Memref sig .tc .vmem S512x416 .f32) (harg1 : arg1.IsWhole) (arg2 : Memref sig .tc .vmem S512x26 .f32) (harg2 : arg2.IsWhole) (arg3 : Memref sig .tc .vmem S1x416 .f32) (harg3 : arg3.IsWhole) (arg4 : Memref sig .tc .vmem S1x416 .f32) (harg4 : arg4.IsWhole) (arg5 : Memref sig .tc .vmem S416x26 .f32) (harg5 : arg5.IsWhole) (arg6 : Memref sig .tc .vmem S1x26 .f32) (harg6 : arg6.IsWhole) (arg7 : Memref sig .tc .vmem S1x26 .f32) (harg7 : arg7.IsWhole) (arg8 : Memref sig .tc .vmem S26x416 .f32) (harg8 : arg8.IsWhole) (arg9 : Memref sig .tc .vmem S416x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S1x512 .f32) (harg17 : arg17.IsWhole)
    (x0 : Vec F S512x416 .f32) (x1 : Vec F S512x26 .f32) (x2 : Vec F S1x416 .f32) (x3 : Vec F S1x416 .f32) (x4 : Vec F S416x26 .f32) (x5 : Vec F S1x26 .f32) (x6 : Vec F S1x26 .f32) (x7 : Vec F S26x416 .f32) (x8 : Vec F S416x64 .f32) (x9 : Vec F S1x64 .f32) (x10 : Vec F S1x64 .f32) (x11 : Vec F S64x32 .f32) (x12 : Vec F S1x32 .f32) (x13 : Vec F S1x32 .f32) (x14 : Vec F S1x32 .f32) (x15 : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (denseOut x0 x1 x2 x3 x4 x5 x6 x7 x8 x9 x10 x11 x12 x13 x14 x15)) -∗ Q ⟨⟩))
      ⊢ wp frame (wpE (defs₀ (F := F)) 𝒱₀ c none) E (cc1__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc1__dense_body_eq_skeleton]; unfold cc1__dense_body_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  iexists _; isplitr
  swap; · iexact H16
  ipureintro
  refine (View.read_writes_full _ _ _ _ _).trans ?_
  have e0 : (View.readAt (Elt F) arg1.view (Rect.unit (s := S512x416) ![0, 0] S512x416.size inb_S512x416_S512x416_0_0).toLoadRect (harg1.unread x0)) = x0 := (View.readAt_full _ _ _).trans (harg1.read_unread _)
  have e1 : (View.readAt (Elt F) arg2.view (Rect.unit (s := S512x26) ![0, 0] S512x26.size inb_S512x26_S512x26_0_0).toLoadRect (harg2.unread x1)) = x1 := (View.readAt_full _ _ _).trans (harg2.read_unread _)
  have e2 : (View.readAt (Elt F) arg3.view (Rect.unit (s := S1x416) ![0, 0] S1x416.size inb_S1x416_S1x416_0_0).toLoadRect (harg3.unread x2)) = x2 := (View.readAt_full _ _ _).trans (harg3.read_unread _)
  have e3 : (View.readAt (Elt F) arg4.view (Rect.unit (s := S1x416) ![0, 0] S1x416.size inb_S1x416_S1x416_0_0).toLoadRect (harg4.unread x3)) = x3 := (View.readAt_full _ _ _).trans (harg4.read_unread _)
  have e4 : (View.readAt (Elt F) arg5.view (Rect.unit (s := S416x26) ![0, 0] S416x26.size inb_S416x26_S416x26_0_0).toLoadRect (harg5.unread x4)) = x4 := (View.readAt_full _ _ _).trans (harg5.read_unread _)
  have e5 : (View.readAt (Elt F) arg6.view (Rect.unit (s := S1x26) ![0, 0] S1x26.size inb_S1x26_S1x26_0_0).toLoadRect (harg6.unread x5)) = x5 := (View.readAt_full _ _ _).trans (harg6.read_unread _)
  have e6 : (View.readAt (Elt F) arg7.view (Rect.unit (s := S1x26) ![0, 0] S1x26.size inb_S1x26_S1x26_0_0).toLoadRect (harg7.unread x6)) = x6 := (View.readAt_full _ _ _).trans (harg7.read_unread _)
  have e7 : (View.readAt (Elt F) arg8.view (Rect.unit (s := S26x416) ![0, 0] S26x416.size inb_S26x416_S26x416_0_0).toLoadRect (harg8.unread x7)) = x7 := (View.readAt_full _ _ _).trans (harg8.read_unread _)
  have e8 : (View.readAt (Elt F) arg9.view (Rect.unit (s := S416x64) ![0, 0] S416x64.size inb_S416x64_S416x64_0_0).toLoadRect (harg9.unread x8)) = x8 := (View.readAt_full _ _ _).trans (harg9.read_unread _)
  have e9 : (View.readAt (Elt F) arg10.view (Rect.unit (s := S1x64) ![0, 0] S1x64.size inb_S1x64_S1x64_0_0).toLoadRect (harg10.unread x9)) = x9 := (View.readAt_full _ _ _).trans (harg10.read_unread _)
  have e10 : (View.readAt (Elt F) arg11.view (Rect.unit (s := S1x64) ![0, 0] S1x64.size inb_S1x64_S1x64_0_0).toLoadRect (harg11.unread x10)) = x10 := (View.readAt_full _ _ _).trans (harg11.read_unread _)
  have e11 : (View.readAt (Elt F) arg12.view (Rect.unit (s := S64x32) ![0, 0] S64x32.size inb_S64x32_S64x32_0_0).toLoadRect (harg12.unread x11)) = x11 := (View.readAt_full _ _ _).trans (harg12.read_unread _)
  have e12 : (View.readAt (Elt F) arg13.view (Rect.unit (s := S1x32) ![0, 0] S1x32.size inb_S1x32_S1x32_0_0).toLoadRect (harg13.unread x12)) = x12 := (View.readAt_full _ _ _).trans (harg13.read_unread _)
  have e13 : (View.readAt (Elt F) arg14.view (Rect.unit (s := S1x32) ![0, 0] S1x32.size inb_S1x32_S1x32_0_0).toLoadRect (harg14.unread x13)) = x13 := (View.readAt_full _ _ _).trans (harg14.read_unread _)
  have e14 : (View.readAt (Elt F) arg15.view (Rect.unit (s := S1x32) ![0, 0] S1x32.size inb_S1x32_S1x32_0_0).toLoadRect (harg15.unread x14)) = x14 := (View.readAt_full _ _ _).trans (harg15.read_unread _)
  have e15 : (View.readAt (Elt F) arg16.view (Rect.unit (s := S1x1) ![0, 0] S1x1.size inb_S1x1_S1x1_0_0).toLoadRect (harg16.unread x15)) = x15 := (View.readAt_full _ _ _).trans (harg16.read_unread _)
  refine Eq.trans (b := denseOut (View.readAt (Elt F) arg1.view (Rect.unit (s := S512x416) ![0, 0] S512x416.size inb_S512x416_S512x416_0_0).toLoadRect (harg1.unread x0))
    (View.readAt (Elt F) arg2.view (Rect.unit (s := S512x26) ![0, 0] S512x26.size inb_S512x26_S512x26_0_0).toLoadRect (harg2.unread x1))
    (View.readAt (Elt F) arg3.view (Rect.unit (s := S1x416) ![0, 0] S1x416.size inb_S1x416_S1x416_0_0).toLoadRect (harg3.unread x2))
    (View.readAt (Elt F) arg4.view (Rect.unit (s := S1x416) ![0, 0] S1x416.size inb_S1x416_S1x416_0_0).toLoadRect (harg4.unread x3))
    (View.readAt (Elt F) arg5.view (Rect.unit (s := S416x26) ![0, 0] S416x26.size inb_S416x26_S416x26_0_0).toLoadRect (harg5.unread x4))
    (View.readAt (Elt F) arg6.view (Rect.unit (s := S1x26) ![0, 0] S1x26.size inb_S1x26_S1x26_0_0).toLoadRect (harg6.unread x5))
    (View.readAt (Elt F) arg7.view (Rect.unit (s := S1x26) ![0, 0] S1x26.size inb_S1x26_S1x26_0_0).toLoadRect (harg7.unread x6))
    (View.readAt (Elt F) arg8.view (Rect.unit (s := S26x416) ![0, 0] S26x416.size inb_S26x416_S26x416_0_0).toLoadRect (harg8.unread x7))
    (View.readAt (Elt F) arg9.view (Rect.unit (s := S416x64) ![0, 0] S416x64.size inb_S416x64_S416x64_0_0).toLoadRect (harg9.unread x8))
    (View.readAt (Elt F) arg10.view (Rect.unit (s := S1x64) ![0, 0] S1x64.size inb_S1x64_S1x64_0_0).toLoadRect (harg10.unread x9))
    (View.readAt (Elt F) arg11.view (Rect.unit (s := S1x64) ![0, 0] S1x64.size inb_S1x64_S1x64_0_0).toLoadRect (harg11.unread x10))
    (View.readAt (Elt F) arg12.view (Rect.unit (s := S64x32) ![0, 0] S64x32.size inb_S64x32_S64x32_0_0).toLoadRect (harg12.unread x11))
    (View.readAt (Elt F) arg13.view (Rect.unit (s := S1x32) ![0, 0] S1x32.size inb_S1x32_S1x32_0_0).toLoadRect (harg13.unread x12))
    (View.readAt (Elt F) arg14.view (Rect.unit (s := S1x32) ![0, 0] S1x32.size inb_S1x32_S1x32_0_0).toLoadRect (harg14.unread x13))
    (View.readAt (Elt F) arg15.view (Rect.unit (s := S1x32) ![0, 0] S1x32.size inb_S1x32_S1x32_0_0).toLoadRect (harg15.unread x14))
    (View.readAt (Elt F) arg16.view (Rect.unit (s := S1x1) ![0, 0] S1x1.size inb_S1x1_S1x1_0_0).toLoadRect (harg16.unread x15))) rfl ?_
  rw [e0, e1, e2, e3, e4, e5, e6, e7, e8, e9, e10, e11, e12, e13, e14, e15]

end Cert.Proof.Ideal.Dense1

end
-- ==== Proof.Ideal.Region1.lean ====
/-
  The first dense call as a grid of sixteen points: what each window's staging buffer holds before and after each point,
  and that the body, called at a point, takes the one to the other.
-/
module

public import proofs.«01_k».proof.Proof.Ideal.Dense1
public import Idealize.ShloMosaic.Lib.Pipeline.RegionArrays
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal.Dense1

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

variable (V : (c : Dev nD) → (b : Ref sig .tc) → Buf (Elt F) ((c : Thread nD τ).loc b)) (O : Dev nD → CellTallies nD τ sig (HIx 2))
  (Rec : Dev nD → Set (SemLoc sig × HIx 2))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result's block at point `t`. -/
def outBlk (c : Dev nD) (t : Fin cfg1.N) : Vec F S1x512 .f32 :=
  denseOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t)

/-- The proof data: an input's buffer keeps its block, the result's ends at its block; the core owes `O` throughout and
    its recorded waits stay within `Rec`. -/
def dat (c : Dev nD) : Dat τ (Elt F) (HIx 2) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => outBlk V c t
    | ⟨_ + 17, h⟩ => absurd h (Nat.not_lt.2 (Nat.le_add_left _ _))
  Φ _ := iprop(Pipeline.scopedRest (Ix := HIx 2) (Name := ℕ) (U := UU) (Lvl := ℕ) (Val := Elt F) spec1 c ∗ ∃ r, prngReg c r)
  q _ := fullShare
  owed _ := O c
  recorded _ := Rec c

local notation "𝕕" => dat V O Rec

theorem A_eq (c : Dev nD) (w : Fin cfg1.W) : (𝕕 c).A w = V c (Pipeline.arrRef spec1 w) := by
  dsimp only [dat]

/-! Each input window's buffer holds its block at every point, fetched there or not. -/

theorem before_0 (c : Dev nD) (t : Fin cfg1.N) (d) : (𝕕 c).before 0 t d = iblk V c 0 t :=
  ((𝕕 c).before_in_eq_fetched 0 rfl (fun _ => rfl) (fun _ _ _ => rfl) (fun t => by dsimp only [dat]; rfl) t d).trans
    (by unfold Dat.fetched Dat.blockOf iblk; rw [A_eq]; try rfl)
theorem before_1 (c : Dev nD) (t : Fin cfg1.N) (d) : (𝕕 c).before 1 t d = iblk V c 1 t :=
  ((𝕕 c).before_in_eq_fetched 1 rfl (fun _ => rfl) (fun _ _ _ => rfl) (fun t => by dsimp only [dat]; rfl) t d).trans
    (by unfold Dat.fetched Dat.blockOf iblk; rw [A_eq]; try rfl)
theorem before_2 (c : Dev nD) (t : Fin cfg1.N) (d) : (𝕕 c).before 2 t d = iblk V c 2 t :=
  ((𝕕 c).before_in_eq_fetched 2 rfl (fun _ => rfl) (fun _ _ _ => rfl) (fun t => by dsimp only [dat]; rfl) t d).trans
    (by unfold Dat.fetched Dat.blockOf iblk; rw [A_eq]; try rfl)
theorem before_3 (c : Dev nD) (t : Fin cfg1.N) (d) : (𝕕 c).before 3 t d = iblk V c 3 t :=
  ((𝕕 c).before_in_eq_fetched 3 rfl (fun _ => rfl) (fun _ _ _ => rfl) (fun t => by dsimp only [dat]; rfl) t d).trans
    (by unfold Dat.fetched Dat.blockOf iblk; rw [A_eq]; try rfl)
theorem before_4 (c : Dev nD) (t : Fin cfg1.N) (d) : (𝕕 c).before 4 t d = iblk V c 4 t :=
  ((𝕕 c).before_in_eq_fetched 4 rfl (fun _ => rfl) (fun _ _ _ => rfl) (fun t => by dsimp only [dat]; rfl) t d).trans
    (by unfold Dat.fetched Dat.blockOf iblk; rw [A_eq]; try rfl)
theorem before_5 (c : Dev nD) (t : Fin cfg1.N) (d) : (𝕕 c).before 5 t d = iblk V c 5 t :=
  ((𝕕 c).before_in_eq_fetched 5 rfl (fun _ => rfl) (fun _ _ _ => rfl) (fun t => by dsimp only [dat]; rfl) t d).trans
    (by unfold Dat.fetched Dat.blockOf iblk; rw [A_eq]; try rfl)
theorem before_6 (c : Dev nD) (t : Fin cfg1.N) (d) : (𝕕 c).before 6 t d = iblk V c 6 t :=
  ((𝕕 c).before_in_eq_fetched 6 rfl (fun _ => rfl) (fun _ _ _ => rfl) (fun t => by dsimp only [dat]; rfl) t d).trans
    (by unfold Dat.fetched Dat.blockOf iblk; rw [A_eq]; try rfl)
theorem before_7 (c : Dev nD) (t : Fin cfg1.N) (d) : (𝕕 c).before 7 t d = iblk V c 7 t :=
  ((𝕕 c).before_in_eq_fetched 7 rfl (fun _ => rfl) (fun _ _ _ => rfl) (fun t => by dsimp only [dat]; rfl) t d).trans
    (by unfold Dat.fetched Dat.blockOf iblk; rw [A_eq]; try rfl)
theorem before_8 (c : Dev nD) (t : Fin cfg1.N) (d) : (𝕕 c).before 8 t d = iblk V c 8 t :=
  ((𝕕 c).before_in_eq_fetched 8 rfl (fun _ => rfl) (fun _ _ _ => rfl) (fun t => by dsimp only [dat]; rfl) t d).trans
    (by unfold Dat.fetched Dat.blockOf iblk; rw [A_eq]; try rfl)
theorem before_9 (c : Dev nD) (t : Fin cfg1.N) (d) : (𝕕 c).before 9 t d = iblk V c 9 t :=
  ((𝕕 c).before_in_eq_fetched 9 rfl (fun _ => rfl) (fun _ _ _ => rfl) (fun t => by dsimp only [dat]; rfl) t d).trans
    (by unfold Dat.fetched Dat.blockOf iblk; rw [A_eq]; try rfl)
theorem before_10 (c : Dev nD) (t : Fin cfg1.N) (d) : (𝕕 c).before 10 t d = iblk V c 10 t :=
  ((𝕕 c).before_in_eq_fetched 10 rfl (fun _ => rfl) (fun _ _ _ => rfl) (fun t => by dsimp only [dat]; rfl) t d).trans
    (by unfold Dat.fetched Dat.blockOf iblk; rw [A_eq]; try rfl)
theorem before_11 (c : Dev nD) (t : Fin cfg1.N) (d) : (𝕕 c).before 11 t d = iblk V c 11 t :=
  ((𝕕 c).before_in_eq_fetched 11 rfl (fun _ => rfl) (fun _ _ _ => rfl) (fun t => by dsimp only [dat]; rfl) t d).trans
    (by unfold Dat.fetched Dat.blockOf iblk; rw [A_eq]; try rfl)
theorem before_12 (c : Dev nD) (t : Fin cfg1.N) (d) : (𝕕 c).before 12 t d = iblk V c 12 t :=
  ((𝕕 c).before_in_eq_fetched 12 rfl (fun _ => rfl) (fun _ _ _ => rfl) (fun t => by dsimp only [dat]; rfl) t d).trans
    (by unfold Dat.fetched Dat.blockOf iblk; rw [A_eq]; try rfl)
theorem before_13 (c : Dev nD) (t : Fin cfg1.N) (d) : (𝕕 c).before 13 t d = iblk V c 13 t :=
  ((𝕕 c).before_in_eq_fetched 13 rfl (fun _ => rfl) (fun _ _ _ => rfl) (fun t => by dsimp only [dat]; rfl) t d).trans
    (by unfold Dat.fetched Dat.blockOf iblk; rw [A_eq]; try rfl)
theorem before_14 (c : Dev nD) (t : Fin cfg1.N) (d) : (𝕕 c).before 14 t d = iblk V c 14 t :=
  ((𝕕 c).before_in_eq_fetched 14 rfl (fun _ => rfl) (fun _ _ _ => rfl) (fun t => by dsimp only [dat]; rfl) t d).trans
    (by unfold Dat.fetched Dat.blockOf iblk; rw [A_eq]; try rfl)
theorem before_15 (c : Dev nD) (t : Fin cfg1.N) (d) : (𝕕 c).before 15 t d = iblk V c 15 t :=
  ((𝕕 c).before_in_eq_fetched 15 rfl (fun _ => rfl) (fun _ _ _ => rfl) (fun t => by dsimp only [dat]; rfl) t d).trans
    (by unfold Dat.fetched Dat.blockOf iblk; rw [A_eq]; try rfl)

/-- The result's buffer after the body. -/
theorem after_16 (c : Dev nD) (t : Fin cfg1.N) : (𝕕 c).after 16 t = outBlk V c t := by dsimp only [dat]

set_option maxHeartbeats 1600000 in
/-- The body called at point `t`, the windows one by one. -/
theorem sound_body (ι : HIx 2) (c : Dev nD) (t : Fin cfg1.N) :
    (iprop((𝕕 c).Φ t.castSucc ∗ (𝕕 c).owesAt ι t.castSucc
      ∗ (∃ d, owns (c : Thread nD τ) (win1_0.stage (cfg1.slots t 0)) fullShare ((𝕕 c).before 0 t d))
      ∗ (∃ d, owns (c : Thread nD τ) (win1_1.stage (cfg1.slots t 1)) fullShare ((𝕕 c).before 1 t d))
      ∗ (∃ d, owns (c : Thread nD τ) (win1_2.stage (cfg1.slots t 2)) fullShare ((𝕕 c).before 2 t d))
      ∗ (∃ d, owns (c : Thread nD τ) (win1_3.stage (cfg1.slots t 3)) fullShare ((𝕕 c).before 3 t d))
      ∗ (∃ d, owns (c : Thread nD τ) (win1_4.stage (cfg1.slots t 4)) fullShare ((𝕕 c).before 4 t d))
      ∗ (∃ d, owns (c : Thread nD τ) (win1_5.stage (cfg1.slots t 5)) fullShare ((𝕕 c).before 5 t d))
      ∗ (∃ d, owns (c : Thread nD τ) (win1_6.stage (cfg1.slots t 6)) fullShare ((𝕕 c).before 6 t d))
      ∗ (∃ d, owns (c : Thread nD τ) (win1_7.stage (cfg1.slots t 7)) fullShare ((𝕕 c).before 7 t d))
      ∗ (∃ d, owns (c : Thread nD τ) (win1_8.stage (cfg1.slots t 8)) fullShare ((𝕕 c).before 8 t d))
      ∗ (∃ d, owns (c : Thread nD τ) (win1_9.stage (cfg1.slots t 9)) fullShare ((𝕕 c).before 9 t d))
      ∗ (∃ d, owns (c : Thread nD τ) (win1_10.stage (cfg1.slots t 10)) fullShare ((𝕕 c).before 10 t d))
      ∗ (∃ d, owns (c : Thread nD τ) (win1_11.stage (cfg1.slots t 11)) fullShare ((𝕕 c).before 11 t d))
      ∗ (∃ d, owns (c : Thread nD τ) (win1_12.stage (cfg1.slots t 12)) fullShare ((𝕕 c).before 12 t d))
      ∗ (∃ d, owns (c : Thread nD τ) (win1_13.stage (cfg1.slots t 13)) fullShare ((𝕕 c).before 13 t d))
      ∗ (∃ d, owns (c : Thread nD τ) (win1_14.stage (cfg1.slots t 14)) fullShare ((𝕕 c).before 14 t d))
      ∗ (∃ d, owns (c : Thread nD τ) (win1_15.stage (cfg1.slots t 15)) fullShare ((𝕕 c).before 15 t d))
      ∗ (∃ d, owns (c : Thread nD τ) (win1_16.stage (cfg1.slots t 16)) fullShare ((𝕕 c).before 16 t d))) : sProp 𝕄)
    ⊢ wp frame (wpE (defs₀ (F := F)) 𝒱₀ c none) Set.univ (bodyAt1 t) (fun _ => iprop((𝕕 c).Φ t.succ ∗ (𝕕 c).owesAt ι t.succ
      ∗ owns (c : Thread nD τ) (win1_0.stage (cfg1.slots t 0)) fullShare ((𝕕 c).after 0 t)
      ∗ owns (c : Thread nD τ) (win1_1.stage (cfg1.slots t 1)) fullShare ((𝕕 c).after 1 t)
      ∗ owns (c : Thread nD τ) (win1_2.stage (cfg1.slots t 2)) fullShare ((𝕕 c).after 2 t)
      ∗ owns (c : Thread nD τ) (win1_3.stage (cfg1.slots t 3)) fullShare ((𝕕 c).after 3 t)
      ∗ owns (c : Thread nD τ) (win1_4.stage (cfg1.slots t 4)) fullShare ((𝕕 c).after 4 t)
      ∗ owns (c : Thread nD τ) (win1_5.stage (cfg1.slots t 5)) fullShare ((𝕕 c).after 5 t)
      ∗ owns (c : Thread nD τ) (win1_6.stage (cfg1.slots t 6)) fullShare ((𝕕 c).after 6 t)
      ∗ owns (c : Thread nD τ) (win1_7.stage (cfg1.slots t 7)) fullShare ((𝕕 c).after 7 t)
      ∗ owns (c : Thread nD τ) (win1_8.stage (cfg1.slots t 8)) fullShare ((𝕕 c).after 8 t)
      ∗ owns (c : Thread nD τ) (win1_9.stage (cfg1.slots t 9)) fullShare ((𝕕 c).after 9 t)
      ∗ owns (c : Thread nD τ) (win1_10.stage (cfg1.slots t 10)) fullShare ((𝕕 c).after 10 t)
      ∗ owns (c : Thread nD τ) (win1_11.stage (cfg1.slots t 11)) fullShare ((𝕕 c).after 11 t)
      ∗ owns (c : Thread nD τ) (win1_12.stage (cfg1.slots t 12)) fullShare ((𝕕 c).after 12 t)
      ∗ owns (c : Thread nD τ) (win1_13.stage (cfg1.slots t 13)) fullShare ((𝕕 c).after 13 t)
      ∗ owns (c : Thread nD τ) (win1_14.stage (cfg1.slots t 14)) fullShare ((𝕕 c).after 14 t)
      ∗ owns (c : Thread nD τ) (win1_15.stage (cfg1.slots t 15)) fullShare ((𝕕 c).after 15 t)
      ∗ owns (c : Thread nD τ) (win1_16.stage (cfg1.slots t 16)) fullShare ((𝕕 c).after 16 t))) := by
  unfold bodyAt1
  simp only [before_0, before_1, before_2, before_3, before_4, before_5, before_6, before_7, before_8, before_9, before_10, before_11, before_12, before_13, before_14, before_15]
  rw [show (𝕕 c).Φ t.succ = (𝕕 c).Φ t.castSucc from rfl,
    show (𝕕 c).owesAt ι t.succ = (𝕕 c).owesAt ι t.castSucc from rfl,
    show (𝕕 c).after 0 t = iblk V c 0 t by dsimp only [dat], show (𝕕 c).after 1 t = iblk V c 1 t by dsimp only [dat], show (𝕕 c).after 2 t = iblk V c 2 t by dsimp only [dat], show (𝕕 c).after 3 t = iblk V c 3 t by dsimp only [dat], show (𝕕 c).after 4 t = iblk V c 4 t by dsimp only [dat], show (𝕕 c).after 5 t = iblk V c 5 t by dsimp only [dat], show (𝕕 c).after 6 t = iblk V c 6 t by dsimp only [dat], show (𝕕 c).after 7 t = iblk V c 7 t by dsimp only [dat], show (𝕕 c).after 8 t = iblk V c 8 t by dsimp only [dat], show (𝕕 c).after 9 t = iblk V c 9 t by dsimp only [dat], show (𝕕 c).after 10 t = iblk V c 10 t by dsimp only [dat], show (𝕕 c).after 11 t = iblk V c 11 t by dsimp only [dat], show (𝕕 c).after 12 t = iblk V c 12 t by dsimp only [dat], show (𝕕 c).after 13 t = iblk V c 13 t by dsimp only [dat], show (𝕕 c).after 14 t = iblk V c 14 t by dsimp only [dat], show (𝕕 c).after 15 t = iblk V c 15 t by dsimp only [dat], after_16]
  unfold outBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_run c (grid1.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body. -/
theorem defs₀_row (t : Fin cfg1.N) :
    defs₀ (F := F) .tc cfg1.body (cfg1.bodyArgs t (cfg1.slots t)) = bodyAt1 t := by
  rfl

/-- The body meets its obligation at every point. -/
theorem body_obligation (ι : HIx 2) (c : Dev nD) : BodyObligation (𝕕 c) (defs₀ (F := F)) 𝒱₀ ι Set.univ := fun t => by
  rw [bigSep_W1, bigSep_W1, defs₀_row]
  exact triple_restated (sound_body V O Rec ι c t) rfl .rfl fun _ => .rfl

end Cert.Proof.Ideal.Dense1

end
-- ==== Proof.Ideal.Dense3.lean ====
/-
  One block of the second dense call: what its body computes from the sixteen blocks it reads, and that the body, run on
  its staging buffers, leaves just that in the result's.
-/
module

public import proofs.«01_k».proof.Proof.Ideal.Setup
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal.Dense3

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-- The transposed, rectified scores of a block; -/
def scoresT (x0 : Vec F S512x416 .f32) (x2 x3 : Vec F S1x416 .f32) (x4 : Vec F S416x26 .f32) (x5 x6 : Vec F S1x26 .f32) : FVec F S26x512 .f32 :=
  k3_pay3 x0 x2 x3 x4 x5 x6

/-- the mask of the eight kept features of each row, from the scores: the rank, counted feature by feature, below 8; -/
def keptT (x0 : Vec F S512x416 .f32) (x2 x3 : Vec F S1x416 .f32) (x4 : Vec F S416x26 .f32) (x5 x6 : Vec F S1x26 .f32) : IVec S26x512 1 :=
  let u := scoresT x0 x2 x3 x4 x5 x6
  let r : IVec S26x512 32 := iota .tc S26x512 32 [0] iota_S26x512_d0_w32
  k3_pay29 u r (k3_pay24 u r (k3_pay19 u r (k3_pay14 u r (k3_pay9 u r (k3_pay4 x0 x2 x3 x4 x5 x6) (k3_pay6 x0 x2 x3 x4 x5 x6) (k3_pay7 x0 x2 x3 x4 x5 x6) k3_pay8)
    (k3_pay11 u) (k3_pay12 u) k3_pay13) (k3_pay16 u) (k3_pay17 u) k3_pay18) (k3_pay21 u) (k3_pay22 u) k3_pay23) (k3_pay26 u) (k3_pay27 u) k3_pay28

/-- and the block's result: 512 probabilities. -/
def denseOut (x0 : Vec F S512x416 .f32) (x1 : Vec F S512x26 .f32) (x2 : Vec F S1x416 .f32) (x3 : Vec F S1x416 .f32) (x4 : Vec F S416x26 .f32) (x5 : Vec F S1x26 .f32) (x6 : Vec F S1x26 .f32) (x7 : Vec F S26x416 .f32) (x8 : Vec F S416x64 .f32) (x9 : Vec F S1x64 .f32) (x10 : Vec F S1x64 .f32) (x11 : Vec F S64x32 .f32) (x12 : Vec F S1x32 .f32) (x13 : Vec F S1x32 .f32) (x14 : Vec F S1x32 .f32) (x15 : Vec F S1x1 .f32) : Vec F S1x512 .f32 :=
  k3_pay1 (k3_pay31 (k3_pay2 x0 x2 x3) (scoresT x0 x2 x3 x4 x5 x6) (keptT x0 x2 x3 x4 x5 x6) (k3_pay30 (scoresT x0 x2 x3 x4 x5 x6)) x7 x8 x9 x10 x11 x12 x13)
    x14 x1 x15

set_option maxHeartbeats 1000000 in
/-- The body on whole staging buffers, the inputs' at their blocks: it leaves the inputs as they were and the result's
    buffer at `denseOut` of them. -/
theorem body_run (c : Dev nD) (i : grid1.Coords) (arg1 : Memref sig .tc .vmem S512x416 .f32) (harg1 : arg1.IsWhole) (arg2 : Memref sig .tc .vmem S512x26 .f32) (harg2 : arg2.IsWhole) (arg3 : Memref sig .tc .vmem S1x416 .f32) (harg3 : arg3.IsWhole) (arg4 : Memref sig .tc .vmem S1x416 .f32) (harg4 : arg4.IsWhole) (arg5 : Memref sig .tc .vmem S416x26 .f32) (harg5 : arg5.IsWhole) (arg6 : Memref sig .tc .vmem S1x26 .f32) (harg6 : arg6.IsWhole) (arg7 : Memref sig .tc .vmem S1x26 .f32) (harg7 : arg7.IsWhole) (arg8 : Memref sig .tc .vmem S26x416 .f32) (harg8 : arg8.IsWhole) (arg9 : Memref sig .tc .vmem S416x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S1x32 .f32) (harg15 : arg15.IsWhole) (arg16 : Memref sig .tc .vmem S1x1 .f32) (harg16 : arg16.IsWhole) (arg17 : Memref sig .tc .vmem S1x512 .f32) (harg17 : arg17.IsWhole)
    (x0 : Vec F S512x416 .f32) (x1 : Vec F S512x26 .f32) (x2 : Vec F S1x416 .f32) (x3 : Vec F S1x416 .f32) (x4 : Vec F S416x26 .f32) (x5 : Vec F S1x26 .f32) (x6 : Vec F S1x26 .f32) (x7 : Vec F S26x416 .f32) (x8 : Vec F S416x64 .f32) (x9 : Vec F S1x64 .f32) (x10 : Vec F S1x64 .f32) (x11 : Vec F S64x32 .f32) (x12 : Vec F S1x32 .f32) (x13 : Vec F S1x32 .f32) (x14 : Vec F S1x32 .f32) (x15 : Vec F S1x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (denseOut x0 x1 x2 x3 x4 x5 x6 x7 x8 x9 x10 x11 x12 x13 x14 x15)) -∗ Q ⟨⟩))
      ⊢ wp frame (wpE (defs₀ (F := F)) 𝒱₀ c none) E (cc3__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  simp only [cc3__dense_body_eq_skeleton]; unfold cc3__dense_body_skel
  simp only [k3_part1_eq_skeleton, k3_part2_eq_skeleton, k3_part3_eq_skeleton, k3_part4_eq_skeleton, k3_part5_eq_skeleton, k3_part6_eq_skeleton, k3_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  iexists _; isplitr
  swap; · iexact H16
  ipureintro
  refine (View.read_writes_full _ _ _ _ _).trans ?_
  have e0 : (View.readAt (Elt F) arg1.view (Rect.unit (s := S512x416) ![0, 0] S512x416.size inb_S512x416_S512x416_0_0).toLoadRect (harg1.unread x0)) = x0 := (View.readAt_full _ _ _).trans (harg1.read_unread _)
  have e1 : (View.readAt (Elt F) arg2.view (Rect.unit (s := S512x26) ![0, 0] S512x26.size inb_S512x26_S512x26_0_0).toLoadRect (harg2.unread x1)) = x1 := (View.readAt_full _ _ _).trans (harg2.read_unread _)
  have e2 : (View.readAt (Elt F) arg3.view (Rect.unit (s := S1x416) ![0, 0] S1x416.size inb_S1x416_S1x416_0_0).toLoadRect (harg3.unread x2)) = x2 := (View.readAt_full _ _ _).trans (harg3.read_unread _)
  have e3 : (View.readAt (Elt F) arg4.view (Rect.unit (s := S1x416) ![0, 0] S1x416.size inb_S1x416_S1x416_0_0).toLoadRect (harg4.unread x3)) = x3 := (View.readAt_full _ _ _).trans (harg4.read_unread _)
  have e4 : (View.readAt (Elt F) arg5.view (Rect.unit (s := S416x26) ![0, 0] S416x26.size inb_S416x26_S416x26_0_0).toLoadRect (harg5.unread x4)) = x4 := (View.readAt_full _ _ _).trans (harg5.read_unread _)
  have e5 : (View.readAt (Elt F) arg6.view (Rect.unit (s := S1x26) ![0, 0] S1x26.size inb_S1x26_S1x26_0_0).toLoadRect (harg6.unread x5)) = x5 := (View.readAt_full _ _ _).trans (harg6.read_unread _)
  have e6 : (View.readAt (Elt F) arg7.view (Rect.unit (s := S1x26) ![0, 0] S1x26.size inb_S1x26_S1x26_0_0).toLoadRect (harg7.unread x6)) = x6 := (View.readAt_full _ _ _).trans (harg7.read_unread _)
  have e7 : (View.readAt (Elt F) arg8.view (Rect.unit (s := S26x416) ![0, 0] S26x416.size inb_S26x416_S26x416_0_0).toLoadRect (harg8.unread x7)) = x7 := (View.readAt_full _ _ _).trans (harg8.read_unread _)
  have e8 : (View.readAt (Elt F) arg9.view (Rect.unit (s := S416x64) ![0, 0] S416x64.size inb_S416x64_S416x64_0_0).toLoadRect (harg9.unread x8)) = x8 := (View.readAt_full _ _ _).trans (harg9.read_unread _)
  have e9 : (View.readAt (Elt F) arg10.view (Rect.unit (s := S1x64) ![0, 0] S1x64.size inb_S1x64_S1x64_0_0).toLoadRect (harg10.unread x9)) = x9 := (View.readAt_full _ _ _).trans (harg10.read_unread _)
  have e10 : (View.readAt (Elt F) arg11.view (Rect.unit (s := S1x64) ![0, 0] S1x64.size inb_S1x64_S1x64_0_0).toLoadRect (harg11.unread x10)) = x10 := (View.readAt_full _ _ _).trans (harg11.read_unread _)
  have e11 : (View.readAt (Elt F) arg12.view (Rect.unit (s := S64x32) ![0, 0] S64x32.size inb_S64x32_S64x32_0_0).toLoadRect (harg12.unread x11)) = x11 := (View.readAt_full _ _ _).trans (harg12.read_unread _)
  have e12 : (View.readAt (Elt F) arg13.view (Rect.unit (s := S1x32) ![0, 0] S1x32.size inb_S1x32_S1x32_0_0).toLoadRect (harg13.unread x12)) = x12 := (View.readAt_full _ _ _).trans (harg13.read_unread _)
  have e13 : (View.readAt (Elt F) arg14.view (Rect.unit (s := S1x32) ![0, 0] S1x32.size inb_S1x32_S1x32_0_0).toLoadRect (harg14.unread x13)) = x13 := (View.readAt_full _ _ _).trans (harg14.read_unread _)
  have e14 : (View.readAt (Elt F) arg15.view (Rect.unit (s := S1x32) ![0, 0] S1x32.size inb_S1x32_S1x32_0_0).toLoadRect (harg15.unread x14)) = x14 := (View.readAt_full _ _ _).trans (harg15.read_unread _)
  have e15 : (View.readAt (Elt F) arg16.view (Rect.unit (s := S1x1) ![0, 0] S1x1.size inb_S1x1_S1x1_0_0).toLoadRect (harg16.unread x15)) = x15 := (View.readAt_full _ _ _).trans (harg16.read_unread _)
  refine Eq.trans (b := denseOut (View.readAt (Elt F) arg1.view (Rect.unit (s := S512x416) ![0, 0] S512x416.size inb_S512x416_S512x416_0_0).toLoadRect (harg1.unread x0))
    (View.readAt (Elt F) arg2.view (Rect.unit (s := S512x26) ![0, 0] S512x26.size inb_S512x26_S512x26_0_0).toLoadRect (harg2.unread x1))
    (View.readAt (Elt F) arg3.view (Rect.unit (s := S1x416) ![0, 0] S1x416.size inb_S1x416_S1x416_0_0).toLoadRect (harg3.unread x2))
    (View.readAt (Elt F) arg4.view (Rect.unit (s := S1x416) ![0, 0] S1x416.size inb_S1x416_S1x416_0_0).toLoadRect (harg4.unread x3))
    (View.readAt (Elt F) arg5.view (Rect.unit (s := S416x26) ![0, 0] S416x26.size inb_S416x26_S416x26_0_0).toLoadRect (harg5.unread x4))
    (View.readAt (Elt F) arg6.view (Rect.unit (s := S1x26) ![0, 0] S1x26.size inb_S1x26_S1x26_0_0).toLoadRect (harg6.unread x5))
    (View.readAt (Elt F) arg7.view (Rect.unit (s := S1x26) ![0, 0] S1x26.size inb_S1x26_S1x26_0_0).toLoadRect (harg7.unread x6))
    (View.readAt (Elt F) arg8.view (Rect.unit (s := S26x416) ![0, 0] S26x416.size inb_S26x416_S26x416_0_0).toLoadRect (harg8.unread x7))
    (View.readAt (Elt F) arg9.view (Rect.unit (s := S416x64) ![0, 0] S416x64.size inb_S416x64_S416x64_0_0).toLoadRect (harg9.unread x8))
    (View.readAt (Elt F) arg10.view (Rect.unit (s := S1x64) ![0, 0] S1x64.size inb_S1x64_S1x64_0_0).toLoadRect (harg10.unread x9))
    (View.readAt (Elt F) arg11.view (Rect.unit (s := S1x64) ![0, 0] S1x64.size inb_S1x64_S1x64_0_0).toLoadRect (harg11.unread x10))
    (View.readAt (Elt F) arg12.view (Rect.unit (s := S64x32) ![0, 0] S64x32.size inb_S64x32_S64x32_0_0).toLoadRect (harg12.unread x11))
    (View.readAt (Elt F) arg13.view (Rect.unit (s := S1x32) ![0, 0] S1x32.size inb_S1x32_S1x32_0_0).toLoadRect (harg13.unread x12))
    (View.readAt (Elt F) arg14.view (Rect.unit (s := S1x32) ![0, 0] S1x32.size inb_S1x32_S1x32_0_0).toLoadRect (harg14.unread x13))
    (View.readAt (Elt F) arg15.view (Rect.unit (s := S1x32) ![0, 0] S1x32.size inb_S1x32_S1x32_0_0).toLoadRect (harg15.unread x14))
    (View.readAt (Elt F) arg16.view (Rect.unit (s := S1x1) ![0, 0] S1x1.size inb_S1x1_S1x1_0_0).toLoadRect (harg16.unread x15))) rfl ?_
  rw [e0, e1, e2, e3, e4, e5, e6, e7, e8, e9, e10, e11, e12, e13, e14, e15]

end Cert.Proof.Ideal.Dense3

end
-- ==== Proof.Ideal.Region3.lean ====
/-
  The second dense call as a grid of sixteen points: what each window's staging buffer holds before and after each point,
  and that the body, called at a point, takes the one to the other.
-/
module

public import proofs.«01_k».proof.Proof.Ideal.Dense3
public import Idealize.ShloMosaic.Lib.Pipeline.RegionArrays
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal.Dense3

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

variable (V : (c : Dev nD) → (b : Ref sig .tc) → Buf (Elt F) ((c : Thread nD τ).loc b)) (O : Dev nD → CellTallies nD τ sig (HIx 2))
  (Rec : Dev nD → Set (SemLoc sig × HIx 2))

/-- Window `w`'s block at point `t`, read off its array as the call finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The result's block at point `t`. -/
def outBlk (c : Dev nD) (t : Fin cfg3.N) : Vec F S1x512 .f32 :=
  denseOut (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t)

/-- The proof data: an input's buffer keeps its block, the result's ends at its block; the core owes `O` throughout and
    its recorded waits stay within `Rec`. -/
def dat (c : Dev nD) : Dat τ (Elt F) (HIx 2) ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => outBlk V c t
    | ⟨_ + 17, h⟩ => absurd h (Nat.not_lt.2 (Nat.le_add_left _ _))
  Φ _ := iprop(Pipeline.scopedRest (Ix := HIx 2) (Name := ℕ) (U := UU) (Lvl := ℕ) (Val := Elt F) spec3 c ∗ ∃ r, prngReg c r)
  q _ := fullShare
  owed _ := O c
  recorded _ := Rec c

local notation "𝕕" => dat V O Rec

theorem A_eq (c : Dev nD) (w : Fin cfg3.W) : (𝕕 c).A w = V c (Pipeline.arrRef spec3 w) := by
  dsimp only [dat]

/-! Each input window's buffer holds its block at every point, fetched there or not. -/

theorem before_0 (c : Dev nD) (t : Fin cfg3.N) (d) : (𝕕 c).before 0 t d = iblk V c 0 t :=
  ((𝕕 c).before_in_eq_fetched 0 rfl (fun _ => rfl) (fun _ _ _ => rfl) (fun t => by dsimp only [dat]; rfl) t d).trans
    (by unfold Dat.fetched Dat.blockOf iblk; rw [A_eq]; try rfl)
theorem before_1 (c : Dev nD) (t : Fin cfg3.N) (d) : (𝕕 c).before 1 t d = iblk V c 1 t :=
  ((𝕕 c).before_in_eq_fetched 1 rfl (fun _ => rfl) (fun _ _ _ => rfl) (fun t => by dsimp only [dat]; rfl) t d).trans
    (by unfold Dat.fetched Dat.blockOf iblk; rw [A_eq]; try rfl)
theorem before_2 (c : Dev nD) (t : Fin cfg3.N) (d) : (𝕕 c).before 2 t d = iblk V c 2 t :=
  ((𝕕 c).before_in_eq_fetched 2 rfl (fun _ => rfl) (fun _ _ _ => rfl) (fun t => by dsimp only [dat]; rfl) t d).trans
    (by unfold Dat.fetched Dat.blockOf iblk; rw [A_eq]; try rfl)
theorem before_3 (c : Dev nD) (t : Fin cfg3.N) (d) : (𝕕 c).before 3 t d = iblk V c 3 t :=
  ((𝕕 c).before_in_eq_fetched 3 rfl (fun _ => rfl) (fun _ _ _ => rfl) (fun t => by dsimp only [dat]; rfl) t d).trans
    (by unfold Dat.fetched Dat.blockOf iblk; rw [A_eq]; try rfl)
theorem before_4 (c : Dev nD) (t : Fin cfg3.N) (d) : (𝕕 c).before 4 t d = iblk V c 4 t :=
  ((𝕕 c).before_in_eq_fetched 4 rfl (fun _ => rfl) (fun _ _ _ => rfl) (fun t => by dsimp only [dat]; rfl) t d).trans
    (by unfold Dat.fetched Dat.blockOf iblk; rw [A_eq]; try rfl)
theorem before_5 (c : Dev nD) (t : Fin cfg3.N) (d) : (𝕕 c).before 5 t d = iblk V c 5 t :=
  ((𝕕 c).before_in_eq_fetched 5 rfl (fun _ => rfl) (fun _ _ _ => rfl) (fun t => by dsimp only [dat]; rfl) t d).trans
    (by unfold Dat.fetched Dat.blockOf iblk; rw [A_eq]; try rfl)
theorem before_6 (c : Dev nD) (t : Fin cfg3.N) (d) : (𝕕 c).before 6 t d = iblk V c 6 t :=
  ((𝕕 c).before_in_eq_fetched 6 rfl (fun _ => rfl) (fun _ _ _ => rfl) (fun t => by dsimp only [dat]; rfl) t d).trans
    (by unfold Dat.fetched Dat.blockOf iblk; rw [A_eq]; try rfl)
theorem before_7 (c : Dev nD) (t : Fin cfg3.N) (d) : (𝕕 c).before 7 t d = iblk V c 7 t :=
  ((𝕕 c).before_in_eq_fetched 7 rfl (fun _ => rfl) (fun _ _ _ => rfl) (fun t => by dsimp only [dat]; rfl) t d).trans
    (by unfold Dat.fetched Dat.blockOf iblk; rw [A_eq]; try rfl)
theorem before_8 (c : Dev nD) (t : Fin cfg3.N) (d) : (𝕕 c).before 8 t d = iblk V c 8 t :=
  ((𝕕 c).before_in_eq_fetched 8 rfl (fun _ => rfl) (fun _ _ _ => rfl) (fun t => by dsimp only [dat]; rfl) t d).trans
    (by unfold Dat.fetched Dat.blockOf iblk; rw [A_eq]; try rfl)
theorem before_9 (c : Dev nD) (t : Fin cfg3.N) (d) : (𝕕 c).before 9 t d = iblk V c 9 t :=
  ((𝕕 c).before_in_eq_fetched 9 rfl (fun _ => rfl) (fun _ _ _ => rfl) (fun t => by dsimp only [dat]; rfl) t d).trans
    (by unfold Dat.fetched Dat.blockOf iblk; rw [A_eq]; try rfl)
theorem before_10 (c : Dev nD) (t : Fin cfg3.N) (d) : (𝕕 c).before 10 t d = iblk V c 10 t :=
  ((𝕕 c).before_in_eq_fetched 10 rfl (fun _ => rfl) (fun _ _ _ => rfl) (fun t => by dsimp only [dat]; rfl) t d).trans
    (by unfold Dat.fetched Dat.blockOf iblk; rw [A_eq]; try rfl)
theorem before_11 (c : Dev nD) (t : Fin cfg3.N) (d) : (𝕕 c).before 11 t d = iblk V c 11 t :=
  ((𝕕 c).before_in_eq_fetched 11 rfl (fun _ => rfl) (fun _ _ _ => rfl) (fun t => by dsimp only [dat]; rfl) t d).trans
    (by unfold Dat.fetched Dat.blockOf iblk; rw [A_eq]; try rfl)
theorem before_12 (c : Dev nD) (t : Fin cfg3.N) (d) : (𝕕 c).before 12 t d = iblk V c 12 t :=
  ((𝕕 c).before_in_eq_fetched 12 rfl (fun _ => rfl) (fun _ _ _ => rfl) (fun t => by dsimp only [dat]; rfl) t d).trans
    (by unfold Dat.fetched Dat.blockOf iblk; rw [A_eq]; try rfl)
theorem before_13 (c : Dev nD) (t : Fin cfg3.N) (d) : (𝕕 c).before 13 t d = iblk V c 13 t :=
  ((𝕕 c).before_in_eq_fetched 13 rfl (fun _ => rfl) (fun _ _ _ => rfl) (fun t => by dsimp only [dat]; rfl) t d).trans
    (by unfold Dat.fetched Dat.blockOf iblk; rw [A_eq]; try rfl)
theorem before_14 (c : Dev nD) (t : Fin cfg3.N) (d) : (𝕕 c).before 14 t d = iblk V c 14 t :=
  ((𝕕 c).before_in_eq_fetched 14 rfl (fun _ => rfl) (fun _ _ _ => rfl) (fun t => by dsimp only [dat]; rfl) t d).trans
    (by unfold Dat.fetched Dat.blockOf iblk; rw [A_eq]; try rfl)
theorem before_15 (c : Dev nD) (t : Fin cfg3.N) (d) : (𝕕 c).before 15 t d = iblk V c 15 t :=
  ((𝕕 c).before_in_eq_fetched 15 rfl (fun _ => rfl) (fun _ _ _ => rfl) (fun t => by dsimp only [dat]; rfl) t d).trans
    (by unfold Dat.fetched Dat.blockOf iblk; rw [A_eq]; try rfl)

/-- The result's buffer after the body. -/
theorem after_16 (c : Dev nD) (t : Fin cfg3.N) : (𝕕 c).after 16 t = outBlk V c t := by dsimp only [dat]

set_option maxHeartbeats 1600000 in
/-- The body called at point `t`, the windows one by one. -/
theorem sound_body (ι : HIx 2) (c : Dev nD) (t : Fin cfg3.N) :
    (iprop((𝕕 c).Φ t.castSucc ∗ (𝕕 c).owesAt ι t.castSucc
      ∗ (∃ d, owns (c : Thread nD τ) (win3_0.stage (cfg3.slots t 0)) fullShare ((𝕕 c).before 0 t d))
      ∗ (∃ d, owns (c : Thread nD τ) (win3_1.stage (cfg3.slots t 1)) fullShare ((𝕕 c).before 1 t d))
      ∗ (∃ d, owns (c : Thread nD τ) (win3_2.stage (cfg3.slots t 2)) fullShare ((𝕕 c).before 2 t d))
      ∗ (∃ d, owns (c : Thread nD τ) (win3_3.stage (cfg3.slots t 3)) fullShare ((𝕕 c).before 3 t d))
      ∗ (∃ d, owns (c : Thread nD τ) (win3_4.stage (cfg3.slots t 4)) fullShare ((𝕕 c).before 4 t d))
      ∗ (∃ d, owns (c : Thread nD τ) (win3_5.stage (cfg3.slots t 5)) fullShare ((𝕕 c).before 5 t d))
      ∗ (∃ d, owns (c : Thread nD τ) (win3_6.stage (cfg3.slots t 6)) fullShare ((𝕕 c).before 6 t d))
      ∗ (∃ d, owns (c : Thread nD τ) (win3_7.stage (cfg3.slots t 7)) fullShare ((𝕕 c).before 7 t d))
      ∗ (∃ d, owns (c : Thread nD τ) (win3_8.stage (cfg3.slots t 8)) fullShare ((𝕕 c).before 8 t d))
      ∗ (∃ d, owns (c : Thread nD τ) (win3_9.stage (cfg3.slots t 9)) fullShare ((𝕕 c).before 9 t d))
      ∗ (∃ d, owns (c : Thread nD τ) (win3_10.stage (cfg3.slots t 10)) fullShare ((𝕕 c).before 10 t d))
      ∗ (∃ d, owns (c : Thread nD τ) (win3_11.stage (cfg3.slots t 11)) fullShare ((𝕕 c).before 11 t d))
      ∗ (∃ d, owns (c : Thread nD τ) (win3_12.stage (cfg3.slots t 12)) fullShare ((𝕕 c).before 12 t d))
      ∗ (∃ d, owns (c : Thread nD τ) (win3_13.stage (cfg3.slots t 13)) fullShare ((𝕕 c).before 13 t d))
      ∗ (∃ d, owns (c : Thread nD τ) (win3_14.stage (cfg3.slots t 14)) fullShare ((𝕕 c).before 14 t d))
      ∗ (∃ d, owns (c : Thread nD τ) (win3_15.stage (cfg3.slots t 15)) fullShare ((𝕕 c).before 15 t d))
      ∗ (∃ d, owns (c : Thread nD τ) (win3_16.stage (cfg3.slots t 16)) fullShare ((𝕕 c).before 16 t d))) : sProp 𝕄)
    ⊢ wp frame (wpE (defs₀ (F := F)) 𝒱₀ c none) Set.univ (bodyAt3 t) (fun _ => iprop((𝕕 c).Φ t.succ ∗ (𝕕 c).owesAt ι t.succ
      ∗ owns (c : Thread nD τ) (win3_0.stage (cfg3.slots t 0)) fullShare ((𝕕 c).after 0 t)
      ∗ owns (c : Thread nD τ) (win3_1.stage (cfg3.slots t 1)) fullShare ((𝕕 c).after 1 t)
      ∗ owns (c : Thread nD τ) (win3_2.stage (cfg3.slots t 2)) fullShare ((𝕕 c).after 2 t)
      ∗ owns (c : Thread nD τ) (win3_3.stage (cfg3.slots t 3)) fullShare ((𝕕 c).after 3 t)
      ∗ owns (c : Thread nD τ) (win3_4.stage (cfg3.slots t 4)) fullShare ((𝕕 c).after 4 t)
      ∗ owns (c : Thread nD τ) (win3_5.stage (cfg3.slots t 5)) fullShare ((𝕕 c).after 5 t)
      ∗ owns (c : Thread nD τ) (win3_6.stage (cfg3.slots t 6)) fullShare ((𝕕 c).after 6 t)
      ∗ owns (c : Thread nD τ) (win3_7.stage (cfg3.slots t 7)) fullShare ((𝕕 c).after 7 t)
      ∗ owns (c : Thread nD τ) (win3_8.stage (cfg3.slots t 8)) fullShare ((𝕕 c).after 8 t)
      ∗ owns (c : Thread nD τ) (win3_9.stage (cfg3.slots t 9)) fullShare ((𝕕 c).after 9 t)
      ∗ owns (c : Thread nD τ) (win3_10.stage (cfg3.slots t 10)) fullShare ((𝕕 c).after 10 t)
      ∗ owns (c : Thread nD τ) (win3_11.stage (cfg3.slots t 11)) fullShare ((𝕕 c).after 11 t)
      ∗ owns (c : Thread nD τ) (win3_12.stage (cfg3.slots t 12)) fullShare ((𝕕 c).after 12 t)
      ∗ owns (c : Thread nD τ) (win3_13.stage (cfg3.slots t 13)) fullShare ((𝕕 c).after 13 t)
      ∗ owns (c : Thread nD τ) (win3_14.stage (cfg3.slots t 14)) fullShare ((𝕕 c).after 14 t)
      ∗ owns (c : Thread nD τ) (win3_15.stage (cfg3.slots t 15)) fullShare ((𝕕 c).after 15 t)
      ∗ owns (c : Thread nD τ) (win3_16.stage (cfg3.slots t 16)) fullShare ((𝕕 c).after 16 t))) := by
  unfold bodyAt3
  simp only [before_0, before_1, before_2, before_3, before_4, before_5, before_6, before_7, before_8, before_9, before_10, before_11, before_12, before_13, before_14, before_15]
  rw [show (𝕕 c).Φ t.succ = (𝕕 c).Φ t.castSucc from rfl,
    show (𝕕 c).owesAt ι t.succ = (𝕕 c).owesAt ι t.castSucc from rfl,
    show (𝕕 c).after 0 t = iblk V c 0 t by dsimp only [dat], show (𝕕 c).after 1 t = iblk V c 1 t by dsimp only [dat], show (𝕕 c).after 2 t = iblk V c 2 t by dsimp only [dat], show (𝕕 c).after 3 t = iblk V c 3 t by dsimp only [dat], show (𝕕 c).after 4 t = iblk V c 4 t by dsimp only [dat], show (𝕕 c).after 5 t = iblk V c 5 t by dsimp only [dat], show (𝕕 c).after 6 t = iblk V c 6 t by dsimp only [dat], show (𝕕 c).after 7 t = iblk V c 7 t by dsimp only [dat], show (𝕕 c).after 8 t = iblk V c 8 t by dsimp only [dat], show (𝕕 c).after 9 t = iblk V c 9 t by dsimp only [dat], show (𝕕 c).after 10 t = iblk V c 10 t by dsimp only [dat], show (𝕕 c).after 11 t = iblk V c 11 t by dsimp only [dat], show (𝕕 c).after 12 t = iblk V c 12 t by dsimp only [dat], show (𝕕 c).after 13 t = iblk V c 13 t by dsimp only [dat], show (𝕕 c).after 14 t = iblk V c 14 t by dsimp only [dat], show (𝕕 c).after 15 t = iblk V c 15 t by dsimp only [dat], after_16]
  unfold outBlk
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_run c (grid3.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body. -/
theorem defs₀_row (t : Fin cfg3.N) :
    defs₀ (F := F) .tc cfg3.body (cfg3.bodyArgs t (cfg3.slots t)) = bodyAt3 t := by
  rfl

/-- The body meets its obligation at every point. -/
theorem body_obligation (ι : HIx 2) (c : Dev nD) : BodyObligation (𝕕 c) (defs₀ (F := F)) 𝒱₀ ι Set.univ := fun t => by
  rw [bigSep_W3, bigSep_W3, defs₀_row]
  exact triple_restated (sound_body V O Rec ι c t) rfl .rfl fun _ => .rfl

end Cert.Proof.Ideal.Dense3

end
-- ==== Proof.Ideal.Calls.lean ====
/-
  The two dense calls as steps of the host program: between the SparseCore's calls the core still owes the later ones
  their starts, and what its waits have recorded stays below the cut.
-/
module

public import proofs.«01_k».proof.Proof.Ideal.Region1
public import proofs.«01_k».proof.Proof.Ideal.Region3
public import Idealize.ShloMosaic.Lib.Pipeline.RegionArrays
public import Idealize.ShloMosaic.Lib.Pipeline.FrameTail
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

abbrev adm : (p : Fin 2) → (pcfgs (F := F) p).Adm := fun p => (cfgs p).toPCfg_adm

/-- The waits a core may have recorded before SparseCore call `n`. -/
def recd (n : ℕ) (c : Dev nD) : Set (SemLoc sig × HIx 2) :=
  {p | (K (F := F)).lev (T c, p.1) p.2 ≤ 8 * n}

/-- Both calls' proof data, entered from the contents `W` before SparseCore call `n`. -/
def pdats (n : ℕ) (W : Dev nD → Valuation τ sig (Elt F)) :
    (p : Fin 2) → (c : Dev nD) → Dat τ (Elt F) (HIx 2) ℕ UU ℕ (Pipeline.pin (pcfgs (F := F)) adm p) c
  | ⟨0, _⟩, c => Dense1.dat (fun c b => W c (Proc.devRef .tc b)) (fun c => (K (F := F)).Otc c n) (recd (F := F) n) c
  | ⟨1, _⟩, c => Dense3.dat (fun c b => W c (Proc.devRef .tc b)) (fun c => (K (F := F)).Otc c n) (recd (F := F) n) c
  | ⟨_ + 2, h⟩, _ => absurd h (Nat.not_lt.2 (Nat.le_add_left _ _))

/-- What the core owes before SparseCore call `n`. -/
abbrev owing (n : ℕ) (c : Dev nD) : sProp 𝕄 :=
  iprop(∃ Wd, ⌜(K (F := F)).WBelow (T c) Wd (8 * n)⌝ ∗ owes (T c) ((K (F := F)).Otc c n) Wd)

theorem otc_pos {c : Dev nD} {n : ℕ} {g : GSem nD τ sig} {i : HIx 2} (h : 0 < (K (F := F)).Otc c n g i) :
    i ∈ (K (F := F)).L (N := 2) g ∧ 0 < (K (F := F)).lev g i :=
  ⟨Finset.mem_univ _, by have := (K (F := F)).lev_of_Otc_pos h; omega⟩

/-! ## Dense call 0 -/

/-- The contents it leaves: the result's array as the grid wrote it, the rest as it was. -/
def after1 (n : ℕ) (W : Dev nD → Valuation τ sig (Elt F)) (c : Dev nD) : Valuation τ sig (Elt F) :=
  Pipeline.afterRegion (cfg := Pipeline.pin (pcfgs (F := F)) adm 0) (pdats n W 0 c) (W c)

theorem phi1 (n : ℕ) (W : Dev nD → Valuation τ sig (Elt F)) (c : Dev nD) (t : Fin (cfg1.N + 1)) :
    (pdats n W 0 c).Φ t = iprop(Pipeline.scopedRest (Ix := HIx 2) (Name := ℕ) (U := UU) (Lvl := ℕ) (Val := Elt F) spec1 c ∗ ∃ r, prngReg c r) := rfl

-- the layout lemmas are stated over `cfgs p` and used at the pinned configuration, which takes unfolding definitions in types
set_option backward.isDefEq.respectTransparency.types false in
def reg1 (n : ℕ) (W : Dev nD → Valuation τ sig (Elt F)) :
    Pipeline.RegionSeg (pcfgs (F := F)) adm (pdats n W) (none : HIx 2) defs₀ 𝒱₀ (K (F := F)).L (K (F := F)).lev 0 where
  win := (launch1.toP (Val := Elt F)).win.to₀
  block_pos := (launch1.toP (Val := Elt F)).block_pos
  stage_whole := (launch1.toP (Val := Elt F)).stage_whole
  K := PEmpty
  osem k := k.elim
  ho := Pipeline.OwnSemFacts.none _
  hbody c := (Dense1.body_obligation (fun c b => W c (Proc.devRef .tc b)) (fun c => (K (F := F)).Otc c n) (recd (F := F) n) none c).loose
  hwaits c := Pipeline.cellsWaits_of_cut (Pipeline.pin (pcfgs (F := F)) adm) (pdats n W) (none : HIx 2) 0 c 0 ((K (F := F)).Otc c n)
    (fun _ => rfl) (fun _ _ => Finset.mem_univ _) (fun _ _ => le_refl _) (fun _ _ h => otc_pos h)
  pre c := iprop(StableHlo.held (c.tc : Thread nD τ) (Pipeline.arrRefs (pcfgs (F := F) 0).spec) (W c) ∗ (∃ r, prngReg c r) ∗ owing n c)
  post c := iprop(StableHlo.held (c.tc : Thread nD τ) (Pipeline.arrRefs (pcfgs (F := F) 0).spec) (after1 n W c) ∗ (∃ r, prngReg c r) ∗ owing n c)
  X c := iprop(∃ r, prngReg c r)
  Y c := iprop(∃ r, prngReg c r)
  Z _ := iprop(emp)
  hentry c := by
    rw [Pipeline.ownSems0_none, Pipeline.prefHeld_of_none _ rfl,
      ← Pipeline.arrays_held (pcfgs (F := F)) adm (pdats n W) 0 launch1.toP c ((pdats n W 0 c).share_full fun _ => rfl)
        ((pdats n W 0 c).arrAt · 0) (W c) (fun _ => rfl)]
    iintro ⟨⟨Ha, HX, HO⟩, -, -⟩
    imodintro
    isplitl [Ha]; · iexact Ha
    isplitr; · iempintro
    isplitl [HO]
    · unfold Dat.owesAt Pipeline.owesWithin Dat.bound
      icases HO with ⟨%Wd, %hW, HO⟩
      iexists Wd
      isplitr; · ipureintro; exact fun x hx => Or.inl (hW x hx)
      iexact HO
    isplitl [HX]; · iexact HX
    iempintro
  hin c := by
    rw [Pipeline.prefHeld_of_none _ rfl, show (pdats n W 0 c).Φ 0 = _ from phi1 n W c 0]
    iintro ⟨HX, -, Hr⟩
    isplitl [Hr]; · iexact Hr
    iexact HX
  hout c := by
    rw [Pipeline.ownSems0_none, show (pdats n W 0 c).Φ (Fin.last (Pipeline.pin (pcfgs (F := F)) adm 0).N) = _ from phi1 n W c (Fin.last cfg1.N)]
    iintro ⟨Hr, HY⟩
    isplitl [HY]; · iexact HY
    isplitr; · iempintro
    iexact Hr
  hexit c := by
    rw [← Pipeline.arrays_held (pcfgs (F := F)) adm (pdats n W) 0 launch1.toP c ((pdats n W 0 c).share_full fun _ => rfl)
        ((pdats n W 0 c).arrAt · (Pipeline.pin (pcfgs (F := F)) adm 0).N) (after1 n W c)
        (fun w => (Pipeline.afterRegion_arr (pdats n W 0 c) (W c) (launch1.toP (Val := Elt F)).win.arr_inj w).symm)]
    iintro ⟨Ha, HO, HY, -⟩
    imodintro
    isplitl [Ha]; · iexact Ha
    isplitl [HY]; · iexact HY
    unfold Dat.owesAt Pipeline.owesWithin Dat.bound
    icases HO with ⟨%Wd, %hW, HO⟩
    iexists Wd
    isplitr
    · ipureintro
      intro x hx
      rcases hW hx with h | ⟨w, s, h⟩
      · exact h
      · rw [h]; exact Nat.zero_le _
    iexact HO

/-! ## Dense call 1 -/

/-- The contents it leaves: the result's array as the grid wrote it, the rest as it was. -/
def after3 (n : ℕ) (W : Dev nD → Valuation τ sig (Elt F)) (c : Dev nD) : Valuation τ sig (Elt F) :=
  Pipeline.afterRegion (cfg := Pipeline.pin (pcfgs (F := F)) adm 1) (pdats n W 1 c) (W c)

theorem phi3 (n : ℕ) (W : Dev nD → Valuation τ sig (Elt F)) (c : Dev nD) (t : Fin (cfg3.N + 1)) :
    (pdats n W 1 c).Φ t = iprop(Pipeline.scopedRest (Ix := HIx 2) (Name := ℕ) (U := UU) (Lvl := ℕ) (Val := Elt F) spec3 c ∗ ∃ r, prngReg c r) := rfl

-- the layout lemmas are stated over `cfgs p` and used at the pinned configuration, which takes unfolding definitions in types
set_option backward.isDefEq.respectTransparency.types false in
def reg3 (n : ℕ) (W : Dev nD → Valuation τ sig (Elt F)) :
    Pipeline.RegionSeg (pcfgs (F := F)) adm (pdats n W) (none : HIx 2) defs₀ 𝒱₀ (K (F := F)).L (K (F := F)).lev 1 where
  win := (launch3.toP (Val := Elt F)).win.to₀
  block_pos := (launch3.toP (Val := Elt F)).block_pos
  stage_whole := (launch3.toP (Val := Elt F)).stage_whole
  K := PEmpty
  osem k := k.elim
  ho := Pipeline.OwnSemFacts.none _
  hbody c := (Dense3.body_obligation (fun c b => W c (Proc.devRef .tc b)) (fun c => (K (F := F)).Otc c n) (recd (F := F) n) none c).loose
  hwaits c := Pipeline.cellsWaits_of_cut (Pipeline.pin (pcfgs (F := F)) adm) (pdats n W) (none : HIx 2) 1 c 0 ((K (F := F)).Otc c n)
    (fun _ => rfl) (fun _ _ => Finset.mem_univ _) (fun _ _ => le_refl _) (fun _ _ h => otc_pos h)
  pre c := iprop(StableHlo.held (c.tc : Thread nD τ) (Pipeline.arrRefs (pcfgs (F := F) 1).spec) (W c) ∗ (∃ r, prngReg c r) ∗ owing n c)
  post c := iprop(StableHlo.held (c.tc : Thread nD τ) (Pipeline.arrRefs (pcfgs (F := F) 1).spec) (after3 n W c) ∗ (∃ r, prngReg c r) ∗ owing n c)
  X c := iprop(∃ r, prngReg c r)
  Y c := iprop(∃ r, prngReg c r)
  Z _ := iprop(emp)
  hentry c := by
    rw [Pipeline.ownSems0_none, Pipeline.prefHeld_of_none _ rfl,
      ← Pipeline.arrays_held (pcfgs (F := F)) adm (pdats n W) 1 launch3.toP c ((pdats n W 1 c).share_full fun _ => rfl)
        ((pdats n W 1 c).arrAt · 0) (W c) (fun _ => rfl)]
    iintro ⟨⟨Ha, HX, HO⟩, -, -⟩
    imodintro
    isplitl [Ha]; · iexact Ha
    isplitr; · iempintro
    isplitl [HO]
    · unfold Dat.owesAt Pipeline.owesWithin Dat.bound
      icases HO with ⟨%Wd, %hW, HO⟩
      iexists Wd
      isplitr; · ipureintro; exact fun x hx => Or.inl (hW x hx)
      iexact HO
    isplitl [HX]; · iexact HX
    iempintro
  hin c := by
    rw [Pipeline.prefHeld_of_none _ rfl, show (pdats n W 1 c).Φ 0 = _ from phi3 n W c 0]
    iintro ⟨HX, -, Hr⟩
    isplitl [Hr]; · iexact Hr
    iexact HX
  hout c := by
    rw [Pipeline.ownSems0_none, show (pdats n W 1 c).Φ (Fin.last (Pipeline.pin (pcfgs (F := F)) adm 1).N) = _ from phi3 n W c (Fin.last cfg3.N)]
    iintro ⟨Hr, HY⟩
    isplitl [HY]; · iexact HY
    isplitr; · iempintro
    iexact Hr
  hexit c := by
    rw [← Pipeline.arrays_held (pcfgs (F := F)) adm (pdats n W) 1 launch3.toP c ((pdats n W 1 c).share_full fun _ => rfl)
        ((pdats n W 1 c).arrAt · (Pipeline.pin (pcfgs (F := F)) adm 1).N) (after3 n W c)
        (fun w => (Pipeline.afterRegion_arr (pdats n W 1 c) (W c) (launch3.toP (Val := Elt F)).win.arr_inj w).symm)]
    iintro ⟨Ha, HO, HY, -⟩
    imodintro
    isplitl [Ha]; · iexact Ha
    isplitl [HY]; · iexact HY
    unfold Dat.owesAt Pipeline.owesWithin Dat.bound
    icases HO with ⟨%Wd, %hW, HO⟩
    iexists Wd
    isplitr
    · ipureintro
      intro x hx
      rcases hW hx with h | ⟨w, s, h⟩
      · exact h
      · rw [h]; exact Nat.zero_le _
    iexact HO

end Cert.Proof.Ideal

end
-- ==== Proof.Ideal.Steps.lean ====
/-
  The dense calls' rules: from every buffer of the core, its state between the SparseCore's calls and the call's tokens,
  to the same with the result's array written.
-/
module

public import proofs.«01_k».proof.Proof.Ideal.Calls
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

abbrev EP : Emb UPI (MT nD τ sig (HIx 2) (Elt F) ℕ UU ℕ) := (Emb.inl : Emb UPI (UPI × Counters)).trans embR

/-- What a dense call of core `d` spends: its staging cells' state and tokens. -/
abbrev ghost (p : Fin 2) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- The core's state before SparseCore call `n` is what it owes with the rest. -/
theorem tcSt_eq (d : Dev nD) (n : ℕ) : ∃ R : sProp 𝕄, (K (F := F)).tcSt EH d n = iprop(owing (F := F) n d ∗ R) :=
  ⟨_, rfl⟩

theorem arrRefs1_sub : Pipeline.arrRefs (τ := τ) (pcfgs (F := F) 0).spec ⊆ Pipeline.ucRefs τ sig :=
  Pipeline.arrRefs_sub_ucRefs _ (show ∀ w : Fin 17, (Pipeline.arrRef spec1 w).isScoped = false by decide)

/-- Off the call's arrays nothing changes. -/
theorem after1_off (n : ℕ) (W : Dev nD → Valuation τ sig (Elt F)) (d : Dev nD) (b : DevRef τ sig)
    (hb : b ∈ Pipeline.ucRefs τ sig \ Pipeline.arrRefs (τ := τ) (pcfgs (F := F) 0).spec) : after1 n W d b = W d b := by
  obtain ⟨hu, hn⟩ := Finset.mem_sdiff.mp hb
  obtain ⟨r, -, rfl⟩ := Finset.mem_map.mp (Finset.mem_filter.mp hu).1
  exact Pipeline.afterRegion_of_not_arr _ _ fun w h => hn (Finset.mem_map.mpr ⟨r, Finset.mem_image.mpr ⟨w, Finset.mem_univ _, h.symm⟩, rfl⟩)

theorem call1_wp (n : ℕ) (W : Dev nD → Valuation τ sig (Elt F)) (d : Dev nD) (Q : PUnit → sProp 𝕄) :
    iprop(levAts (K (F := F)).L (K (F := F)).lev ∗ (K (F := F)).tcSt EH d n ∗ boundary (T d)
        ∗ StableHlo.held (T d) (Pipeline.ucRefs τ sig) (W d) ∗ (∃ r, prngReg d r) ∗ ghost (F := F) 0 d
        ∗ (iprop((K (F := F)).tcSt EH d n ∗ boundary (T d) ∗ StableHlo.held (T d) (Pipeline.ucRefs τ sig) (after1 n W d)
            ∗ ∃ r, prngReg d r) -∗ Q ⟨⟩))
      ⊢ wp frame (wpE ((K (F := F)).defs (D (F := F))) 𝒱 (T d) none) Set.univ
          (Prog.lift (.customCall (SparseCore.inner (Pipeline.entry 0)) ())) Q := by
  have hl : (Prog.lift (.customCall (SparseCore.inner (Pipeline.entry 0)) ()) : Prog (TpuEff nD τ sig (Elt F) (SparseCore.Sig (ΛP (F := F)) 2) .tc) PUnit)
      = SparseCore.liftProg (Prog.op (.customCall (Pipeline.entry 0) ()) .ret : Prog (TpuEff nD τ sig (Elt F) (ΛP (F := F)) .tc) PUnit) := rfl
  rw [hl]
  refine BI.Entails.trans ?_ ((K (F := F)).wp_liftProg (D (F := F)) 𝒱 (T d) Set.univ none
    (Prog.op (.customCall (Pipeline.entry 0) ()) .ret : Prog (TpuEff nD τ sig (Elt F) (ΛP (F := F)) .tc) PUnit) Q)
  obtain ⟨R, hR⟩ := tcSt_eq (F := F) d n
  rw [hR, StableHlo.held_sub_split (c := T d) (arrRefs1_sub (F := F)) (W d), StableHlo.held_sub_split (c := T d) (arrRefs1_sub (F := F)) (after1 n W d),
    StableHlo.held_congr (c := T d) (after1_off n W d)]
  refine BI.Entails.trans ?_ (Pipeline.RegionSeg.wp (pcfgs (F := F)) adm (pdats n W) (none : HIx 2) cellOf_inj EP defs₀ 𝒱₀
    (K (F := F)).L (K (F := F)).lev (reg1 n W) d none (fun u hu => nomatch hu) .ret Q)
  change _ ⊢ (iprop((iprop(boundary (T d) ∗ StableHlo.held (T d) (Pipeline.arrRefs (pcfgs (F := F) 0).spec) (after1 n W d)
        ∗ (∃ r, prngReg d r) ∗ owing (F := F) n d)
        -∗ wp frame (wpE (D (F := F)) 𝒱 (T d) none) Set.univ (.ret ⟨⟩ : Prog (TpuEff nD τ sig (Elt F) (ΛP (F := F)) .tc) PUnit) Q)
      ∗ boundary (T d) ∗ iprop(StableHlo.held (T d) (Pipeline.arrRefs (pcfgs (F := F) 0).spec) (W d)
        ∗ (∃ r, prngReg d r) ∗ owing (F := F) n d) ∗ levAts (K (F := F)).L (K (F := F)).lev ∗ ghost (F := F) 0 d) : sProp 𝕄)
  iintro ⟨Hl, ⟨HO, HR⟩, Hb, ⟨Ha, Hr⟩, Hp, ⟨Hg, Ht⟩, Hk⟩
  isplitl [HR Hr Hk]
  · iintro ⟨Hb, ⟨Ha, Hp, HO⟩⟩
    rw [wp_ret]
    imodintro
    iapply Hk
    isplitl [HO HR]
    · isplitl [HO] <;> iassumption
    isplitl [Hb]; · iexact Hb
    isplitl [Ha Hr]
    · isplitl [Ha] <;> iassumption
    iexact Hp
  isplitl [Hb]; · iexact Hb
  isplitl [Ha Hp HO]
  · isplitl [Ha]; · iexact Ha
    isplitl [Hp] <;> iassumption
  isplitl [Hl]; · iexact Hl
  isplitl [Hg] <;> iassumption

theorem arrRefs3_sub : Pipeline.arrRefs (τ := τ) (pcfgs (F := F) 1).spec ⊆ Pipeline.ucRefs τ sig :=
  Pipeline.arrRefs_sub_ucRefs _ (show ∀ w : Fin 17, (Pipeline.arrRef spec3 w).isScoped = false by decide)

/-- Off the call's arrays nothing changes. -/
theorem after3_off (n : ℕ) (W : Dev nD → Valuation τ sig (Elt F)) (d : Dev nD) (b : DevRef τ sig)
    (hb : b ∈ Pipeline.ucRefs τ sig \ Pipeline.arrRefs (τ := τ) (pcfgs (F := F) 1).spec) : after3 n W d b = W d b := by
  obtain ⟨hu, hn⟩ := Finset.mem_sdiff.mp hb
  obtain ⟨r, -, rfl⟩ := Finset.mem_map.mp (Finset.mem_filter.mp hu).1
  exact Pipeline.afterRegion_of_not_arr _ _ fun w h => hn (Finset.mem_map.mpr ⟨r, Finset.mem_image.mpr ⟨w, Finset.mem_univ _, h.symm⟩, rfl⟩)

theorem call3_wp (n : ℕ) (W : Dev nD → Valuation τ sig (Elt F)) (d : Dev nD) (Q : PUnit → sProp 𝕄) :
    iprop(levAts (K (F := F)).L (K (F := F)).lev ∗ (K (F := F)).tcSt EH d n ∗ boundary (T d)
        ∗ StableHlo.held (T d) (Pipeline.ucRefs τ sig) (W d) ∗ (∃ r, prngReg d r) ∗ ghost (F := F) 1 d
        ∗ (iprop((K (F := F)).tcSt EH d n ∗ boundary (T d) ∗ StableHlo.held (T d) (Pipeline.ucRefs τ sig) (after3 n W d)
            ∗ ∃ r, prngReg d r) -∗ Q ⟨⟩))
      ⊢ wp frame (wpE ((K (F := F)).defs (D (F := F))) 𝒱 (T d) none) Set.univ
          (Prog.lift (.customCall (SparseCore.inner (Pipeline.entry 1)) ())) Q := by
  have hl : (Prog.lift (.customCall (SparseCore.inner (Pipeline.entry 1)) ()) : Prog (TpuEff nD τ sig (Elt F) (SparseCore.Sig (ΛP (F := F)) 2) .tc) PUnit)
      = SparseCore.liftProg (Prog.op (.customCall (Pipeline.entry 1) ()) .ret : Prog (TpuEff nD τ sig (Elt F) (ΛP (F := F)) .tc) PUnit) := rfl
  rw [hl]
  refine BI.Entails.trans ?_ ((K (F := F)).wp_liftProg (D (F := F)) 𝒱 (T d) Set.univ none
    (Prog.op (.customCall (Pipeline.entry 1) ()) .ret : Prog (TpuEff nD τ sig (Elt F) (ΛP (F := F)) .tc) PUnit) Q)
  obtain ⟨R, hR⟩ := tcSt_eq (F := F) d n
  rw [hR, StableHlo.held_sub_split (c := T d) (arrRefs3_sub (F := F)) (W d), StableHlo.held_sub_split (c := T d) (arrRefs3_sub (F := F)) (after3 n W d),
    StableHlo.held_congr (c := T d) (after3_off n W d)]
  refine BI.Entails.trans ?_ (Pipeline.RegionSeg.wp (pcfgs (F := F)) adm (pdats n W) (none : HIx 2) cellOf_inj EP defs₀ 𝒱₀
    (K (F := F)).L (K (F := F)).lev (reg3 n W) d none (fun u hu => nomatch hu) .ret Q)
  change _ ⊢ (iprop((iprop(boundary (T d) ∗ StableHlo.held (T d) (Pipeline.arrRefs (pcfgs (F := F) 1).spec) (after3 n W d)
        ∗ (∃ r, prngReg d r) ∗ owing (F := F) n d)
        -∗ wp frame (wpE (D (F := F)) 𝒱 (T d) none) Set.univ (.ret ⟨⟩ : Prog (TpuEff nD τ sig (Elt F) (ΛP (F := F)) .tc) PUnit) Q)
      ∗ boundary (T d) ∗ iprop(StableHlo.held (T d) (Pipeline.arrRefs (pcfgs (F := F) 1).spec) (W d)
        ∗ (∃ r, prngReg d r) ∗ owing (F := F) n d) ∗ levAts (K (F := F)).L (K (F := F)).lev ∗ ghost (F := F) 1 d) : sProp 𝕄)
  iintro ⟨Hl, ⟨HO, HR⟩, Hb, ⟨Ha, Hr⟩, Hp, ⟨Hg, Ht⟩, Hk⟩
  isplitl [HR Hr Hk]
  · iintro ⟨Hb, ⟨Ha, Hp, HO⟩⟩
    rw [wp_ret]
    imodintro
    iapply Hk
    isplitl [HO HR]
    · isplitl [HO] <;> iassumption
    isplitl [Hb]; · iexact Hb
    isplitl [Ha Hr]
    · isplitl [Ha] <;> iassumption
    iexact Hp
  isplitl [Hb]; · iexact Hb
  isplitl [Ha Hp HO]
  · isplitl [Ha]; · iexact Ha
    isplitl [Hp] <;> iassumption
  isplitl [Hl]; · iexact Hl
  isplitl [Hg] <;> iassumption

end Cert.Proof.Ideal

end
-- ==== Proof.Ideal.Vals.lean ====
/-
  What the TensorCore's buffers hold, stage by stage, and which of them each stage leaves alone.
-/
module

public import proofs.«01_k».proof.Proof.Ideal.Host
public import proofs.«01_k».proof.Proof.Ideal.Scs
public import proofs.«01_k».proof.Proof.Ideal.Steps
public import Idealize.ShloMosaic.Lib.StableHlo.Run
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-- The buffers `opsP` writes. -/
def opsP_wr : List (Ref sig .tc) := [main_v0, main_c, main_v1, main_v2, main_v3, main_v4, main_v5, main_v6, main_v7, main_v8, main_cst, main_v9, main_v10, main_v11, main_v12, main_v13, main_v14, main_v15, main_v16, main_cst_0, main_v17, main_v18, main_v19, main_v20, main_cst_1, main_v21, main_v22, main_v23, main_v24, main_cst_2, main_v25, main_v26, main_v27, main_v28, main_cst_3, main_v29, main_v30, main_v31, main_v32, main_cst_4, main_v33, main_v34, main_v35, main_v36, main_cst_5, main_v37, main_v38, main_v39, main_v40, main_v41, main_v42, main_c_6]
theorem opsP_keep (V : Valuation τ sig (Elt F)) (b : Ref sig .tc) (hb : ∀ x ∈ opsP_wr, b ≠ x) :
    StableHlo.after opsP V (Proc.devRef .tc b) = V (Proc.devRef .tc b) := by
  refine StableHlo.after_of_forall_not_mem _ _ ?_
  simp only [opsP_wr, List.forall_mem_cons, List.not_mem_nil, false_imp_iff, implies_true, and_true] at hb
  intro op hop
  unfold opsP at hop
  simp only [List.mem_cons, List.mem_nil_iff, or_false] at hop
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := hb
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun h => StableHlo.devRef_ne_of_ne h0 (Finset.mem_singleton.1 h)
  · exact fun h => StableHlo.devRef_ne_of_ne h1 (Finset.mem_singleton.1 h)
  · exact fun h => StableHlo.devRef_ne_of_ne h2 (Finset.mem_singleton.1 h)
  · exact fun h => StableHlo.devRef_ne_of_ne h3 (Finset.mem_singleton.1 h)
  · exact fun h => StableHlo.devRef_ne_of_ne h4 (Finset.mem_singleton.1 h)
  · exact fun h => StableHlo.devRef_ne_of_ne h5 (Finset.mem_singleton.1 h)
  · exact fun h => StableHlo.devRef_ne_of_ne h6 (Finset.mem_singleton.1 h)
  · exact fun h => StableHlo.devRef_ne_of_ne h7 (Finset.mem_singleton.1 h)
  · exact fun h => StableHlo.devRef_ne_of_ne h8 (Finset.mem_singleton.1 h)
  · exact fun h => StableHlo.devRef_ne_of_ne h9 (Finset.mem_singleton.1 h)
  · exact fun h => StableHlo.devRef_ne_of_ne h10 (Finset.mem_singleton.1 h)
  · exact fun h => StableHlo.devRef_ne_of_ne h11 (Finset.mem_singleton.1 h)
  · exact fun h => StableHlo.devRef_ne_of_ne h12 (Finset.mem_singleton.1 h)
  · exact fun h => StableHlo.devRef_ne_of_ne h13 (Finset.mem_singleton.1 h)
  · exact fun h => StableHlo.devRef_ne_of_ne h14 (Finset.mem_singleton.1 h)
  · exact fun h => StableHlo.devRef_ne_of_ne h15 (Finset.mem_singleton.1 h)
  · exact fun h => StableHlo.devRef_ne_of_ne h16 (Finset.mem_singleton.1 h)
  · exact fun h => StableHlo.devRef_ne_of_ne h17 (Finset.mem_singleton.1 h)
  · exact fun h => StableHlo.devRef_ne_of_ne h18 (Finset.mem_singleton.1 h)
  · exact fun h => StableHlo.devRef_ne_of_ne h19 (Finset.mem_singleton.1 h)
  · exact fun h => StableHlo.devRef_ne_of_ne h20 (Finset.mem_singleton.1 h)
  · exact fun h => StableHlo.devRef_ne_of_ne h21 (Finset.mem_singleton.1 h)
  · exact fun h => StableHlo.devRef_ne_of_ne h22 (Finset.mem_singleton.1 h)
  · exact fun h => StableHlo.devRef_ne_of_ne h23 (Finset.mem_singleton.1 h)
  · exact fun h => StableHlo.devRef_ne_of_ne h24 (Finset.mem_singleton.1 h)
  · exact fun h => StableHlo.devRef_ne_of_ne h25 (Finset.mem_singleton.1 h)
  · exact fun h => StableHlo.devRef_ne_of_ne h26 (Finset.mem_singleton.1 h)
  · exact fun h => StableHlo.devRef_ne_of_ne h27 (Finset.mem_singleton.1 h)
  · exact fun h => StableHlo.devRef_ne_of_ne h28 (Finset.mem_singleton.1 h)
  · exact fun h => StableHlo.devRef_ne_of_ne h29 (Finset.mem_singleton.1 h)
  · exact fun h => StableHlo.devRef_ne_of_ne h30 (Finset.mem_singleton.1 h)
  · exact fun h => StableHlo.devRef_ne_of_ne h31 (Finset.mem_singleton.1 h)
  · exact fun h => StableHlo.devRef_ne_of_ne h32 (Finset.mem_singleton.1 h)
  · exact fun h => StableHlo.devRef_ne_of_ne h33 (Finset.mem_singleton.1 h)
  · exact fun h => StableHlo.devRef_ne_of_ne h34 (Finset.mem_singleton.1 h)
  · exact fun h => StableHlo.devRef_ne_of_ne h35 (Finset.mem_singleton.1 h)
  · exact fun h => StableHlo.devRef_ne_of_ne h36 (Finset.mem_singleton.1 h)
  · exact fun h => StableHlo.devRef_ne_of_ne h37 (Finset.mem_singleton.1 h)
  · exact fun h => StableHlo.devRef_ne_of_ne h38 (Finset.mem_singleton.1 h)
  · exact fun h => StableHlo.devRef_ne_of_ne h39 (Finset.mem_singleton.1 h)
  · exact fun h => StableHlo.devRef_ne_of_ne h40 (Finset.mem_singleton.1 h)
  · exact fun h => StableHlo.devRef_ne_of_ne h41 (Finset.mem_singleton.1 h)
  · exact fun h => StableHlo.devRef_ne_of_ne h42 (Finset.mem_singleton.1 h)
  · exact fun h => StableHlo.devRef_ne_of_ne h43 (Finset.mem_singleton.1 h)
  · exact fun h => StableHlo.devRef_ne_of_ne h44 (Finset.mem_singleton.1 h)
  · exact fun h => StableHlo.devRef_ne_of_ne h45 (Finset.mem_singleton.1 h)
  · exact fun h => StableHlo.devRef_ne_of_ne h46 (Finset.mem_singleton.1 h)
  · exact fun h => StableHlo.devRef_ne_of_ne h47 (Finset.mem_singleton.1 h)
  · exact fun h => StableHlo.devRef_ne_of_ne h48 (Finset.mem_singleton.1 h)
  · exact fun h => StableHlo.devRef_ne_of_ne h49 (Finset.mem_singleton.1 h)
  · exact fun h => StableHlo.devRef_ne_of_ne h50 (Finset.mem_singleton.1 h)
  · exact fun h => StableHlo.devRef_ne_of_ne h51 (Finset.mem_singleton.1 h)

/-- The buffers `opsF` writes. -/
def opsF_wr : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v43]
theorem opsF_keep (V : Valuation τ sig (Elt F)) (b : Ref sig .tc) (hb : ∀ x ∈ opsF_wr, b ≠ x) :
    StableHlo.after opsF V (Proc.devRef .tc b) = V (Proc.devRef .tc b) := by
  refine StableHlo.after_of_forall_not_mem _ _ ?_
  simp only [opsF_wr, List.forall_mem_cons, List.not_mem_nil, false_imp_iff, implies_true, and_true] at hb
  intro op hop
  unfold opsF at hop
  simp only [List.mem_cons, List.mem_nil_iff, or_false] at hop
  obtain ⟨h0, h1, h2, h3, h4, h5, h6, h7, h8, h9, h10, h11, h12, h13, h14, h15, h16⟩ := hb
  rcases hop with rfl | rfl | rfl | rfl | rfl | rfl | rfl | rfl | rfl | rfl | rfl | rfl | rfl | rfl | rfl | rfl | rfl
  · exact fun h => StableHlo.devRef_ne_of_ne h0 (Finset.mem_singleton.1 h)
  · exact fun h => StableHlo.devRef_ne_of_ne h1 (Finset.mem_singleton.1 h)
  · exact fun h => StableHlo.devRef_ne_of_ne h2 (Finset.mem_singleton.1 h)
  · exact fun h => StableHlo.devRef_ne_of_ne h3 (Finset.mem_singleton.1 h)
  · exact fun h => StableHlo.devRef_ne_of_ne h4 (Finset.mem_singleton.1 h)
  · exact fun h => StableHlo.devRef_ne_of_ne h5 (Finset.mem_singleton.1 h)
  · exact fun h => StableHlo.devRef_ne_of_ne h6 (Finset.mem_singleton.1 h)
  · exact fun h => StableHlo.devRef_ne_of_ne h7 (Finset.mem_singleton.1 h)
  · exact fun h => StableHlo.devRef_ne_of_ne h8 (Finset.mem_singleton.1 h)
  · exact fun h => StableHlo.devRef_ne_of_ne h9 (Finset.mem_singleton.1 h)
  · exact fun h => StableHlo.devRef_ne_of_ne h10 (Finset.mem_singleton.1 h)
  · exact fun h => StableHlo.devRef_ne_of_ne h11 (Finset.mem_singleton.1 h)
  · exact fun h => StableHlo.devRef_ne_of_ne h12 (Finset.mem_singleton.1 h)
  · exact fun h => StableHlo.devRef_ne_of_ne h13 (Finset.mem_singleton.1 h)
  · exact fun h => StableHlo.devRef_ne_of_ne h14 (Finset.mem_singleton.1 h)
  · exact fun h => StableHlo.devRef_ne_of_ne h15 (Finset.mem_singleton.1 h)
  · exact fun h => StableHlo.devRef_ne_of_ne h16 (Finset.mem_singleton.1 h)

/-- The buffers `opsE` writes. -/
def opsE_wr : List (Ref sig .tc) := [main_v44, main_v45, main_v46, main_v47, main_v48, main_v49, main_v50]
theorem opsE_keep (V : Valuation τ sig (Elt F)) (b : Ref sig .tc) (hb : ∀ x ∈ opsE_wr, b ≠ x) :
    StableHlo.after opsE V (Proc.devRef .tc b) = V (Proc.devRef .tc b) := by
  refine StableHlo.after_of_forall_not_mem _ _ ?_
  simp only [opsE_wr, List.forall_mem_cons, List.not_mem_nil, false_imp_iff, implies_true, and_true] at hb
  intro op hop
  unfold opsE at hop
  simp only [List.mem_cons, List.mem_nil_iff, or_false] at hop
  obtain ⟨h0, h1, h2, h3, h4, h5, h6⟩ := hb
  rcases hop with rfl | rfl | rfl | rfl | rfl | rfl | rfl
  · exact fun h => StableHlo.devRef_ne_of_ne h0 (Finset.mem_singleton.1 h)
  · exact fun h => StableHlo.devRef_ne_of_ne h1 (Finset.mem_singleton.1 h)
  · exact fun h => StableHlo.devRef_ne_of_ne h2 (Finset.mem_singleton.1 h)
  · exact fun h => StableHlo.devRef_ne_of_ne h3 (Finset.mem_singleton.1 h)
  · exact fun h => StableHlo.devRef_ne_of_ne h4 (Finset.mem_singleton.1 h)
  · exact fun h => StableHlo.devRef_ne_of_ne h5 (Finset.mem_singleton.1 h)
  · exact fun h => StableHlo.devRef_ne_of_ne h6 (Finset.mem_singleton.1 h)

/-- The buffers `opsG1` writes. -/
def opsG1_wr : List (Ref sig .tc) := [main_v51, main_v52, main_c_7, main_v53]
theorem opsG1_keep (V : Valuation τ sig (Elt F)) (b : Ref sig .tc) (hb : ∀ x ∈ opsG1_wr, b ≠ x) :
    StableHlo.after opsG1 V (Proc.devRef .tc b) = V (Proc.devRef .tc b) := by
  refine StableHlo.after_of_forall_not_mem _ _ ?_
  simp only [opsG1_wr, List.forall_mem_cons, List.not_mem_nil, false_imp_iff, implies_true, and_true] at hb
  intro op hop
  unfold opsG1 at hop
  simp only [List.mem_cons, List.mem_nil_iff, or_false] at hop
  obtain ⟨h0, h1, h2, h3⟩ := hb
  rcases hop with rfl | rfl | rfl | rfl
  · exact fun h => StableHlo.devRef_ne_of_ne h0 (Finset.mem_singleton.1 h)
  · exact fun h => StableHlo.devRef_ne_of_ne h1 (Finset.mem_singleton.1 h)
  · exact fun h => StableHlo.devRef_ne_of_ne h2 (Finset.mem_singleton.1 h)
  · exact fun h => StableHlo.devRef_ne_of_ne h3 (Finset.mem_singleton.1 h)

/-- The buffers `opsR1` writes. -/
def opsR1_wr : List (Ref sig .tc) := [main_v55, main_v56]
theorem opsR1_keep (V : Valuation τ sig (Elt F)) (b : Ref sig .tc) (hb : ∀ x ∈ opsR1_wr, b ≠ x) :
    StableHlo.after opsR1 V (Proc.devRef .tc b) = V (Proc.devRef .tc b) := by
  refine StableHlo.after_of_forall_not_mem _ _ ?_
  simp only [opsR1_wr, List.forall_mem_cons, List.not_mem_nil, false_imp_iff, implies_true, and_true] at hb
  intro op hop
  unfold opsR1 at hop
  simp only [List.mem_cons, List.mem_nil_iff, or_false] at hop
  obtain ⟨h0, h1⟩ := hb
  rcases hop with rfl | rfl
  · exact fun h => StableHlo.devRef_ne_of_ne h0 (Finset.mem_singleton.1 h)
  · exact fun h => StableHlo.devRef_ne_of_ne h1 (Finset.mem_singleton.1 h)

/-- The buffers `opsG2` writes. -/
def opsG2_wr : List (Ref sig .tc) := [main_c_8, main_v58]
theorem opsG2_keep (V : Valuation τ sig (Elt F)) (b : Ref sig .tc) (hb : ∀ x ∈ opsG2_wr, b ≠ x) :
    StableHlo.after opsG2 V (Proc.devRef .tc b) = V (Proc.devRef .tc b) := by
  refine StableHlo.after_of_forall_not_mem _ _ ?_
  simp only [opsG2_wr, List.forall_mem_cons, List.not_mem_nil, false_imp_iff, implies_true, and_true] at hb
  intro op hop
  unfold opsG2 at hop
  simp only [List.mem_cons, List.mem_nil_iff, or_false] at hop
  obtain ⟨h0, h1⟩ := hb
  rcases hop with rfl | rfl
  · exact fun h => StableHlo.devRef_ne_of_ne h0 (Finset.mem_singleton.1 h)
  · exact fun h => StableHlo.devRef_ne_of_ne h1 (Finset.mem_singleton.1 h)

/-- The buffers `opsR2` writes. -/
def opsR2_wr : List (Ref sig .tc) := [main_v60, main_v61]
theorem opsR2_keep (V : Valuation τ sig (Elt F)) (b : Ref sig .tc) (hb : ∀ x ∈ opsR2_wr, b ≠ x) :
    StableHlo.after opsR2 V (Proc.devRef .tc b) = V (Proc.devRef .tc b) := by
  refine StableHlo.after_of_forall_not_mem _ _ ?_
  simp only [opsR2_wr, List.forall_mem_cons, List.not_mem_nil, false_imp_iff, implies_true, and_true] at hb
  intro op hop
  unfold opsR2 at hop
  simp only [List.mem_cons, List.mem_nil_iff, or_false] at hop
  obtain ⟨h0, h1⟩ := hb
  rcases hop with rfl | rfl
  · exact fun h => StableHlo.devRef_ne_of_ne h0 (Finset.mem_singleton.1 h)
  · exact fun h => StableHlo.devRef_ne_of_ne h1 (Finset.mem_singleton.1 h)

/-- The buffers `opsO` writes. -/
def opsO_wr : List (Ref sig .tc) := [main_v63, main_v64]
theorem opsO_keep (V : Valuation τ sig (Elt F)) (b : Ref sig .tc) (hb : ∀ x ∈ opsO_wr, b ≠ x) :
    StableHlo.after opsO V (Proc.devRef .tc b) = V (Proc.devRef .tc b) := by
  refine StableHlo.after_of_forall_not_mem _ _ ?_
  simp only [opsO_wr, List.forall_mem_cons, List.not_mem_nil, false_imp_iff, implies_true, and_true] at hb
  intro op hop
  unfold opsO at hop
  simp only [List.mem_cons, List.mem_nil_iff, or_false] at hop
  obtain ⟨h0, h1⟩ := hb
  rcases hop with rfl | rfl
  · exact fun h => StableHlo.devRef_ne_of_ne h0 (Finset.mem_singleton.1 h)
  · exact fun h => StableHlo.devRef_ne_of_ne h1 (Finset.mem_singleton.1 h)

variable (m : (ℓ : Loc nD τ sig) → Buf (Elt F) ℓ)

/-- At the launch. -/
def V0 (d : Dev nD) : Valuation τ sig (Elt F) := fun b => m (d, b)
/-- When the first gather call starts. -/
def VA (d : Dev nD) : Valuation τ sig (Elt F) := StableHlo.after opsG1 (StableHlo.after opsE (StableHlo.after opsF (StableHlo.after opsP (V0 m d))))
/-- When the first dense call starts. -/
def VC (d : Dev nD) : Valuation τ sig (Elt F) := StableHlo.after opsR1 (scVal0 (VA m d))
/-- When the second gather call starts. -/
def VE (d : Dev nD) : Valuation τ sig (Elt F) := StableHlo.after opsG2 (after1 1 (VC m) d)
/-- When the second dense call starts. -/
def VG (d : Dev nD) : Valuation τ sig (Elt F) := StableHlo.after opsR2 (scVal2 (VE m d))
/-- At the end. -/
def VI (d : Dev nD) : Valuation τ sig (Elt F) := StableHlo.after opsO (after3 2 (VG m) d)

theorem after1_keep (n : ℕ) (W : Dev nD → Valuation τ sig (Elt F)) (d : Dev nD) (b : Ref sig .tc) (hb : ∀ w, b ≠ Pipeline.arrRef cfg1.spec w) :
    after1 n W d (Proc.devRef .tc b) = W d (Proc.devRef .tc b) :=
  Pipeline.afterRegion_of_not_arr (cfg := Pipeline.pin (pcfgs (F := F)) adm 0) (pdats n W 0 d) (W d) hb
theorem after3_keep (n : ℕ) (W : Dev nD → Valuation τ sig (Elt F)) (d : Dev nD) (b : Ref sig .tc) (hb : ∀ w, b ≠ Pipeline.arrRef cfg3.spec w) :
    after3 n W d (Proc.devRef .tc b) = W d (Proc.devRef .tc b) :=
  Pipeline.afterRegion_of_not_arr (cfg := Pipeline.pin (pcfgs (F := F)) adm 1) (pdats n W 1 d) (W d) hb

theorem VE_keep (d : Dev nD) (b : Ref sig .tc) (h1 : ∀ x ∈ opsG2_wr, b ≠ x) (h2 : ∀ w, b ≠ Pipeline.arrRef cfg1.spec w) (h3 : ∀ x ∈ opsR1_wr, b ≠ x)
    (h4 : b ≠ main_v54_0) (h5 : b ≠ main_v54_1) : VE m d (Proc.devRef .tc b) = VA m d (Proc.devRef .tc b) := by
  unfold VE VC
  rw [opsG2_keep _ b h1, after1_keep 1 _ d b h2, opsR1_keep _ b h3, scVal0_off _ b h4 h5]

theorem VE_arg1 (d : Dev nD) : VE m d (Proc.devRef .tc main_arg1) = VA m d (Proc.devRef .tc main_arg1) :=
  VE_keep m d main_arg1 (by decide) (by decide) (by decide) (by decide) (by decide)
theorem VE_v8 (d : Dev nD) : VE m d (Proc.devRef .tc main_v8) = VA m d (Proc.devRef .tc main_v8) :=
  VE_keep m d main_v8 (by decide) (by decide) (by decide) (by decide) (by decide)

/-- The contents the gather calls are stated over. -/
def W₀ : Contents F where
  fi0 d := VA m d (Proc.devRef .tc main_v53)
  fi2 d := VE m d (Proc.devRef .tc main_v58)
  fe d := VA m d (Proc.devRef .tc main_arg1)
  fl d := VA m d (Proc.devRef .tc main_v8)

end Cert.Proof.Ideal

end
-- ==== Proof.Ideal.Run.lean ====
/-
  The whole program's run: every buffer of the TensorCore ends at the last stage's contents.
-/
module

public import proofs.«01_k».proof.Proof.Ideal.Vals
public import Idealize.ShloMosaic.Lib.StableHlo.Run
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

variable (m : (ℓ : Loc nD τ sig) → Buf (Elt F) ℓ) (ρ : Dev nD → PrngReg)

theorem cells_inj : Function.Injective (Pipeline.cellOf (nD := nD) (τ := τ) (Pipeline.pin (pcfgs (F := F)) adm)) := cellOf_inj

/-- The launch's ghost state: the handshakes' rounds and the dense calls' rounds. -/
def u₀ : UU := (initOf (K (F := F)).hsCells (K (F := F)).hsToks,
  (initOf (Pipeline.cells (nD := nD) (τ := τ) (Pipeline.pin (pcfgs (F := F)) adm) cells_inj) (Pipeline.launchToks (nD := nD) (τ := τ) (Pipeline.pin (pcfgs (F := F)) adm) cells_inj), (1 : Counters)))

/-- What each core is dealt for its two dense calls. -/
abbrev Gd (d : Dev nD) : sProp 𝕄 := iprop(ghost (F := F) 0 d ∗ ghost (F := F) 1 d)

theorem bigSep_emp' {I : Type} (s : Finset I) : (bigSep s fun _ => iprop(emp)) = (iprop(emp) : sProp 𝕄) := bigSep_emp_const s

theorem ghosts : iprop((bigSep Finset.univ fun c : Dev nD => bigSep Finset.univ fun p => Pipeline.cellsGhost (Pipeline.pin (pcfgs (F := F)) adm) (EP (F := F)) p c)
      ∗ (bigSep Finset.univ fun c : Dev nD => bigSep Finset.univ fun p => (Pipeline.toksInit (Pipeline.pin (pcfgs (F := F)) adm) (EP (F := F)) p c : sProp 𝕄)))
    ⊢ (bigSep Finset.univ fun d : Dev nD => Gd (F := F) d) := by
  have h2 : ∀ Φ : Fin 2 → sProp 𝕄, (bigSep Finset.univ fun p => Φ p) = iprop(Φ 0 ∗ Φ 1) := fun Φ => by
    rw [show (Finset.univ : Finset (Fin 2)) = {0, 1} by decide, SparseCore.bigSep_insert' (by decide), bigSep_singleton]
  rw [← bigSep_sep']
  refine bigSep_mono fun d _ => ?_
  rw [h2, h2]
  change (iprop((Pipeline.cellsGhost (Pipeline.pin (pcfgs (F := F)) adm) (EP (F := F)) 0 d ∗ Pipeline.cellsGhost (Pipeline.pin (pcfgs (F := F)) adm) (EP (F := F)) 1 d) ∗ Pipeline.toksInit (Pipeline.pin (pcfgs (F := F)) adm) (EP (F := F)) 0 d ∗ Pipeline.toksInit (Pipeline.pin (pcfgs (F := F)) adm) (EP (F := F)) 1 d) : sProp 𝕄) ⊢ Gd (F := F) d
  iintro ⟨⟨Ha, Hb⟩, Hc, Hd⟩
  isplitl [Ha Hc]
  · isplitl [Ha] <;> iassumption
  · isplitl [Hb] <;> iassumption

theorem hu₀ (W : Contents F) : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 2 => (P W).x q thr) := by
  unfold u₀
  iintro Hu
  ihave H := (ownU_pair (initOf (K (F := F)).hsCells (K (F := F)).hsToks) (initOf (Pipeline.cells (nD := nD) (τ := τ) (Pipeline.pin (pcfgs (F := F)) adm) cells_inj) (Pipeline.launchToks (nD := nD) (τ := τ) (Pipeline.pin (pcfgs (F := F)) adm) cells_inj), (1 : Counters))) $$ Hu
  icases H with ⟨HH, HP⟩
  ihave H2 := (own_pair_emb embR (initOf (Pipeline.cells (nD := nD) (τ := τ) (Pipeline.pin (pcfgs (F := F)) adm) cells_inj) (Pipeline.launchToks (nD := nD) (τ := τ) (Pipeline.pin (pcfgs (F := F)) adm) cells_inj)) (1 : Counters)) $$ HP
  icases H2 with ⟨HP, -⟩
  imod (Pipeline.fund_ghost (Pipeline.pin (pcfgs (F := F)) adm) (EP (F := F)) cells_inj) $$ HP with H3
  imodintro
  isplitl [HH]; · iexact HH
  isplitl [H3]; · iapply ghosts; iexact H3
  rw [show (bigSep Finset.univ fun thr : Thread nD τ => bigSep Finset.univ fun q : Fin 2 => (P W).x q thr) = bigSep Finset.univ fun _ => iprop(emp) from
    bigSep_congr fun _ _ => bigSep_emp' _, bigSep_emp']
  iempintro

/-- At the end the core holds every buffer at the last stage's contents. -/
abbrev FIN (d : Dev nD) : sProp 𝕄 := StableHlo.held (T d) (Pipeline.ucRefs τ sig) (VI m d)

theorem unscoped_eq (d : Dev nD) : (unscopedBufs d (fun b => m ((SparseCore.T d).loc b)) : sProp 𝕄) = StableHlo.held (T d) (Pipeline.ucRefs τ sig) (V0 m d) :=
  Pipeline.unscopedBufs_held d (V0 m d)

/-- A run of host operations, its end named. -/
theorem seq_wp' (d : Dev nD) (ops : List (HloOp τ sig (Elt F))) (hs : ∀ op ∈ ops, op.bufs ⊆ Pipeline.ucRefs τ sig)
    (hf : ∀ op ∈ ops, op.fresh = ∅) (V V' : Valuation τ sig (Elt F)) (hV : V' = StableHlo.after ops V) (Q : PUnit → sProp 𝕄) :
    iprop(boundary (T d) ∗ StableHlo.held (T d) (Pipeline.ucRefs τ sig) V
        ∗ (iprop(boundary (T d) ∗ StableHlo.held (T d) (Pipeline.ucRefs τ sig) V') -∗ Q ⟨⟩))
      ⊢ wp frame (wpE ((K (F := F)).defs (D (F := F))) 𝒱 (T d) none) Set.univ (StableHlo.seq ops) Q := by
  subst hV; exact seq_wp d ops hs hf V Q

theorem W₀_fi0 (d : Dev nD) : VA m d (Proc.devRef .tc main_v53) = (W₀ m).fi0 d := by unfold W₀; exact Eq.refl _
theorem W₀_fi2 (d : Dev nD) : VE m d (Proc.devRef .tc main_v58) = (W₀ m).fi2 d := by unfold W₀; exact Eq.refl _
theorem W₀_fe (d : Dev nD) : VA m d (Proc.devRef .tc main_arg1) = (W₀ m).fe d := by unfold W₀; exact Eq.refl _
theorem W₀_fl (d : Dev nD) : VA m d (Proc.devRef .tc main_v8) = (W₀ m).fl d := by unfold W₀; exact Eq.refl _

/-- The TensorCore's program. -/
theorem hmain (κ : GSem nD τ sig → ℕ) (d : Dev nD) :
    iprop((K (F := F)).ctx EH (P (W₀ m)) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_eq]
  rw [show (main d : ProgH F) = (do main_part0 d; main_part1 d) from rfl, part0_eq, part1_eq]
  simp only [wp_bind]
  iintro ⟨#Hctx, Hst, ⟨Hb, Hh, Hts, Hp⟩, Hg0, Hg1⟩
  ihave #Hlev := (SparseCore.Cfg.ctx_levAts κ) $$ Hctx
  iapply (seq_wp' d opsP opsP_sub opsP_fresh (V0 m d) _ rfl) $$ [Hb Hh Hst Hts Hp Hg0 Hg1]
  isplitl [Hb]; · iexact Hb
  isplitl [Hh]; · iexact Hh
  iintro ⟨Hb, Hh⟩
  iapply (seq_wp' d opsF opsF_sub opsF_fresh _ _ rfl) $$ [Hb Hh Hst Hts Hp Hg0 Hg1]
  isplitl [Hb]; · iexact Hb
  isplitl [Hh]; · iexact Hh
  iintro ⟨Hb, Hh⟩
  iapply (seq_wp' d opsE opsE_sub opsE_fresh _ _ rfl) $$ [Hb Hh Hst Hts Hp Hg0 Hg1]
  isplitl [Hb]; · iexact Hb
  isplitl [Hh]; · iexact Hh
  iintro ⟨Hb, Hh⟩
  iapply (seq_wp' d opsG1 opsG1_sub opsG1_fresh _ (VA m d) (VA.eq_1 m d)) $$ [Hb Hh Hst Hts Hp Hg0 Hg1]
  isplitl [Hb]; · iexact Hb
  isplitl [Hh]; · iexact Hh
  iintro ⟨Hb, Hh⟩
  iapply (sc0_wp (W₀ m) κ d (VA m d) (W₀_fi0 m d) (W₀_fe m d) (W₀_fl m d)) $$ [Hb Hh Hst Hts Hp Hg0 Hg1]
  isplitr; · iexact Hctx
  isplitl [Hst]; · iexact Hst
  isplitl [Hh]; · iexact Hh
  iintro ⟨Hst, Hh⟩
  iapply (seq_wp' d opsR1 opsR1_sub opsR1_fresh (scVal0 (VA m d)) (VC m d) (VC.eq_1 m d)) $$ [Hb Hh Hst Hts Hp Hg0 Hg1]
  isplitl [Hb]; · iexact Hb
  isplitl [Hh]; · iexact Hh
  iintro ⟨Hb, Hh⟩
  iapply (call1_wp 1 (VC m) d) $$ [Hb Hh Hst Hts Hp Hg0 Hg1]
  isplitr; · iexact Hlev
  isplitl [Hst]; · iexact Hst
  isplitl [Hb]; · iexact Hb
  isplitl [Hh]; · iexact Hh
  isplitl [Hp]; · iexists _; iexact Hp
  isplitl [Hg0]; · iexact Hg0
  iintro ⟨Hst, Hb, Hh, Hp⟩
  iapply (seq_wp' d opsG2 opsG2_sub opsG2_fresh (after1 1 (VC m) d) (VE m d) (VE.eq_1 m d)) $$ [Hb Hh Hst Hts Hp Hg1]
  isplitl [Hb]; · iexact Hb
  isplitl [Hh]; · iexact Hh
  iintro ⟨Hb, Hh⟩
  iapply (sc2_wp (W₀ m) κ d (VE m d) (W₀_fi2 m d) ((VE_arg1 m d).trans (W₀_fe m d)) ((VE_v8 m d).trans (W₀_fl m d))) $$ [Hb Hh Hst Hts Hp Hg1]
  isplitr; · iexact Hctx
  isplitl [Hst]; · iexact Hst
  isplitl [Hh]; · iexact Hh
  iintro ⟨Hst, Hh⟩
  iapply (seq_wp' d opsR2 opsR2_sub opsR2_fresh (scVal2 (VE m d)) (VG m d) (VG.eq_1 m d)) $$ [Hb Hh Hst Hts Hp Hg1]
  isplitl [Hb]; · iexact Hb
  isplitl [Hh]; · iexact Hh
  iintro ⟨Hb, Hh⟩
  iapply (call3_wp 2 (VG m) d) $$ [Hb Hh Hst Hts Hp Hg1]
  isplitr; · iexact Hlev
  isplitl [Hst]; · iexact Hst
  isplitl [Hb]; · iexact Hb
  isplitl [Hh]; · iexact Hh
  isplitl [Hp]; · iexact Hp
  isplitl [Hg1]; · iexact Hg1
  iintro ⟨Hst, Hb, Hh, Hp⟩
  iapply (seq_wp' d opsO opsO_sub opsO_fresh (after3 2 (VG m) d) (VI m d) (VI.eq_1 m d)) $$ [Hb Hh Hst Hts]
  isplitl [Hb]; · iexact Hb
  isplitl [Hh]; · iexact Hh
  iintro ⟨Hb, Hh⟩
  isplitl [Hst]; · iexact Hst
  isplitl [Hh]; · iexact Hh
  isplitl [Hb] <;> iassumption

/-- What the memory holds at the end. -/
def fq (d : Dev nD) (s' : Phys nD τ sig (Elt F)) : Prop :=
  ∀ b : Ref sig .tc, ¬ b.isScoped → s'.mem.mem ((d.tc : Thread nD τ).loc b) = VI m d (Proc.devRef .tc b)

theorem hfin (d : Dev nD) (s' : Phys nD τ sig (Elt F)) : iprop(FIN m d ∗ SI s') ⊢ (⌜fq m d s'⌝ : sProp 𝕄) := by
  have h1 : ∀ b : Ref sig .tc, iprop(FIN m d ∗ SI s') ⊢ (⌜¬ b.isScoped → s'.mem.mem ((d.tc : Thread nD τ).loc b) = VI m d (Proc.devRef .tc b)⌝ : sProp 𝕄) := by
    intro b
    by_cases hb : b.isScoped = true
    · exact BI.pure_intro fun h => absurd hb h
    have hm := Finset.singleton_subset_iff.2 (mem_uc b hb)
    unfold FIN
    rw [StableHlo.held_sub_split (c := T d) hm (VI m d)]
    unfold StableHlo.held
    rw [bigSep_singleton]
    iintro ⟨⟨Hh, -⟩, HSI⟩
    ihave H := (SI_pointsTo_agree (Val := Elt F) (st := s') (ℓ := (d.tc : Thread nD τ).loc b) (I := Finset.univ) (q := fullShare) (f := VI m d (Proc.devRef .tc b))) $$ [HSI Hh]
    · isplitl [HSI] <;> iassumption
    icases H with %h2
    ipureintro; exact fun _ => funext fun i => h2 i (Finset.mem_univ i)
  exact (forall_intro h1).trans pure_forall.2

/-- The run: every buffer of every core, and every counter at zero. -/
def QC : PUnit × MemSt nD τ sig (Elt F) → Prop := fun r =>
  (∀ d : Dev nD, ∀ b : Ref sig .tc, ¬ b.isScoped → r.2.mem ((d.tc : Thread nD τ).loc b) = VI m d (Proc.devRef .tc b)) ∧ r.2.sem = fun _ => 0

theorem run_main [∀ e, Nonempty (Elt F e)] (hp0 : ∀ d, IdxOK ((W₀ m).fi0 d)) (hp2 : ∀ d, IdxOK ((W₀ m).fi2 d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (W₀ m)) (A := ∅) facts v₀
    (fun q hq => match q with | 0 => nomatch hq | 1 => nomatch hq)
    (fun q _ => match q with | 0 => tileObl0 (W₀ m) facts hp0 | 1 => tileObl2 (W₀ m) facts hp2)
    (fun q _ => match q with | 0 => SparseCore.Cfg.VecSplit.of_plain (vecSplit0 (W₀ m)) | 1 => SparseCore.Cfg.VecSplit.of_plain (vecSplit2 (W₀ m)))
    m ρ main (fun d => Gd (F := F) d) (FIN m) (u₀ (F := F)) (sep_elim_left.trans (hu₀ (W₀ m))) (hmain m ρ) (fq m) (hfin m) (QC m) (fun _ h hz => ⟨h, hz⟩)

end Cert.Proof.Ideal

end
-- ==== Proof.Ideal.Index.lean ====
/-
  The index lists the gather calls take, and that their words name rows of the table.
-/
module

public import proofs.«01_k».proof.Proof.Ideal.Vals
public import Idealize.ShloMosaic.Lib.StableHlo.Run
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

/-- The flat list of row numbers, from the categories. -/
def flatIdx (a : S16384x26.Idx → BitVec 32) : S425984.Idx → BitVec 32 :=
  shapeCast S425984 (addi a (broadcastInDim S16384x26 ![0, 1] bcast_S1x26_S16384x26_0_1 (broadcastInDim S1x26 ![1] bcast_S26_S1x26_1
    (muli (iotaInDim S26 32 0) (broadcastInDim S26 ![] bcast_S_S26 (constantI S_ 32 100000#32)))))) shapeCasts_S16384x26_S425984

theorem P_v6 (V : Valuation τ sig (Elt F)) : StableHlo.after opsP V (Proc.devRef .tc main_v6) = flatIdx (V (Proc.devRef .tc main_arg0)) := by
  unfold opsP
  after_results_simp
  rfl

theorem G1_v53 (V : Valuation τ sig (Elt F)) : StableHlo.after opsG1 V (Proc.devRef .tc main_v53)
    = (Host.dynamicSlice S212992 (V (Proc.devRef .tc main_v6) : S425984.Idx → BitVec 32) (fun _ => 0) sliceFits_S425984_S212992 : S212992.Idx → BitVec 32) := by
  unfold opsG1
  after_results_simp
  refine congrArg (fun z => Host.dynamicSlice S212992 (V (Proc.devRef .tc main_v6) : S425984.Idx → BitVec 32) z sliceFits_S425984_S212992) (funext fun k => ?_)
  obtain rfl : k = 0 := Subsingleton.elim _ _
  exact congrArg BitVec.toInt (congrFun (StableHlo.nullary_result (τ := τ) (Val := Elt F) main_c_7 (constantI S_ 32 0#32) _ _) (Shape.Idx.first h_S_))
theorem G2_v58 (V : Valuation τ sig (Elt F)) : StableHlo.after opsG2 V (Proc.devRef .tc main_v58)
    = (Host.dynamicSlice S212992 (V (Proc.devRef .tc main_v6) : S425984.Idx → BitVec 32) (fun _ => 212992) sliceFits_S425984_S212992 : S212992.Idx → BitVec 32) := by
  unfold opsG2
  after_results_simp
  refine congrArg (fun z => Host.dynamicSlice S212992 (V (Proc.devRef .tc main_v6) : S425984.Idx → BitVec 32) z sliceFits_S425984_S212992) (funext fun k => ?_)
  obtain rfl : k = 0 := Subsingleton.elim _ _
  exact congrArg BitVec.toInt (congrFun (StableHlo.nullary_result (τ := τ) (Val := Elt F) main_c_8 (constantI S_ 32 212992#32) _ _) (Shape.Idx.first h_S_))

variable (m : (ℓ : Loc nD τ sig) → Buf (Elt F) ℓ)

theorem VA_v6 (d : Dev nD) : VA m d (Proc.devRef .tc main_v6) = flatIdx (m (d, Proc.devRef .tc main_arg0)) := by
  unfold VA
  rw [opsG1_keep _ main_v6 (by decide), opsE_keep _ main_v6 (by decide), opsF_keep _ main_v6 (by decide), P_v6]
  rfl

theorem fi0_eq (d : Dev nD) : (W₀ m).fi0 d = Host.dynamicSlice S212992 (flatIdx (m (d, Proc.devRef .tc main_arg0))) (fun _ => 0) sliceFits_S425984_S212992 := by
  show VA m d (Proc.devRef .tc main_v53) = _
  unfold VA
  rw [G1_v53, opsE_keep _ main_v6 (by decide), opsF_keep _ main_v6 (by decide), P_v6]
  rfl
theorem fi2_eq (d : Dev nD) : (W₀ m).fi2 d = Host.dynamicSlice S212992 (flatIdx (m (d, Proc.devRef .tc main_arg0))) (fun _ => 212992) sliceFits_S425984_S212992 := by
  show VE m d (Proc.devRef .tc main_v58) = _
  have h : after1 1 (VC m) d (Proc.devRef .tc main_v6) = flatIdx (m (d, Proc.devRef .tc main_arg0)) := by
    rw [after1_keep 1 _ d main_v6 (by decide)]
    unfold VC
    rw [opsR1_keep _ main_v6 (by decide), scVal0_off _ main_v6 (by decide) (by decide), VA_v6]
  unfold VE
  rw [G2_v58, h]
  rfl

/-- Categories in range give row numbers in range. -/
def CatOK (a : S16384x26.Idx → BitVec 32) : Prop := ∀ i, (a i).toNat < 100000

theorem flat_eq (a : S16384x26.Idx → BitVec 32) (x : S425984.Idx) :
    flatIdx a x = a (Shape.reshapeEquiv shapeCasts_S16384x26_S425984 x) + BitVec.ofNat 32 ((Shape.reshapeEquiv shapeCasts_S16384x26_S425984 x) 1).val * 100000#32 := rfl

theorem word_ok (a : BitVec 32) (c : ℕ) (h1 : a.toNat < 100000) (h2 : c < 26) : (a + BitVec.ofNat 32 c * 100000#32).toNat = a.toNat + c * 100000 := by
  rw [BitVec.toNat_add, BitVec.toNat_mul, BitVec.toNat_ofNat, BitVec.toNat_ofNat]
  omega

theorem flat_ok (a : S16384x26.Idx → BitVec 32) (h : CatOK a) (x : S425984.Idx) : (flatIdx a x).toNat < 2600000 := by
  have h1 := h (Shape.reshapeEquiv shapeCasts_S16384x26_S425984 x)
  have h2 : ((Shape.reshapeEquiv shapeCasts_S16384x26_S425984 x) 1).val < 26 := ((Shape.reshapeEquiv shapeCasts_S16384x26_S425984 x) 1).isLt
  rw [flat_eq, word_ok _ _ h1 h2]
  revert h1 h2
  generalize (((Shape.reshapeEquiv shapeCasts_S16384x26_S425984) x) 1).val = c
  intro h1 h2
  omega

theorem ok0 (d : Dev nD) (h : CatOK (m (d, Proc.devRef .tc main_arg0))) : IdxOK ((W₀ m).fi0 d) := by
  rw [fi0_eq]; exact fun x => flat_ok _ h _
theorem ok2 (d : Dev nD) (h : CatOK (m (d, Proc.devRef .tc main_arg0))) : IdxOK ((W₀ m).fi2 d) := by
  rw [fi2_eq]; exact fun x => flat_ok _ h _

end Cert.Proof.Ideal

end
-- ==== Proof.Ideal.Frame.lean ====
/-
  The arguments at the end are the arguments at the launch.
-/
module

public import proofs.«01_k».proof.Proof.Ideal.Run
public import proofs.«01_k».proof.Proof.Ideal.Index
public import Idealize.ShloMosaic.Lib.Pipeline.RegionArraysS
public import Idealize.ShloMosaic.Lib.StableHlo.Run
public import Idealize.ShloMosaic.Lib.Claim
public import Idealize.ShloMosaic.Lib.Pipeline.FrameBody
public import Idealize.ShloMosaic.Lib.Pipeline.FrameSuffix
public import Idealize.ShloMosaic.Lib.Ring
public import Idealize.ShloMosaic.Lib.Exec
public import Idealize.ShloMosaic.Lib.VecWindow
public import Idealize.ShloMosaic.Lib.Pipeline.Kit

@[expose] public section

noncomputable section

namespace Cert.Proof.Ideal

open Cert.KernelIdeal Cert.KernelIdeal.Gen
open Idealize.ShloMosaic Idealize.ShloMosaic.TcCoe Idealize.ShloMosaic.Tactic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 2) (Elt F) ℕ UU ℕ

variable (m : (ℓ : Loc nD τ sig) → Buf (Elt F) ℓ) (ρ : Dev nD → PrngReg)

theorem after1_keeps (n : ℕ) (W : Dev nD → Valuation τ sig (Elt F)) (d : Dev nD) (b : Ref sig .tc)
    (hb : ∀ w, Pipeline.arrRef cfg1.spec w = b → (cfg1.win w).isOut = false) :
    after1 n W d (Proc.devRef .tc b) = W d (Proc.devRef .tc b) :=
  Pipeline.afterRegion_keeps (cfg := Pipeline.pin (pcfgs (F := F)) adm 0) (pdats n W 0 d) (W d) launch1.win.arr_inj
    (Dense1.A_eq (fun c b => W c (Proc.devRef .tc b)) (fun c => (K (F := F)).Otc c n) (recd (F := F) n) d) b hb
theorem after3_keeps (n : ℕ) (W : Dev nD → Valuation τ sig (Elt F)) (d : Dev nD) (b : Ref sig .tc)
    (hb : ∀ w, Pipeline.arrRef cfg3.spec w = b → (cfg3.win w).isOut = false) :
    after3 n W d (Proc.devRef .tc b) = W d (Proc.devRef .tc b) :=
  Pipeline.afterRegion_keeps (cfg := Pipeline.pin (pcfgs (F := F)) adm 1) (pdats n W 1 d) (W d) launch3.win.arr_inj
    (Dense3.A_eq (fun c b => W c (Proc.devRef .tc b)) (fun c => (K (F := F)).Otc c n) (recd (F := F) n) d) b hb

/-- A buffer nothing writes, at the start of the first gather call, -/
theorem VA_keep (d : Dev nD) (b : Ref sig .tc) (h1 : ∀ x ∈ opsP_wr ++ opsF_wr ++ opsE_wr ++ opsG1_wr, b ≠ x) :
    VA m d (Proc.devRef .tc b) = m (d, Proc.devRef .tc b) := by
  simp only [List.mem_append] at h1
  unfold VA
  rw [opsG1_keep _ b fun x hx => h1 x (Or.inr hx), opsE_keep _ b fun x hx => h1 x (Or.inl (Or.inr hx)),
    opsF_keep _ b fun x hx => h1 x (Or.inl (Or.inl (Or.inr hx))), opsP_keep _ b fun x hx => h1 x (Or.inl (Or.inl (Or.inl hx)))]
  rfl
/-- and at the end. -/
theorem VI_keep (d : Dev nD) (b : Ref sig .tc) (h1 : ∀ x ∈ opsP_wr ++ opsF_wr ++ opsE_wr ++ opsG1_wr, b ≠ x)
    (h2 : ∀ x ∈ opsR1_wr ++ opsG2_wr ++ opsR2_wr ++ opsO_wr ++ [main_v54_0, main_v54_1, main_v59_0, main_v59_1], b ≠ x)
    (h3 : ∀ w, Pipeline.arrRef cfg1.spec w = b → (cfg1.win w).isOut = false) (h4 : ∀ w, Pipeline.arrRef cfg3.spec w = b → (cfg3.win w).isOut = false) :
    VI m d (Proc.devRef .tc b) = m (d, Proc.devRef .tc b) := by
  simp only [List.mem_append] at h2
  unfold VI
  rw [opsO_keep _ b fun x hx => h2 x (Or.inl (Or.inr hx)), after3_keeps 2 _ d b h4]
  unfold VG
  rw [opsR2_keep _ b fun x hx => h2 x (Or.inl (Or.inl (Or.inr hx))), scVal2_off _ b (h2 _ (Or.inr (by decide))) (h2 _ (Or.inr (by decide)))]
  unfold VE
  rw [opsG2_keep _ b fun x hx => h2 x (Or.inl (Or.inl (Or.inl (Or.inr hx)))), after1_keeps 1 _ d b h3]
  unfold VC
  rw [opsR1_keep _ b fun x hx => h2 x (Or.inl (Or.inl (Or.inl (Or.inl hx)))), scVal0_off _ b (h2 _ (Or.inr (by decide))) (h2 _ (Or.inr (by decide)))]
  exact VA_keep m d b h1

/-- The claimed arguments. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]
theorem VI_arg (d : Dev nD) : ∀ b ∈ argRefs, VI m d (Proc.devRef .tc b) = m (d, Proc.devRef .tc b) := by
  intro b hb
  refine VI_keep m d b ?_ ?_ ?_ ?_ <;> revert b <;> decide

/-- The run from categories in range. -/
theorem run_ok [∀ e, Nonempty (Elt F e)] (h : ∀ d, CatOK (m (d, Proc.devRef .tc main_arg0))) :
    θ_run (Cert.KernelIdeal.defs (F := F)) (Cert.KernelIdeal.threads (F := F)) ⟨m, fun _ => 0, ρ⟩ (QC m) :=
  run_main m ρ (fun d => ok0 m d (h d)) (fun d => ok2 m d (h d))

theorem run_frame [∀ e, Nonempty (Elt F e)] (h : ∀ d, CatOK (m (d, Proc.devRef .tc main_arg0))) :
    θ_run (Cert.KernelIdeal.defs (F := F)) (Cert.KernelIdeal.threads (F := F)) ⟨m, fun _ => 0, ρ⟩
      (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19)) ∧ r.2.sem = fun _ => 0) :=
  (θ_run Cert.KernelIdeal.defs _ _).mono (fun r hr =>
    have key : ∀ c : Dev nD, ∀ b ∈ argRefs, ¬ b.isScoped → r.2.mem ((c.tc : Thread nD τ).loc b) = m ((c.tc : Thread nD τ).loc b) :=
      fun c b hb hs => (hr.1 c b hs).trans (VI_arg m c b hb)
    ⟨fun c => ⟨key c main_arg0 (by decide) (by decide), key c main_arg1 (by decide) (by decide), key c main_arg2 (by decide) (by decide), key c main_arg3 (by decide) (by decide), key c main_arg4 (by decide) (by decide), key c main_arg5 (by decide) (by decide), key c main_arg6 (by decide) (by decide), key c main_arg7 (by decide) (by decide), key c main_arg8 (by decide) (by decide), key c main_arg9 (by decide) (by decide), key c main_arg10 (by decide) (by decide), key c main_arg11 (by decide) (by decide), key c main_arg12 (by decide) (by decide), key c main_arg13 (by decide) (by decide), key c main_arg14 (by decide) (by decide), key c main_arg15 (by decide) (by decide), key c main_arg16 (by decide) (by decide), key c main_arg17 (by decide) (by decide), key c main_arg18 (by decide) (by decide), key c main_arg19 (by decide) (by decide)⟩, hr.2⟩) (run_ok m ρ h)

end Cert.Proof.Ideal

end
-- ==== Proof.Value.Rank.lean ====
/-
  The eight kept of twenty-six: the positions that a stable descending sort puts first are those beaten by fewer than
  eight others.
-/
module

public import Mathlib.Data.Finset.Card
public import Mathlib.Data.EReal.Basic
public import Idealize.ShloMosaic.Lib.SortFacts

@[expose] public section
noncomputable section
namespace Cert.Proof.Value
open Idealize.ShloMosaic

/-- `j` beats `i`: it is greater, or equal and earlier. -/
def Beats {n : ℕ} {α : Type} [LinearOrder α] (u : Fin n → α) (j i : Fin n) : Prop := u i < u j ∨ (u j = u i ∧ j < i)

instance {n : ℕ} {α : Type} [LinearOrder α] (u : Fin n → α) (j i : Fin n) : Decidable (Beats u j i) := by unfold Beats; infer_instance

/-- The number of positions that beat `i`. -/
def rank {n : ℕ} {α : Type} [LinearOrder α] (u : Fin n → α) (i : Fin n) : ℕ := (Finset.univ.filter fun j => Beats u j i).card

theorem beats_trans {n : ℕ} {α : Type} [LinearOrder α] (u : Fin n → α) {i j k : Fin n} (h : Beats u i j) (h' : Beats u j k) : Beats u i k := by
  unfold Beats at *
  rcases h with h | ⟨h, h1⟩ <;> rcases h' with h' | ⟨h', h2⟩
  · exact Or.inl (lt_trans h' h)
  · exact Or.inl (h' ▸ h)
  · exact Or.inl (h ▸ h')
  · exact Or.inr ⟨h.trans h', h1.trans h2⟩

theorem beats_irrefl {n : ℕ} {α : Type} [LinearOrder α] (u : Fin n → α) (i : Fin n) : ¬ Beats u i i := by
  unfold Beats; simp

theorem beats_total {n : ℕ} {α : Type} [LinearOrder α] (u : Fin n → α) {i j : Fin n} (h : i ≠ j) : Beats u i j ∨ Beats u j i := by
  unfold Beats
  rcases lt_trichotomy (u i) (u j) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- Along an enumeration of the positions in which each beats the later ones, the place is the rank. -/
theorem rank_of_sorted {n : ℕ} {α : Type} [LinearOrder α] (u : Fin n → α) (σ : Fin n → Fin n) (hσ : Function.Bijective σ)
    (hs : ∀ a b, a < b → Beats u (σ a) (σ b)) (a : Fin n) : rank u (σ a) = a.val := by
  unfold rank
  have : (Finset.univ.filter fun j => Beats u j (σ a)) = (Finset.univ.filter fun b => b < a).image σ := by
    ext j
    obtain ⟨b, rfl⟩ := hσ.2 j
    simp only [Finset.mem_filter, Finset.mem_univ, true_and, Finset.mem_image]
    constructor
    · intro h
      refine ⟨b, ?_, rfl⟩
      rcases lt_trichotomy b a with h1 | h1 | h1
      · exact h1
      · subst h1; exact absurd h (beats_irrefl u _)
      · exact absurd (beats_trans u h (hs _ _ h1)) (beats_irrefl u _)
    · rintro ⟨c, hc, hcb⟩
      rw [← hcb]; exact hs _ _ hc
  rw [this, Finset.card_image_of_injective _ hσ.1]
  have : (Finset.univ.filter fun b : Fin n => b < a) = Finset.Iio a := by ext; simp
  rw [this, Fin.card_Iio]

/-- Inserting an earlier position into a list in which each beats the later ones keeps it so. -/
theorem pairwise_beats_insert {n : ℕ} {α : Type} [LinearOrder α] (u : Fin n → α) (before : Fin n → Fin n → Bool)
    (hb : ∀ a b, before a b = true ↔ u b < u a) (a : Fin n) (l : List (Fin n)) (ha : ∀ b ∈ l, a < b)
    (hl : l.Pairwise (Beats u)) : (insertBefore before a l).Pairwise (Beats u) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore before a l).mem_iff.mp hc) with rfl | hc'
      · exact Or.inl ((hb _ _).mp h)
      · exact hl.1 c hc'
    · rename_i h
      have hab : Beats u a b := by
        have h1 : ¬ u a < u b := fun q => h ((hb _ _).mpr q)
        rcases lt_or_eq_of_le (not_lt.mp h1) with h2 | h2
        · exact Or.inl h2
        · exact Or.inr ⟨h2.symm, ha b (List.mem_cons_self ..)⟩
      refine List.pairwise_cons.mpr ⟨fun c hc => ?_, List.pairwise_cons.mpr hl⟩
      rcases List.mem_cons.mp hc with rfl | hc'
      · exact hab
      · exact beats_trans u hab (hl.1 c hc')

theorem pairwise_beats_sort {n : ℕ} {α : Type} [LinearOrder α] (u : Fin n → α) (before : Fin n → Fin n → Bool)
    (hb : ∀ a b, before a b = true ↔ u b < u a) (l : List (Fin n)) (hl : l.Pairwise (· < ·)) :
    (stableSort before l).Pairwise (Beats u) := by
  induction l with
  | nil => exact List.Pairwise.nil
  | cons a l ih =>
    rw [List.pairwise_cons] at hl
    unfold stableSort
    exact pairwise_beats_insert u before hb a _ (fun b h => hl.1 b ((perm_stableSort before l).mem_iff.mp h)) (ih hl.2)

/-- The position that a stable descending sort puts at place `a` is beaten by just `a` others. -/
theorem rank_sortedFrom {n : ℕ} {α : Type} [LinearOrder α] (u : Fin n → α) (before : Fin n → Fin n → Bool)
    (hb : ∀ a b, before a b = true ↔ u b < u a) (a : Fin n) : rank u (sortedFrom before a) = a.val := by
  refine rank_of_sorted u _ ⟨sortedFrom_injective _, sortedFrom_surjective _⟩ (fun x y hxy => ?_) a
  have hp := List.pairwise_iff_get.mp (pairwise_beats_sort u before hb (List.finRange n) (List.pairwise_lt_finRange n))
  exact hp _ _ hxy

/-- Ranks only depend on how the values compare. -/
theorem rank_congr {n : ℕ} {α β : Type} [LinearOrder α] [LinearOrder β] (u : Fin n → α) (v : Fin n → β)
    (h : ∀ i j, u i < u j ↔ v i < v j) (i : Fin n) : rank u i = rank v i := by
  have he : ∀ i j, u i = u j ↔ v i = v j := fun i j => by
    constructor <;> intro q
    · exact le_antisymm (not_lt.mp fun c => absurd ((h _ _).mpr c) (by rw [q]; exact lt_irrefl _)) (not_lt.mp fun c => absurd ((h _ _).mpr c) (by rw [q]; exact lt_irrefl _))
    · exact le_antisymm (not_lt.mp fun c => absurd ((h _ _).mp c) (by rw [q]; exact lt_irrefl _)) (not_lt.mp fun c => absurd ((h _ _).mp c) (by rw [q]; exact lt_irrefl _))
  unfold rank Beats
  simp only [h, he]

/-- Some position is beaten by no other. -/
theorem exists_rank_zero {n : ℕ} {α : Type} [LinearOrder α] (u : Fin (n + 1) → α) : ∃ i, rank u i = 0 := by
  classical
  exact ⟨_, rank_sortedFrom u (fun a b => decide (u b < u a)) (by simp) 0⟩

end Cert.Proof.Value
end
-- ==== Proof.Value.Spec.lean ====
/-
  One row's probability, and the kernel's and the reference's two ways of computing it.  The mask and what it is made
  of are real numbers; the hidden layers are extended reals.
-/
module

public import proofs.«01_k».proof.Proof.Value.Rank
public import Idealize.ShloMosaic.Lib.Pointwise
public import Idealize.ShloMosaic.PureOps.Ideal.Laws

@[expose] public section
noncomputable section
namespace Cert.Proof.Value
open Idealize.ShloMosaic

/-- The parameters; `c` is the normalisations' common factor. -/
structure Par where
  c : ℝ
  lb : EReal
  g0 : Fin 26 → ℝ
  b0 : Fin 26 → ℝ
  cw : Fin 416 → Fin 26 → ℝ
  cb : Fin 26 → ℝ
  cg : Fin 26 → ℝ
  ce : Fin 26 → ℝ
  w1 : Fin 416 → Fin 64 → EReal
  b1 : Fin 64 → ℝ
  g1 : Fin 64 → ℝ
  e1 : Fin 64 → EReal
  w2 : Fin 64 → Fin 32 → EReal
  b2 : Fin 32 → ℝ
  g2 : Fin 32 → ℝ
  e2 : Fin 32 → EReal
  w3 : Fin 32 → EReal
  b3 : EReal

/-- The field of a column of the flattened embedding. -/
def grp (k : Fin 416) : Fin 26 := ⟨k.val / 16, by omega⟩

namespace Par
variable (P : Par) (e : Fin 416 → ℝ) (l : Fin 26 → EReal)

/-- The normalised embedding, flattened; -/
def v (k : Fin 416) : ℝ := e k * P.c * P.g0 (grp k) + P.b0 (grp k)
/-- the fields' rectified scores; -/
def z (i : Fin 26) : ℝ := max (((∑ k, P.v e k * P.cw k i) + P.cb i) * P.c * P.cg i + P.ce i) 0
/-- the kept fields' total; -/
def tot : ℝ := ∑ j, if rank (P.z e) j < 8 then Real.exp (P.z e j) else 0
/-- the mask: the kept fields' shares; -/
def m (i : Fin 26) : ℝ := if rank (P.z e) i < 8 then Real.exp (P.z e i) / P.tot e else 0
/-- the two hidden layers; -/
def h1 (n : Fin 64) : EReal := max (((∑ k, ((P.v e k * P.m e (grp k) : ℝ) : EReal) * P.w1 k n) + P.b1 n) * P.c * P.g1 n + P.e1 n) 0
def h2 (p : Fin 32) : EReal := max (((∑ n, P.h1 e n * P.w2 n p) + P.b2 p) * P.c * P.g2 p + P.e2 p) 0
/-- and what the sigmoid is taken of. -/
def t : EReal := ((∑ f, l f) + P.lb) + ((∑ p, P.h2 e p * P.w3 p) + P.b3)
end Par

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_max (a b : ℝ) : ((max a b : ℝ) : EReal) = max (a : EReal) (b : EReal) := EReal.coe_strictMono.monotone.map_max

theorem fold_max_coe {n : ℕ} (z : Fin (n + 1) → ℝ) : ∃ μ : ℝ, Finset.fold max (⊥ : EReal) (fun i => (z i : EReal)) Finset.univ = (μ : EReal) := by
  obtain ⟨i, _, h⟩ := Finset.exists_mem_eq_sup (Finset.univ : Finset (Fin (n + 1))) Finset.univ_nonempty (fun i => (z i : EReal))
  exact ⟨z i, h⟩

theorem sub_coe (a b : ℝ) : ((a : EReal) - (b : EReal)) = ((a - b : ℝ) : EReal) := (EReal.coe_sub a b).symm

theorem div_coe_coe (a b : ℝ) (h : b ≠ 0) : Ideal.div (a : EReal) (b : EReal) = ((a / b : ℝ) : EReal) := by
  rw [Ideal.div_coe h, ← EReal.coe_mul]; congr 1; ring

/-- The total of the kept is positive: one at least is kept. -/
theorem kept_pos (u : Fin 26 → ℝ) (f : Fin 26 → ℝ) (hf : ∀ i, 0 < f i) : 0 < ∑ j, if rank u j < 8 then f j else 0 := by
  obtain ⟨i, hi⟩ := exists_rank_zero u
  refine lt_of_lt_of_le (hf i) ?_
  refine le_trans ?_ (Finset.single_le_sum (f := fun j => if rank u j < 8 then f j else 0) (fun j _ => ?_) (Finset.mem_univ i))
  · simp [hi]
  · split
    · exact (hf j).le
    · exact le_refl _

/-- Shares of the kept do not depend on a common factor. -/
theorem share_scale (u f : Fin 26 → ℝ) (s : ℝ) (hs : s ≠ 0) (i : Fin 26) :
    (if rank u i < 8 then f i * s else 0) / (∑ j, if rank u j < 8 then f j * s else 0)
      = if rank u i < 8 then f i / (∑ j, if rank u j < 8 then f j else 0) else 0 := by
  have : (∑ j, if rank u j < 8 then f j * s else 0) = (∑ j, if rank u j < 8 then f j else 0) * s := by
    rw [Finset.sum_mul]; exact Finset.sum_congr rfl fun j _ => by split <;> simp
  rw [this]
  split
  · rw [mul_div_mul_right _ _ hs]
  · simp

/-- The scores are the rectified real ones in extended-real form, the factor distributed as the kernel has it. -/
theorem kernel_scores (P : Par) (e : Fin 416 → ℝ) (i : Fin 26) (x0 x2 x3 : Fin 416 → EReal) (x4 : Fin 416 → EReal) (x5 x6 : EReal)
    (h0 : ∀ k, x0 k = e k) (h2 : ∀ k, x2 k = P.g0 (grp k) * P.c) (h3 : ∀ k, x3 k = P.b0 (grp k)) (h4 : ∀ k, x4 k = P.cw k i)
    (h5 : x5 = P.cg i * P.c) (h6 : x6 = P.cb i * P.cg i * P.c + P.ce i) :
    max ((∑ k, (x0 k * x2 k + x3 k) * x4 k) * x5 + x6) 0 = ((P.z e i : ℝ) : EReal) := by
  simp only [h0, h2, h3, h4, h5, h6, ← EReal.coe_mul, ← EReal.coe_add, ← coe_sum, ← EReal.coe_zero, ← coe_max]
  congr 1
  unfold Par.z Par.v
  congr 1
  rw [add_mul, add_mul, ← add_assoc]
  congr 1
  have : ∀ k, e k * (P.g0 (grp k) * P.c) = e k * P.c * P.g0 (grp k) := fun k => by ring
  simp only [this]
  ring

/-- A choice by a decided proposition. -/
theorem select_decide (p : Prop) [Decidable p] {α : Type} (a b : α) : Scalar.select (BitVec.ofBool (decide p)) a b = if p then a else b := by
  by_cases h : p <;> simp [Scalar.select, h]

/-- The kernel's mask is the real one. -/
theorem kernel_mask (P : Par) (e : Fin 416 → ℝ) (μ : ℝ) (i : Fin 26) :
    Ideal.div (if rank (P.z e) i < 8 then Ideal.exp ((P.z e i : EReal) - (μ : EReal)) else (0 : EReal))
        (∑ j, if rank (P.z e) j < 8 then Ideal.exp ((P.z e j : EReal) - (μ : EReal)) else (0 : EReal))
      = ((P.m e i : ℝ) : EReal) := by
  have hs : ∀ j, (if rank (P.z e) j < 8 then Ideal.exp ((P.z e j : EReal) - (μ : EReal)) else (0 : EReal))
      = (((if rank (P.z e) j < 8 then Real.exp (P.z e j) * Real.exp (-μ) else 0 : ℝ)) : EReal) := fun j => by
    split
    · rw [sub_coe, Ideal.exp_coe, sub_eq_add_neg, Real.exp_add]
    · rfl
  simp only [hs]
  rw [← coe_sum, div_coe_coe _ _ (kept_pos (P.z e) _ fun j => mul_pos (Real.exp_pos _) (Real.exp_pos _)).ne',
    share_scale (P.z e) (fun j => Real.exp (P.z e j)) _ (Real.exp_pos _).ne']
  rfl

/-- A real scale and a real shift of an extended real, the scale distributed or not. -/
theorem affine (x e : EReal) (b c g : ℝ) : x * ((g : EReal) * c) + ((b : EReal) * g * c + e) = (x + b) * c * g + e := by
  rw [← add_assoc]
  congr 1
  rw [mul_assoc (x + b), mul_assoc (b : EReal), mul_comm (c : EReal), ← EReal.coe_mul, ← EReal.coe_mul]
  generalize g * c = r
  rcases lt_trichotomy r 0 with h | h | h
  · induction x with
    | bot => rw [EReal.bot_add, EReal.bot_mul_coe_of_neg h, EReal.top_add_coe]
    | coe x => rw [← EReal.coe_mul, ← EReal.coe_add, ← EReal.coe_add, ← EReal.coe_mul, add_mul]
    | top => rw [EReal.top_add_coe, EReal.top_mul_coe_of_neg h, EReal.bot_add]
  · subst h; simp
  · induction x with
    | bot => rw [EReal.bot_add, EReal.bot_mul_coe_of_pos h, EReal.bot_add]
    | coe x => rw [← EReal.coe_mul, ← EReal.coe_add, ← EReal.coe_add, ← EReal.coe_mul, add_mul]
    | top => rw [EReal.top_add_coe, EReal.top_mul_coe_of_pos h, EReal.top_add_coe]

/-- The kernel's first hidden layer. -/
theorem kernel_h1 (P : Par) (e : Fin 416 → ℝ) (n : Fin 64) (y x8 : Fin 416 → EReal) (x9 x10 : EReal)
    (hy : ∀ k, y k = ((P.v e k * P.m e (grp k) : ℝ) : EReal)) (h8 : ∀ k, x8 k = P.w1 k n)
    (h9 : x9 = P.g1 n * P.c) (h10 : x10 = P.b1 n * P.g1 n * P.c + P.e1 n) :
    max ((∑ k, y k * x8 k) * x9 + x10) 0 = P.h1 e n := by
  simp only [hy, h8, h9, h10]
  rw [affine]
  rfl

/-- The kernel's second hidden layer. -/
theorem kernel_h2 (P : Par) (e : Fin 416 → ℝ) (n : Fin 32) (y x11 : Fin 64 → EReal) (x12 x13 : EReal)
    (hy : ∀ k, y k = P.h1 e k) (h8 : ∀ k, x11 k = P.w2 k n)
    (h9 : x12 = P.g2 n * P.c) (h10 : x13 = P.b2 n * P.g2 n * P.c + P.e2 n) :
    max ((∑ k, y k * x11 k) * x12 + x13) 0 = P.h2 e n := by
  simp only [hy, h8, h9, h10]
  rw [affine]
  rfl

/-- What the kernel takes the sigmoid of. -/
theorem kernel_t (P : Par) (e : Fin 416 → ℝ) (l : Fin 26 → EReal) (h x14 : Fin 32 → EReal) (x1 : Fin 26 → EReal) (x15 : EReal)
    (hh : ∀ p, h p = P.h2 e p) (h14 : ∀ p, x14 p = P.w3 p) (h1 : ∀ f, x1 f = l f)
    (h15 : x15 = P.lb + P.b3) :
    ∑ p, h p * x14 p + ∑ f, x1 f + x15 = P.t e l := by
  simp only [hh, h14, h1, h15]
  unfold Par.t
  rw [add_comm (∑ p, P.h2 e p * P.w3 p), add_add_add_comm]

/-- The reference's score. -/
theorem ref_score (P : Par) (e : Fin 416 → ℝ) (i : Fin 26) (y w : Fin 416 → EReal) (b c g a : EReal)
    (hy : ∀ k, y k = ((P.v e k : ℝ) : EReal)) (hw : ∀ k, w k = P.cw k i) (hb : b = P.cb i) (hc : c = P.c) (hg : g = P.cg i) (ha : a = P.ce i) :
    max ((∑ k, y k * w k + b) * c * g + a) 0 = ((P.z e i : ℝ) : EReal) := by
  simp only [hy, hw, hb, hc, hg, ha, ← EReal.coe_mul, ← EReal.coe_add, ← coe_sum, ← EReal.coe_zero, ← coe_max]
  rfl

/-- The reference's hidden layers. -/
theorem ref_h1 (P : Par) (e : Fin 416 → ℝ) (i : Fin 64) (y w : Fin 416 → EReal) (b c g a : EReal)
    (hy : ∀ k, y k = ((P.v e k * P.m e (grp k) : ℝ) : EReal)) (hw : ∀ k, w k = P.w1 k i) (hb : b = P.b1 i) (hc : c = P.c) (hg : g = P.g1 i) (ha : a = P.e1 i) :
    max ((∑ k, y k * w k + b) * c * g + a) 0 = P.h1 e i := by
  simp only [hy, hw, hb, hc, hg, ha]
  rfl

theorem ref_h2 (P : Par) (e : Fin 416 → ℝ) (i : Fin 32) (y w : Fin 64 → EReal) (b c g a : EReal)
    (hy : ∀ k, y k = P.h1 e k) (hw : ∀ k, w k = P.w2 k i) (hb : b = P.b2 i) (hc : c = P.c) (hg : g = P.g2 i) (ha : a = P.e2 i) :
    max ((∑ k, y k * w k + b) * c * g + a) 0 = P.h2 e i := by
  simp only [hy, hw, hb, hc, hg, ha]
  rfl

/-- What the reference takes the sigmoid of. -/
theorem ref_t (P : Par) (e : Fin 416 → ℝ) (l : Fin 26 → EReal) (h w : Fin 32 → EReal) (x : Fin 26 → EReal) (a b : EReal)
    (hh : ∀ p, h p = P.h2 e p) (hw : ∀ p, w p = P.w3 p) (hx : ∀ f, x f = l f) (ha : a = P.lb) (hb : b = P.b3) :
    ∑ f, x f + a + (∑ p, h p * w p + b) = P.t e l := by
  simp only [hh, hw, hx, ha, hb]
  rfl

/-- The factor `1 / √(1 + ε)`, as the number the word holds. -/
theorem inv_real : ∃ c : ℝ, (Ideal.ofBits .f32 1065353132#32 : EReal) = (c : EReal) := by
  unfold Ideal.ofBits Ideal.ieee
  dsimp only
  rw [if_neg (by decide), if_neg (by decide)]
  exact ⟨_, rfl⟩

theorem ofBits_negInf : (Ideal.ofBits .f32 4286578688#32 : EReal) = ⊥ := by
  simp [Ideal.ofBits, Ideal.ieee]

theorem ofBits_one : (Ideal.ofBits .f32 0x3F800000#32 : EReal) = 1 := by
  simp [Ideal.ofBits, Ideal.ieee, -EReal.coe_mul]; norm_num

end Cert.Proof.Value
end
-- ==== Proof.Value.Args.lean ====
/-
  The arguments over the real numbers, and the two programs' common row of them.
-/
module

public import proofs.«01_k».proof.Proof.Value.Spec
public import Idealize.ShloMosaic.Lib.Pointwise.IndexBridge

@[expose] public section
noncomputable section
namespace Cert.Proof.Value
open Idealize.ShloMosaic
open Idealize.ShloMosaic.Pointwise

/-- The arguments in the programs' order after the categories: real where the claim needs it, else extended real. -/
structure Args where
  r1 : (⟨2, ![2600000, 16]⟩ : Shape).Idx → ℝ
  r2 : (⟨2, ![2600000, 1]⟩ : Shape).Idx → EReal
  r3 : (⟨1, ![1]⟩ : Shape).Idx → EReal
  r4 : (⟨1, ![26]⟩ : Shape).Idx → ℝ
  r5 : (⟨1, ![26]⟩ : Shape).Idx → ℝ
  r6 : (⟨2, ![416, 26]⟩ : Shape).Idx → ℝ
  r7 : (⟨1, ![26]⟩ : Shape).Idx → ℝ
  r8 : (⟨1, ![26]⟩ : Shape).Idx → ℝ
  r9 : (⟨1, ![26]⟩ : Shape).Idx → ℝ
  r10 : (⟨2, ![416, 64]⟩ : Shape).Idx → EReal
  r11 : (⟨1, ![64]⟩ : Shape).Idx → ℝ
  r12 : (⟨1, ![64]⟩ : Shape).Idx → ℝ
  r13 : (⟨1, ![64]⟩ : Shape).Idx → EReal
  r14 : (⟨2, ![64, 32]⟩ : Shape).Idx → EReal
  r15 : (⟨1, ![32]⟩ : Shape).Idx → ℝ
  r16 : (⟨1, ![32]⟩ : Shape).Idx → ℝ
  r17 : (⟨1, ![32]⟩ : Shape).Idx → EReal
  r18 : (⟨2, ![32, 1]⟩ : Shape).Idx → EReal
  r19 : (⟨1, ![1]⟩ : Shape).Idx → EReal

/-- The factor of the normalisations. -/
def inv : ℝ := inv_real.choose
theorem inv_spec : (Ideal.ofBits .f32 1065353132#32 : EReal) = (inv : EReal) := inv_real.choose_spec

namespace Args
variable (A : Args)

/-- The parameters. -/
def par : Par where
  c := inv
  lb := A.r3 (ix1 0)
  g0 f := A.r4 (ix1 f)
  b0 f := A.r5 (ix1 f)
  cw k i := A.r6 (ix2 k i)
  cb i := A.r7 (ix1 i)
  cg i := A.r8 (ix1 i)
  ce i := A.r9 (ix1 i)
  w1 k n := A.r10 (ix2 k n)
  b1 n := A.r11 (ix1 n)
  g1 n := A.r12 (ix1 n)
  e1 n := A.r13 (ix1 n)
  w2 n p := A.r14 (ix2 n p)
  b2 p := A.r15 (ix1 p)
  g2 p := A.r16 (ix1 p)
  e2 p := A.r17 (ix1 p)
  w3 p := A.r18 (ix2 p 0)
  b3 := A.r19 (ix1 0)

/-- The row of the tables that row `r`'s field `f` names. -/
def at_ (a : (⟨2, ![16384, 26]⟩ : Shape).Idx → BitVec 32) (r : Fin 16384) (f : Fin 26) : Fin 2600000 :=
  ⟨((a (ix2 r f)).toNat + f.val * 100000) % 2600000, Nat.mod_lt _ (by decide)⟩

/-- Row `r`'s flattened embedding, -/
def emb (a : (⟨2, ![16384, 26]⟩ : Shape).Idx → BitVec 32) (r : Fin 16384) (k : Fin 416) : ℝ :=
  A.r1 (ix2 (at_ a r (grp k)) ⟨k.val % 16, Nat.mod_lt _ (by decide)⟩)
/-- and its linear weights. -/
def lin (a : (⟨2, ![16384, 26]⟩ : Shape).Idx → BitVec 32) (r : Fin 16384) (f : Fin 26) : EReal := A.r2 (ix2 (at_ a r f) 0)

/-- Row `r`'s probability. -/
def row (a : (⟨2, ![16384, 26]⟩ : Shape).Idx → BitVec 32) (r : Fin 16384) : EReal :=
  Ideal.logistic (A.par.t (A.emb a r) (A.lin a r))

end Args
end Cert.Proof.Value
end
-- ==== Proof.Value.Consts.lean ====
/-
  What the host program computes around the calls, read at an index.
-/
module

public import proofs.«01_k».proof.Proof.Ideal.Frame
public import proofs.«01_k».proof.Proof.Value.Args
public import Idealize.ShloMosaic.Lib.Pointwise

@[expose] public section
noncomputable section
namespace Cert.Proof.Value
open Cert.KernelIdeal Cert.KernelIdeal.Gen Cert.Proof.Ideal
open Idealize.ShloMosaic Idealize.ShloMosaic.TcCoe Idealize.ShloMosaic.Tactic
open Idealize.ShloMosaic.Pointwise

local notation "Id" => Idealize.ShloMosaic.Ideal

section Steps
variable (W : Valuation τ sig (Elt Id))

theorem P_v13 (k : Fin 416) (x4 : S26.Idx → EReal) (h4 : W (Proc.devRef .tc main_arg4) = x4) : StableHlo.after opsP W (Proc.devRef .tc main_v13) (ix2 0 k)
    = x4 (ix1 (grp k)) * (Ideal.ofBits FTy.f32 1065353132#32 : EReal) := by
  subst h4
  unfold opsP
  after_results_simp
  pointwise []
  rfl
theorem P_v16 (k : Fin 416) (x5 : S26.Idx → EReal) (h5 : W (Proc.devRef .tc main_arg5) = x5) : StableHlo.after opsP W (Proc.devRef .tc main_v16) (ix2 0 k) = x5 (ix1 (grp k)) := by
  subst h5
  unfold opsP
  after_results_simp
  pointwise []
  rfl
theorem P_v19 (k : Fin 26) (x8 : S26.Idx → EReal) (h8 : W (Proc.devRef .tc main_arg8) = x8) : StableHlo.after opsP W (Proc.devRef .tc main_v19) (ix2 0 k)
    = x8 (ix1 k) * (Ideal.ofBits FTy.f32 1065353132#32 : EReal) := by
  subst h8
  unfold opsP
  after_results_simp
  pointwise []
theorem P_v24 (k : Fin 26) (x7 : S26.Idx → EReal) (h7 : W (Proc.devRef .tc main_arg7) = x7) (x8 : S26.Idx → EReal) (h8 : W (Proc.devRef .tc main_arg8) = x8) (x9 : S26.Idx → EReal) (h9 : W (Proc.devRef .tc main_arg9) = x9) : StableHlo.after opsP W (Proc.devRef .tc main_v24) (ix2 0 k)
    = x7 (ix1 k) * x8 (ix1 k) * (Ideal.ofBits FTy.f32 1065353132#32 : EReal)
      + x9 (ix1 k) := by
  subst h7 h8 h9
  unfold opsP
  after_results_simp
  pointwise []
theorem P_v27 (k : Fin 64) (x12 : S64.Idx → EReal) (h12 : W (Proc.devRef .tc main_arg12) = x12) : StableHlo.after opsP W (Proc.devRef .tc main_v27) (ix2 0 k)
    = x12 (ix1 k) * (Ideal.ofBits FTy.f32 1065353132#32 : EReal) := by
  subst h12
  unfold opsP
  after_results_simp
  pointwise []
theorem P_v32 (k : Fin 64) (x11 : S64.Idx → EReal) (h11 : W (Proc.devRef .tc main_arg11) = x11) (x12 : S64.Idx → EReal) (h12 : W (Proc.devRef .tc main_arg12) = x12) (x13 : S64.Idx → EReal) (h13 : W (Proc.devRef .tc main_arg13) = x13) : StableHlo.after opsP W (Proc.devRef .tc main_v32) (ix2 0 k)
    = x11 (ix1 k) * x12 (ix1 k) * (Ideal.ofBits FTy.f32 1065353132#32 : EReal)
      + x13 (ix1 k) := by
  subst h11 h12 h13
  unfold opsP
  after_results_simp
  pointwise []
theorem P_v35 (k : Fin 32) (x16 : S32.Idx → EReal) (h16 : W (Proc.devRef .tc main_arg16) = x16) : StableHlo.after opsP W (Proc.devRef .tc main_v35) (ix2 0 k)
    = x16 (ix1 k) * (Ideal.ofBits FTy.f32 1065353132#32 : EReal) := by
  subst h16
  unfold opsP
  after_results_simp
  pointwise []
theorem P_v40 (k : Fin 32) (x15 : S32.Idx → EReal) (h15 : W (Proc.devRef .tc main_arg15) = x15) (x16 : S32.Idx → EReal) (h16 : W (Proc.devRef .tc main_arg16) = x16) (x17 : S32.Idx → EReal) (h17 : W (Proc.devRef .tc main_arg17) = x17) : StableHlo.after opsP W (Proc.devRef .tc main_v40) (ix2 0 k)
    = x15 (ix1 k) * x16 (ix1 k) * (Ideal.ofBits FTy.f32 1065353132#32 : EReal)
      + x17 (ix1 k) := by
  subst h15 h16 h17
  unfold opsP
  after_results_simp
  pointwise []
theorem P_v8 (k : Fin 162500) (c : Fin 16) : StableHlo.after opsP W (Proc.devRef .tc main_v8) (ix2 k c)
    = (W (Proc.devRef .tc main_arg2) : S2600000x1.Idx → EReal) (ix2 ⟨k.val * 16 + c.val, by omega⟩ 0) := by
  unfold opsP
  after_results_simp
  pointwise []
theorem P_v42 (k : Fin 416) : StableHlo.after opsP W (Proc.devRef .tc main_v42) (ix2 0 k) = BitVec.ofNat 32 k.val := by
  unfold opsP
  after_results_simp
  pointwise []
theorem P_c6 (i : S_.Idx) : StableHlo.after opsP W (Proc.devRef .tc main_c_6) i = 16#32 := by
  unfold opsP
  after_results_simp
  rfl

/-- The quotient rounded down. -/
def fdiv (x : S1x416.Idx → BitVec 32) (y : S_.Idx → BitVec 32) : S1x416.Idx → BitVec 32 :=
  select (andi (cmpi .ne (signi x) (broadcastInDim S1x416 ![] bcast_S_S1x416 (signi y)))
      (cmpi .ne (Host.remsi x (broadcastInDim S1x416 ![] bcast_S_S1x416 y)) (broadcastInDim S1x416 ![] bcast_S_S1x416 (constantI S_ 32 0#32))))
    (subi (Host.divsi x (broadcastInDim S1x416 ![] bcast_S_S1x416 y)) (broadcastInDim S1x416 ![] bcast_S_S1x416 (constantI S_ 32 1#32)))
    (Host.divsi x (broadcastInDim S1x416 ![] bcast_S_S1x416 y))

theorem F_v43 : StableHlo.after opsF W (Proc.devRef .tc main_v43) = fdiv (W (Proc.devRef .tc main_v42)) (W (Proc.devRef .tc main_c_6)) := by
  unfold opsF
  after_results_simp
  rfl

theorem fdiv_const : ∀ k : Fin 416, fdiv (fun i => BitVec.ofNat 32 (i 1).val) (fun _ => 16#32) (ix2 0 k) = BitVec.ofNat 32 (k.val / 16) := by
  decide +kernel

theorem fdiv_at (x : S1x416.Idx → BitVec 32) (y : S_.Idx → BitVec 32) (hx : ∀ k, x (ix2 0 k) = BitVec.ofNat 32 k.val) (hy : ∀ i, y i = 16#32) (k : Fin 416) :
    fdiv x y (ix2 0 k) = BitVec.ofNat 32 (k.val / 16) := by
  have h1 : x = fun i => BitVec.ofNat 32 (i 1).val := by
    funext i
    obtain ⟨z, k, rfl⟩ : ∃ (z : Fin 1) (k : Fin 416), i = ix2 z k := ⟨i 0, i 1, eq_ix2 i⟩
    obtain rfl : z = 0 := Subsingleton.elim _ _
    exact hx k
  have h2 : y = fun _ => 16#32 := funext hy
  rw [h1, h2, fdiv_const]

theorem E_v49 (i : Fin 26) (k : Fin 416) (h : (W (Proc.devRef .tc main_v43) : S1x416.Idx → BitVec 32) (ix2 0 k) = BitVec.ofNat 32 (k.val / 16)) :
    StableHlo.after opsE W (Proc.devRef .tc main_v49) (ix2 i k) = (if i = grp k then (1 : EReal) else 0) := by
  unfold opsE
  after_results_simp
  pointwise []
  refine (congrArg (fun w => FloatOps.uitofp (F := Id) FTy.f32 (IntOp.cmpi CmpIPredicate.eq w (BitVec.ofNat 32 i.val))) h).trans ?_
  have e : IntOp.cmpi CmpIPredicate.eq (BitVec.ofNat 32 (k.val / 16)) (BitVec.ofNat 32 i.val) = BitVec.ofBool (decide (i = grp k)) := by
    show BitVec.ofBool (BitVec.ofNat 32 (k.val / 16) == BitVec.ofNat 32 i.val) = _
    refine congrArg BitVec.ofBool ?_
    have hk := k.isLt
    have hi := i.isLt
    by_cases hik : i = grp k
    · subst hik
      exact (beq_self_eq_true _).trans (decide_eq_true rfl).symm
    · rw [decide_eq_false hik, beq_eq_false_iff_ne]
      intro q
      have := congrArg BitVec.toNat q
      rw [BitVec.toNat_ofNat, BitVec.toNat_ofNat, Nat.mod_eq_of_lt (by omega), Nat.mod_eq_of_lt (by omega)] at this
      exact hik (Fin.ext this.symm)
  rw [e]
  by_cases hik : i = grp k
  · rw [if_pos hik, decide_eq_true hik]
    show (((1#1 : BitVec 1).toNat : ℝ) : EReal) = 1
    simp
  · rw [if_neg hik, decide_eq_false hik]
    show (((0#1 : BitVec 1).toNat : ℝ) : EReal) = 0
    simp
theorem E_v50 (k : Fin 32) (x18 : S32x1.Idx → EReal) (h18 : W (Proc.devRef .tc main_arg18) = x18) : StableHlo.after opsE W (Proc.devRef .tc main_v50) (ix2 0 k) = x18 (ix2 k 0) := by
  subst h18
  unfold opsE
  after_results_simp
  pointwise []
theorem G_v52 (x3 : S1.Idx → EReal) (h3 : W (Proc.devRef .tc main_arg3) = x3) (x19 : S1.Idx → EReal) (h19 : W (Proc.devRef .tc main_arg19) = x19) : StableHlo.after opsG1 W (Proc.devRef .tc main_v52) (ix2 0 0)
    = x3 (ix1 0) + x19 (ix1 0) := by
  subst h3 h19
  unfold opsG1
  after_results_simp
  pointwise []
theorem R_v55 (r : Fin 8192) (k : Fin 416) : StableHlo.after opsR1 W (Proc.devRef .tc main_v55) (ix2 r k)
    = (W (Proc.devRef .tc main_v54_0) : S212992x16.Idx → EReal) (ix2 ⟨r.val * 26 + k.val / 16, by omega⟩ ⟨k.val % 16, by omega⟩) := by
  unfold opsR1
  after_results_simp
  pointwise []
theorem R_v56 (r : Fin 8192) (k : Fin 26) : StableHlo.after opsR1 W (Proc.devRef .tc main_v56) (ix2 r k)
    = (W (Proc.devRef .tc main_v54_1) : S212992.Idx → EReal) (ix1 ⟨r.val * 26 + k.val, by omega⟩) := by
  unfold opsR1
  after_results_simp
  pointwise []
theorem R_v60 (r : Fin 8192) (k : Fin 416) : StableHlo.after opsR2 W (Proc.devRef .tc main_v60) (ix2 r k)
    = (W (Proc.devRef .tc main_v59_0) : S212992x16.Idx → EReal) (ix2 ⟨r.val * 26 + k.val / 16, by omega⟩ ⟨k.val % 16, by omega⟩) := by
  unfold opsR2
  after_results_simp
  pointwise []
theorem R_v61 (r : Fin 8192) (k : Fin 26) : StableHlo.after opsR2 W (Proc.devRef .tc main_v61) (ix2 r k)
    = (W (Proc.devRef .tc main_v59_1) : S212992.Idx → EReal) (ix1 ⟨r.val * 26 + k.val, by omega⟩) := by
  unfold opsR2
  after_results_simp
  pointwise []
theorem O_v64 (r : Fin 16384) : StableHlo.after opsO W (Proc.devRef .tc main_v64) (ix1 r)
    = (if h : r.val < 8192 then (W (Proc.devRef .tc main_v57) : S1x8192.Idx → EReal) (ix2 0 ⟨r.val, h⟩)
      else (W (Proc.devRef .tc main_v62) : S1x8192.Idx → EReal) (ix2 0 ⟨r.val - 8192, by omega⟩)) := by
  unfold opsO
  after_results_simp
  pointwise []

/-- The flat list's word. -/
theorem flat_at (a : S16384x26.Idx → BitVec 32) (ha : CatOK a) (q : Fin 425984) :
    flatIdx a (ix1 q) = BitVec.ofNat 32 (Args.at_ a ⟨q.val / 26, by omega⟩ ⟨q.val % 26, Nat.mod_lt _ (by decide)⟩).val := by
  have h : flatIdx a (ix1 q) = IntOp.addi (a (ix2 ⟨q.val / 26, by omega⟩ ⟨q.val % 26, Nat.mod_lt _ (by decide)⟩)) (IntOp.muli (BitVec.ofNat 32 (q.val % 26)) 100000#32) := by
    pointwise [flatIdx]
  rw [h]
  have hc := ha (ix2 ⟨q.val / 26, by omega⟩ ⟨q.val % 26, Nat.mod_lt _ (by decide)⟩)
  refine BitVec.eq_of_toNat_eq ?_
  refine (word_ok _ _ hc (Nat.mod_lt _ (by decide))).trans ?_
  unfold Args.at_
  dsimp only
  rw [BitVec.toNat_ofNat]
  have : q.val % 26 < 26 := Nat.mod_lt _ (by decide)
  have h1 : (a (ix2 ⟨q.val / 26, by omega⟩ ⟨q.val % 26, Nat.mod_lt _ (by decide)⟩)).toNat + q.val % 26 * 100000 < 2600000 := by omega
  rw [Nat.mod_eq_of_lt h1]
  exact (Nat.mod_eq_of_lt (by omega)).symm

theorem slice0_at (a : S425984.Idx → BitVec 32) (q : Fin 212992) : Host.dynamicSlice S212992 a (fun _ => 0) sliceFits_S425984_S212992 (ix1 q) = a (ix1 ⟨0 + q.val, by omega⟩) := by
  pointwise []
  refine congrArg (fun n => a (ix1 n)) (Fin.ext ?_)
  simp [Host.clampedStart]
theorem slice1_at (a : S425984.Idx → BitVec 32) (q : Fin 212992) : Host.dynamicSlice S212992 a (fun _ => 212992) sliceFits_S425984_S212992 (ix1 q) = a (ix1 ⟨212992 + q.val, by omega⟩) := by
  pointwise []
  refine congrArg (fun n => a (ix1 n)) (Fin.ext ?_)
  simp [Host.clampedStart]
end Steps
end Cert.Proof.Value
end
-- ==== Proof.Value.Gathered.lean ====
/-
  The kernel's memory, read at the dense calls: the constants every block reads and the rows gathered.
-/
module

public import proofs.«01_k».proof.Proof.Value.Consts

@[expose] public section

noncomputable section

namespace Cert.Proof.Value

open Cert.KernelIdeal Cert.KernelIdeal.Gen Cert.Proof.Ideal
open Idealize.ShloMosaic Idealize.ShloMosaic.TcCoe
open Idealize.ShloMosaic.Pointwise

local notation "Id" => Idealize.ShloMosaic.Ideal

/-- The launch memory's arguments: categories in range, and what the others hold. -/
structure Launch (m : (ℓ : Loc nD τ sig) → Buf (Elt Id) ℓ) (d : Dev nD) (a : S16384x26.Idx → BitVec 32) (A : Args) : Prop where
  h0 : m (d, Proc.devRef .tc main_arg0) = a
  cat : CatOK a
  h1 : m (d, Proc.devRef .tc main_arg1) = fun i => (A.r1 i : EReal)
  h2 : m (d, Proc.devRef .tc main_arg2) = fun i => (A.r2 i : EReal)
  h3 : m (d, Proc.devRef .tc main_arg3) = fun i => (A.r3 i : EReal)
  h4 : m (d, Proc.devRef .tc main_arg4) = fun i => (A.r4 i : EReal)
  h5 : m (d, Proc.devRef .tc main_arg5) = fun i => (A.r5 i : EReal)
  h6 : m (d, Proc.devRef .tc main_arg6) = fun i => (A.r6 i : EReal)
  h7 : m (d, Proc.devRef .tc main_arg7) = fun i => (A.r7 i : EReal)
  h8 : m (d, Proc.devRef .tc main_arg8) = fun i => (A.r8 i : EReal)
  h9 : m (d, Proc.devRef .tc main_arg9) = fun i => (A.r9 i : EReal)
  h10 : m (d, Proc.devRef .tc main_arg10) = fun i => (A.r10 i : EReal)
  h11 : m (d, Proc.devRef .tc main_arg11) = fun i => (A.r11 i : EReal)
  h12 : m (d, Proc.devRef .tc main_arg12) = fun i => (A.r12 i : EReal)
  h13 : m (d, Proc.devRef .tc main_arg13) = fun i => (A.r13 i : EReal)
  h14 : m (d, Proc.devRef .tc main_arg14) = fun i => (A.r14 i : EReal)
  h15 : m (d, Proc.devRef .tc main_arg15) = fun i => (A.r15 i : EReal)
  h16 : m (d, Proc.devRef .tc main_arg16) = fun i => (A.r16 i : EReal)
  h17 : m (d, Proc.devRef .tc main_arg17) = fun i => (A.r17 i : EReal)
  h18 : m (d, Proc.devRef .tc main_arg18) = fun i => (A.r18 i : EReal)
  h19 : m (d, Proc.devRef .tc main_arg19) = fun i => (A.r19 i : EReal)

/-- The arrays every block reads whole. -/
structure Whole (W : Valuation τ sig (Elt Id)) (A : Args) : Prop where
  c2 : ∀ k : Fin 416, (W (Proc.devRef .tc main_v13) : (⟨2, ![1, 416]⟩ : Shape).Idx → EReal) (ix2 (0 : Fin 1) k) = (A.par.g0 (grp k) : EReal) * (A.par.c : EReal)
  c3 : ∀ k : Fin 416, (W (Proc.devRef .tc main_v16) : (⟨2, ![1, 416]⟩ : Shape).Idx → EReal) (ix2 (0 : Fin 1) k) = (A.par.b0 (grp k) : EReal)
  c4 : ∀ (k : Fin 416) (i : Fin 26), (W (Proc.devRef .tc main_arg6) : (⟨2, ![416, 26]⟩ : Shape).Idx → EReal) (ix2 k i) = (A.par.cw k i : EReal)
  c5 : ∀ i : Fin 26, (W (Proc.devRef .tc main_v19) : (⟨2, ![1, 26]⟩ : Shape).Idx → EReal) (ix2 (0 : Fin 1) i) = (A.par.cg i : EReal) * (A.par.c : EReal)
  c6 : ∀ i : Fin 26, (W (Proc.devRef .tc main_v24) : (⟨2, ![1, 26]⟩ : Shape).Idx → EReal) (ix2 (0 : Fin 1) i) = (A.par.cb i : EReal) * (A.par.cg i : EReal) * (A.par.c : EReal) + (A.par.ce i : EReal)
  c7 : ∀ (i : Fin 26) (k : Fin 416), (W (Proc.devRef .tc main_v49) : (⟨2, ![26, 416]⟩ : Shape).Idx → EReal) (ix2 i k) = if i = grp k then (1 : EReal) else 0
  c8 : ∀ (k : Fin 416) (n : Fin 64), (W (Proc.devRef .tc main_arg10) : (⟨2, ![416, 64]⟩ : Shape).Idx → EReal) (ix2 k n) = (A.par.w1 k n : EReal)
  c9 : ∀ n : Fin 64, (W (Proc.devRef .tc main_v27) : (⟨2, ![1, 64]⟩ : Shape).Idx → EReal) (ix2 (0 : Fin 1) n) = (A.par.g1 n : EReal) * (A.par.c : EReal)
  c10 : ∀ n : Fin 64, (W (Proc.devRef .tc main_v32) : (⟨2, ![1, 64]⟩ : Shape).Idx → EReal) (ix2 (0 : Fin 1) n) = (A.par.b1 n : EReal) * (A.par.g1 n : EReal) * (A.par.c : EReal) + (A.par.e1 n : EReal)
  c11 : ∀ (n : Fin 64) (p : Fin 32), (W (Proc.devRef .tc main_arg14) : (⟨2, ![64, 32]⟩ : Shape).Idx → EReal) (ix2 n p) = (A.par.w2 n p : EReal)
  c12 : ∀ p : Fin 32, (W (Proc.devRef .tc main_v35) : (⟨2, ![1, 32]⟩ : Shape).Idx → EReal) (ix2 (0 : Fin 1) p) = (A.par.g2 p : EReal) * (A.par.c : EReal)
  c13 : ∀ p : Fin 32, (W (Proc.devRef .tc main_v40) : (⟨2, ![1, 32]⟩ : Shape).Idx → EReal) (ix2 (0 : Fin 1) p) = (A.par.b2 p : EReal) * (A.par.g2 p : EReal) * (A.par.c : EReal) + (A.par.e2 p : EReal)
  c14 : ∀ p : Fin 32, (W (Proc.devRef .tc main_v50) : (⟨2, ![1, 32]⟩ : Shape).Idx → EReal) (ix2 (0 : Fin 1) p) = (A.par.w3 p : EReal)
  c15 : (W (Proc.devRef .tc main_v52) : (⟨2, ![1, 1]⟩ : Shape).Idx → EReal) (ix2 (0 : Fin 1) (0 : Fin 1)) = (A.par.lb : EReal) + (A.par.b3 : EReal)

def wholeRefs : List (Ref sig .tc) := [main_v13, main_v16, main_arg6, main_v19, main_v24, main_v49, main_arg10, main_v27, main_v32, main_arg14, main_v35, main_v40, main_v50, main_v52]

theorem Whole.keep {W W' : Valuation τ sig (Elt Id)} {A : Args} (h : Whole W A)
    (k : ∀ b ∈ wholeRefs, W' (Proc.devRef .tc b) = W (Proc.devRef .tc b)) : Whole W' A where
  c2 := by rw [k main_v13 (by decide)]; exact h.c2
  c3 := by rw [k main_v16 (by decide)]; exact h.c3
  c4 := by rw [k main_arg6 (by decide)]; exact h.c4
  c5 := by rw [k main_v19 (by decide)]; exact h.c5
  c6 := by rw [k main_v24 (by decide)]; exact h.c6
  c7 := by rw [k main_v49 (by decide)]; exact h.c7
  c8 := by rw [k main_arg10 (by decide)]; exact h.c8
  c9 := by rw [k main_v27 (by decide)]; exact h.c9
  c10 := by rw [k main_v32 (by decide)]; exact h.c10
  c11 := by rw [k main_arg14 (by decide)]; exact h.c11
  c12 := by rw [k main_v35 (by decide)]; exact h.c12
  c13 := by rw [k main_v40 (by decide)]; exact h.c13
  c14 := by rw [k main_v50 (by decide)]; exact h.c14
  c15 := by rw [k main_v52 (by decide)]; exact h.c15

variable {m : (ℓ : Loc nD τ sig) → Buf (Elt Id) ℓ} {d : Dev nD} {a : S16384x26.Idx → BitVec 32} {A : Args}

set_option maxHeartbeats 1000000 in
theorem whole_VA (H : Launch m d a A) : Whole (VA m d) A where
  c2 k := by
    unfold VA; rw [opsG1_keep _ main_v13 (by decide), opsE_keep _ main_v13 (by decide), opsF_keep _ main_v13 (by decide), P_v13 (V0 m d) k _ H.h4, inv_spec]; rfl
  c3 k := by
    unfold VA; rw [opsG1_keep _ main_v16 (by decide), opsE_keep _ main_v16 (by decide), opsF_keep _ main_v16 (by decide), P_v16 (V0 m d) k _ H.h5]; rfl
  c4 k i := by rw [VA_keep m d main_arg6 (by decide), H.h6]; rfl
  c5 i := by
    unfold VA; rw [opsG1_keep _ main_v19 (by decide), opsE_keep _ main_v19 (by decide), opsF_keep _ main_v19 (by decide), P_v19 (V0 m d) i _ H.h8, inv_spec]; rfl
  c6 i := by
    unfold VA; rw [opsG1_keep _ main_v24 (by decide), opsE_keep _ main_v24 (by decide), opsF_keep _ main_v24 (by decide), P_v24 (V0 m d) i _ H.h7 _ H.h8 _ H.h9, inv_spec]; rfl
  c7 i k := by
    unfold VA; rw [opsG1_keep _ main_v49 (by decide)]
    refine E_v49 _ i k ?_
    rw [F_v43]
    exact fdiv_at _ _ (P_v42 _) (P_c6 _) k
  c8 k n := by rw [VA_keep m d main_arg10 (by decide), H.h10]; rfl
  c9 n := by
    unfold VA; rw [opsG1_keep _ main_v27 (by decide), opsE_keep _ main_v27 (by decide), opsF_keep _ main_v27 (by decide), P_v27 (V0 m d) n _ H.h12, inv_spec]; rfl
  c10 n := by
    unfold VA; rw [opsG1_keep _ main_v32 (by decide), opsE_keep _ main_v32 (by decide), opsF_keep _ main_v32 (by decide), P_v32 (V0 m d) n _ H.h11 _ H.h12 _ H.h13, inv_spec]; rfl
  c11 n p := by rw [VA_keep m d main_arg14 (by decide), H.h14]; rfl
  c12 p := by
    unfold VA; rw [opsG1_keep _ main_v35 (by decide), opsE_keep _ main_v35 (by decide), opsF_keep _ main_v35 (by decide), P_v35 (V0 m d) p _ H.h16, inv_spec]; rfl
  c13 p := by
    unfold VA; rw [opsG1_keep _ main_v40 (by decide), opsE_keep _ main_v40 (by decide), opsF_keep _ main_v40 (by decide), P_v40 (V0 m d) p _ H.h15 _ H.h16 _ H.h17, inv_spec]; rfl
  c14 p := by
    unfold VA; rw [opsG1_keep _ main_v50 (by decide)]
    refine E_v50 (StableHlo.after opsF (StableHlo.after opsP (V0 m d))) p (fun i => (A.r18 i : EReal)) ?_
    rw [opsF_keep _ main_arg18 (by decide), opsP_keep _ main_arg18 (by decide)]; exact H.h18
  c15 := by
    unfold VA
    refine G_v52 (StableHlo.after opsE (StableHlo.after opsF (StableHlo.after opsP (V0 m d)))) (fun i => (A.r3 i : EReal)) ?_ (fun i => (A.r19 i : EReal)) ?_
    · rw [opsE_keep _ main_arg3 (by decide), opsF_keep _ main_arg3 (by decide), opsP_keep _ main_arg3 (by decide)]; exact H.h3
    · rw [opsE_keep _ main_arg19 (by decide), opsF_keep _ main_arg19 (by decide), opsP_keep _ main_arg19 (by decide)]; exact H.h19

theorem whole_VC (H : Launch m d a A) : Whole (VC m d) A := by
  refine (whole_VA H).keep fun b hb => ?_
  unfold VC
  rw [opsR1_keep _ b (by revert b; decide), scVal0_off _ b (by revert b; decide) (by revert b; decide)]

theorem VE_whole (b : Ref sig .tc) (hb : b ∈ wholeRefs) : VE m d (Proc.devRef .tc b) = VC m d (Proc.devRef .tc b) := by
  unfold VE
  rw [opsG2_keep _ b (by revert b; decide), after1_keeps 1 _ d b (by revert b; decide)]

theorem whole_VG (H : Launch m d a A) : Whole (VG m d) A := by
  refine (whole_VC H).keep fun b hb => ?_
  rw [← VE_whole b hb]
  unfold VG
  rw [opsR2_keep _ b (by revert b; decide), scVal2_off _ b (by revert b; decide) (by revert b; decide)]

/-! The rows gathered. -/

theorem gath (idx : S212992.Idx → BitVec 32) (emb : S2600000x16.Idx → EReal) (n : Fin 2600000) (q : Fin 212992) (c : Fin 16)
    (h : idx (ix1 q) = BitVec.ofNat 32 n.val) : EG (F := Id) idx emb (ix2 q c) = emb (ix2 n c) := by
  show emb (ix2 (rowE (idx (ix1 q))) c) = _
  refine congrArg (fun r => emb (ix2 r c)) (Fin.ext ?_)
  rw [h]
  have := n.isLt
  simp only [rowE, BitVec.toNat_ofNat]
  omega

theorem gathL (idx : S212992.Idx → BitVec 32) (lin : S162500x16.Idx → EReal) (l : S2600000x1.Idx → EReal) (n : Fin 2600000) (q : Fin 212992)
    (hl : ∀ (k : Fin 162500) (c : Fin 16), lin (ix2 k c) = l (ix2 ⟨k.val * 16 + c.val, by omega⟩ 0))
    (h : idx (ix1 q) = BitVec.ofNat 32 n.val) : LV (F := Id) idx lin (ix1 q) = l (ix2 n 0) := by
  show lin (ix2 (rowL (idx (ix1 q))) (laneL (idx (ix1 q)))) = _
  rw [hl]
  refine congrArg (fun r => l (ix2 r 0)) (Fin.ext ?_)
  rw [h]
  have := n.isLt
  simp only [rowL, laneL, BitVec.toNat_ofNat]
  omega

theorem lt0 (R : Fin 8192) : R.val < 16384 := by omega
theorem lt1 (R : Fin 8192) : 8192 + R.val < 16384 := by omega

theorem word0 (H : Launch m d a A) (R : Fin 8192) (f : Fin 26) :
    (VA m d (Proc.devRef .tc main_v53) : S212992.Idx → BitVec 32) (ix1 ⟨R.val * 26 + f.val, by omega⟩)
      = BitVec.ofNat 32 (Args.at_ a ⟨R.val, lt0 R⟩ f).val := by
  have e : VA m d (Proc.devRef .tc main_v53) = _ := fi0_eq m d
  rw [e, H.h0, slice0_at, flat_at a H.cat]
  have h1 : (⟨(0 + (R.val * 26 + f.val)) / 26, by omega⟩ : Fin 16384) = ⟨R.val, lt0 R⟩ := Fin.ext (by show (0 + (R.val * 26 + f.val)) / 26 = R.val; omega)
  have h2 : (⟨(0 + (R.val * 26 + f.val)) % 26, Nat.mod_lt _ (by decide)⟩ : Fin 26) = f := Fin.ext (by show (0 + (R.val * 26 + f.val)) % 26 = f.val; omega)
  exact congrArg₂ (fun r f => BitVec.ofNat 32 (Args.at_ a r f).val) h1 h2
theorem word1 (H : Launch m d a A) (R : Fin 8192) (f : Fin 26) :
    (VE m d (Proc.devRef .tc main_v58) : S212992.Idx → BitVec 32) (ix1 ⟨R.val * 26 + f.val, by omega⟩)
      = BitVec.ofNat 32 (Args.at_ a ⟨8192 + R.val, lt1 R⟩ f).val := by
  have e : VE m d (Proc.devRef .tc main_v58) = _ := fi2_eq m d
  rw [e, H.h0, slice1_at, flat_at a H.cat]
  have h1 : (⟨(212992 + (R.val * 26 + f.val)) / 26, by omega⟩ : Fin 16384) = ⟨8192 + R.val, lt1 R⟩ := Fin.ext (by show (212992 + (R.val * 26 + f.val)) / 26 = 8192 + R.val; omega)
  have h2 : (⟨(212992 + (R.val * 26 + f.val)) % 26, Nat.mod_lt _ (by decide)⟩ : Fin 26) = f := Fin.ext (by show (212992 + (R.val * 26 + f.val)) % 26 = f.val; omega)
  exact congrArg₂ (fun r f => BitVec.ofNat 32 (Args.at_ a r f).val) h1 h2

theorem VA_arg1 (H : Launch m d a A) : VA m d (Proc.devRef .tc main_arg1) = fun i => (A.r1 i : EReal) := by
  rw [VA_keep m d main_arg1 (by decide), H.h1]
theorem VA_v8_at (H : Launch m d a A) (k : Fin 162500) (c : Fin 16) :
    (VA m d (Proc.devRef .tc main_v8) : S162500x16.Idx → EReal) (ix2 k c) = (A.r2 (ix2 ⟨k.val * 16 + c.val, by omega⟩ 0) : EReal) := by
  unfold VA
  rw [opsG1_keep _ main_v8 (by decide), opsE_keep _ main_v8 (by decide), opsF_keep _ main_v8 (by decide), P_v8]
  exact congrFun H.h2 _

theorem emb0 (H : Launch m d a A) (R : Fin 8192) (k : Fin 416) :
    (VC m d (Proc.devRef .tc main_v55) : S8192x416.Idx → EReal) (ix2 R k) = (A.emb a ⟨R.val, lt0 R⟩ k : EReal) := by
  unfold VC
  rw [R_v55, scVal0_o, VA_arg1 H]
  exact gath _ _ (Args.at_ a ⟨R.val, lt0 R⟩ (grp k)) _ _ (word0 H R (grp k))
theorem emb1 (H : Launch m d a A) (R : Fin 8192) (k : Fin 416) :
    (VG m d (Proc.devRef .tc main_v60) : S8192x416.Idx → EReal) (ix2 R k) = (A.emb a ⟨8192 + R.val, lt1 R⟩ k : EReal) := by
  unfold VG
  rw [R_v60, scVal2_o, VE_arg1, VA_arg1 H]
  exact gath _ _ (Args.at_ a ⟨8192 + R.val, lt1 R⟩ (grp k)) _ _ (word1 H R (grp k))
theorem lin0 (H : Launch m d a A) (R : Fin 8192) (f : Fin 26) :
    (VC m d (Proc.devRef .tc main_v56) : S8192x26.Idx → EReal) (ix2 R f) = (A.lin a ⟨R.val, lt0 R⟩ f : EReal) := by
  unfold VC
  rw [R_v56, scVal0_p]
  exact gathL _ _ (fun i => (A.r2 i : EReal)) (Args.at_ a ⟨R.val, lt0 R⟩ f) _ (VA_v8_at H) (word0 H R f)
theorem lin1 (H : Launch m d a A) (R : Fin 8192) (f : Fin 26) :
    (VG m d (Proc.devRef .tc main_v61) : S8192x26.Idx → EReal) (ix2 R f) = (A.lin a ⟨8192 + R.val, lt1 R⟩ f : EReal) := by
  unfold VG
  rw [R_v61, scVal2_p, VE_v8]
  exact gathL _ _ (fun i => (A.r2 i : EReal)) (Args.at_ a ⟨8192 + R.val, lt1 R⟩ f) _ (VA_v8_at H) (word1 H R f)

end Cert.Proof.Value
end
-- ==== Proof.Value.Kept.lean ====
/-
  The ranks counted in words: a sum of 26 words, each 1 where a feature beats the one ranked and 0 where it does not.
-/
module

public import proofs.«01_k».proof.Proof.Value.Rank
public import proofs.«01_k».proof.Proof.Ideal.Dense1
public import Idealize.ShloMosaic.Lib.Pointwise

@[expose] public section
noncomputable section
namespace Cert.Proof.Value
open Idealize.ShloMosaic
open Idealize.ShloMosaic.Pointwise
open Cert.KernelIdeal Cert.KernelIdeal.Gen Cert.Proof.Ideal Cert.Proof.Ideal.Dense1

/-- One feature's word. -/
def word (u : Fin 26 → EReal) (i j : Fin 26) : BitVec 32 :=
  BitVec.setWidth 32 (IntOp.ori (BitVec.ofBool (decide (u i < u j)))
    (IntOp.andi (BitVec.ofBool (decide (u j = u i))) (IntOp.cmpi .sgt (BitVec.ofNat 32 i.val) (BitVec.ofNat 32 j.val))))

theorem sgt_small : ∀ i j : Fin 26, IntOp.cmpi .sgt (BitVec.ofNat 32 i.val) (BitVec.ofNat 32 j.val) = BitVec.ofBool (decide (j < i)) := by
  decide +kernel

theorem word_eq (u : Fin 26 → EReal) (i j : Fin 26) : word u i j = BitVec.ofNat 32 (if Beats u j i then 1 else 0) := by
  unfold word Beats
  rw [sgt_small]
  by_cases h1 : u i < u j <;> by_cases h2 : u j = u i <;> by_cases h3 : j < i <;> simp [h1, h2, h3, IntOp.ori, IntOp.andi]

theorem fold_words (u : Fin 26 → EReal) (i : Fin 26) (l : List (Fin 26)) (n : ℕ) :
    l.foldl (fun a j => IntOp.addi a (word u i j)) (BitVec.ofNat 32 n) = BitVec.ofNat 32 (n + (l.map fun j => if Beats u j i then 1 else 0).sum) := by
  induction l generalizing n with
  | nil => simp
  | cons j l ih =>
    rw [List.foldl_cons, word_eq, show IntOp.addi (BitVec.ofNat 32 n) (BitVec.ofNat 32 (if Beats u j i then 1 else 0)) = BitVec.ofNat 32 (n + if Beats u j i then 1 else 0) from
      (BitVec.ofNat_add n _).symm, ih, List.map_cons, List.sum_cons, Nat.add_assoc]

theorem slt_small : ∀ n : Fin 27, IntOp.cmpi .slt (BitVec.ofNat 32 n.val) 8#32 = BitVec.ofBool (decide (n.val < 8)) := by
  decide +kernel

theorem count_words (u : Fin 26 → EReal) (i : Fin 26) :
    IntOp.cmpi .slt ((List.finRange 26).foldl (fun a j => IntOp.addi a (word u i j)) 0#32) 8#32 = BitVec.ofBool (decide (rank u i < 8)) := by
  have h : ((List.finRange 26).map fun j => if Beats u j i then 1 else 0).sum = rank u i := by
    unfold rank; rw [Finset.card_filter, Fin.sum_univ_def]
  rw [show (0#32 : BitVec 32) = BitVec.ofNat 32 0 from rfl, fold_words, h, Nat.zero_add]
  exact slt_small ⟨rank u i, Nat.lt_succ_of_le ((Finset.card_le_univ _).trans (by simp))⟩

theorem kept_at (x0 : Vec Ideal S512x416 .f32) (x2 x3 : Vec Ideal S1x416 .f32) (x4 : Vec Ideal S416x26 .f32) (x5 x6 : Vec Ideal S1x26 .f32) (i : Fin 26) (c : Fin 512) :
    keptT x0 x2 x3 x4 x5 x6 (ix2 i c) = BitVec.ofBool (decide (rank (fun j => (scoresT x0 x2 x3 x4 x5 x6 (ix2 j c) : EReal)) i < 8)) := by
  unfold keptT scoresT k1_pay4 k1_pay6 k1_pay7 k1_pay5
  generalize k1_pay3 x0 x2 x3 x4 x5 x6 = u
  refine Eq.trans ?_ (count_words (fun j => u (ix2 j c)) i)
  pointwise [k1_pay29, k1_pay24, k1_pay19, k1_pay14, k1_pay9, k1_pay8, k1_pay10, k1_pay11, k1_pay12, k1_pay13, k1_pay15, k1_pay16, k1_pay17, k1_pay18, k1_pay20, k1_pay21, k1_pay22, k1_pay23, k1_pay25, k1_pay26, k1_pay27, k1_pay28]
  rfl

end Cert.Proof.Value
end
-- ==== Proof.Value.Block.lean ====
/-
  One row of the dense block: it is the sigmoid of the row's number.
-/
module

public import proofs.«01_k».proof.Proof.Value.Kept
public import proofs.«01_k».proof.Proof.Value.Spec
public import proofs.«01_k».proof.Proof.Ideal.Dense3

@[expose] public section
noncomputable section
namespace Cert.Proof.Value
open Idealize.ShloMosaic
open Idealize.ShloMosaic.Pointwise
open Cert.KernelIdeal Cert.KernelIdeal.Gen Cert.Proof.Ideal Cert.Proof.Ideal.Dense1

theorem pay3_at (x0 : Vec Ideal S512x416 .f32) (x2 x3 : Vec Ideal S1x416 .f32) (x4 : Vec Ideal S416x26 .f32) (x5 x6 : Vec Ideal S1x26 .f32) (i : Fin 26) (c : Fin 512) :
    k1_pay3 x0 x2 x3 x4 x5 x6 (ix2 i c)
      = max ((∑ x, (x0 (ix2 c x) * x2 (ix2 0 x) + x3 (ix2 0 x)) * x4 (ix2 x i)) * x5 (ix2 0 i) + x6 (ix2 0 i)) (0 : EReal) := by
  pointwise [k1_pay3, k1_pay2]

theorem pay2_at (x0 : Vec Ideal S512x416 .f32) (x2 x3 : Vec Ideal S1x416 .f32) (c : Fin 512) (k : Fin 416) :
    k1_pay2 x0 x2 x3 (ix2 c k) = (x0 (ix2 c k) * x2 (ix2 0 k) + x3 (ix2 0 k) : EReal) := by
  pointwise [k1_pay2]

theorem pay30_at (u : FVec Ideal S26x512 .f32) (i : Fin 26) (c : Fin 512) :
    k1_pay30 u (ix2 i c) = (Finset.fold max (⊥ : EReal) (fun x => u (ix2 x c)) Finset.univ : EReal) := by
  rw [← ofBits_negInf]
  pointwise [k1_pay30]

theorem pay31_at (v : FVec Ideal S512x416 .f32) (u : FVec Ideal S26x512 .f32) (k : IVec S26x512 1) (e : FVec Ideal S26x512 .f32) (x7 : Vec Ideal S26x416 .f32) (x8 : Vec Ideal S416x64 .f32) (x9 x10 : Vec Ideal S1x64 .f32) (x11 : Vec Ideal S64x32 .f32) (x12 x13 : Vec Ideal S1x32 .f32) (c : Fin 512) (p : Fin 32) :
    k1_pay31 v u k e x7 x8 x9 x10 x11 x12 x13 (ix2 c p)
      = max ((∑ x, max ((∑ y, (v (ix2 c y) * ∑ i, Ideal.div (Scalar.select (k (ix2 i c)) (Ideal.exp (u (ix2 i c) - e (ix2 i c))) 0) (∑ j, Scalar.select (k (ix2 j c)) (Ideal.exp (u (ix2 j c) - e (ix2 j c))) 0) * x7 (ix2 i y)) * x8 (ix2 y x)) * x9 (ix2 0 x) + x10 (ix2 0 x)) 0 * x11 (ix2 x p)) * x12 (ix2 0 p) + x13 (ix2 0 p)) (0 : EReal) := by
  pointwise [k1_pay31]

theorem pay1_at (h : FVec Ideal S512x32 .f32) (x14 : Vec Ideal S1x32 .f32) (x1 : Vec Ideal S512x26 .f32) (x15 : Vec Ideal S1x1 .f32) (c : Fin 512) :
    k1_pay1 h x14 x1 x15 (ix2 0 c) = Ideal.logistic (∑ x, h (ix2 c x) * x14 (ix2 0 x) + ∑ x, x1 (ix2 c x) + x15 (ix2 0 0)) := by
  pointwise [k1_pay1]

/-- The row of the block at `c`, on inputs that hold the parameters there. -/
theorem block_row (P : Par) (e : Fin 416 → ℝ) (l : Fin 26 → EReal) (c : Fin 512)
    (x0 : Vec Ideal S512x416 .f32) (x1 : Vec Ideal S512x26 .f32) (x2 : Vec Ideal S1x416 .f32) (x3 : Vec Ideal S1x416 .f32) (x4 : Vec Ideal S416x26 .f32) (x5 : Vec Ideal S1x26 .f32) (x6 : Vec Ideal S1x26 .f32) (x7 : Vec Ideal S26x416 .f32) (x8 : Vec Ideal S416x64 .f32) (x9 x10 : Vec Ideal S1x64 .f32) (x11 : Vec Ideal S64x32 .f32) (x12 x13 x14 : Vec Ideal S1x32 .f32) (x15 : Vec Ideal S1x1 .f32)
    (h0 : ∀ k, x0 (ix2 c k) = (e k : EReal)) (h1 : ∀ f, x1 (ix2 c f) = (l f : EReal))
    (h2 : ∀ k, x2 (ix2 0 k) = (P.g0 (grp k) * P.c : EReal)) (h3 : ∀ k, x3 (ix2 0 k) = (P.b0 (grp k) : EReal))
    (h4 : ∀ k i, x4 (ix2 k i) = (P.cw k i : EReal)) (h5 : ∀ i, x5 (ix2 0 i) = (P.cg i * P.c : EReal))
    (h6 : ∀ i, x6 (ix2 0 i) = (P.cb i * P.cg i * P.c + P.ce i : EReal))
    (h7 : ∀ i k, x7 (ix2 i k) = if i = grp k then (1 : EReal) else 0)
    (h8 : ∀ k n, x8 (ix2 k n) = (P.w1 k n : EReal)) (h9 : ∀ n, x9 (ix2 0 n) = (P.g1 n * P.c : EReal))
    (h10 : ∀ n, x10 (ix2 0 n) = (P.b1 n * P.g1 n * P.c + P.e1 n : EReal))
    (h11 : ∀ n p, x11 (ix2 n p) = (P.w2 n p : EReal)) (h12 : ∀ p, x12 (ix2 0 p) = (P.g2 p * P.c : EReal))
    (h13 : ∀ p, x13 (ix2 0 p) = (P.b2 p * P.g2 p * P.c + P.e2 p : EReal))
    (h14 : ∀ p, x14 (ix2 0 p) = (P.w3 p : EReal)) (h15 : x15 (ix2 0 0) = ((P.lb : EReal) + P.b3 : EReal)) :
    denseOut x0 x1 x2 x3 x4 x5 x6 x7 x8 x9 x10 x11 x12 x13 x14 x15 (ix2 0 c) = Ideal.logistic (P.t e l) := by
  have hz : ∀ i, scoresT x0 x2 x3 x4 x5 x6 (ix2 i c) = ((P.z e i : ℝ) : EReal) := fun i => by
    unfold scoresT
    rw [pay3_at]
    exact kernel_scores P e i _ _ _ _ _ _ h0 h2 h3 (fun k => h4 k i) (h5 i) (h6 i)
  obtain ⟨μ, hμ⟩ := fold_max_coe (P.z e)
  have hm : ∀ i, k1_pay30 (scoresT x0 x2 x3 x4 x5 x6) (ix2 i c) = (μ : EReal) := fun i => by
    rw [pay30_at, ← hμ]; simp only [hz]
  have hk : ∀ i, keptT x0 x2 x3 x4 x5 x6 (ix2 i c) = BitVec.ofBool (decide (rank (P.z e) i < 8)) := fun i => by
    rw [kept_at]
    have : rank (fun j => (scoresT x0 x2 x3 x4 x5 x6 (ix2 j c) : EReal)) i = rank (P.z e) i :=
      rank_congr _ _ (fun a b => by rw [hz, hz]; exact EReal.coe_lt_coe_iff) i
    rw [this]
  have hv : ∀ k, k1_pay2 x0 x2 x3 (ix2 c k) = ((P.v e k : ℝ) : EReal) := fun k => by
    rw [pay2_at, h0, h2, h3, ← EReal.coe_mul, ← EReal.coe_mul, ← EReal.coe_add]
    congr 1; unfold Par.v; ring
  unfold denseOut
  rw [pay1_at]
  congr 1
  refine kernel_t P e l _ _ _ _ (fun p => ?_) h14 h1 h15
  rw [pay31_at]
  refine kernel_h2 P e p _ _ _ _ (fun n => ?_) (fun n => h11 n p) (h12 p) (h13 p)
  refine kernel_h1 P e n _ _ _ _ (fun k => ?_) (fun k => h8 k n) (h9 n) (h10 n)
  simp only [hz, hm, hk, hv, h7, select_decide, kernel_mask]
  rw [Finset.sum_eq_single (grp k) (fun i _ hi => by rw [if_neg hi, mul_zero]) (fun h => absurd (Finset.mem_univ _) h), if_pos rfl, mul_one,
    EReal.coe_mul]

/-- The second dense call's block is the same function. -/
theorem dense3_eq : @Dense3.denseOut Ideal _ = @Dense1.denseOut Ideal _ := rfl

end Cert.Proof.Value
end
-- ==== Proof.Value.Block1.lean ====
/-
  The first dense call: each block it reads, at an index, and the array it leaves.
-/
module

public import proofs.«01_k».proof.Proof.Ideal.Frame
public import Idealize.ShloMosaic.Lib.Pipeline.ValueKit
public import Idealize.ShloMosaic.Lib.Pointwise

@[expose] public section

noncomputable section

namespace Cert.Proof.Value.B1

open Cert.KernelIdeal Cert.KernelIdeal.Gen Cert.Proof.Ideal
open Idealize.ShloMosaic Idealize.ShloMosaic.TcCoe Idealize.ShloMosaic.Tactic
open Idealize.ShloMosaic.ValueIdx
open Idealize.ShloMosaic.SparseCore.Cfg (HIx)

local notation "ix2" => Idealize.ShloMosaic.ValueIdx.ix2

variable (V : (c : Dev nD) → (b : Ref sig .tc) → Buf (Elt Ideal) ((c : Thread nD τ).loc b))
variable (d : Dev nD) (t : Fin cfg1.N)

theorem lt (c : Fin 512) : t.val * 512 + c.val < 8192 := by
  have := t.isLt; have := c.isLt; have : cfg1.N = 16 := N_1; omega

theorem index_0_0 : ∀ t, win1_0.index t 0 = t.val := by decide +kernel
theorem index_0_1 : ∀ t, win1_0.index t 1 = 0 := by decide +kernel
theorem at_0 (c : Fin 512) (k : Fin 416) :
    Dense1.iblk V d 0 t (ix2 c k) = V d main_v55 (ix2 ⟨t.val * 512 + c.val, lt t c⟩ k) := by
  unfold Dense1.iblk
  rw [View.read_apply]
  blk_simp
  refine congrArg (V d main_v55) (funext fun a => Fin.ext ?_)
  match a with
  | ⟨0, _⟩ => exact (win1_0.rect_emb_val t (ix2 c k) 0).trans (by rw [index_0_0]; rfl)
  | ⟨1, _⟩ => exact (win1_0.rect_emb_val_of_index_zero t 1 (index_0_1 t) (ix2 c k))
theorem index_1_0 : ∀ t, win1_1.index t 0 = t.val := by decide +kernel
theorem index_1_1 : ∀ t, win1_1.index t 1 = 0 := by decide +kernel
theorem at_1 (c : Fin 512) (k : Fin 26) :
    Dense1.iblk V d 1 t (ix2 c k) = V d main_v56 (ix2 ⟨t.val * 512 + c.val, lt t c⟩ k) := by
  unfold Dense1.iblk
  rw [View.read_apply]
  blk_simp
  refine congrArg (V d main_v56) (funext fun a => Fin.ext ?_)
  match a with
  | ⟨0, _⟩ => exact (win1_1.rect_emb_val t (ix2 c k) 0).trans (by rw [index_1_0]; rfl)
  | ⟨1, _⟩ => exact (win1_1.rect_emb_val_of_index_zero t 1 (index_1_1 t) (ix2 c k))
theorem index_2 : ∀ t a, win1_2.index t a = 0 := by decide +kernel
theorem at_2 (i : Fin 1) (k : Fin 416) : Dense1.iblk V d 2 t (ix2 i k) = V d main_v13 (ix2 i k) := by
  unfold Dense1.iblk
  rw [View.read_apply]
  blk_simp
  refine congrArg (V d main_v13) (funext fun a => Fin.ext ?_)
  match a with
  | ⟨0, _⟩ => exact (win1_2.rect_emb_val_of_index_zero t 0 (index_2 t 0) (ix2 i k))
  | ⟨1, _⟩ => exact (win1_2.rect_emb_val_of_index_zero t 1 (index_2 t 1) (ix2 i k))
theorem index_3 : ∀ t a, win1_3.index t a = 0 := by decide +kernel
theorem at_3 (i : Fin 1) (k : Fin 416) : Dense1.iblk V d 3 t (ix2 i k) = V d main_v16 (ix2 i k) := by
  unfold Dense1.iblk
  rw [View.read_apply]
  blk_simp
  refine congrArg (V d main_v16) (funext fun a => Fin.ext ?_)
  match a with
  | ⟨0, _⟩ => exact (win1_3.rect_emb_val_of_index_zero t 0 (index_3 t 0) (ix2 i k))
  | ⟨1, _⟩ => exact (win1_3.rect_emb_val_of_index_zero t 1 (index_3 t 1) (ix2 i k))
theorem index_4 : ∀ t a, win1_4.index t a = 0 := by decide +kernel
theorem at_4 (i : Fin 416) (k : Fin 26) : Dense1.iblk V d 4 t (ix2 i k) = V d main_arg6 (ix2 i k) := by
  unfold Dense1.iblk
  rw [View.read_apply]
  blk_simp
  refine congrArg (V d main_arg6) (funext fun a => Fin.ext ?_)
  match a with
  | ⟨0, _⟩ => exact (win1_4.rect_emb_val_of_index_zero t 0 (index_4 t 0) (ix2 i k))
  | ⟨1, _⟩ => exact (win1_4.rect_emb_val_of_index_zero t 1 (index_4 t 1) (ix2 i k))
theorem index_5 : ∀ t a, win1_5.index t a = 0 := by decide +kernel
theorem at_5 (i : Fin 1) (k : Fin 26) : Dense1.iblk V d 5 t (ix2 i k) = V d main_v19 (ix2 i k) := by
  unfold Dense1.iblk
  rw [View.read_apply]
  blk_simp
  refine congrArg (V d main_v19) (funext fun a => Fin.ext ?_)
  match a with
  | ⟨0, _⟩ => exact (win1_5.rect_emb_val_of_index_zero t 0 (index_5 t 0) (ix2 i k))
  | ⟨1, _⟩ => exact (win1_5.rect_emb_val_of_index_zero t 1 (index_5 t 1) (ix2 i k))
theorem index_6 : ∀ t a, win1_6.index t a = 0 := by decide +kernel
theorem at_6 (i : Fin 1) (k : Fin 26) : Dense1.iblk V d 6 t (ix2 i k) = V d main_v24 (ix2 i k) := by
  unfold Dense1.iblk
  rw [View.read_apply]
  blk_simp
  refine congrArg (V d main_v24) (funext fun a => Fin.ext ?_)
  match a with
  | ⟨0, _⟩ => exact (win1_6.rect_emb_val_of_index_zero t 0 (index_6 t 0) (ix2 i k))
  | ⟨1, _⟩ => exact (win1_6.rect_emb_val_of_index_zero t 1 (index_6 t 1) (ix2 i k))
theorem index_7 : ∀ t a, win1_7.index t a = 0 := by decide +kernel
theorem at_7 (i : Fin 26) (k : Fin 416) : Dense1.iblk V d 7 t (ix2 i k) = V d main_v49 (ix2 i k) := by
  unfold Dense1.iblk
  rw [View.read_apply]
  blk_simp
  refine congrArg (V d main_v49) (funext fun a => Fin.ext ?_)
  match a with
  | ⟨0, _⟩ => exact (win1_7.rect_emb_val_of_index_zero t 0 (index_7 t 0) (ix2 i k))
  | ⟨1, _⟩ => exact (win1_7.rect_emb_val_of_index_zero t 1 (index_7 t 1) (ix2 i k))
theorem index_8 : ∀ t a, win1_8.index t a = 0 := by decide +kernel
theorem at_8 (i : Fin 416) (k : Fin 64) : Dense1.iblk V d 8 t (ix2 i k) = V d main_arg10 (ix2 i k) := by
  unfold Dense1.iblk
  rw [View.read_apply]
  blk_simp
  refine congrArg (V d main_arg10) (funext fun a => Fin.ext ?_)
  match a with
  | ⟨0, _⟩ => exact (win1_8.rect_emb_val_of_index_zero t 0 (index_8 t 0) (ix2 i k))
  | ⟨1, _⟩ => exact (win1_8.rect_emb_val_of_index_zero t 1 (index_8 t 1) (ix2 i k))
theorem index_9 : ∀ t a, win1_9.index t a = 0 := by decide +kernel
theorem at_9 (i : Fin 1) (k : Fin 64) : Dense1.iblk V d 9 t (ix2 i k) = V d main_v27 (ix2 i k) := by
  unfold Dense1.iblk
  rw [View.read_apply]
  blk_simp
  refine congrArg (V d main_v27) (funext fun a => Fin.ext ?_)
  match a with
  | ⟨0, _⟩ => exact (win1_9.rect_emb_val_of_index_zero t 0 (index_9 t 0) (ix2 i k))
  | ⟨1, _⟩ => exact (win1_9.rect_emb_val_of_index_zero t 1 (index_9 t 1) (ix2 i k))
theorem index_10 : ∀ t a, win1_10.index t a = 0 := by decide +kernel
theorem at_10 (i : Fin 1) (k : Fin 64) : Dense1.iblk V d 10 t (ix2 i k) = V d main_v32 (ix2 i k) := by
  unfold Dense1.iblk
  rw [View.read_apply]
  blk_simp
  refine congrArg (V d main_v32) (funext fun a => Fin.ext ?_)
  match a with
  | ⟨0, _⟩ => exact (win1_10.rect_emb_val_of_index_zero t 0 (index_10 t 0) (ix2 i k))
  | ⟨1, _⟩ => exact (win1_10.rect_emb_val_of_index_zero t 1 (index_10 t 1) (ix2 i k))
theorem index_11 : ∀ t a, win1_11.index t a = 0 := by decide +kernel
theorem at_11 (i : Fin 64) (k : Fin 32) : Dense1.iblk V d 11 t (ix2 i k) = V d main_arg14 (ix2 i k) := by
  unfold Dense1.iblk
  rw [View.read_apply]
  blk_simp
  refine congrArg (V d main_arg14) (funext fun a => Fin.ext ?_)
  match a with
  | ⟨0, _⟩ => exact (win1_11.rect_emb_val_of_index_zero t 0 (index_11 t 0) (ix2 i k))
  | ⟨1, _⟩ => exact (win1_11.rect_emb_val_of_index_zero t 1 (index_11 t 1) (ix2 i k))
theorem index_12 : ∀ t a, win1_12.index t a = 0 := by decide +kernel
theorem at_12 (i : Fin 1) (k : Fin 32) : Dense1.iblk V d 12 t (ix2 i k) = V d main_v35 (ix2 i k) := by
  unfold Dense1.iblk
  rw [View.read_apply]
  blk_simp
  refine congrArg (V d main_v35) (funext fun a => Fin.ext ?_)
  match a with
  | ⟨0, _⟩ => exact (win1_12.rect_emb_val_of_index_zero t 0 (index_12 t 0) (ix2 i k))
  | ⟨1, _⟩ => exact (win1_12.rect_emb_val_of_index_zero t 1 (index_12 t 1) (ix2 i k))
theorem index_13 : ∀ t a, win1_13.index t a = 0 := by decide +kernel
theorem at_13 (i : Fin 1) (k : Fin 32) : Dense1.iblk V d 13 t (ix2 i k) = V d main_v40 (ix2 i k) := by
  unfold Dense1.iblk
  rw [View.read_apply]
  blk_simp
  refine congrArg (V d main_v40) (funext fun a => Fin.ext ?_)
  match a with
  | ⟨0, _⟩ => exact (win1_13.rect_emb_val_of_index_zero t 0 (index_13 t 0) (ix2 i k))
  | ⟨1, _⟩ => exact (win1_13.rect_emb_val_of_index_zero t 1 (index_13 t 1) (ix2 i k))
theorem index_14 : ∀ t a, win1_14.index t a = 0 := by decide +kernel
theorem at_14 (i : Fin 1) (k : Fin 32) : Dense1.iblk V d 14 t (ix2 i k) = V d main_v50 (ix2 i k) := by
  unfold Dense1.iblk
  rw [View.read_apply]
  blk_simp
  refine congrArg (V d main_v50) (funext fun a => Fin.ext ?_)
  match a with
  | ⟨0, _⟩ => exact (win1_14.rect_emb_val_of_index_zero t 0 (index_14 t 0) (ix2 i k))
  | ⟨1, _⟩ => exact (win1_14.rect_emb_val_of_index_zero t 1 (index_14 t 1) (ix2 i k))
theorem index_15 : ∀ t a, win1_15.index t a = 0 := by decide +kernel
theorem at_15 (i : Fin 1) (k : Fin 1) : Dense1.iblk V d 15 t (ix2 i k) = V d main_v52 (ix2 i k) := by
  unfold Dense1.iblk
  rw [View.read_apply]
  blk_simp
  refine congrArg (V d main_v52) (funext fun a => Fin.ext ?_)
  match a with
  | ⟨0, _⟩ => exact (win1_15.rect_emb_val_of_index_zero t 0 (index_15 t 0) (ix2 i k))
  | ⟨1, _⟩ => exact (win1_15.rect_emb_val_of_index_zero t 1 (index_15 t 1) (ix2 i k))
theorem index_16_0 : ∀ t, win1_16.index t 0 = 0 := by decide +kernel
theorem index_16_1 : ∀ t, win1_16.index t 1 = t.val := by decide +kernel

/-- The result array, from its blocks. -/
theorem arr (O : Dev nD → CellTallies nD τ sig (HIx 2)) (Rec : Dev nD → Set (SemLoc sig × HIx 2)) (G : Fin 8192 → EReal)
    (hG : ∀ (t : Fin cfg1.N) (c : Fin 512), Dense1.outBlk V d t (ix2 0 c) = G ⟨t.val * 512 + c.val, lt t c⟩) :
    (Dense1.dat V O Rec d).arrAt 16 cfg1.N = fun i => G (i 1) := by
  refine (Dense1.dat V O Rec d).arrAt_eq_of_covers 16 _ (by decide +kernel) fun t hf y => ?_
  blk_simp
  rw [Dense1.after_16]
  have e : y = ix2 0 (y 1) := by
    funext a
    match a with
    | ⟨0, _⟩ => exact Fin.ext (Nat.lt_one_iff.1 (y 0).isLt)
    | ⟨1, _⟩ => rfl
  rw [e]
  refine (hG t (y 1)).trans (congrArg G (Fin.ext ?_))
  exact ((win1_16.rect_emb_val t (ix2 0 (y 1)) 1).trans (by rw [index_16_1]; rfl)).symm

end Cert.Proof.Value.B1
-- ==== Proof.Value.Block3.lean ====
/-
  The second dense call: each block it reads, at an index, and the array it leaves.
-/
module

public import proofs.«01_k».proof.Proof.Ideal.Frame
public import Idealize.ShloMosaic.Lib.Pipeline.ValueKit
public import Idealize.ShloMosaic.Lib.Pointwise

@[expose] public section

noncomputable section

namespace Cert.Proof.Value.B3

open Cert.KernelIdeal Cert.KernelIdeal.Gen Cert.Proof.Ideal
open Idealize.ShloMosaic Idealize.ShloMosaic.TcCoe Idealize.ShloMosaic.Tactic
open Idealize.ShloMosaic.ValueIdx
open Idealize.ShloMosaic.SparseCore.Cfg (HIx)

local notation "ix2" => Idealize.ShloMosaic.ValueIdx.ix2

variable (V : (c : Dev nD) → (b : Ref sig .tc) → Buf (Elt Ideal) ((c : Thread nD τ).loc b))
variable (d : Dev nD) (t : Fin cfg3.N)

theorem lt (c : Fin 512) : t.val * 512 + c.val < 8192 := by
  have := t.isLt; have := c.isLt; have : cfg3.N = 16 := N_3; omega

theorem index_0_0 : ∀ t, win3_0.index t 0 = t.val := by decide +kernel
theorem index_0_1 : ∀ t, win3_0.index t 1 = 0 := by decide +kernel
theorem at_0 (c : Fin 512) (k : Fin 416) :
    Dense3.iblk V d 0 t (ix2 c k) = V d main_v60 (ix2 ⟨t.val * 512 + c.val, lt t c⟩ k) := by
  unfold Dense3.iblk
  rw [View.read_apply]
  blk_simp
  refine congrArg (V d main_v60) (funext fun a => Fin.ext ?_)
  match a with
  | ⟨0, _⟩ => exact (win3_0.rect_emb_val t (ix2 c k) 0).trans (by rw [index_0_0]; rfl)
  | ⟨1, _⟩ => exact (win3_0.rect_emb_val_of_index_zero t 1 (index_0_1 t) (ix2 c k))
theorem index_1_0 : ∀ t, win3_1.index t 0 = t.val := by decide +kernel
theorem index_1_1 : ∀ t, win3_1.index t 1 = 0 := by decide +kernel
theorem at_1 (c : Fin 512) (k : Fin 26) :
    Dense3.iblk V d 1 t (ix2 c k) = V d main_v61 (ix2 ⟨t.val * 512 + c.val, lt t c⟩ k) := by
  unfold Dense3.iblk
  rw [View.read_apply]
  blk_simp
  refine congrArg (V d main_v61) (funext fun a => Fin.ext ?_)
  match a with
  | ⟨0, _⟩ => exact (win3_1.rect_emb_val t (ix2 c k) 0).trans (by rw [index_1_0]; rfl)
  | ⟨1, _⟩ => exact (win3_1.rect_emb_val_of_index_zero t 1 (index_1_1 t) (ix2 c k))
theorem index_2 : ∀ t a, win3_2.index t a = 0 := by decide +kernel
theorem at_2 (i : Fin 1) (k : Fin 416) : Dense3.iblk V d 2 t (ix2 i k) = V d main_v13 (ix2 i k) := by
  unfold Dense3.iblk
  rw [View.read_apply]
  blk_simp
  refine congrArg (V d main_v13) (funext fun a => Fin.ext ?_)
  match a with
  | ⟨0, _⟩ => exact (win3_2.rect_emb_val_of_index_zero t 0 (index_2 t 0) (ix2 i k))
  | ⟨1, _⟩ => exact (win3_2.rect_emb_val_of_index_zero t 1 (index_2 t 1) (ix2 i k))
theorem index_3 : ∀ t a, win3_3.index t a = 0 := by decide +kernel
theorem at_3 (i : Fin 1) (k : Fin 416) : Dense3.iblk V d 3 t (ix2 i k) = V d main_v16 (ix2 i k) := by
  unfold Dense3.iblk
  rw [View.read_apply]
  blk_simp
  refine congrArg (V d main_v16) (funext fun a => Fin.ext ?_)
  match a with
  | ⟨0, _⟩ => exact (win3_3.rect_emb_val_of_index_zero t 0 (index_3 t 0) (ix2 i k))
  | ⟨1, _⟩ => exact (win3_3.rect_emb_val_of_index_zero t 1 (index_3 t 1) (ix2 i k))
theorem index_4 : ∀ t a, win3_4.index t a = 0 := by decide +kernel
theorem at_4 (i : Fin 416) (k : Fin 26) : Dense3.iblk V d 4 t (ix2 i k) = V d main_arg6 (ix2 i k) := by
  unfold Dense3.iblk
  rw [View.read_apply]
  blk_simp
  refine congrArg (V d main_arg6) (funext fun a => Fin.ext ?_)
  match a with
  | ⟨0, _⟩ => exact (win3_4.rect_emb_val_of_index_zero t 0 (index_4 t 0) (ix2 i k))
  | ⟨1, _⟩ => exact (win3_4.rect_emb_val_of_index_zero t 1 (index_4 t 1) (ix2 i k))
theorem index_5 : ∀ t a, win3_5.index t a = 0 := by decide +kernel
theorem at_5 (i : Fin 1) (k : Fin 26) : Dense3.iblk V d 5 t (ix2 i k) = V d main_v19 (ix2 i k) := by
  unfold Dense3.iblk
  rw [View.read_apply]
  blk_simp
  refine congrArg (V d main_v19) (funext fun a => Fin.ext ?_)
  match a with
  | ⟨0, _⟩ => exact (win3_5.rect_emb_val_of_index_zero t 0 (index_5 t 0) (ix2 i k))
  | ⟨1, _⟩ => exact (win3_5.rect_emb_val_of_index_zero t 1 (index_5 t 1) (ix2 i k))
theorem index_6 : ∀ t a, win3_6.index t a = 0 := by decide +kernel
theorem at_6 (i : Fin 1) (k : Fin 26) : Dense3.iblk V d 6 t (ix2 i k) = V d main_v24 (ix2 i k) := by
  unfold Dense3.iblk
  rw [View.read_apply]
  blk_simp
  refine congrArg (V d main_v24) (funext fun a => Fin.ext ?_)
  match a with
  | ⟨0, _⟩ => exact (win3_6.rect_emb_val_of_index_zero t 0 (index_6 t 0) (ix2 i k))
  | ⟨1, _⟩ => exact (win3_6.rect_emb_val_of_index_zero t 1 (index_6 t 1) (ix2 i k))
theorem index_7 : ∀ t a, win3_7.index t a = 0 := by decide +kernel
theorem at_7 (i : Fin 26) (k : Fin 416) : Dense3.iblk V d 7 t (ix2 i k) = V d main_v49 (ix2 i k) := by
  unfold Dense3.iblk
  rw [View.read_apply]
  blk_simp
  refine congrArg (V d main_v49) (funext fun a => Fin.ext ?_)
  match a with
  | ⟨0, _⟩ => exact (win3_7.rect_emb_val_of_index_zero t 0 (index_7 t 0) (ix2 i k))
  | ⟨1, _⟩ => exact (win3_7.rect_emb_val_of_index_zero t 1 (index_7 t 1) (ix2 i k))
theorem index_8 : ∀ t a, win3_8.index t a = 0 := by decide +kernel
theorem at_8 (i : Fin 416) (k : Fin 64) : Dense3.iblk V d 8 t (ix2 i k) = V d main_arg10 (ix2 i k) := by
  unfold Dense3.iblk
  rw [View.read_apply]
  blk_simp
  refine congrArg (V d main_arg10) (funext fun a => Fin.ext ?_)
  match a with
  | ⟨0, _⟩ => exact (win3_8.rect_emb_val_of_index_zero t 0 (index_8 t 0) (ix2 i k))
  | ⟨1, _⟩ => exact (win3_8.rect_emb_val_of_index_zero t 1 (index_8 t 1) (ix2 i k))
theorem index_9 : ∀ t a, win3_9.index t a = 0 := by decide +kernel
theorem at_9 (i : Fin 1) (k : Fin 64) : Dense3.iblk V d 9 t (ix2 i k) = V d main_v27 (ix2 i k) := by
  unfold Dense3.iblk
  rw [View.read_apply]
  blk_simp
  refine congrArg (V d main_v27) (funext fun a => Fin.ext ?_)
  match a with
  | ⟨0, _⟩ => exact (win3_9.rect_emb_val_of_index_zero t 0 (index_9 t 0) (ix2 i k))
  | ⟨1, _⟩ => exact (win3_9.rect_emb_val_of_index_zero t 1 (index_9 t 1) (ix2 i k))
theorem index_10 : ∀ t a, win3_10.index t a = 0 := by decide +kernel
theorem at_10 (i : Fin 1) (k : Fin 64) : Dense3.iblk V d 10 t (ix2 i k) = V d main_v32 (ix2 i k) := by
  unfold Dense3.iblk
  rw [View.read_apply]
  blk_simp
  refine congrArg (V d main_v32) (funext fun a => Fin.ext ?_)
  match a with
  | ⟨0, _⟩ => exact (win3_10.rect_emb_val_of_index_zero t 0 (index_10 t 0) (ix2 i k))
  | ⟨1, _⟩ => exact (win3_10.rect_emb_val_of_index_zero t 1 (index_10 t 1) (ix2 i k))
theorem index_11 : ∀ t a, win3_11.index t a = 0 := by decide +kernel
theorem at_11 (i : Fin 64) (k : Fin 32) : Dense3.iblk V d 11 t (ix2 i k) = V d main_arg14 (ix2 i k) := by
  unfold Dense3.iblk
  rw [View.read_apply]
  blk_simp
  refine congrArg (V d main_arg14) (funext fun a => Fin.ext ?_)
  match a with
  | ⟨0, _⟩ => exact (win3_11.rect_emb_val_of_index_zero t 0 (index_11 t 0) (ix2 i k))
  | ⟨1, _⟩ => exact (win3_11.rect_emb_val_of_index_zero t 1 (index_11 t 1) (ix2 i k))
theorem index_12 : ∀ t a, win3_12.index t a = 0 := by decide +kernel
theorem at_12 (i : Fin 1) (k : Fin 32) : Dense3.iblk V d 12 t (ix2 i k) = V d main_v35 (ix2 i k) := by
  unfold Dense3.iblk
  rw [View.read_apply]
  blk_simp
  refine congrArg (V d main_v35) (funext fun a => Fin.ext ?_)
  match a with
  | ⟨0, _⟩ => exact (win3_12.rect_emb_val_of_index_zero t 0 (index_12 t 0) (ix2 i k))
  | ⟨1, _⟩ => exact (win3_12.rect_emb_val_of_index_zero t 1 (index_12 t 1) (ix2 i k))
theorem index_13 : ∀ t a, win3_13.index t a = 0 := by decide +kernel
theorem at_13 (i : Fin 1) (k : Fin 32) : Dense3.iblk V d 13 t (ix2 i k) = V d main_v40 (ix2 i k) := by
  unfold Dense3.iblk
  rw [View.read_apply]
  blk_simp
  refine congrArg (V d main_v40) (funext fun a => Fin.ext ?_)
  match a with
  | ⟨0, _⟩ => exact (win3_13.rect_emb_val_of_index_zero t 0 (index_13 t 0) (ix2 i k))
  | ⟨1, _⟩ => exact (win3_13.rect_emb_val_of_index_zero t 1 (index_13 t 1) (ix2 i k))
theorem index_14 : ∀ t a, win3_14.index t a = 0 := by decide +kernel
theorem at_14 (i : Fin 1) (k : Fin 32) : Dense3.iblk V d 14 t (ix2 i k) = V d main_v50 (ix2 i k) := by
  unfold Dense3.iblk
  rw [View.read_apply]
  blk_simp
  refine congrArg (V d main_v50) (funext fun a => Fin.ext ?_)
  match a with
  | ⟨0, _⟩ => exact (win3_14.rect_emb_val_of_index_zero t 0 (index_14 t 0) (ix2 i k))
  | ⟨1, _⟩ => exact (win3_14.rect_emb_val_of_index_zero t 1 (index_14 t 1) (ix2 i k))
theorem index_15 : ∀ t a, win3_15.index t a = 0 := by decide +kernel
theorem at_15 (i : Fin 1) (k : Fin 1) : Dense3.iblk V d 15 t (ix2 i k) = V d main_v52 (ix2 i k) := by
  unfold Dense3.iblk
  rw [View.read_apply]
  blk_simp
  refine congrArg (V d main_v52) (funext fun a => Fin.ext ?_)
  match a with
  | ⟨0, _⟩ => exact (win3_15.rect_emb_val_of_index_zero t 0 (index_15 t 0) (ix2 i k))
  | ⟨1, _⟩ => exact (win3_15.rect_emb_val_of_index_zero t 1 (index_15 t 1) (ix2 i k))
theorem index_16_0 : ∀ t, win3_16.index t 0 = 0 := by decide +kernel
theorem index_16_1 : ∀ t, win3_16.index t 1 = t.val := by decide +kernel

/-- The result array, from its blocks. -/
theorem arr (O : Dev nD → CellTallies nD τ sig (HIx 2)) (Rec : Dev nD → Set (SemLoc sig × HIx 2)) (G : Fin 8192 → EReal)
    (hG : ∀ (t : Fin cfg3.N) (c : Fin 512), Dense3.outBlk V d t (ix2 0 c) = G ⟨t.val * 512 + c.val, lt t c⟩) :
    (Dense3.dat V O Rec d).arrAt 16 cfg3.N = fun i => G (i 1) := by
  refine (Dense3.dat V O Rec d).arrAt_eq_of_covers 16 _ (by decide +kernel) fun t hf y => ?_
  blk_simp
  rw [Dense3.after_16]
  have e : y = ix2 0 (y 1) := by
    funext a
    match a with
    | ⟨0, _⟩ => exact Fin.ext (Nat.lt_one_iff.1 (y 0).isLt)
    | ⟨1, _⟩ => rfl
  rw [e]
  refine (hG t (y 1)).trans (congrArg G (Fin.ext ?_))
  exact ((win3_16.rect_emb_val t (ix2 0 (y 1)) 1).trans (by rw [index_16_1]; rfl)).symm

end Cert.Proof.Value.B3
-- ==== Proof.Value.Kernel.lean ====
/-
  The kernel's result: at every row, the row's probability.
-/
module

public import proofs.«01_k».proof.Proof.Value.Gathered
public import proofs.«01_k».proof.Proof.Value.Block
public import proofs.«01_k».proof.Proof.Value.Block1
public import proofs.«01_k».proof.Proof.Value.Block3

@[expose] public section

noncomputable section

namespace Cert.Proof.Value

open Cert.KernelIdeal Cert.KernelIdeal.Gen Cert.Proof.Ideal
open Idealize.ShloMosaic Idealize.ShloMosaic.TcCoe
open Idealize.ShloMosaic.Pointwise

local notation "Id" => Idealize.ShloMosaic.Ideal

variable {m : (ℓ : Loc nD τ sig) → Buf (Elt Id) ℓ} {d : Dev nD} {a : S16384x26.Idx → BitVec 32} {A : Args}

theorem out1_at (H : Launch m d a A) (t : Fin cfg1.N) (c : Fin 512) :
    Dense1.outBlk (fun c b => VC m c (Proc.devRef .tc b)) d t (ix2 0 c) = A.row a ⟨t.val * 512 + c.val, lt0 ⟨t.val * 512 + c.val, B1.lt t c⟩⟩ := by
  have Wh := whole_VC H
  unfold Dense1.outBlk
  exact block_row A.par _ _ c _ _ _ _ _ _ _ _ _ _ _ _ _ _ _ _ (fun k => (B1.at_0 _ d t c k).trans (emb0 H _ k)) (fun k => (B1.at_1 _ d t c k).trans (lin0 H _ k)) (fun k => (B1.at_2 _ d t 0 k).trans (Wh.c2 k)) (fun k => (B1.at_3 _ d t 0 k).trans (Wh.c3 k)) (fun i k => (B1.at_4 _ d t i k).trans (Wh.c4 i k)) (fun k => (B1.at_5 _ d t 0 k).trans (Wh.c5 k)) (fun k => (B1.at_6 _ d t 0 k).trans (Wh.c6 k)) (fun i k => (B1.at_7 _ d t i k).trans (Wh.c7 i k)) (fun i k => (B1.at_8 _ d t i k).trans (Wh.c8 i k)) (fun k => (B1.at_9 _ d t 0 k).trans (Wh.c9 k)) (fun k => (B1.at_10 _ d t 0 k).trans (Wh.c10 k)) (fun i k => (B1.at_11 _ d t i k).trans (Wh.c11 i k)) (fun k => (B1.at_12 _ d t 0 k).trans (Wh.c12 k)) (fun k => (B1.at_13 _ d t 0 k).trans (Wh.c13 k)) (fun k => (B1.at_14 _ d t 0 k).trans (Wh.c14 k)) ((B1.at_15 _ d t 0 0).trans Wh.c15)
theorem out3_at (H : Launch m d a A) (t : Fin cfg3.N) (c : Fin 512) :
    Dense3.outBlk (fun c b => VG m c (Proc.devRef .tc b)) d t (ix2 0 c) = A.row a ⟨8192 + (t.val * 512 + c.val), lt1 ⟨t.val * 512 + c.val, B3.lt t c⟩⟩ := by
  have Wh := whole_VG H
  unfold Dense3.outBlk
  rw [dense3_eq]
  exact block_row A.par _ _ c _ _ _ _ _ _ _ _ _ _ _ _ _ _ _ _ (fun k => (B3.at_0 _ d t c k).trans (emb1 H _ k)) (fun k => (B3.at_1 _ d t c k).trans (lin1 H _ k)) (fun k => (B3.at_2 _ d t 0 k).trans (Wh.c2 k)) (fun k => (B3.at_3 _ d t 0 k).trans (Wh.c3 k)) (fun i k => (B3.at_4 _ d t i k).trans (Wh.c4 i k)) (fun k => (B3.at_5 _ d t 0 k).trans (Wh.c5 k)) (fun k => (B3.at_6 _ d t 0 k).trans (Wh.c6 k)) (fun i k => (B3.at_7 _ d t i k).trans (Wh.c7 i k)) (fun i k => (B3.at_8 _ d t i k).trans (Wh.c8 i k)) (fun k => (B3.at_9 _ d t 0 k).trans (Wh.c9 k)) (fun k => (B3.at_10 _ d t 0 k).trans (Wh.c10 k)) (fun i k => (B3.at_11 _ d t i k).trans (Wh.c11 i k)) (fun k => (B3.at_12 _ d t 0 k).trans (Wh.c12 k)) (fun k => (B3.at_13 _ d t 0 k).trans (Wh.c13 k)) (fun k => (B3.at_14 _ d t 0 k).trans (Wh.c14 k)) ((B3.at_15 _ d t 0 0).trans Wh.c15)

theorem after1_arr (n : ℕ) (W : Dev nD → Valuation τ sig (Elt Id)) (d : Dev nD) :
    after1 n W d (Proc.devRef .tc main_v57)
      = (Dense1.dat (fun c b => W c (Proc.devRef .tc b)) (fun c => (K (F := Id)).Otc c n) (recd (F := Id) n) d).arrAt 16 cfg1.N :=
  Pipeline.afterRegion_arr (cfg := Pipeline.pin (pcfgs (F := Id)) adm 0) (pdats n W 0 d) (W d) launch1.win.arr_inj 16
theorem v57_eq (H : Launch m d a A) :
    (after1 1 (VC m) d (Proc.devRef .tc main_v57) : S1x8192.Idx → EReal) = fun i => A.row a ⟨(i 1).val, lt0 (i 1)⟩ := by
  rw [after1_arr]
  generalize (fun c => (K (F := Id)).Otc c 1) = O
  generalize recd (F := Id) 1 = Rec
  exact B1.arr (fun c b => VC m c (Proc.devRef .tc b)) d O Rec (fun R => A.row a ⟨R.val, lt0 R⟩) (fun t c => out1_at H t c)
theorem after3_arr (n : ℕ) (W : Dev nD → Valuation τ sig (Elt Id)) (d : Dev nD) :
    after3 n W d (Proc.devRef .tc main_v62)
      = (Dense3.dat (fun c b => W c (Proc.devRef .tc b)) (fun c => (K (F := Id)).Otc c n) (recd (F := Id) n) d).arrAt 16 cfg3.N :=
  Pipeline.afterRegion_arr (cfg := Pipeline.pin (pcfgs (F := Id)) adm 1) (pdats n W 1 d) (W d) launch3.win.arr_inj 16
theorem v62_eq (H : Launch m d a A) :
    (after3 2 (VG m) d (Proc.devRef .tc main_v62) : S1x8192.Idx → EReal) = fun i => A.row a ⟨8192 + (i 1).val, lt1 (i 1)⟩ := by
  rw [after3_arr]
  generalize (fun c => (K (F := Id)).Otc c 2) = O
  generalize recd (F := Id) 2 = Rec
  exact B3.arr (fun c b => VG m c (Proc.devRef .tc b)) d O Rec (fun R => A.row a ⟨8192 + R.val, lt1 R⟩) (fun t c => out3_at H t c)
theorem v57_kept : after3 2 (VG m) d (Proc.devRef .tc main_v57) = after1 1 (VC m) d (Proc.devRef .tc main_v57) := by
  rw [after3_keeps 2 _ d main_v57 (by decide)]
  unfold VG
  rw [opsR2_keep _ main_v57 (by decide), scVal2_off _ main_v57 (by decide) (by decide)]
  unfold VE
  rw [opsG2_keep _ main_v57 (by decide)]

/-- The result at row `r`. -/
theorem kernel_at (H : Launch m d a A) (r : Fin 16384) :
    (VI m d (Proc.devRef .tc main_v64) : S16384.Idx → EReal) (ix1 r) = A.row a r := by
  unfold VI
  rw [O_v64, v57_kept, v57_eq H, v62_eq H]
  split
  · rfl
  · rename_i h
    refine congrArg (A.row a) (Fin.ext ?_)
    show 8192 + (r.val - 8192) = r.val
    omega

end Cert.Proof.Value
end
-- ==== Proof.Value.Take.lean ====
/-
  The three gathers of the reference, read at an index: the start index read signed and clamped into the table.
-/
module

public import proofs.«01_k».proof.Proof.Gen.ReferenceIdeal
public import Idealize.ShloMosaic.Lib.Pointwise
public import Idealize.ShloMosaic.Lib.ValueIdxCore

@[expose] public section
noncomputable section
namespace Cert.Proof.Value
open Idealize.ShloMosaic
open Idealize.ShloMosaic.Pointwise

/-- The dimension numbers of a gather of whole rows of an `[N, D]` table at an `[R, C, 1]` array of row numbers. -/
abbrev rowDims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A row gather read at an index: column `d` of the row named, clamped into the table. -/
theorem gather_rows_at {α : Type} {N D R C : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ 32) (r : Fin R) (c : Fin C) (d : Fin D) :
    Host.gather (rowDims N D R C wf) x idx (ix3 r c d) = x (ix2 ⟨min (idx (ix3 r c 0)).toInt.toNat (N - 1), by omega⟩ d) := by
  unfold Host.gather
  congr 1
  funext a
  refine Fin.ext ?_
  show (rowDims N D R C wf).start (ix3 r c d) idx a + (rowDims N D R C wf).batchCoord (ix3 r c d) a
      + (rowDims N D R C wf).offCoord (ix3 r c d) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R C wf).startIndexMap from List.mem_singleton.mpr rfl)]
    have hsi : (rowDims N D R C wf).siIdx (ix3 r c d) ⟨List.idxOf (0 : Fin 2) (rowDims N D R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl
  · unfold GatherDims.start
    rw [dif_neg (by simp)]
    simp only [Nat.zero_add, Nat.add_zero]
    unfold GatherDims.offCoord
    rw [dif_pos ((GatherDims.mem_sKept _ _).mpr ⟨by simp, by simp⟩)]
    rfl

/-- The dimension numbers of `take_along_axis` along the second axis. -/
abbrev alongDims (R N K : Nat) (wf : GatherDims.WF ⟨2, ![R, N]⟩ ⟨3, ![R, K, 1]⟩ ⟨2, ![R, K]⟩ [] [1] [0] [1] [0] 2 ![1, 1]) :
    GatherDims ⟨2, ![R, N]⟩ ⟨3, ![R, K, 1]⟩ ⟨2, ![R, K]⟩ where
  offsetDims := []
  collapsedSliceDims := [1]
  operandBatchingDims := [0]
  startIndicesBatchingDims := [0]
  startIndexMap := [1]
  indexVectorDim := 2
  sliceSizes := ![1, 1]
  wf := wf

/-- `take_along_axis` read at an index: row `r`'s element at the column named, clamped into the row. -/
theorem gather_along_at {α : Type} {R N K : Nat} (hN : 0 < N)
    (wf : GatherDims.WF ⟨2, ![R, N]⟩ ⟨3, ![R, K, 1]⟩ ⟨2, ![R, K]⟩ [] [1] [0] [1] [0] 2 ![1, 1])
    (x : (⟨2, ![R, N]⟩ : Shape).Idx → α) (idx : IVec ⟨3, ![R, K, 1]⟩ 32) (r : Fin R) (k : Fin K) :
    Host.gather (alongDims R N K wf) x idx (ix2 r k) = x (ix2 r ⟨min (idx (ix3 r k 0)).toInt.toNat (N - 1), by omega⟩) := by
  unfold Host.gather
  congr 1
  funext a
  refine Fin.ext ?_
  show (alongDims R N K wf).start (ix2 r k) idx a + (alongDims R N K wf).batchCoord (ix2 r k) a
      + (alongDims R N K wf).offCoord (ix2 r k) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N K wf).startIndexMap from List.mem_singleton.mpr rfl)]
    have hsi : (alongDims R N K wf).siIdx (ix2 r k) ⟨List.idxOf (1 : Fin 2) (alongDims R N K wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

/-- The conjunction of bits that are all set is set. -/
theorem fold_and_one {ι : Type} (S : Finset ι) (g : ι → BitVec 1) (h : ∀ i, g i = 1#1) : Finset.fold IntOp.andi (1#1) g S = 1#1 := by
  classical
  induction S using Finset.induction_on with
  | empty => rfl
  | insert a S ha ih => rw [Finset.fold_insert ha, ih, h]; rfl

end Cert.Proof.Value
end
-- ==== Proof.Value.Mask.lean ====
/-
  The mask that top-k, a sort of the positions and a scatter make of a matrix's rows.
-/
module

public import proofs.«01_k».proof.Proof.Value.Rank
public import Idealize.ShloMosaic.Lib.Pointwise
public import Idealize.ShloMosaic.Lib.ScatterToDense.RefScatter
public import Idealize.ShloMosaic.PureOps.Ideal.Laws

@[expose] public section
noncomputable section
namespace Cert.Proof.Value
open Idealize.ShloMosaic
open Idealize.ShloMosaic.Pointwise

theorem gs_miss {α : Type} (word : ℕ → BitVec 32) (val : ℕ → α) (fill : α) (col n : ℕ) (h : ∀ k < n, col ≠ (word k).toNat) :
    ScatterToDense.GS word val fill col n = fill := by
  induction n with
  | zero => rfl
  | succ n ih =>
    rw [ScatterToDense.GS_succ_miss (h n (Nat.lt_succ_self n))]
    exact ih fun k hk => h k (Nat.lt_succ_of_lt hk)

theorem gs_hit {α : Type} (word : ℕ → BitVec 32) (val : ℕ → α) (fill v : α) (col n : ℕ) (h : ∃ k < n, col = (word k).toNat)
    (hv : ∀ k < n, col = (word k).toNat → val k = v) : ScatterToDense.GS word val fill col n = v := by
  induction n with
  | zero => obtain ⟨k, hk, _⟩ := h; omega
  | succ n ih =>
    by_cases hn : col = (word n).toNat
    · rw [ScatterToDense.GS_succ_hit hn]; exact hv n (Nat.lt_succ_self n) hn
    · rw [ScatterToDense.GS_succ_miss hn]
      refine ih ?_ fun k hk => hv k (Nat.lt_succ_of_lt hk)
      obtain ⟨k, hk, e⟩ := h
      rcases Nat.lt_succ_iff_lt_or_eq.mp hk with h1 | h1
      · exact ⟨k, h1, e⟩
      · subst h1; exact absurd e hn

theorem along_one {R N : ℕ} (r : Fin R) (c k : Fin N) : Shape.Idx.along (s := ⟨2, ![R, N]⟩) (ix2 r c) 1 k = ix2 r k := by
  funext a
  match a with
  | ⟨0, _⟩ => exact Function.update_of_ne (fun q => Nat.zero_ne_one (congrArg Fin.val q)) _ _
  | ⟨1, _⟩ => exact Function.update_self _ _ _

/-- The sorted positions of the eight greatest of each row: an enumeration of the positions of rank below eight. -/
theorem topk_sorted (x : (⟨2, ![16384, 26]⟩ : Shape).Idx → EReal) (h : (⟨2, ![16384, 26]⟩ : Shape).Slices (fun _ => 0) ⟨2, ![16384, 8]⟩)
    (cmp : BitVec 32 → BitVec 32 → BitVec 1) (r : Fin 16384) :
    ∃ p : Fin 8 → Fin 26, Function.Injective p ∧ (∀ i, rank (fun i => x (ix2 r i)) i < 8 ↔ ∃ k, p k = i) ∧
      ∀ k, Host.sort ⟨2, ![16384, 8]⟩ 1 cmp
        ((Host.topK ⟨2, ![16384, 8]⟩ 1 (FloatOps.cmpfTotal (F := Ideal) (φ := .f32) .gt) x h).2) (ix2 r k) = BitVec.ofNat 32 (p k).val := by
  have h1 : ∃ σ : Fin 26 → Fin 26, Function.Bijective σ ∧ (∀ a, rank (fun i => x (ix2 r i)) (σ a) = a.val) ∧
      ∀ k : Fin 8, (Host.topK ⟨2, ![16384, 8]⟩ 1 (FloatOps.cmpfTotal (F := Ideal) (φ := .f32) .gt) x h).2 (ix2 r k)
        = BitVec.ofNat 32 (σ ⟨k.val, by omega⟩).val := by
    refine ⟨sortedFrom fun a b => FloatOps.cmpfTotal (F := Ideal) (φ := .f32) .gt (x (ix2 r a)) (x (ix2 r b)) == 1#1,
      ⟨sortedFrom_injective _, sortedFrom_surjective _⟩, rank_sortedFrom _ _ fun a b => ?_, fun k => ?_⟩
    · rw [Ideal.cmpfTotal_def]
      show (BitVec.ofBool (decide (x (ix2 r b) < x (ix2 r a))) == 1#1) = true ↔ _
      by_cases q : x (ix2 r b) < x (ix2 r a) <;> simp [q]
    · unfold Host.topK Host.sort2
      simp only [dif_pos (show 1 < (⟨2, ![16384, 26]⟩ : Shape).rank by decide)]
      pointwise
      simp only [along_one, ix2_1]
  obtain ⟨σ, hσ, hr, hw⟩ := h1
  have h2 : ∃ τ : Fin 8 → Fin 8, Function.Bijective τ ∧ ∀ k, Host.sort ⟨2, ![16384, 8]⟩ 1 cmp
        ((Host.topK ⟨2, ![16384, 8]⟩ 1 (FloatOps.cmpfTotal (F := Ideal) (φ := .f32) .gt) x h).2) (ix2 r k)
        = (Host.topK ⟨2, ![16384, 8]⟩ 1 (FloatOps.cmpfTotal (F := Ideal) (φ := .f32) .gt) x h).2 (ix2 r (τ k)) := by
    generalize (Host.topK ⟨2, ![16384, 8]⟩ 1 (FloatOps.cmpfTotal (F := Ideal) (φ := .f32) .gt) x h).2 = y
    refine ⟨sortedFrom fun a b => cmp (y (ix2 r a)) (y (ix2 r b)) == 1#1, ⟨sortedFrom_injective _, sortedFrom_surjective _⟩, fun k => ?_⟩
    unfold Host.sort
    rw [dif_pos (by decide)]
    have hb : (fun a b => cmp (y (Shape.Idx.along (s := ⟨2, ![16384, 8]⟩) (ix2 r k) 1 a)) (y (Shape.Idx.along (s := ⟨2, ![16384, 8]⟩) (ix2 r k) 1 b)) == 1#1)
        = fun a b : Fin 8 => cmp (y (ix2 r a)) (y (ix2 r b)) == 1#1 := by
      funext a b
      rw [show Shape.Idx.along (s := ⟨2, ![16384, 8]⟩) (ix2 r k) 1 a = ix2 r a from along_one r k a, show Shape.Idx.along (s := ⟨2, ![16384, 8]⟩) (ix2 r k) 1 b = ix2 r b from along_one r k b]
      rfl
    exact (congrArg y (along_one r k _)).trans (congrArg (fun f => y (ix2 r (sortedFrom f k))) hb)
  obtain ⟨τ, hτ, ht⟩ := h2
  refine ⟨fun k => σ ⟨(τ k).val, by omega⟩, fun a b hab => ?_, fun i => ⟨fun hi => ?_, ?_⟩, fun k => by rw [ht, hw]⟩
  · have := hσ.1 hab
    exact hτ.1 (Fin.ext (by simpa using this))
  · obtain ⟨a, rfl⟩ := hσ.2 i
    rw [hr] at hi
    obtain ⟨k, hk⟩ := hτ.2 ⟨a.val, hi⟩
    exact ⟨k, congrArg σ (Fin.ext (show (τ k).val = a.val from congrArg Fin.val hk))⟩
  · rintro ⟨k, rfl⟩
    rw [hr]; exact (τ k).isLt

end Cert.Proof.Value
end
-- ==== Proof.Value.Ref.lean ====
/-
  The reference's row: the sigmoid of the real row.
-/
module

public import proofs.«01_k».proof.Proof.Value.Args
public import proofs.«01_k».proof.Proof.Value.Take
public import proofs.«01_k».proof.Proof.Value.Mask
public import proofs.«01_k».proof.Proof.Gen.ReferenceIdeal.Run
public import Idealize.ShloMosaic.Lib.Pointwise
public import Idealize.ShloMosaic.Lib.ScatterToDense.RefScatter

@[expose] public section
noncomputable section
namespace Cert.Proof.Value.Ref
open Cert.ReferenceIdeal Cert.ReferenceIdeal.Gen Cert.ReferenceIdeal.Value
open Idealize.ShloMosaic
open Idealize.ShloMosaic.Pointwise

/-- The arguments hold the real ones, and the categories are in range. -/
structure Holds (V : Valuation τ sig (Elt Ideal)) (a : S16384x26.Idx → BitVec 32) (A : Args) : Prop where
  h0 : V (Proc.tc.devRef main_arg0) = a
  cat : ∀ i, (a i).toNat < 100000
  h1 : V (Proc.tc.devRef main_arg1) = fun i => (A.r1 i : EReal)
  h2 : V (Proc.tc.devRef main_arg2) = fun i => (A.r2 i : EReal)
  h3 : V (Proc.tc.devRef main_arg3) = fun i => (A.r3 i : EReal)
  h4 : V (Proc.tc.devRef main_arg4) = fun i => (A.r4 i : EReal)
  h5 : V (Proc.tc.devRef main_arg5) = fun i => (A.r5 i : EReal)
  h6 : V (Proc.tc.devRef main_arg6) = fun i => (A.r6 i : EReal)
  h7 : V (Proc.tc.devRef main_arg7) = fun i => (A.r7 i : EReal)
  h8 : V (Proc.tc.devRef main_arg8) = fun i => (A.r8 i : EReal)
  h9 : V (Proc.tc.devRef main_arg9) = fun i => (A.r9 i : EReal)
  h10 : V (Proc.tc.devRef main_arg10) = fun i => (A.r10 i : EReal)
  h11 : V (Proc.tc.devRef main_arg11) = fun i => (A.r11 i : EReal)
  h12 : V (Proc.tc.devRef main_arg12) = fun i => (A.r12 i : EReal)
  h13 : V (Proc.tc.devRef main_arg13) = fun i => (A.r13 i : EReal)
  h14 : V (Proc.tc.devRef main_arg14) = fun i => (A.r14 i : EReal)
  h15 : V (Proc.tc.devRef main_arg15) = fun i => (A.r15 i : EReal)
  h16 : V (Proc.tc.devRef main_arg16) = fun i => (A.r16 i : EReal)
  h17 : V (Proc.tc.devRef main_arg17) = fun i => (A.r17 i : EReal)
  h18 : V (Proc.tc.devRef main_arg18) = fun i => (A.r18 i : EReal)
  h19 : V (Proc.tc.devRef main_arg19) = fun i => (A.r19 i : EReal)

/-! A small word read as a signed number. -/

theorem toInt_small (w : BitVec 32) (h : w.toNat < 2 ^ 31) : w.toInt = (w.toNat : ℤ) := by
  rw [BitVec.toInt_eq_toNat_cond, if_pos (by omega)]
theorem slt_zero (w : BitVec 32) (h : w.toNat < 2 ^ 31) : IntOp.cmpi .slt w 0#32 = 0#1 := by
  show BitVec.ofBool (decide (w.toInt < (0#32 : BitVec 32).toInt)) = 0#1
  rw [toInt_small w h, show (0#32 : BitVec 32).toInt = 0 from rfl, decide_eq_false (by omega)]; rfl
theorem sge_zero (w : BitVec 32) (h : w.toNat < 2 ^ 31) : IntOp.cmpi .sge w 0#32 = 1#1 := by
  show BitVec.ofBool (decide ((0#32 : BitVec 32).toInt ≤ w.toInt)) = 1#1
  rw [toInt_small w h, show (0#32 : BitVec 32).toInt = 0 from rfl, decide_eq_true (by omega)]; rfl
theorem sle_of (w b : BitVec 32) (hb : b.toNat < 2 ^ 31) (h : w.toNat ≤ b.toNat) : IntOp.cmpi .sle w b = 1#1 := by
  show BitVec.ofBool (decide (w.toInt ≤ b.toInt)) = 1#1
  rw [toInt_small w (by omega), toInt_small b hb, decide_eq_true (by omega)]; rfl

variable {V : Valuation τ sig (Elt Ideal)} {a : S16384x26.Idx → BitVec 32} {A : Args} (H : Holds V a A)

theorem lit_at : ∀ f : Fin 26, lit0 (S26.rowMajor (ix1 f)) = BitVec.ofNat 32 (f.val * 100000) := by
  intro f; fin_cases f <;> rfl

include H in
theorem v2_at (r : Fin 16384) (f : Fin 26) : (res_main_v2 V (ix2 r f) : BitVec 32) = BitVec.ofNat 32 (Args.at_ a r f).val := by
  have h : (res_main_v2 V (ix2 r f) : BitVec 32) = IntOp.addi (V (Proc.tc.devRef main_arg0) (ix2 r f)) (lit0 (S26.rowMajor (ix1 f))) := by
    pointwise [res_main_v2]
  rw [h, H.h0, lit_at]
  have hc := H.cat (ix2 r f)
  refine BitVec.eq_of_toNat_eq ?_
  show (a (ix2 r f) + BitVec.ofNat 32 (f.val * 100000)).toNat = _
  unfold Args.at_
  dsimp only
  have hf := f.isLt
  have h1 : (a (ix2 r f)).toNat + f.val * 100000 < 2600000 := by omega
  rw [BitVec.toNat_add, BitVec.toNat_ofNat, BitVec.toNat_ofNat, Nat.mod_eq_of_lt (a := f.val * 100000) (by omega), Nat.mod_eq_of_lt (a := _ + _) (by omega),
    Nat.mod_eq_of_lt h1, Nat.mod_eq_of_lt (by omega)]

/-- The wrap of a negative word leaves a small one as it is. -/
theorem wrap_small (w k : BitVec 32) (h : w.toNat < 2 ^ 31) : Scalar.select (IntOp.cmpi .slt w 0#32) k w = w := by
  rw [slt_zero w h]; rfl

theorem ofNat_small (n : ℕ) (h : n < 2 ^ 31) : (BitVec.ofNat 32 n).toNat = n := by
  rw [BitVec.toNat_ofNat]; omega

include H in
theorem call0_at (r : Fin 16384) (f : Fin 26) : (res_main_call0_v5 V (ix3 r f 0) : BitVec 32) = BitVec.ofNat 32 (Args.at_ a r f).val := by
  have h : (res_main_call0_v5 V (ix3 r f 0) : BitVec 32) = Scalar.select (IntOp.cmpi .slt (res_main_v2 V (ix2 r f)) 0#32) (IntOp.addi (res_main_v2 V (ix2 r f)) 2600000#32) (res_main_v2 V (ix2 r f)) := by
    pointwise [res_main_call0_v5]
  have := (Args.at_ a r f).isLt
  rw [h, v2_at H, wrap_small _ _ (by rw [ofNat_small _ (by omega)]; omega)]

include H in
theorem call1_at (r : Fin 16384) (f : Fin 26) : (res_main_call1_v5 V (ix3 r f 0) : BitVec 32) = BitVec.ofNat 32 (Args.at_ a r f).val := by
  have h : (res_main_call1_v5 V (ix3 r f 0) : BitVec 32) = Scalar.select (IntOp.cmpi .slt (res_main_v2 V (ix2 r f)) 0#32) (IntOp.addi (res_main_v2 V (ix2 r f)) 2600000#32) (res_main_v2 V (ix2 r f)) := by
    pointwise [res_main_call1_v5]
  have := (Args.at_ a r f).isLt
  rw [h, v2_at H, wrap_small _ _ (by rw [ofNat_small _ (by omega)]; omega)]

/-- The in-range mask over a whole index array, all in range. -/
theorem mask_one {ι : Type} (S : Finset ι) (g : ι → BitVec 32) (k : BitVec 32) (hk : k.toNat < 2 ^ 31) (h : ∀ i, (g i).toNat ≤ k.toNat) :
    Finset.fold IntOp.andi (1#1) (fun x => IntOp.andi (IntOp.cmpi .sge (g x) 0#32) (IntOp.cmpi .sle (g x) k)) S = 1#1 :=
  fold_and_one _ _ fun i => by
    have := h i
    rw [sge_zero _ (by omega), sle_of _ _ hk this]; rfl

theorem clampi (n N : ℕ) (hn : n < N) (hN : N ≤ 2 ^ 31) : min (BitVec.ofNat 32 n).toInt.toNat (N - 1) = n := by
  rw [toInt_small _ (by rw [ofNat_small _ (by omega)]; omega), ofNat_small _ (by omega)]; omega

theorem idx_elim {p : S16384x26x1.Idx → Prop} (h : ∀ r f, p (ix3 r f 0)) (i : S16384x26x1.Idx) : p i := by
  obtain ⟨r, f, z, rfl⟩ : ∃ (r : Fin 16384) (f : Fin 26) (z : Fin 1), i = ix3 r f z := ⟨i 0, i 1, i 2, eq_ix3 i⟩
  obtain rfl : z = 0 := Subsingleton.elim _ _
  exact h r f

include H in
theorem call0_le : ∀ i : S16384x26x1.Idx, (res_main_call0_v5 V i : BitVec 32).toNat ≤ (2599999#32).toNat :=
  idx_elim fun r f => by
    have := (Args.at_ a r f).isLt
    rw [call0_at H, ofNat_small _ (by omega)]
    show _ ≤ 2599999
    omega
include H in
theorem call1_le : ∀ i : S16384x26x1.Idx, (res_main_call1_v5 V i : BitVec 32).toNat ≤ (2599999#32).toNat :=
  idx_elim fun r f => by
    have := (Args.at_ a r f).isLt
    rw [call1_at H, ofNat_small _ (by omega)]
    show _ ≤ 2599999
    omega

theorem gath1 (x : S2600000x1.Idx → EReal) (idx : S16384x26x1.Idx → BitVec 32) (r : Fin 16384) (f : Fin 26) (n : Fin 2600000) (h : idx (ix3 r f 0) = BitVec.ofNat 32 n.val) :
    Host.gather gather_S2600000x1_S16384x26x1_S16384x26x1_2_0_n_n_0_2_11 x idx (ix3 r f 0) = x (ix2 n 0) := by
  refine (gather_rows_at (by decide) gather_S2600000x1_S16384x26x1_S16384x26x1_2_0_n_n_0_2_11_wf x idx r f 0).trans (congrArg (fun z => x (ix2 z 0)) (Fin.ext ?_))
  show min (idx (ix3 r f 0)).toInt.toNat (2600000 - 1) = _
  rw [h]; exact clampi _ _ n.isLt (by decide)
theorem gath16 (x : S2600000x16.Idx → EReal) (idx : S16384x26x1.Idx → BitVec 32) (r : Fin 16384) (f : Fin 26) (d : Fin 16) (n : Fin 2600000) (h : idx (ix3 r f 0) = BitVec.ofNat 32 n.val) :
    Host.gather gather_S2600000x16_S16384x26x1_S16384x26x16_2_0_n_n_0_2_116 x idx (ix3 r f d) = x (ix2 n d) := by
  refine (gather_rows_at (by decide) gather_S2600000x16_S16384x26x1_S16384x26x16_2_0_n_n_0_2_116_wf x idx r f d).trans (congrArg (fun z => x (ix2 z d)) (Fin.ext ?_))
  show min (idx (ix3 r f 0)).toInt.toNat (2600000 - 1) = _
  rw [h]; exact clampi _ _ n.isLt (by decide)

/-- A reading through the in-range mask, everything in range. -/
theorem masked {ι : Type} (S : Finset ι) (g : ι → BitVec 32) (k : BitVec 32) (x y v : EReal) (hk : k.toNat < 2 ^ 31) (h : ∀ i, (g i).toNat ≤ k.toNat) (hx : x = v) :
    Scalar.select (Finset.fold IntOp.andi (1#1) (fun x => IntOp.andi (IntOp.cmpi .sge (g x) 0#32) (IntOp.cmpi .sle (g x) k)) S) x y = v := by
  rw [mask_one S g k hk h, hx]; rfl

include H in
theorem lin_at (r : Fin 16384) (f : Fin 26) :
    Scalar.select (Finset.fold IntOp.andi (1#1) (fun x => IntOp.andi (IntOp.cmpi .sge (res_main_call0_v5 V x) 0#32) (IntOp.cmpi .sle (res_main_call0_v5 V x) 2599999#32))
        {i | reducesTo_S16384x26x1_S16384x26_d2.drop i = ix2 r f})
      (Host.gather gather_S2600000x1_S16384x26x1_S16384x26x1_2_0_n_n_0_2_11 (V (Proc.tc.devRef main_arg2)) (res_main_call0_v5 V) (ix3 r f 0))
      (Ideal.ofBits FTy.f32 2143289344#32 : EReal) = (A.lin a r f : EReal) :=
  masked _ (res_main_call0_v5 V) 2599999#32 _ _ _ (by decide) (call0_le H)
    ((gath1 _ (res_main_call0_v5 V) r f (Args.at_ a r f) (call0_at H r f)).trans (congrFun H.h2 _))

include H in
theorem v16_at (r : Fin 16384) (f : Fin 26) (d : Fin 16) :
    (res_main_v16 V (ix3 r f d) : EReal) = ((A.r1 (ix2 (Args.at_ a r f) d) * inv * A.r4 (ix1 f) + A.r5 (ix1 f) : ℝ) : EReal) := by
  have h : res_main_v16 V (ix3 r f d) = @Scalar.select EReal (Finset.fold IntOp.andi (1#1) (fun x => IntOp.andi (IntOp.cmpi .sge (res_main_call1_v5 V x) 0#32) (IntOp.cmpi .sle (res_main_call1_v5 V x) 2599999#32))
        {i | reducesTo_S16384x26x1_S16384x26_d2.drop i = ix2 r f})
      (Host.gather gather_S2600000x16_S16384x26x1_S16384x26x16_2_0_n_n_0_2_116 (V (Proc.tc.devRef main_arg1) : S2600000x16.Idx → EReal) (res_main_call1_v5 V) (ix3 r f d))
      (Ideal.ofBits FTy.f32 2143289344#32 : EReal) * (Ideal.ofBits FTy.f32 1065353132#32 : EReal) * (V (Proc.tc.devRef main_arg4) : S26.Idx → EReal) (ix1 f) + (V (Proc.tc.devRef main_arg5) : S26.Idx → EReal) (ix1 f) := by
    pointwise [res_main_v16]
  refine h.trans ?_
  rw [masked _ (res_main_call1_v5 V) 2599999#32 _ _ (A.r1 (ix2 (Args.at_ a r f) d) : EReal) (by decide) (call1_le H)
    ((gath16 _ (res_main_call1_v5 V) r f d (Args.at_ a r f) (call1_at H r f)).trans (congrFun H.h1 _)), congrFun H.h4 (ix1 f), congrFun H.h5 (ix1 f), inv_spec, EReal.coe_add, EReal.coe_mul, EReal.coe_mul]

end Cert.Proof.Value.Ref
end
-- ==== Proof.Value.Ref2.lean ====
/-
  The reference's mask and its layers, row by row.
-/
module

public import proofs.«01_k».proof.Proof.Value.Ref

@[expose] public section
noncomputable section
namespace Cert.Proof.Value.Ref
open Cert.ReferenceIdeal Cert.ReferenceIdeal.Gen Cert.ReferenceIdeal.Value
open Idealize.ShloMosaic
open Idealize.ShloMosaic.Pointwise

variable {V : Valuation τ sig (Elt Ideal)} {a : S16384x26.Idx → BitVec 32} {A : Args} (H : Holds V a A)

include H in
theorem v30_at (r : Fin 16384) (f : Fin 26) : res_main_v30 V (ix2 r f) = ((A.par.z (A.emb a r) f : ℝ) : EReal) := by
  pointwise [res_main_v30]
  exact ref_score A.par (A.emb a r) f _ _ _ _ _ _ (fun k => v16_at H r (grp k) ⟨k.val % 16, Nat.mod_lt _ (by decide)⟩) (fun k => congrFun H.h6 _)
    (congrFun H.h7 _) inv_spec (congrFun H.h8 _) (congrFun H.h9 _)

include H in
theorem v30_real (i : S16384x26.Idx) : ∃ x : ℝ, res_main_v30 V i = (x : EReal) := by
  obtain ⟨r, f, rfl⟩ : ∃ (r : Fin 16384) (f : Fin 26), i = ix2 r f := ⟨i 0, i 1, eq_ix2 i⟩
  exact ⟨_, v30_at H r f⟩

theorem fold_max_real {ι : Type} (S : Finset ι) (hS : S.Nonempty) (g : ι → EReal) (hg : ∀ i, ∃ x : ℝ, g i = (x : EReal)) :
    ∃ μ : ℝ, Finset.fold max (⊥ : EReal) g S = (μ : EReal) := by
  obtain ⟨i, _, h⟩ := Finset.exists_mem_eq_sup S hS g
  obtain ⟨x, hx⟩ := hg i
  exact ⟨x, h.trans hx⟩

theorem sum_real {n : ℕ} (w : Fin n → EReal) (z : Fin n → ℝ) (h : ∀ f, w f = (z f : EReal)) : ∑ x, w x = ((∑ x, z x : ℝ) : EReal) := by
  rw [coe_sum]; exact Finset.sum_congr rfl fun x _ => h x

theorem drop_row (r : Fin 16384) : reducesTo_S16384x26_S16384_d1.drop (ix2 r 0) = ix1 r := by
  refine funext fun q => ?_
  obtain rfl : q = 0 := Subsingleton.elim _ _
  exact Fin.ext rfl

include H in
theorem v37_at (r : Fin 16384) : ∃ μ : ℝ, ∀ f, res_main_v37 V (ix2 r f) = ((Real.exp (A.par.z (A.emb a r) f) * Real.exp (-μ) : ℝ) : EReal) := by
  obtain ⟨μ, hμ⟩ := fold_max_real ({i | reducesTo_S16384x26_S16384_d1.drop i = ix1 r} : Finset S16384x26.Idx)
    ⟨ix2 r 0, Finset.mem_filter.mpr ⟨Finset.mem_univ _, drop_row r⟩⟩ (res_main_v30 V) (v30_real H)
  refine ⟨μ, fun f => ?_⟩
  pointwise [res_main_v37]
  rw [ofBits_negInf]
  refine (congrArg₂ (fun x y : EReal => Ideal.exp (x - max ⊥ y)) (v30_at H r f) hμ).trans ?_
  show Ideal.exp (_ - max (⊥ : EReal) _) = _
  rw [max_eq_right bot_le, sub_coe, Ideal.exp_coe, sub_eq_add_neg, Real.exp_add]

include H in
theorem v41_at (r : Fin 16384) : ∃ s : ℝ, 0 < s ∧ ∀ f, res_main_v41 V (ix2 r f) = ((Real.exp (A.par.z (A.emb a r) f) * s : ℝ) : EReal) := by
  obtain ⟨μ, hμ⟩ := v37_at H r
  have hp : 0 < ∑ f, Real.exp (A.par.z (A.emb a r) f) * Real.exp (-μ) :=
    Finset.sum_pos (fun f _ => mul_pos (Real.exp_pos _) (Real.exp_pos _)) Finset.univ_nonempty
  refine ⟨Real.exp (-μ) / ∑ f, Real.exp (A.par.z (A.emb a r) f) * Real.exp (-μ), div_pos (Real.exp_pos _) hp, fun f => ?_⟩
  pointwise [res_main_v41]
  refine (congrArg₂ Ideal.div (hμ f) (sum_real (fun x => res_main_v37 V (ix2 r x)) _ hμ)).trans ?_
  rw [div_coe_coe _ _ hp.ne', mul_div_assoc]

include H in
theorem rank_v41 (r : Fin 16384) (i : Fin 26) : rank (α := EReal) (fun i => res_main_v41 V (ix2 r i)) i = rank (A.par.z (A.emb a r)) i := by
  obtain ⟨s, hs, h⟩ := v41_at H r
  refine rank_congr _ _ (fun x y => ?_) i
  rw [h, h]
  exact EReal.coe_lt_coe_iff.trans ((mul_lt_mul_iff_of_pos_right hs).trans Real.exp_lt_exp)

include H in
theorem v42_at (r : Fin 16384) : ∃ p : Fin 8 → Fin 26, Function.Injective p ∧ (∀ i, rank (A.par.z (A.emb a r)) i < 8 ↔ ∃ k, p k = i)
    ∧ ∀ k, res_main_v42 V (ix2 r k) = BitVec.ofNat 32 (p k).val := by
  obtain ⟨p, h1, h2, h3⟩ := topk_sorted (res_main_v41 V) sliceFits_S16384x26_S16384x8 comparator_i32_d1 r
  exact ⟨p, h1, fun i => by rw [← rank_v41 H]; exact h2 i, h3⟩

include H in
theorem v42_small (r : Fin 16384) (k : Fin 8) : (res_main_v42 V (ix2 r k) : BitVec 32).toNat < 26 := by
  obtain ⟨p, _, _, h⟩ := v42_at H r
  rw [h, ofNat_small _ (by have := (p k).isLt; omega)]
  exact (p k).isLt

include H in
theorem call4_at (r : Fin 16384) (k : Fin 8) : (res_main_call4_v5 V (ix3 r k 0) : BitVec 32) = res_main_v42 V (ix2 r k) := by
  have h : (res_main_call4_v5 V (ix3 r k 0) : BitVec 32) = Scalar.select (IntOp.cmpi .slt (res_main_v42 V (ix2 r k)) 0#32) (IntOp.addi (res_main_v42 V (ix2 r k)) 26#32) (res_main_v42 V (ix2 r k)) := by
    pointwise [res_main_call4_v5]
  rw [h]
  exact wrap_small _ _ (by have := v42_small H r k; omega)

include H in
theorem call4_le (i : S16384x8x1.Idx) : (res_main_call4_v5 V i : BitVec 32).toNat ≤ (25#32).toNat := by
  obtain ⟨r, f, z, rfl⟩ : ∃ (r : Fin 16384) (f : Fin 8) (z : Fin 1), i = ix3 r f z := ⟨i 0, i 1, i 2, eq_ix3 i⟩
  obtain rfl : z = 0 := Subsingleton.elim _ _
  rw [call4_at H]
  have := v42_small H r f
  show _ ≤ 25
  omega

theorem gath8 (x : S16384x26.Idx → EReal) (idx : S16384x8x1.Idx → BitVec 32) (r : Fin 16384) (k : Fin 8) (n : Fin 26) (h : idx (ix3 r k 0) = BitVec.ofNat 32 n.val) :
    Host.gather gather_S16384x26_S16384x8x1_S16384x8_n_1_0_0_1_2_11 x idx (ix2 r k) = x (ix2 r n) := by
  refine (gather_along_at (by decide) gather_S16384x26_S16384x8x1_S16384x8_n_1_0_0_1_2_11_wf x idx r k).trans (congrArg (fun z => x (ix2 r z)) (Fin.ext ?_))
  show min (idx (ix3 r k 0)).toInt.toNat (26 - 1) = _
  rw [h]; exact clampi _ _ n.isLt (by decide)

include H in
theorem v43_at (r : Fin 16384) (k : Fin 8) (n : Fin 26) (h : res_main_v42 V (ix2 r k) = BitVec.ofNat 32 n.val) :
    res_main_v43 V (ix2 r k) = res_main_v41 V (ix2 r n) := by
  pointwise [res_main_v43]
  exact masked _ (res_main_call4_v5 V) 25#32 _ _ _ (by decide) (call4_le H) (gath8 _ (res_main_call4_v5 V) r k n ((call4_at H r k).trans h))

/-- The positions the mask is scattered to, -/
def sIdx (V : Valuation τ sig (Elt Ideal)) : S16384x8x2.Idx → BitVec 32 :=
  concatenate S16384x8x2 2
    [⟨S16384x8x1, broadcastInDim S16384x8x1 ![0, 1] bcast_S16384x8_S16384x8x1_0_1 (broadcastInDim S16384x8 ![0, 1] bcast_S16384x1_S16384x8_0_1
        (select (cmpi CmpIPredicate.slt (broadcastInDim S16384x1 ![0] bcast_S16384_S16384x1_0 (iotaInDim S16384 32 0)) (broadcastInDim S16384x1 ![] bcast_S_S16384x1 (constantI S_ 32 0#32)))
          (addi (broadcastInDim S16384x1 ![0] bcast_S16384_S16384x1_0 (iotaInDim S16384 32 0)) (broadcastInDim S16384x1 ![] bcast_S_S16384x1 (constantI S_ 32 16384#32)))
          (broadcastInDim S16384x1 ![0] bcast_S16384_S16384x1_0 (iotaInDim S16384 32 0))))⟩,
     ⟨S16384x8x1, broadcastInDim S16384x8x1 ![0, 1] bcast_S16384x8_S16384x8x1_0_1
        (select (cmpi CmpIPredicate.slt (res_main_v42 V) (broadcastInDim S16384x8 ![] bcast_S_S16384x8 (constantI S_ 32 0#32)))
          (addi (res_main_v42 V) (broadcastInDim S16384x8 ![] bcast_S_S16384x8 (constantI S_ 32 26#32))) (res_main_v42 V))⟩]
    concatenates_S16384x8x1_S16384x8x1_S16384x8x2_d2
/-- and the shares scattered. -/
def sUpd (V : Valuation τ sig (Elt Ideal)) : S16384x8.Idx → EReal :=
  Host.divf (F := Ideal) (φ := .f32) (res_main_v43 V) (broadcastInDim S16384x8 ![0, 1] bcast_S16384x1_S16384x8_0_1 (broadcastInDim S16384x1 ![0] bcast_S16384_S16384x1_0
    (Host.reduceAdd (F := Ideal) (φ := .f32) (res_main_v43 V) (constant S_ FTy.f32 0#32) reducesTo_S16384x8_S16384_d1 h_S_)))

theorem sIdx_row (r : Fin 16384) (k : Fin 8) : sIdx V (ix3 r k 0) = BitVec.ofNat 32 r.val := by
  have h : sIdx V (ix3 r k 0) = Scalar.select (IntOp.cmpi .slt (BitVec.ofNat 32 r.val) 0#32) (IntOp.addi (BitVec.ofNat 32 r.val) 16384#32) (BitVec.ofNat 32 r.val) := by
    pointwise [sIdx]
  rw [h]
  have := r.isLt
  exact wrap_small _ _ (by rw [ofNat_small _ (by omega)]; omega)

include H in
theorem sIdx_col (r : Fin 16384) (k : Fin 8) : sIdx V (ix3 r k 1) = res_main_v42 V (ix2 r k) := by
  have h : sIdx V (ix3 r k 1) = Scalar.select (IntOp.cmpi .slt (res_main_v42 V (ix2 r k)) 0#32) (IntOp.addi (res_main_v42 V (ix2 r k)) 26#32) (res_main_v42 V (ix2 r k)) := by
    pointwise [sIdx]
  rw [h]
  exact wrap_small _ _ (by have := v42_small H r k; omega)

theorem sUpd_at (r : Fin 16384) (k : Fin 8) : sUpd V (ix2 r k) = Ideal.div (res_main_v43 V (ix2 r k)) (∑ x, res_main_v43 V (ix2 r x)) := by
  pointwise [sUpd]

theorem sum_kept (u f : Fin 26 → ℝ) (p : Fin 8 → Fin 26) (hp : Function.Injective p) (h : ∀ i, rank u i < 8 ↔ ∃ k, p k = i) :
    ∑ k, f (p k) = ∑ j, if rank u j < 8 then f j else 0 := by
  rw [← Finset.sum_filter, show (Finset.univ.filter fun j => rank u j < 8) = Finset.univ.image p from by ext j; simp [h], Finset.sum_image fun x _ y _ e => hp e]

include H in
/-- The mask. -/
theorem mask_at (r : Fin 16384) (j : Fin 26) :
    Host.scatter scatter_S16384x26_S16384x8x2_S16384x8_n_01_01_2 (fun _ b => b)
      (broadcastInDim S16384x26 ![] bcast_S_S16384x26 (constant (F := Ideal) S_ FTy.f32 0#32) : S16384x26.Idx → EReal) (sIdx V) (sUpd V) (ix2 r j)
      = ((A.par.m (A.emb a r) j : ℝ) : EReal) := by
  have hs := ScatterToDense.scatter_eq_GS scatter_S16384x26_S16384x8x2_S16384x8_n_01_01_2 rfl rfl rfl (by decide) (by decide)
    (broadcastInDim S16384x26 ![] bcast_S_S16384x26 (constant (F := Ideal) S_ FTy.f32 0#32) : S16384x26.Idx → EReal) (sIdx V) (sUpd V)
    (fun i k => if h : k < 8 then sIdx V (ix3 i ⟨k, h⟩ 1) else 0#32) (fun i k => if h : k < 8 then sUpd V (ix2 i ⟨k, h⟩) else 0)
    (fun i k => by rw [← ix3_eq_valueIdx]; exact sIdx_row i k)
    (fun i k => by rw [← ix3_eq_valueIdx, dif_pos k.isLt]) (fun i k => by rw [← ix2_eq_valueIdx, dif_pos k.isLt]) r j
  rw [← ix2_eq_valueIdx] at hs
  refine hs.trans ?_
  obtain ⟨p, hp, hr, h42⟩ := v42_at H r
  obtain ⟨s, hs, h41⟩ := v41_at H r
  have hw : ∀ k (h : k < 8), (sIdx V (ix3 r ⟨k, h⟩ 1)).toNat = (p ⟨k, h⟩).val := fun k h => by
    rw [sIdx_col H, h42, ofNat_small _ (by have := (p ⟨k, h⟩).isLt; omega)]
  have h43 : ∀ k, res_main_v43 V (ix2 r k) = ((Real.exp (A.par.z (A.emb a r) (p k)) * s : ℝ) : EReal) := fun k => by
    rw [v43_at H r k (p k) (h42 k)]; exact h41 _
  have hpos := kept_pos (A.par.z (A.emb a r)) (fun i => Real.exp (A.par.z (A.emb a r) i) * s) fun i => mul_pos (Real.exp_pos _) hs
  have hu : ∀ k, rank (A.par.z (A.emb a r)) (p k) < 8 → sUpd V (ix2 r k) = ((A.par.m (A.emb a r) (p k) : ℝ) : EReal) := fun k hk => by
    rw [sUpd_at]
    refine (congrArg₂ Ideal.div (h43 k) (sum_real (fun x => res_main_v43 V (ix2 r x)) _ h43)).trans ?_
    rw [sum_kept (A.par.z (A.emb a r)) (fun i => Real.exp (A.par.z (A.emb a r) i) * s) p hp hr, div_coe_coe _ _ hpos.ne']
    have := share_scale (A.par.z (A.emb a r)) (fun i => Real.exp (A.par.z (A.emb a r) i)) s hs.ne' (p k)
    rw [if_pos hk] at this
    rw [this]; rfl
  by_cases hj : rank (A.par.z (A.emb a r)) j < 8
  · obtain ⟨k, rfl⟩ := (hr j).mp hj
    refine gs_hit _ _ _ _ _ _ ⟨k.val, k.isLt, ?_⟩ fun q hq e => ?_
    · rw [dif_pos k.isLt]; exact (hw k.val k.isLt).symm
    · rw [dif_pos hq] at e ⊢
      rw [hw q hq] at e
      obtain rfl : k = ⟨q, hq⟩ := hp (Fin.ext e)
      exact hu _ hj
  · refine (gs_miss _ _ _ _ _ fun q hq e => ?_).trans ?_
    · rw [dif_pos hq, hw q hq] at e
      exact hj ((hr j).mpr ⟨⟨q, hq⟩, (Fin.ext e).symm⟩)
    · unfold Par.m
      rw [if_neg hj]
      show (Ideal.ofBits .f32 0#32 : EReal) = _
      rw [Ideal.ofBits_zero_f32]; rfl

include H in
theorem v101_at (r : Fin 16384) : res_main_v101 V (ix1 r) = A.par.t (A.emb a r) (A.lin a r) := by
  pointwise [res_main_v101, res_main_v49]
  refine ref_t A.par (A.emb a r) (A.lin a r) _ _ _ _ _ (fun p => ?_) (fun p => congrFun H.h18 _) (fun f => lin_at H r f) (congrFun H.h3 _) (congrFun H.h19 _)
  refine ref_h2 A.par (A.emb a r) p _ _ _ _ _ _ (fun n => ?_) (fun n => congrFun H.h14 _) (congrFun H.h15 _) inv_spec (congrFun H.h16 _) (congrFun H.h17 _)
  refine ref_h1 A.par (A.emb a r) n _ _ _ _ _ _ (fun k => ?_) (fun k => congrFun H.h10 _) (congrFun H.h11 _) inv_spec (congrFun H.h12 _) (congrFun H.h13 _)
  rw [EReal.coe_mul]
  exact congrArg₂ (fun x y : EReal => x * y) (v16_at H r (grp k) ⟨k.val % 16, Nat.mod_lt _ (by decide)⟩) (mask_at H r (grp k))

theorem sigmoid_at (x : S16384.Idx → EReal) (r : Fin 16384) :
    Host.divf (F := Ideal) (φ := .f32) (broadcastInDim S16384 ![] bcast_S_S16384 (constant S_ .f32 0x3F800000#32))
      (addf (broadcastInDim S16384 ![] bcast_S_S16384 (constant S_ .f32 0x3F800000#32)) (Host.exp (Host.negf x))) (ix1 r)
      = Ideal.logistic (x (ix1 r)) := by
  pointwise []
  rfl

include H in
/-- The reference's result. -/
theorem result_at (r : Fin 16384) :
    Host.divf (F := Ideal) (φ := .f32) (broadcastInDim S16384 ![] bcast_S_S16384 (constant S_ .f32 0x3F800000#32))
      (addf (broadcastInDim S16384 ![] bcast_S_S16384 (constant S_ .f32 0x3F800000#32)) (Host.exp (Host.negf (res_main_v101 V)))) (ix1 r)
      = A.row a r :=
  (sigmoid_at (res_main_v101 V) r).trans (congrArg Ideal.logistic (v101_at H r))

end Cert.Proof.Value.Ref
end
-- ==== Proof.Value.lean ====
/-
  The kernel's result is the reference's: at every row both are the row's probability.
-/
module

public import proofs.«01_k».proof.Defs
public import proofs.«01_k».proof.Proof.Gen.ReferenceIdeal.Run
public import proofs.«01_k».proof.Proof.Gen.Pre_in_range_finite
public import proofs.«01_k».proof.Proof.Pre
public import proofs.«01_k».proof.Proof.Value.Kernel
public import proofs.«01_k».proof.Proof.Value.Ref2

@[expose] public section

noncomputable section

namespace Cert.Proof.Value

open Idealize.ShloMosaic Idealize.ShloMosaic.TcCoe Idealize.SL.Sem
open Idealize.ShloMosaic.Pointwise

/-- The precondition, read: categories in range, and finite what has to be. -/
theorem launch_of (m : (ℓ : Loc Cert.KernelIdeal.nD Cert.KernelIdeal.τ Cert.KernelIdeal.sig) → Buf (Elt Idealize.ShloMosaic.Ideal) ℓ)
    (h : Cert.Pre_KernelIdeal_in_range_finite m) (d : Dev Cert.KernelIdeal.nD) : ∃ A : Args, Launch m d (m (d, Proc.devRef .tc Cert.KernelIdeal.main_arg0)) A := by
  obtain ⟨cat, ⟨r1, h1⟩, ⟨r4, h4⟩, ⟨r5, h5⟩, ⟨r6, h6⟩, ⟨r7, h7⟩, ⟨r8, h8⟩, ⟨r9, h9⟩, ⟨r11, h11⟩, ⟨r12, h12⟩, ⟨r15, h15⟩, ⟨r16, h16⟩⟩ := Pre.in_range_finite_all _ _ _ _ _ _ _ _ _ _ _ _ _ _ _ _ _ _ _ _ (h d)
  exact ⟨⟨r1, _, _, r4, r5, r6, r7, r8, r9, _, r11, r12, _, _, r15, r16, _, _, _⟩, ⟨rfl, cat, h1, rfl, rfl, h4, h5, h6, h7, h8, h9, rfl, h11, h12, rfl, rfl, h15, h16, rfl, rfl, rfl⟩⟩

/-- From the same arguments the two results are the same array. -/
theorem result_eq {V : Valuation Cert.ReferenceIdeal.τ Cert.ReferenceIdeal.sig (Elt Idealize.ShloMosaic.Ideal)}
    {m : (ℓ : Loc Cert.KernelIdeal.nD Cert.KernelIdeal.τ Cert.KernelIdeal.sig) → Buf (Elt Idealize.ShloMosaic.Ideal) ℓ} {d : Dev Cert.KernelIdeal.nD}
    {a : (⟨2, ![16384, 26]⟩ : Shape).Idx → BitVec 32} {A : Args} (Hr : Ref.Holds V a A) (H : Launch m d a A) :
    (Host.divf (F := Idealize.ShloMosaic.Ideal) (φ := .f32) (broadcastInDim Cert.ReferenceIdeal.S16384 ![] Cert.ReferenceIdeal.Gen.bcast_S_S16384 (constant Cert.ReferenceIdeal.S_ .f32 0x3F800000#32))
      (addf (broadcastInDim Cert.ReferenceIdeal.S16384 ![] Cert.ReferenceIdeal.Gen.bcast_S_S16384 (constant Cert.ReferenceIdeal.S_ .f32 0x3F800000#32))
        (Host.exp (Host.negf (Cert.ReferenceIdeal.Value.res_main_v101 V)))) : (⟨1, ![16384]⟩ : Shape).Idx → EReal)
      = (Ideal.VI m d (Proc.devRef .tc Cert.KernelIdeal.main_v64) : (⟨1, ![16384]⟩ : Shape).Idx → EReal) := by
  funext i
  obtain ⟨q, rfl⟩ : ∃ q : Fin 16384, i = ix1 q := ⟨i 0, eq_ix1 i⟩
  exact (Ref.result_at Hr q).trans (kernel_at H q).symm

theorem algebraic : Cert.algebraic_KernelIdeal_ReferenceIdeal_pre_in_range_finite := by
  intro m g m' g' hpre heq
  refine ⟨fun c => Ideal.VI m c (Proc.devRef .tc Cert.KernelIdeal.main_v64), ?_, ?_⟩
  · refine (θ_run Cert.KernelIdeal.defs _ _).mono (fun r hr c => ?_)
      (Ideal.run_ok (F := Idealize.ShloMosaic.Ideal) m g fun d => (launch_of m hpre d).choose_spec.cat)
    have key : ∀ c : Dev Cert.KernelIdeal.nD, ∀ b ∈ Ideal.argRefs, ¬ b.isScoped →
        r.2.mem ((c.tc : Thread Cert.KernelIdeal.nD Cert.KernelIdeal.τ).loc b) = m ((c.tc : Thread Cert.KernelIdeal.nD Cert.KernelIdeal.τ).loc b) :=
      fun c b hb hs => (hr.1 c b hs).trans (Ideal.VI_arg m c b hb)
    exact ⟨hr.1 c Cert.KernelIdeal.main_v64 (by decide), key c Cert.KernelIdeal.main_arg0 (by decide) (by decide), key c Cert.KernelIdeal.main_arg1 (by decide) (by decide), key c Cert.KernelIdeal.main_arg2 (by decide) (by decide), key c Cert.KernelIdeal.main_arg3 (by decide) (by decide), key c Cert.KernelIdeal.main_arg4 (by decide) (by decide), key c Cert.KernelIdeal.main_arg5 (by decide) (by decide), key c Cert.KernelIdeal.main_arg6 (by decide) (by decide), key c Cert.KernelIdeal.main_arg7 (by decide) (by decide), key c Cert.KernelIdeal.main_arg8 (by decide) (by decide), key c Cert.KernelIdeal.main_arg9 (by decide) (by decide), key c Cert.KernelIdeal.main_arg10 (by decide) (by decide), key c Cert.KernelIdeal.main_arg11 (by decide) (by decide), key c Cert.KernelIdeal.main_arg12 (by decide) (by decide), key c Cert.KernelIdeal.main_arg13 (by decide) (by decide), key c Cert.KernelIdeal.main_arg14 (by decide) (by decide), key c Cert.KernelIdeal.main_arg15 (by decide) (by decide), key c Cert.KernelIdeal.main_arg16 (by decide) (by decide), key c Cert.KernelIdeal.main_arg17 (by decide) (by decide), key c Cert.KernelIdeal.main_arg18 (by decide) (by decide), key c Cert.KernelIdeal.main_arg19 (by decide) (by decide)⟩
  · refine (θ_run Cert.ReferenceIdeal.defs _ _).mono (fun r hr c => ⟨(hr c).1.trans ?_, (hr c).2⟩)
      (Cert.ReferenceIdeal.Value.run (F := Idealize.ShloMosaic.Ideal) m' g')
    obtain ⟨A, H⟩ := launch_of m hpre c
    obtain ⟨e0, e1, e2, e3, e4, e5, e6, e7, e8, e9, e10, e11, e12, e13, e14, e15, e16, e17, e18, e19⟩ := heq c
    have Hr : Ref.Holds (StableHlo.launchContents m' c) (m (c, Proc.devRef .tc Cert.KernelIdeal.main_arg0)) A :=
      ⟨e0, H.cat, e1.trans H.h1, e2.trans H.h2, e3.trans H.h3, e4.trans H.h4, e5.trans H.h5, e6.trans H.h6, e7.trans H.h7, e8.trans H.h8, e9.trans H.h9, e10.trans H.h10, e11.trans H.h11, e12.trans H.h12, e13.trans H.h13, e14.trans H.h14, e15.trans H.h15, e16.trans H.h16, e17.trans H.h17, e18.trans H.h18, e19.trans H.h19⟩
    exact result_eq Hr H

end Cert.Proof.Value
end
-- ==== Proof.Same.Bodies.lean ====
/-
  The printed kernel and its ideal reading are the same text: what is proved of the one at every float type holds of the other.
-/
module
public import proofs.«01_k».proof.Proof.Gen.Kernel
public import proofs.«01_k».proof.Proof.Gen.KernelIdeal
@[expose] public section

namespace Cert.Proof.Same

open Idealize.ShloMosaic

variable {F : FTy → Type} [FloatOps F]

set_option maxHeartbeats 4000000 in
/-- The bodies are the same. -/
theorem bodies_eq : @Cert.Kernel.defs₀ F _ Cert.Kernel.Gen.facts = @Cert.KernelIdeal.defs₀ F _ Cert.KernelIdeal.Gen.facts := by
  funext p ℓ a
  match p, ℓ, a with
  | .scVector c s, ⟨0, _⟩, _ => rfl
  | .scVector c s, ⟨1, _⟩, _ => rfl
  | .scVector c s, ⟨2, _⟩, _ => rfl
  | .scVector c s, ⟨3, _⟩, _ => rfl
  | .scScalar c, ⟨0, _⟩, _ => rfl
  | .scScalar c, ⟨1, _⟩, _ => rfl
  | .scScalar c, ⟨2, _⟩, _ => rfl
  | .scScalar c, ⟨3, _⟩, _ => rfl
  | .tc, ⟨0, _⟩, _ => rfl
  | .tc, ⟨1, _⟩, (t, s) => rfl
  | .tc, ⟨2, _⟩, _ => rfl
  | .tc, ⟨3, _⟩, (t, s) => rfl

end Cert.Proof.Same
-- ==== Proof.Same.Run.lean ====
/-
  The two programs' runs are the same: their threads, their bodies.
-/
module

public import proofs.«01_k».proof.Proof.Same.Bodies

@[expose] public section

namespace Cert.Proof.Same

open Idealize.ShloMosaic Idealize.SL.Sem

variable {F : FTy → Type} [FloatOps F]

set_option maxHeartbeats 4000000 in
/-- The labels' bodies, the calls' protocols included, are the same, -/
theorem defs_eq : @Cert.Kernel.defs F _ Cert.Kernel.Gen.facts = @Cert.KernelIdeal.defs F _ Cert.KernelIdeal.Gen.facts := by
  show Cert.KernelIdeal.sc.defs (Pipeline.defs Cert.KernelIdeal.pcfgs (@Cert.Kernel.defs₀ F _ Cert.Kernel.Gen.facts)) = _
  rw [bodies_eq]
  rfl

set_option maxHeartbeats 4000000 in
/-- and so are the threads. -/
theorem threads_eq : @Cert.Kernel.threads F _ Cert.Kernel.Gen.facts = @Cert.KernelIdeal.threads F _ Cert.KernelIdeal.Gen.facts := rfl

end Cert.Proof.Same
-- ==== Proof.Same.Frame.lean ====
/-
  The printed kernel's frame, from the frame of the same text at every float type.
-/
module

public import proofs.«01_k».proof.Defs
public import proofs.«01_k».proof.Proof.Same.Run
public import proofs.«01_k».proof.Proof.Ideal.Frame
public import proofs.«01_k».proof.Proof.Gen.Pre_in_range
public import proofs.«01_k».proof.Proof.Pre

@[expose] public section

namespace Cert.Proof.Same

open Idealize.ShloMosaic Idealize.SL.Sem

set_option maxHeartbeats 8000000 in
/-- From categories in range the printed kernel runs, leaves its arguments as they were and every semaphore at zero. -/
theorem frame_kernel : Cert.quiescent_Kernel := by
  intro m ρ h
  have hc := fun d => Pre.in_range_cat _ _ _ _ _ _ _ _ _ _ _ _ _ _ _ _ _ _ _ _ (h d)
  have hr := Ideal.run_frame (F := Bits) m ρ hc
  rw [← defs_eq] at hr
  exact hr

end Cert.Proof.Same
-- ==== Proof.lean ====
/-
  The claim: the five statements of the statement, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Value
public import proofs.«01_k».proof.Proof.Ideal.Frame
public import proofs.«01_k».proof.Proof.Same.Frame
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

theorem frame_ideal : Cert.quiescent_KernelIdeal := fun m ρ h =>
  Ideal.run_frame (F := Idealize.ShloMosaic.Ideal) m ρ fun d => Pre.in_range_cat _ _ _ _ _ _ _ _ _ _ _ _ _ _ _ _ _ _ _ _ (h d)

theorem frame_reference : Cert.quiescent_ReferenceIdeal := fun m ρ _ =>
  (θ_run Cert.ReferenceIdeal.defs _ _).mono (fun r h => ⟨fun c => (h c).2, sem_eq_zero_of_no_sems rfl _⟩)
    (Cert.ReferenceIdeal.Value.run (F := Idealize.ShloMosaic.Ideal) m ρ)

theorem frame_ideal_finite : Cert.quiescent_KernelIdeal_pre_in_range_finite := fun m ρ h =>
  Ideal.run_frame (F := Idealize.ShloMosaic.Ideal) m ρ fun d => (Pre.in_range_finite_all _ _ _ _ _ _ _ _ _ _ _ _ _ _ _ _ _ _ _ _ (h d)).1

theorem frame_reference_finite : Cert.quiescent_ReferenceIdeal_pre_in_range_finite := fun m ρ _ => frame_reference m ρ trivial

theorem claim : Cert.Claim :=
  ⟨Cert.Kernel.Gen.facts, Cert.KernelIdeal.Gen.facts, Cert.ReferenceIdeal.Gen.facts, Cert.Pre_in_range.Gen.facts, Cert.Pre_in_range_finite.Gen.facts,
    Same.frame_kernel, frame_ideal, frame_ideal_finite, frame_reference, frame_reference_finite, trivial, Value.algebraic⟩

end Cert.Proof

end
